-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v81_0)) (v1 : (c : Dev Cert.Kernel4Ideal.nD) → Buf (Elt Ideal) ((c.tc : Thread Cert.Kernel4Ideal.nD Cert.Kernel4Ideal.τ).loc Cert.Kernel4Ideal.main_v81_1)) (v2 : (c : Dev Cert.Kernel4Ideal.nD) → Buf (Elt Ideal) ((c.tc : Thread Cert.Kernel4Ideal.nD Cert.Kernel4Ideal.τ).loc Cert.Kernel4Ideal.main_v81_2)) (v3 : (c : Dev Cert.Kernel4Ideal.nD) → Buf (Elt Ideal) ((c.tc : Thread Cert.Kernel4Ideal.nD Cert.Kernel4Ideal.τ).loc Cert.Kernel4Ideal.main_v81_3)) (v4 : (c : Dev Cert.Kernel4Ideal.nD) → Buf (Elt Ideal) ((c.tc : Thread Cert.Kernel4Ideal.nD Cert.Kernel4Ideal.τ).loc Cert.Kernel4Ideal.main_v81_4)) (v5 : (c : Dev Cert.Kernel4Ideal.nD) → Buf (Elt Ideal) ((c.tc : Thread Cert.Kernel4Ideal.nD Cert.Kernel4Ideal.τ).loc Cert.Kernel4Ideal.main_v81_5)) (v6 : (c : Dev Cert.Kernel4Ideal.nD) → Buf (Elt Ideal) ((c.tc : Thread Cert.Kernel4Ideal.nD Cert.Kernel4Ideal.τ).loc Cert.Kernel4Ideal.main_v81_6)) (v7 : (c : Dev Cert.Kernel4Ideal.nD) → Buf (Elt Ideal) ((c.tc : Thread Cert.Kernel4Ideal.nD Cert.Kernel4Ideal.τ).loc Cert.Kernel4Ideal.main_v81_7)) (v8 : (c : Dev Cert.Kernel4Ideal.nD) → Buf (Elt Ideal) ((c.tc : Thread Cert.Kernel4Ideal.nD Cert.Kernel4Ideal.τ).loc Cert.Kernel4Ideal.main_v81_8)) (v9 : (c : Dev Cert.Kernel4Ideal.nD) → Buf (Elt Ideal) ((c.tc : Thread Cert.Kernel4Ideal.nD Cert.Kernel4Ideal.τ).loc Cert.Kernel4Ideal.main_v81_9)) (v10 : (c : Dev Cert.Kernel4Ideal.nD) → Buf (Elt Ideal) ((c.tc : Thread Cert.Kernel4Ideal.nD Cert.Kernel4Ideal.τ).loc Cert.Kernel4Ideal.main_v81_10)) (v11 : (c : Dev Cert.Kernel4Ideal.nD) → Buf (Elt Ideal) ((c.tc : Thread Cert.Kernel4Ideal.nD Cert.Kernel4Ideal.τ).loc Cert.Kernel4Ideal.main_v81_11)) (v12 : (c : Dev Cert.Kernel4Ideal.nD) → Buf (Elt Ideal) ((c.tc : Thread Cert.Kernel4Ideal.nD Cert.Kernel4Ideal.τ).loc Cert.Kernel4Ideal.main_v81_12)) (v13 : (c : Dev Cert.Kernel4Ideal.nD) → Buf (Elt Ideal) ((c.tc : Thread Cert.Kernel4Ideal.nD Cert.Kernel4Ideal.τ).loc Cert.Kernel4Ideal.main_v81_13)) (v14 : (c : Dev Cert.Kernel4Ideal.nD) → Buf (Elt Ideal) ((c.tc : Thread Cert.Kernel4Ideal.nD Cert.Kernel4Ideal.τ).loc Cert.Kernel4Ideal.main_v81_14)) (v15 : (c : Dev Cert.Kernel4Ideal.nD) → Buf (Elt Ideal) ((c.tc : Thread Cert.Kernel4Ideal.nD Cert.Kernel4Ideal.τ).loc Cert.Kernel4Ideal.main_v81_15)) (v16 : (c : Dev Cert.Kernel4Ideal.nD) → Buf (Elt Ideal) ((c.tc : Thread Cert.Kernel4Ideal.nD Cert.Kernel4Ideal.τ).loc Cert.Kernel4Ideal.main_v81_16)) (v17 : (c : Dev Cert.Kernel4Ideal.nD) → Buf (Elt Ideal) ((c.tc : Thread Cert.Kernel4Ideal.nD Cert.Kernel4Ideal.τ).loc Cert.Kernel4Ideal.main_v81_17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v81_0) = v0 c
          ∧ r.2.mem ((c.tc : Thread Cert.Kernel4Ideal.nD Cert.Kernel4Ideal.τ).loc Cert.Kernel4Ideal.main_v81_1) = v1 c
          ∧ r.2.mem ((c.tc : Thread Cert.Kernel4Ideal.nD Cert.Kernel4Ideal.τ).loc Cert.Kernel4Ideal.main_v81_2) = v2 c
          ∧ r.2.mem ((c.tc : Thread Cert.Kernel4Ideal.nD Cert.Kernel4Ideal.τ).loc Cert.Kernel4Ideal.main_v81_3) = v3 c
          ∧ r.2.mem ((c.tc : Thread Cert.Kernel4Ideal.nD Cert.Kernel4Ideal.τ).loc Cert.Kernel4Ideal.main_v81_4) = v4 c
          ∧ r.2.mem ((c.tc : Thread Cert.Kernel4Ideal.nD Cert.Kernel4Ideal.τ).loc Cert.Kernel4Ideal.main_v81_5) = v5 c
          ∧ r.2.mem ((c.tc : Thread Cert.Kernel4Ideal.nD Cert.Kernel4Ideal.τ).loc Cert.Kernel4Ideal.main_v81_6) = v6 c
          ∧ r.2.mem ((c.tc : Thread Cert.Kernel4Ideal.nD Cert.Kernel4Ideal.τ).loc Cert.Kernel4Ideal.main_v81_7) = v7 c
          ∧ r.2.mem ((c.tc : Thread Cert.Kernel4Ideal.nD Cert.Kernel4Ideal.τ).loc Cert.Kernel4Ideal.main_v81_8) = v8 c
          ∧ r.2.mem ((c.tc : Thread Cert.Kernel4Ideal.nD Cert.Kernel4Ideal.τ).loc Cert.Kernel4Ideal.main_v81_9) = v9 c
          ∧ r.2.mem ((c.tc : Thread Cert.Kernel4Ideal.nD Cert.Kernel4Ideal.τ).loc Cert.Kernel4Ideal.main_v81_10) = v10 c
          ∧ r.2.mem ((c.tc : Thread Cert.Kernel4Ideal.nD Cert.Kernel4Ideal.τ).loc Cert.Kernel4Ideal.main_v81_11) = v11 c
          ∧ r.2.mem ((c.tc : Thread Cert.Kernel4Ideal.nD Cert.Kernel4Ideal.τ).loc Cert.Kernel4Ideal.main_v81_12) = v12 c
          ∧ r.2.mem ((c.tc : Thread Cert.Kernel4Ideal.nD Cert.Kernel4Ideal.τ).loc Cert.Kernel4Ideal.main_v81_13) = v13 c
          ∧ r.2.mem ((c.tc : Thread Cert.Kernel4Ideal.nD Cert.Kernel4Ideal.τ).loc Cert.Kernel4Ideal.main_v81_14) = v14 c
          ∧ r.2.mem ((c.tc : Thread Cert.Kernel4Ideal.nD Cert.Kernel4Ideal.τ).loc Cert.Kernel4Ideal.main_v81_15) = v15 c
          ∧ r.2.mem ((c.tc : Thread Cert.Kernel4Ideal.nD Cert.Kernel4Ideal.τ).loc Cert.Kernel4Ideal.main_v81_16) = v16 c
          ∧ r.2.mem ((c.tc : Thread Cert.Kernel4Ideal.nD Cert.Kernel4Ideal.τ).loc Cert.Kernel4Ideal.main_v81_17) = v17 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v20) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_v32) = v5 c
          ∧ r.2.mem ((c.tc : Thread Cert.Reference4Ideal.nD Cert.Reference4Ideal.τ).loc Cert.Reference4Ideal.main_v38) = v6 c
          ∧ r.2.mem ((c.tc : Thread Cert.Reference4Ideal.nD Cert.Reference4Ideal.τ).loc Cert.Reference4Ideal.main_v34) = v7 c
          ∧ r.2.mem ((c.tc : Thread Cert.Reference4Ideal.nD Cert.Reference4Ideal.τ).loc Cert.Reference4Ideal.main_v39) = v8 c
          ∧ r.2.mem ((c.tc : Thread Cert.Reference4Ideal.nD Cert.Reference4Ideal.τ).loc Cert.Reference4Ideal.main_v22) = v9 c
          ∧ r.2.mem ((c.tc : Thread Cert.Reference4Ideal.nD Cert.Reference4Ideal.τ).loc Cert.Reference4Ideal.main_v24) = v10 c
          ∧ r.2.mem ((c.tc : Thread Cert.Reference4Ideal.nD Cert.Reference4Ideal.τ).loc Cert.Reference4Ideal.main_v25) = v11 c
          ∧ r.2.mem ((c.tc : Thread Cert.Reference4Ideal.nD Cert.Reference4Ideal.τ).loc Cert.Reference4Ideal.main_v26) = v12 c
          ∧ r.2.mem ((c.tc : Thread Cert.Reference4Ideal.nD Cert.Reference4Ideal.τ).loc Cert.Reference4Ideal.main_v40) = v13 c
          ∧ r.2.mem ((c.tc : Thread Cert.Reference4Ideal.nD Cert.Reference4Ideal.τ).loc Cert.Reference4Ideal.main_v28) = v14 c
          ∧ r.2.mem ((c.tc : Thread Cert.Reference4Ideal.nD Cert.Reference4Ideal.τ).loc Cert.Reference4Ideal.main_v41) = v15 c
          ∧ r.2.mem ((c.tc : Thread Cert.Reference4Ideal.nD Cert.Reference4Ideal.τ).loc Cert.Reference4Ideal.main_v31) = v16 c
          ∧ r.2.mem ((c.tc : Thread Cert.Reference4Ideal.nD Cert.Reference4Ideal.τ).loc Cert.Reference4Ideal.main_v36) = v17 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v74_0)) (v1 : (c : Dev Cert.Kernel5Ideal.nD) → Buf (Elt Ideal) ((c.tc : Thread Cert.Kernel5Ideal.nD Cert.Kernel5Ideal.τ).loc Cert.Kernel5Ideal.main_v74_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v74_0) = v0 c
          ∧ r.2.mem ((c.tc : Thread Cert.Kernel5Ideal.nD Cert.Kernel5Ideal.τ).loc Cert.Kernel5Ideal.main_v74_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v116) = v0 c
          ∧ r.2.mem ((c.tc : Thread Cert.Reference5Ideal.nD Cert.Reference5Ideal.τ).loc Cert.Reference5Ideal.main_v118) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S2x16384x512 : Shape := ⟨3, ![2, 16384, 512]⟩
abbrev S2x16384x4 : Shape := ⟨3, ![2, 16384, 4]⟩
abbrev S4x512 : Shape := ⟨2, ![4, 512]⟩
abbrev S512 : Shape := ⟨1, ![512]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x16384x4 : S_.BroadcastsInDim S2x16384x4 (![] : Fin 0 → Fin S2x16384x4.rank)
  reducesTo_S2x16384x4_S_d0_1_2 : S2x16384x4.ReducesTo [0, 1, 2] S_
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2x16384x4 .f32) (main_arg5 : FVec F S4x512 .f32) (main_arg6 : FVec F S512 .f32) (main_v13 : IVec S_ 1) (main_v16 : IVec S2x16384x4 1) : IVec S_ 1 :=
  let main_c_5 : IVec S_ 1 := constantI S_ 1 1#1
  let main_v17 : IVec S_ 1 := (fun x v => Host.reduce IntOp.andi x v reducesTo_S2x16384x4_S_d0_1_2 h_S_) main_v16 main_c_5
  let main_v18 : IVec S_ 1 := andi main_v13 main_v17
  let main_v19 : FVec F S2x16384x4 .f32 := Host.absf main_arg4
  let main_cst_6 : FVec F S_ .f32 := constant S_ .f32 0x7F800000#32
  let main_v20 : FVec F S2x16384x4 .f32 := broadcastInDim S2x16384x4 ![] bcast_S_S2x16384x4 main_cst_6
  let main_v21 : IVec S2x16384x4 1 := cmpf .olt main_v19 main_v20
  let main_c_7 : IVec S_ 1 := constantI S_ 1 1#1
  let main_v22 : IVec S_ 1 := (fun x v => Host.reduce IntOp.andi x v reducesTo_S2x16384x4_S_d0_1_2 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S2x16384x512 .f32) (main_arg1 : FVec F S2x16384x512 .f32) (main_arg2 : FVec F S2x16384x512 .f32) (main_arg3 : FVec F S2x16384x4 .f32) (main_arg4 : FVec F S2x16384x4 .f32) (main_arg5 : FVec F S4x512 .f32) (main_arg6 : FVec F S512 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S2x16384x512 .f32 := Host.absf main_arg2
  let main_cst_2 : FVec F S_ .f32 := constant S_ .f32 0x7F800000#32
  let main_v10 : FVec F S2x16384x512 .f32 := broadcastInDim S2x16384x512 ![] bcast_S_S2x16384x512 main_cst_2
  let main_v11 : IVec S2x16384x512 1 := cmpf .olt main_v9 main_v10
  let main_c_3 : IVec S_ 1 := constantI S_ 1 1#1
  let main_v12 : IVec S_ 1 := (fun x v => Host.reduce IntOp.andi x v reducesTo_S2x16384x512_S_d0_1_2 h_S_) main_v11 main_c_3
  let main_v13 : IVec S_ 1 := andi main_v8 main_v12
  let main_v14 : FVec F S2x16384x4 .f32 := Host.absf main_arg3
  let main_cst_4 : FVec F S_ .f32 := constant S_ .f32 0x7F800000#32
  let main_v15 : FVec F S2x16384x4 .f32 := broadcastInDim S2x16384x4 ![] bcast_S_S2x16384x4 main_cst_4
  let main_v16 : IVec S2x16384x4 1 := cmpf .olt main_v14 main_v15
  fn_part1 (F := F) main_arg4 main_arg5 main_arg6 main_v13 main_v16
-- ==== Pre_finite5.lean ====
abbrev S2x16384x128 : Shape := ⟨3, ![2, 16384, 128]⟩
abbrev S64 : Shape := ⟨1, ![64]⟩
abbrev S2x32x64 : Shape := ⟨3, ![2, 32, 64]⟩
abbrev S2x2048x256 : Shape := ⟨3, ![2, 2048, 256]⟩
abbrev S2x256x64 : Shape := ⟨3, ![2, 256, 64]⟩
abbrev S_ : Shape := ⟨0, ![]⟩

class Facts : Prop where
  bcast_S_S2x16384x128 : S_.BroadcastsInDim S2x16384x128 (![] : Fin 0 → Fin S2x16384x128.rank)
  reducesTo_S2x16384x128_S_d0_1_2 : S2x16384x128.ReducesTo [0, 1, 2] S_
  h_S_ : 0 < S_.numel
  bcast_S_S2x32x64 : S_.BroadcastsInDim S2x32x64 (![] : Fin 0 → Fin S2x32x64.rank)
  reducesTo_S2x32x64_S_d0_1_2 : S2x32x64.ReducesTo [0, 1, 2] S_
  bcast_S_S2x2048x256 : S_.BroadcastsInDim S2x2048x256 (![] : Fin 0 → Fin S2x2048x256.rank)
  reducesTo_S2x2048x256_S_d0_1_2 : S2x2048x256.ReducesTo [0, 1, 2] S_
  bcast_S_S2x256x64 : S_.BroadcastsInDim S2x256x64 (![] : Fin 0 → Fin S2x256x64.rank)
  reducesTo_S2x256x64_S_d0_1_2 : S2x256x64.ReducesTo [0, 1, 2] S_

variable [Facts]

def fn_part1 {F : FTy → Type} [FloatOps F] (main_arg5 : FVec F S2x256x64 .f32) (main_v13 : IVec S_ 1) (main_v16 : IVec S2x2048x256 1) : IVec S_ 1 :=
  let main_c_5 : IVec S_ 1 := constantI S_ 1 1#1
  let main_v17 : IVec S_ 1 := (fun x v => Host.reduce IntOp.andi x v reducesTo_S2x2048x256_S_d0_1_2 h_S_) main_v16 main_c_5
  let main_v18 : IVec S_ 1 := andi main_v13 main_v17
  let main_v19 : FVec F S2x256x64 .f32 := Host.absf main_arg5
  let main_cst_6 : FVec F S_ .f32 := constant S_ .f32 0x7F800000#32
  let main_v20 : FVec F S2x256x64 .f32 := broadcastInDim S2x256x64 ![] bcast_S_S2x256x64 main_cst_6
  let main_v21 : IVec S2x256x64 1 := cmpf .olt main_v19 main_v20
  let main_c_7 : IVec S_ 1 := constantI S_ 1 1#1
  let main_v22 : IVec S_ 1 := (fun x v => Host.reduce IntOp.andi x v reducesTo_S2x256x64_S_d0_1_2 h_S_) main_v21 main_c_7
  let main_v23 : IVec S_ 1 := andi main_v18 main_v22
  main_v23

def fn {F : FTy → Type} [FloatOps F] (main_arg0 : FVec F S2x16384x128 .f32) (main_arg1 : FVec F S2x16384x128 .f32) (main_arg2 : FVec F S64 .f32) (main_arg3 : FVec F S2x32x64 .f32) (main_arg4 : FVec F S2x2048x256 .f32) (main_arg5 : FVec F S2x256x64 .f32) : IVec S_ 1 :=
  let main_v0 : FVec F S2x16384x128 .f32 := Host.absf main_arg0
  let main_cst : FVec F S_ .f32 := constant S_ .f32 0x7F800000#32
  let main_v1 : FVec F S2x16384x128 .f32 := broadcastInDim S2x16384x128 ![] bcast_S_S2x16384x128 main_cst
  let main_v2 : IVec S2x16384x128 1 := cmpf .olt main_v0 main_v1
  let main_c : IVec S_ 1 := constantI S_ 1 1#1
  let main_v3 : IVec S_ 1 := (fun x v => Host.reduce IntOp.andi x v reducesTo_S2x16384x128_S_d0_1_2 h_S_) main_v2 main_c
  let main_v4 : FVec F S2x16384x128 .f32 := Host.absf main_arg1
  let main_cst_0 : FVec F S_ .f32 := constant S_ .f32 0x7F800000#32
  let main_v5 : FVec F S2x16384x128 .f32 := broadcastInDim S2x16384x128 ![] bcast_S_S2x16384x128 main_cst_0
  let main_v6 : IVec S2x16384x128 1 := cmpf .olt main_v4 main_v5
  let main_c_1 : IVec S_ 1 := constantI S_ 1 1#1
  let main_v7 : IVec S_ 1 := (fun x v => Host.reduce IntOp.andi x v reducesTo_S2x16384x128_S_d0_1_2 h_S_) main_v6 main_c_1
  let main_v8 : IVec S_ 1 := andi main_v3 main_v7
  let main_v9 : FVec F S2x32x64 .f32 := Host.absf main_arg3
  let main_cst_2 : FVec F S_ .f32 := constant S_ .f32 0x7F800000#32
  let main_v10 : FVec F S2x32x64 .f32 := broadcastInDim S2x32x64 ![] bcast_S_S2x32x64 main_cst_2
  let main_v11 : IVec S2x32x64 1 := cmpf .olt main_v9 main_v10
  let main_c_3 : IVec S_ 1 := constantI S_ 1 1#1
  let main_v12 : IVec S_ 1 := (fun x v => Host.reduce IntOp.andi x v reducesTo_S2x32x64_S_d0_1_2 h_S_) main_v11 main_c_3
  let main_v13 : IVec S_ 1 := andi main_v8 main_v12
  let main_v14 : FVec F S2x2048x256 .f32 := Host.absf main_arg4
  let main_cst_4 : FVec F S_ .f32 := constant S_ .f32 0x7F800000#32
  let main_v15 : FVec F S2x2048x256 .f32 := broadcastInDim S2x2048x256 ![] bcast_S_S2x2048x256 main_cst_4
  let main_v16 : IVec S2x2048x256 1 := cmpf .olt main_v14 main_v15
  fn_part1 (F := F) main_arg5 main_v13 main_v16
-- ==== Kernel.lean ====
abbrev S2x16384x512 : Shape := ⟨3, ![2, 16384, 512]⟩
abbrev S2x16384x4 : Shape := ⟨3, ![2, 16384, 4]⟩
abbrev S4x512 : Shape := ⟨2, ![4, 512]⟩
abbrev S512 : Shape := ⟨1, ![512]⟩
abbrev S_ : Shape := ⟨0, ![]⟩
abbrev S2x16384x120 : Shape := ⟨3, ![2, 16384, 120]⟩
abbrev S2x16384x128 : Shape := ⟨3, ![2, 16384, 128]⟩
abbrev S32768x512 : Shape := ⟨2, ![32768, 512]⟩
abbrev S32768x128 : Shape := ⟨2, ![32768, 128]⟩
abbrev S1x512 : Shape := ⟨2, ![1, 512]⟩
abbrev S256x256 : Shape := ⟨2, ![256, 256]⟩
abbrev S512x256 : Shape := ⟨2, ![512, 256]⟩
abbrev S256x512 : Shape := ⟨2, ![256, 512]⟩
abbrev S256x128 : Shape := ⟨2, ![256, 128]⟩
abbrev S264x512 : Shape := ⟨2, ![264, 512]⟩
abbrev S1x256 : Shape := ⟨2, ![1, 256]⟩
abbrev S8x128 : Shape := ⟨2, ![8, 128]⟩
abbrev S8x512 : Shape := ⟨2, ![8, 512]⟩
abbrev S128x256 : Shape := ⟨2, ![128, 256]⟩
abbrev S1x128 : Shape := ⟨2, ![1, 128]⟩
abbrev S128x1 : Shape := ⟨2, ![128, 1]⟩
abbrev S128x128 : Shape := ⟨2, ![128, 128]⟩
abbrev S8x256 : Shape := ⟨2, ![8, 256]⟩
abbrev S1x1 : Shape := ⟨2, ![1, 1]⟩
abbrev S128 : Shape := ⟨1, ![128]⟩
abbrev S64x128 : Shape := ⟨2, ![64, 128]⟩
abbrev S256 : Shape := ⟨1, ![256]⟩

abbrev nBuf : Space → Nat
  | .hbm => 40
  | .vmem => 21
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x4, .f32⟩
  | .hbm, ⟨4, _⟩ => ⟨S2x16384x4, .f32⟩
  | .hbm, ⟨5, _⟩ => ⟨S4x512, .f32⟩
  | .hbm, ⟨6, _⟩ => ⟨S512, .f32⟩
  | .hbm, ⟨7, _⟩ => ⟨S_, .f32⟩
  | .hbm, ⟨8, _⟩ => ⟨S2x16384x120, .f32⟩
  | .hbm, ⟨9, _⟩ => ⟨S2x16384x128, .f32⟩
  | .hbm, ⟨10, _⟩ => ⟨S32768x512, .f32⟩
  | .hbm, ⟨11, _⟩ => ⟨S32768x512, .f32⟩
  | .hbm, ⟨12, _⟩ => ⟨S32768x512, .bf16⟩
  | .hbm, ⟨13, _⟩ => ⟨S32768x512, .f32⟩
  | .hbm, ⟨14, _⟩ => ⟨S32768x128, .f32⟩
  | .hbm, ⟨15, _⟩ => ⟨S1x512, .f32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .f32⟩
  | .hbm, ⟨28, _⟩ => ⟨S512x256, .i32⟩
  | .hbm, ⟨29, _⟩ => ⟨S_, .i32⟩
  | .hbm, ⟨30, _⟩ => ⟨S512x256, .i32⟩
  | .hbm, ⟨31, _⟩ => ⟨S512x256, .i32⟩
  | .hbm, ⟨32, _⟩ => ⟨S512x256, .i32⟩
  | .hbm, ⟨33, _⟩ => ⟨S_, .i32⟩
  | .hbm, ⟨34, _⟩ => ⟨S512x256, .i32⟩
  | .hbm, ⟨35, _⟩ => ⟨S512x256, .i32⟩
  | .hbm, ⟨36, _⟩ => ⟨S256x256, .bf16⟩
  | .hbm, ⟨37, _⟩ => ⟨S512x256, .i1⟩
  | .hbm, ⟨38, _⟩ => ⟨S512x256, .f32⟩
  | .hbm, ⟨39, _⟩ => ⟨S32768x512, .bf16⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S4x512, .f32⟩
  | .local _ .vmem, ⟨9, _⟩ => ⟨S1x512, .f32⟩
  | .local _ .vmem, ⟨10, _⟩ => ⟨S256x256, .bf16⟩
  | .local _ .vmem, ⟨11, _⟩ => ⟨S512x256, .f32⟩
  | .local _ .vmem, ⟨12, _⟩ => ⟨S256x512, .bf16⟩
  | .local _ .vmem, ⟨13, _⟩ => ⟨S256x512, .bf16⟩
  | .local _ .vmem, ⟨14, _⟩ => ⟨S264x512, .f32⟩
  | .local _ .vmem, ⟨15, _⟩ => ⟨S512x256, .f32⟩
  | .local _ .vmem, ⟨16, _⟩ => ⟨S1x256, .f32⟩
  | .local _ .vmem, ⟨17, _⟩ => ⟨S8x128, .f32⟩
  | .local _ .vmem, ⟨18, _⟩ => ⟨S256x256, .bf16⟩
  | .local _ .vmem, ⟨19, _⟩ => ⟨S512x256, .bf16⟩
  | .local _ .vmem, ⟨20, _⟩ => ⟨S256x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x16384x512 : Shape := ⟨3, ![2, 16384, 512]⟩
abbrev S2x16384x4 : Shape := ⟨3, ![2, 16384, 4]⟩
abbrev S4x512 : Shape := ⟨2, ![4, 512]⟩
abbrev S512 : Shape := ⟨1, ![512]⟩
abbrev S_ : Shape := ⟨0, ![]⟩
abbrev S2x16387x512 : Shape := ⟨3, ![2, 16387, 512]⟩
abbrev S1x512 : Shape := ⟨2, ![1, 512]⟩
abbrev S1x1x512 : Shape := ⟨3, ![1, 1, 512]⟩
abbrev S2x16384x256 : Shape := ⟨3, ![2, 16384, 256]⟩
abbrev S2x16384x4x64 : Shape := ⟨4, ![2, 16384, 4, 64]⟩
abbrev S2x16384x4x128 : Shape := ⟨4, ![2, 16384, 4, 128]⟩
abbrev S2x256x64x4x64 : Shape := ⟨5, ![2, 256, 64, 4, 64]⟩
abbrev S256x2x4x64x64 : Shape := ⟨5, ![256, 2, 4, 64, 64]⟩
abbrev S2x256x64x4x128 : Shape := ⟨5, ![2, 256, 64, 4, 128]⟩
abbrev S256x2x4x64x128 : Shape := ⟨5, ![256, 2, 4, 64, 128]⟩
abbrev S2x16384x4x1 : Shape := ⟨4, ![2, 16384, 4, 1]⟩
abbrev S2x256x64x4x1 : Shape := ⟨5, ![2, 256, 64, 4, 1]⟩
abbrev S256x2x4x64x1 : Shape := ⟨5, ![256, 2, 4, 64, 1]⟩
abbrev S256x2x4x64 : Shape := ⟨4, ![256, 2, 4, 64]⟩
abbrev S64x64 : Shape := ⟨2, ![64, 64]⟩
abbrev S2x4x64x128 : Shape := ⟨4, ![2, 4, 64, 128]⟩
abbrev S2x4x64 : Shape := ⟨3, ![2, 4, 64]⟩
abbrev S2x4 : Shape := ⟨2, ![2, 4]⟩
abbrev S1x2x4x64x64 : Shape := ⟨5, ![1, 2, 4, 64, 64]⟩
abbrev S2x4x64x64 : Shape := ⟨4, ![2, 4, 64, 64]⟩
abbrev S1x2x4x64x128 : Shape := ⟨5, ![1, 2, 4, 64, 128]⟩
abbrev S1x2x4x64 : Shape := ⟨4, ![1, 2, 4, 64]⟩
abbrev S2x4x64x1 : Shape := ⟨4, ![2, 4, 64, 1]⟩
abbrev S2x4x1x64 : Shape := ⟨4, ![2, 4, 1, 64]⟩
abbrev S2x4x1 : Shape := ⟨3, ![2, 4, 1]⟩
abbrev S2x4x1x1 : Shape := ⟨4, ![2, 4, 1, 1]⟩
abbrev S32768x512 : Shape := ⟨2, ![32768, 512]⟩

abbrev nBuf : Space → Nat
  | .hbm => 247
  | .vmem => 0
  | .smem => 0
  | _ => 0

abbrev hbmTy0_0 (i : Nat) : BufTy := match i % 128 with
  | 0 => ⟨S2x16384x512, .f32⟩
  | 1 => ⟨S2x16384x512, .f32⟩
  | 2 => ⟨S2x16384x512, .f32⟩
  | 3 => ⟨S2x16384x4, .f32⟩
  | 4 => ⟨S2x16384x4, .f32⟩
  | 5 => ⟨S4x512, .f32⟩
  | 6 => ⟨S512, .f32⟩
  | 7 => ⟨S_, .i32⟩
  | 8 => ⟨S_, .f32⟩
  | 9 => ⟨S2x16387x512, .f32⟩
  | 10 => ⟨S2x16384x512, .f32⟩
  | 11 => ⟨S1x512, .f32⟩
  | 12 => ⟨S512, .f32⟩
  | 13 => ⟨S1x1x512, .f32⟩
  | 14 => ⟨S2x16384x512, .f32⟩
  | 15 => ⟨S2x16384x512, .f32⟩
  | 16 => ⟨S_, .f32⟩
  | 17 => ⟨S2x16384x512, .f32⟩
  | 18 => ⟨S2x16384x512, .f32⟩
  | 19 => ⟨S2x16384x512, .f32⟩
  | 20 => ⟨S1x512, .f32⟩
  | 21 => ⟨S512, .f32⟩
  | 22 => ⟨S1x1x512, .f32⟩
  | 23 => ⟨S2x16384x512, .f32⟩
  | 24 => ⟨S2x16384x512, .f32⟩
  | 25 => ⟨S2x16384x512, .f32⟩
  | 26 => ⟨S2x16384x512, .f32⟩
  | 27 => ⟨S1x512, .f32⟩
  | 28 => ⟨S512, .f32⟩
  | 29 => ⟨S1x1x512, .f32⟩
  | 30 => ⟨S2x16384x512, .f32⟩
  | 31 => ⟨S2x16384x512, .f32⟩
  | 32 => ⟨S2x16384x512, .f32⟩
  | 33 => ⟨S2x16384x512, .f32⟩
  | 34 => ⟨S1x512, .f32⟩
  | 35 => ⟨S512, .f32⟩
  | 36 => ⟨S1x1x512, .f32⟩
  | 37 => ⟨S2x16384x512, .f32⟩
  | 38 => ⟨S2x16384x512, .f32⟩
  | 39 => ⟨S2x16384x512, .f32⟩
  | 40 => ⟨S1x1x512, .f32⟩
  | 41 => ⟨S2x16384x512, .f32⟩
  | 42 => ⟨S2x16384x512, .f32⟩
  | 43 => ⟨S2x16384x512, .f32⟩
  | 44 => ⟨S2x16384x512, .f32⟩
  | 45 => ⟨S_, .f32⟩
  | 46 => ⟨S2x16384x512, .f32⟩
  | 47 => ⟨S2x16384x512, .f32⟩
  | 48 => ⟨S_, .f32⟩
  | 49 => ⟨S2x16384x512, .f32⟩
  | 50 => ⟨S2x16384x512, .f32⟩
  | 51 => ⟨S2x16384x512, .f32⟩
  | 52 => ⟨S2x16384x256, .f32⟩
  | 53 => ⟨S2x16384x256, .f32⟩
  | 54 => ⟨S2x16384x4x64, .f32⟩
  | 55 => ⟨S2x16384x4x64, .f32⟩
  | 56 => ⟨S2x16384x4x128, .f32⟩
  | 57 => ⟨S2x16384x4, .f32⟩
  | 58 => ⟨S_, .f32⟩
  | 59 => ⟨S2x16384x4, .f32⟩
  | 60 => ⟨S2x16384x4, .f32⟩
  | 61 => ⟨S2x16384x4, .f32⟩
  | 62 => ⟨S2x16384x4, .f32⟩
  | 63 => ⟨S2x16384x4, .i1⟩
  | 64 => ⟨S2x16384x4, .f32⟩
  | 65 => ⟨S2x16384x4, .f32⟩
  | 66 => ⟨S2x16384x4, .f32⟩
  | 67 => ⟨S2x16384x4, .f32⟩
  | 68 => ⟨S2x16384x4, .f32⟩
  | 69 => ⟨S2x16384x4, .f32⟩
  | 70 => ⟨S2x16384x4, .f32⟩
  | 71 => ⟨S2x16384x4, .f32⟩
  | 72 => ⟨S2x16384x4, .f32⟩
  | 73 => ⟨S2x256x64x4x64, .f32⟩
  | 74 => ⟨S256x2x4x64x64, .f32⟩
  | 75 => ⟨S_, .f32⟩
  | 76 => ⟨S2x16384x4x64, .f32⟩
  | 77 => ⟨S2x16384x4x64, .f32⟩
  | 78 => ⟨S2x256x64x4x64, .f32⟩
  | 79 => ⟨S256x2x4x64x64, .f32⟩
  | 80 => ⟨S2x256x64x4x128, .f32⟩
  | 81 => ⟨S256x2x4x64x128, .f32⟩
  | 82 => ⟨S2x16384x4x1, .f32⟩
  | 83 => ⟨S2x256x64x4x1, .f32⟩
  | 84 => ⟨S256x2x4x64x1, .f32⟩
  | 85 => ⟨S256x2x4x64, .f32⟩
  | 86 => ⟨S2x16384x4x1, .f32⟩
  | 87 => ⟨S2x256x64x4x1, .f32⟩
  | 88 => ⟨S256x2x4x64x1, .f32⟩
  | 89 => ⟨S256x2x4x64, .f32⟩
  | 90 => ⟨S_, .i1⟩
  | 91 => ⟨S64x64, .i1⟩
  | 92 => ⟨S64x64, .i32⟩
  | 93 => ⟨S_, .i32⟩
  | 94 => ⟨S64x64, .i32⟩
  | 95 => ⟨S64x64, .i32⟩
  | 96 => ⟨S64x64, .i32⟩
  | 97 => ⟨S64x64, .i1⟩
  | 98 => ⟨S_, .i1⟩
  | 99 => ⟨S64x64, .i1⟩
  | 100 => ⟨S64x64, .i1⟩
  | 101 => ⟨S_, .f32⟩
  | 102 => ⟨S2x4x64x128, .f32⟩
  | 103 => ⟨S_, .f32⟩
  | 104 => ⟨S2x4x64, .f32⟩
  | 105 => ⟨S_, .f32⟩
  | 106 => ⟨S2x4, .f32⟩
  | 107 => ⟨S_, .f32⟩
  | 108 => ⟨S256x2x4x64x128, .f32⟩
  | 109 => ⟨S_, .i32⟩
  | 110 => ⟨S256x2x4x64x64, .f32⟩
  | 111 => ⟨S256x2x4x64x64, .f32⟩
  | 112 => ⟨S256x2x4x64x128, .f32⟩
  | 113 => ⟨S256x2x4x64, .f32⟩
  | 114 => ⟨S256x2x4x64, .f32⟩
  | 115 => ⟨S64x64, .i1⟩
  | 116 => ⟨S_, .i32⟩
  | 117 => ⟨S2x4x64x128, .f32⟩
  | 118 => ⟨S2x4x64, .f32⟩
  | 119 => ⟨S2x4, .f32⟩
  | 120 => ⟨S256x2x4x64x128, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1x2x4x64x64, .f32⟩
  | _ => ⟨S2x16384x512, .f32⟩

abbrev hbmTy0_1 (i : Nat) : BufTy := match i % 128 with
  | 0 => ⟨S2x4x64x64, .f32⟩
  | 1 => ⟨S_, .i32⟩
  | 2 => ⟨S_, .i32⟩
  | 3 => ⟨S_, .i32⟩
  | 4 => ⟨S_, .i32⟩
  | 5 => ⟨S1x2x4x64x64, .f32⟩
  | 6 => ⟨S2x4x64x64, .f32⟩
  | 7 => ⟨S_, .i32⟩
  | 8 => ⟨S_, .i32⟩
  | 9 => ⟨S_, .i32⟩
  | 10 => ⟨S_, .i32⟩
  | 11 => ⟨S1x2x4x64x128, .f32⟩
  | 12 => ⟨S2x4x64x128, .f32⟩
  | 13 => ⟨S_, .i32⟩
  | 14 => ⟨S_, .i32⟩
  | 15 => ⟨S_, .i32⟩
  | 16 => ⟨S1x2x4x64, .f32⟩
  | 17 => ⟨S2x4x64, .f32⟩
  | 18 => ⟨S_, .i32⟩
  | 19 => ⟨S_, .i32⟩
  | 20 => ⟨S_, .i32⟩
  | 21 => ⟨S1x2x4x64, .f32⟩
  | 22 => ⟨S2x4x64, .f32⟩
  | 23 => ⟨S_, .f32⟩
  | 24 => ⟨S_, .f32⟩
  | 25 => ⟨S2x4x64, .f32⟩
  | 26 => ⟨S2x4x64x1, .f32⟩
  | 27 => ⟨S2x4x1x64, .f32⟩
  | 28 => ⟨S2x4x64x64, .f32⟩
  | 29 => ⟨S2x4x64x64, .f32⟩
  | 30 => ⟨S2x4x64x64, .f32⟩
  | 31 => ⟨S2x4x1x64, .f32⟩
  | 32 => ⟨S2x4x64x64, .f32⟩
  | 33 => ⟨S2x4x64x64, .f32⟩
  | 34 => ⟨S_, .f32⟩
  | 35 => ⟨S_, .f32⟩
  | 36 => ⟨S2x4x64x64, .i1⟩
  | 37 => ⟨S2x4x64x64, .f32⟩
  | 38 => ⟨S2x4x64x64, .f32⟩
  | 39 => ⟨S2x4x1, .f32⟩
  | 40 => ⟨S2x4x64, .f32⟩
  | 41 => ⟨S2x4x64, .f32⟩
  | 42 => ⟨S_, .f32⟩
  | 43 => ⟨S2x4x64, .f32⟩
  | 44 => ⟨S2x4x64, .f32⟩
  | 45 => ⟨S2x4x64, .f32⟩
  | 46 => ⟨S2x4x64, .f32⟩
  | 47 => ⟨S2x4x64x64, .f32⟩
  | 48 => ⟨S2x4x64x1, .f32⟩
  | 49 => ⟨S2x4x64x64, .f32⟩
  | 50 => ⟨S2x4x64x64, .f32⟩
  | 51 => ⟨S2x4x64x64, .f32⟩
  | 52 => ⟨S2x4x64x64, .f32⟩
  | 53 => ⟨S2x4x64x1, .f32⟩
  | 54 => ⟨S2x4x64x128, .f32⟩
  | 55 => ⟨S2x4x64x128, .f32⟩
  | 56 => ⟨S2x4x64x128, .f32⟩
  | 57 => ⟨S2x4x64x128, .f32⟩
  | 58 => ⟨S2x4x64x128, .f32⟩
  | 59 => ⟨S2x4x64, .f32⟩
  | 60 => ⟨S2x4x64, .f32⟩
  | 61 => ⟨S_, .f32⟩
  | 62 => ⟨S2x4x64, .f32⟩
  | 63 => ⟨S2x4x64, .f32⟩
  | 64 => ⟨S2x4x64, .f32⟩
  | 65 => ⟨S2x4x64, .f32⟩
  | 66 => ⟨S2x4x64, .f32⟩
  | 67 => ⟨S2x4x64, .f32⟩
  | 68 => ⟨S2x4x64x1, .f32⟩
  | 69 => ⟨S2x4x64x128, .f32⟩
  | 70 => ⟨S2x4x64x128, .f32⟩
  | 71 => ⟨S2x4x1, .f32⟩
  | 72 => ⟨S2x4, .f32⟩
  | 73 => ⟨S2x4x1x64, .f32⟩
  | 74 => ⟨S2x4x64, .f32⟩
  | 75 => ⟨S2x4x1, .f32⟩
  | 76 => ⟨S2x4x64, .f32⟩
  | 77 => ⟨S2x4x64, .f32⟩
  | 78 => ⟨S2x4x64, .f32⟩
  | 79 => ⟨S2x4x1, .f32⟩
  | 80 => ⟨S2x4, .f32⟩
  | 81 => ⟨S2x4, .f32⟩
  | 82 => ⟨S2x4, .f32⟩
  | 83 => ⟨S2x4, .f32⟩
  | 84 => ⟨S2x4x1x1, .f32⟩
  | 85 => ⟨S2x4x64x128, .f32⟩
  | 86 => ⟨S2x4x64x128, .f32⟩
  | 87 => ⟨S2x4x64x1, .f32⟩
  | 88 => ⟨S2x4x64x64, .f32⟩
  | 89 => ⟨S2x4x64x64, .f32⟩
  | 90 => ⟨S2x4x64x128, .f32⟩
  | 91 => ⟨S2x4x64x128, .f32⟩
  | 92 => ⟨S2x4x1, .f32⟩
  | 93 => ⟨S2x4x64, .f32⟩
  | 94 => ⟨S2x4x64, .f32⟩
  | 95 => ⟨S2x4x64, .f32⟩
  | 96 => ⟨S2x4x64, .f32⟩
  | 97 => ⟨S1x2x4x64x128, .f32⟩
  | 98 => ⟨S_, .i32⟩
  | 99 => ⟨S_, .i32⟩
  | 100 => ⟨S_, .i32⟩
  | 101 => ⟨S_, .i32⟩
  | 102 => ⟨S256x2x4x64x128, .f32⟩
  | 103 => ⟨S_, .i32⟩
  | 104 => ⟨S_, .i32⟩
  | 105 => ⟨S2x256x64x4x128, .f32⟩
  | 106 => ⟨S2x16384x4x128, .f32⟩
  | 107 => ⟨S2x16384x512, .f32⟩
  | 108 => ⟨S2x16384x512, .f32⟩
  | 109 => ⟨S2x16384x512, .f32⟩
  | 110 => ⟨S_, .f32⟩
  | 111 => ⟨S2x16384x512, .f32⟩
  | 112 => ⟨S2x16384x512, .f32⟩
  | 113 => ⟨S_, .f32⟩
  | 114 => ⟨S2x16384x512, .f32⟩
  | 115 => ⟨S2x16384x512, .f32⟩
  | 116 => ⟨S2x16384x512, .f32⟩
  | 117 => ⟨S32768x512, .f32⟩
  | 118 => ⟨S32768x512, .bf16⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call2_v0 : Ref sig .tc := ⟨.hbm, 57, rfl⟩
abbrev main_call2_call0_cst : Ref sig .tc := ⟨.hbm, 58, rfl⟩
abbrev main_call2_call0_v0 : Ref sig .tc := ⟨.hbm, 59, rfl⟩
abbrev main_call2_call0_v1 : Ref sig .tc := ⟨.hbm, 60, rfl⟩
abbrev main_call2_call0_v2 : Ref sig .tc := ⟨.hbm, 61, rfl⟩
abbrev main_call2_call0_v3 : Ref sig .tc := ⟨.hbm, 62, rfl⟩
abbrev main_call2_call0_v4 : Ref sig .tc := ⟨.hbm, 63, rfl⟩
abbrev main_call2_call0_v5 : Ref sig .tc := ⟨.hbm, 64, rfl⟩
abbrev main_call2_call0_v6 : Ref sig .tc := ⟨.hbm, 65, rfl⟩
abbrev main_call2_call0_v7 : Ref sig .tc := ⟨.hbm, 66, rfl⟩
abbrev main_call2_call0_v8 : Ref sig .tc := ⟨.hbm, 67, rfl⟩
abbrev main_call2_call0_v9 : Ref sig .tc := ⟨.hbm, 68, rfl⟩
abbrev main_call2_call0_v10 : Ref sig .tc := ⟨.hbm, 69, rfl⟩
abbrev main_call2_call0_v11 : Ref sig .tc := ⟨.hbm, 70, rfl⟩
abbrev main_call2_v1 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_1 : Ref sig .tc := ⟨.hbm, 90, rfl⟩
abbrev main_v56 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_c_0 : Ref sig .tc := ⟨.hbm, 98, rfl⟩
abbrev main_call3_v5 : Ref sig .tc := ⟨.hbm, 99, rfl⟩
abbrev main_v57 : Ref sig .tc := ⟨.hbm, 100, rfl⟩
abbrev main_cst_2 : Ref sig .tc := ⟨.hbm, 101, rfl⟩
abbrev main_v58 : Ref sig .tc := ⟨.hbm, 102, rfl⟩
abbrev main_cst_3 : Ref sig .tc := ⟨.hbm, 103, rfl⟩
abbrev main_v59 : Ref sig .tc := ⟨.hbm, 104, rfl⟩
abbrev main_cst_4 : Ref sig .tc := ⟨.hbm, 105, rfl⟩
abbrev main_v60 : Ref sig .tc := ⟨.hbm, 106, rfl⟩
abbrev main_cst_5 : Ref sig .tc := ⟨.hbm, 107, rfl⟩
abbrev main_v61 : Ref sig .tc := ⟨.hbm, 108, rfl⟩
abbrev main_c_6 : Ref sig .tc := ⟨.hbm, 109, rfl⟩
abbrev main_v62_0 : Ref sig .tc := ⟨.hbm, 110, rfl⟩
abbrev main_v62_1 : Ref sig .tc := ⟨.hbm, 111, rfl⟩
abbrev main_v62_2 : Ref sig .tc := ⟨.hbm, 112, rfl⟩
abbrev main_v62_3 : Ref sig .tc := ⟨.hbm, 113, rfl⟩
abbrev main_v62_4 : Ref sig .tc := ⟨.hbm, 114, rfl⟩
abbrev main_v62_5 : Ref sig .tc := ⟨.hbm, 115, rfl⟩
abbrev main_v62_6 : Ref sig .tc := ⟨.hbm, 116, rfl⟩
abbrev main_v62_7 : Ref sig .tc := ⟨.hbm, 117, rfl⟩
abbrev main_v62_8 : Ref sig .tc := ⟨.hbm, 118, rfl⟩
abbrev main_v62_9 : Ref sig .tc := ⟨.hbm, 119, rfl⟩
abbrev main_v62_10 : Ref sig .tc := ⟨.hbm, 120, rfl⟩
abbrev main_while0c_c_19 : Ref sig .tc := ⟨.hbm, 121, rfl⟩
abbrev main_while0c_v75 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_c_1 : Ref sig .tc := ⟨.hbm, 125, rfl⟩
abbrev main_while0b_call4_c_2 : Ref sig .tc := ⟨.hbm, 126, rfl⟩
abbrev main_while0b_call4_v0 : Ref sig .tc := ⟨.hbm, 127, rfl⟩
abbrev main_while0b_v75 : Ref sig .tc := ⟨.hbm, 128, rfl⟩
abbrev main_while0b_call5_c : Ref sig .tc := ⟨.hbm, 129, rfl⟩
abbrev main_while0b_call5_c_0 : Ref sig .tc := ⟨.hbm, 130, rfl⟩
abbrev main_while0b_call5_c_1 : Ref sig .tc := ⟨.hbm, 131, rfl⟩
abbrev main_while0b_call5_c_2 : Ref sig .tc := ⟨.hbm, 132, rfl⟩
abbrev main_while0b_call5_v0 : Ref sig .tc := ⟨.hbm, 133, rfl⟩
abbrev main_while0b_v76 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_c_1 : Ref sig .tc := ⟨.hbm, 137, rfl⟩
abbrev main_while0b_call6_c_2 : Ref sig .tc := ⟨.hbm, 138, rfl⟩
abbrev main_while0b_call6_v0 : Ref sig .tc := ⟨.hbm, 139, rfl⟩
abbrev main_while0b_v77 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_call7_v0 : Ref sig .tc := ⟨.hbm, 144, rfl⟩
abbrev main_while0b_v78 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_call8_v0 : Ref sig .tc := ⟨.hbm, 149, rfl⟩
abbrev main_while0b_v79 : Ref sig .tc := ⟨.hbm, 150, rfl⟩
abbrev main_while0b_call9_call0_cst : Ref sig .tc := ⟨.hbm, 151, rfl⟩
abbrev main_while0b_call9_call0_v0 : Ref sig .tc := ⟨.hbm, 152, rfl⟩
abbrev main_while0b_v80 : Ref sig .tc := ⟨.hbm, 153, rfl⟩
abbrev main_while0b_v81 : Ref sig .tc := ⟨.hbm, 154, rfl⟩
abbrev main_while0b_v82 : Ref sig .tc := ⟨.hbm, 155, rfl⟩
abbrev main_while0b_v83 : Ref sig .tc := ⟨.hbm, 156, rfl⟩
abbrev main_while0b_v84 : Ref sig .tc := ⟨.hbm, 157, rfl⟩
abbrev main_while0b_v85 : Ref sig .tc := ⟨.hbm, 158, rfl⟩
abbrev main_while0b_v86 : Ref sig .tc := ⟨.hbm, 159, rfl⟩
abbrev main_while0b_v87 : Ref sig .tc := ⟨.hbm, 160, rfl⟩
abbrev main_while0b_v88 : Ref sig .tc := ⟨.hbm, 161, rfl⟩
abbrev main_while0b_cst_19 : Ref sig .tc := ⟨.hbm, 162, rfl⟩
abbrev main_while0b_call10_v0 : Ref sig .tc := ⟨.hbm, 163, rfl⟩
abbrev main_while0b_call10_v1 : Ref sig .tc := ⟨.hbm, 164, rfl⟩
abbrev main_while0b_call10_v2 : Ref sig .tc := ⟨.hbm, 165, rfl⟩
abbrev main_while0b_v89 : Ref sig .tc := ⟨.hbm, 166, rfl⟩
abbrev main_while0b_v90 : Ref sig .tc := ⟨.hbm, 167, rfl⟩
abbrev main_while0b_v91 : Ref sig .tc := ⟨.hbm, 168, rfl⟩
abbrev main_while0b_v92 : Ref sig .tc := ⟨.hbm, 169, rfl⟩
abbrev main_while0b_cst_20 : Ref sig .tc := ⟨.hbm, 170, rfl⟩
abbrev main_while0b_v93 : Ref sig .tc := ⟨.hbm, 171, rfl⟩
abbrev main_while0b_v94 : Ref sig .tc := ⟨.hbm, 172, rfl⟩
abbrev main_while0b_v95 : Ref sig .tc := ⟨.hbm, 173, rfl⟩
abbrev main_while0b_v96 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_v100 : Ref sig .tc := ⟨.hbm, 178, rfl⟩
abbrev main_while0b_v101 : Ref sig .tc := ⟨.hbm, 179, rfl⟩
abbrev main_while0b_v102 : Ref sig .tc := ⟨.hbm, 180, rfl⟩
abbrev main_while0b_v103 : Ref sig .tc := ⟨.hbm, 181, rfl⟩
abbrev main_while0b_v104 : Ref sig .tc := ⟨.hbm, 182, rfl⟩
abbrev main_while0b_v105 : Ref sig .tc := ⟨.hbm, 183, rfl⟩
abbrev main_while0b_v106 : Ref sig .tc := ⟨.hbm, 184, rfl⟩
abbrev main_while0b_v107 : Ref sig .tc := ⟨.hbm, 185, rfl⟩
abbrev main_while0b_v108 : Ref sig .tc := ⟨.hbm, 186, rfl⟩
abbrev main_while0b_v109 : Ref sig .tc := ⟨.hbm, 187, rfl⟩
abbrev main_while0b_v110 : Ref sig .tc := ⟨.hbm, 188, rfl⟩
abbrev main_while0b_cst_21 : Ref sig .tc := ⟨.hbm, 189, rfl⟩
abbrev main_while0b_v111 : Ref sig .tc := ⟨.hbm, 190, rfl⟩
abbrev main_while0b_v112 : Ref sig .tc := ⟨.hbm, 191, rfl⟩
abbrev main_while0b_v113 : Ref sig .tc := ⟨.hbm, 192, rfl⟩
abbrev main_while0b_v114 : Ref sig .tc := ⟨.hbm, 193, rfl⟩
abbrev main_while0b_v115 : Ref sig .tc := ⟨.hbm, 194, rfl⟩
abbrev main_while0b_v116 : Ref sig .tc := ⟨.hbm, 195, rfl⟩
abbrev main_while0b_v117 : Ref sig .tc := ⟨.hbm, 196, rfl⟩
abbrev main_while0b_v118 : Ref sig .tc := ⟨.hbm, 197, rfl⟩
abbrev main_while0b_v119 : Ref sig .tc := ⟨.hbm, 198, rfl⟩
abbrev main_while0b_v120 : Ref sig .tc := ⟨.hbm, 199, rfl⟩
abbrev main_while0b_v121 : Ref sig .tc := ⟨.hbm, 200, rfl⟩
abbrev main_while0b_v122 : Ref sig .tc := ⟨.hbm, 201, rfl⟩
abbrev main_while0b_v123 : Ref sig .tc := ⟨.hbm, 202, rfl⟩
abbrev main_while0b_v124 : Ref sig .tc := ⟨.hbm, 203, rfl⟩
abbrev main_while0b_v125 : Ref sig .tc := ⟨.hbm, 204, rfl⟩
abbrev main_while0b_v126 : Ref sig .tc := ⟨.hbm, 205, rfl⟩
abbrev main_while0b_v127 : Ref sig .tc := ⟨.hbm, 206, rfl⟩
abbrev main_while0b_v128 : Ref sig .tc := ⟨.hbm, 207, rfl⟩
abbrev main_while0b_v129 : Ref sig .tc := ⟨.hbm, 208, rfl⟩
abbrev main_while0b_v130 : Ref sig .tc := ⟨.hbm, 209, rfl⟩
abbrev main_while0b_v131 : Ref sig .tc := ⟨.hbm, 210, rfl⟩
abbrev main_while0b_v132 : Ref sig .tc := ⟨.hbm, 211, rfl⟩
abbrev main_while0b_v133 : Ref sig .tc := ⟨.hbm, 212, rfl⟩
abbrev main_while0b_v134 : Ref sig .tc := ⟨.hbm, 213, rfl⟩
abbrev main_while0b_v135 : Ref sig .tc := ⟨.hbm, 214, rfl⟩
abbrev main_while0b_v136 : Ref sig .tc := ⟨.hbm, 215, rfl⟩
abbrev main_while0b_v137 : Ref sig .tc := ⟨.hbm, 216, rfl⟩
abbrev main_while0b_v138 : Ref sig .tc := ⟨.hbm, 217, rfl⟩
abbrev main_while0b_v139 : Ref sig .tc := ⟨.hbm, 218, rfl⟩
abbrev main_while0b_v140 : Ref sig .tc := ⟨.hbm, 219, rfl⟩
abbrev main_while0b_v141 : Ref sig .tc := ⟨.hbm, 220, rfl⟩
abbrev main_while0b_v142 : Ref sig .tc := ⟨.hbm, 221, rfl⟩
abbrev main_while0b_v143 : Ref sig .tc := ⟨.hbm, 222, rfl⟩
abbrev main_while0b_v144 : Ref sig .tc := ⟨.hbm, 223, rfl⟩
abbrev main_while0b_v145 : Ref sig .tc := ⟨.hbm, 224, rfl⟩
abbrev main_while0b_call11_v0 : Ref sig .tc := ⟨.hbm, 225, rfl⟩
abbrev main_while0b_call11_c : Ref sig .tc := ⟨.hbm, 226, rfl⟩
abbrev main_while0b_call11_c_0 : Ref sig .tc := ⟨.hbm, 227, rfl⟩
abbrev main_while0b_call11_c_1 : Ref sig .tc := ⟨.hbm, 228, rfl⟩
abbrev main_while0b_call11_c_2 : Ref sig .tc := ⟨.hbm, 229, rfl⟩
abbrev main_while0b_v146 : Ref sig .tc := ⟨.hbm, 230, rfl⟩
abbrev main_while0b_c_22 : Ref sig .tc := ⟨.hbm, 231, rfl⟩
abbrev main_while0b_v147 : Ref sig .tc := ⟨.hbm, 232, rfl⟩
abbrev main_v63 : Ref sig .tc := ⟨.hbm, 233, rfl⟩
abbrev main_v64 : Ref sig .tc := ⟨.hbm, 234, rfl⟩
abbrev main_v65 : Ref sig .tc := ⟨.hbm, 235, rfl⟩
abbrev main_v66 : Ref sig .tc := ⟨.hbm, 236, rfl⟩
abbrev main_v67 : Ref sig .tc := ⟨.hbm, 237, rfl⟩
abbrev main_cst_7 : Ref sig .tc := ⟨.hbm, 238, rfl⟩
abbrev main_v68 : Ref sig .tc := ⟨.hbm, 239, rfl⟩
abbrev main_v69 : Ref sig .tc := ⟨.hbm, 240, rfl⟩
abbrev main_cst_8 : Ref sig .tc := ⟨.hbm, 241, rfl⟩
abbrev main_v70 : Ref sig .tc := ⟨.hbm, 242, rfl⟩
abbrev main_v71 : Ref sig .tc := ⟨.hbm, 243, rfl⟩
abbrev main_v72 : Ref sig .tc := ⟨.hbm, 244, rfl⟩
abbrev main_v73 : Ref sig .tc := ⟨.hbm, 245, rfl⟩
abbrev main_v74 : Ref sig .tc := ⟨.hbm, 246, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S32768x3072 : Shape := ⟨2, ![32768, 3072]⟩
abbrev S3x512x1024 : Shape := ⟨3, ![3, 512, 1024]⟩
abbrev S1024x1024 : Shape := ⟨2, ![1024, 1024]⟩
abbrev S1024x512 : Shape := ⟨2, ![1024, 512]⟩
abbrev S1024x3072 : Shape := ⟨2, ![1024, 3072]⟩
abbrev S1x512x1024 : Shape := ⟨3, ![1, 512, 1024]⟩
abbrev S512x1024 : Shape := ⟨2, ![512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x3072, .f32⟩
  | .hbm, ⟨5, _⟩ => ⟨S3x512x1024, .f32⟩
  | .hbm, ⟨6, _⟩ => ⟨S1024x1024, .f32⟩
  | .hbm, ⟨7, _⟩ => ⟨S32768x512, .bf16⟩
  | .hbm, ⟨8, _⟩ => ⟨S32768x512, .bf16⟩
  | .hbm, ⟨9, _⟩ => ⟨S32768x512, .bf16⟩
  | .hbm, ⟨10, _⟩ => ⟨S32768x3072, .bf16⟩
  | .hbm, ⟨11, _⟩ => ⟨S3x512x1024, .bf16⟩
  | .hbm, ⟨12, _⟩ => ⟨S1024x1024, .bf16⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x3072, .bf16⟩
  | .local _ .vmem, ⟨9, _⟩ => ⟨S1024x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x1024 : Shape := ⟨2, ![32768, 1024]⟩
abbrev S32768x512 : Shape := ⟨2, ![32768, 512]⟩
abbrev S32768x3072 : Shape := ⟨2, ![32768, 3072]⟩
abbrev S3x512x1024 : Shape := ⟨3, ![3, 512, 1024]⟩
abbrev S1024x1024 : Shape := ⟨2, ![1024, 1024]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x3072, .f32⟩
  | .hbm, ⟨5, _⟩ => ⟨S3x512x1024, .f32⟩
  | .hbm, ⟨6, _⟩ => ⟨S1024x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S1x512x1024, .f32⟩
  | .hbm, ⟨19, _⟩ => ⟨S512x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S1x512x1024, .f32⟩
  | .hbm, ⟨31, _⟩ => ⟨S512x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S1x512x1024, .f32⟩
  | .hbm, ⟨44, _⟩ => ⟨S512x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x7472 : Shape := ⟨2, ![1024, 7472]⟩
abbrev S7472 : Shape := ⟨1, ![7472]⟩
abbrev S1024x256 : Shape := ⟨2, ![1024, 256]⟩
abbrev S_ : Shape := ⟨0, ![]⟩
abbrev S256 : Shape := ⟨1, ![256]⟩
abbrev S1024x512 : Shape := ⟨2, ![1024, 512]⟩
abbrev S512 : Shape := ⟨1, ![512]⟩
abbrev S1024x3072 : Shape := ⟨2, ![1024, 3072]⟩
abbrev S3072 : Shape := ⟨1, ![3072]⟩
abbrev S1024x16 : Shape := ⟨2, ![1024, 16]⟩
abbrev S1024x128 : Shape := ⟨2, ![1024, 128]⟩
abbrev S16 : Shape := ⟨1, ![16]⟩
abbrev S128 : Shape := ⟨1, ![128]⟩
abbrev S1024x24 : Shape := ⟨2, ![1024, 24]⟩
abbrev S24 : Shape := ⟨1, ![24]⟩
abbrev S1024x8 : Shape := ⟨2, ![1024, 8]⟩
abbrev S8 : Shape := ⟨1, ![8]⟩
abbrev S1024x7552 : Shape := ⟨2, ![1024, 7552]⟩
abbrev S1024x7808 : Shape := ⟨2, ![1024, 7808]⟩
abbrev S7552 : Shape := ⟨1, ![7552]⟩
abbrev S7808 : Shape := ⟨1, ![7808]⟩
abbrev S1x7808 : Shape := ⟨2, ![1, 7808]⟩
abbrev S1x1024 : Shape := ⟨2, ![1, 1024]⟩
abbrev S32768x256 : Shape := ⟨2, ![32768, 256]⟩
abbrev S32768x512 : Shape := ⟨2, ![32768, 512]⟩
abbrev S32768x3072 : Shape := ⟨2, ![32768, 3072]⟩
abbrev S32768x128 : Shape := ⟨2, ![32768, 128]⟩
abbrev S512x1024 : Shape := ⟨2, ![512, 1024]⟩
abbrev S512x256 : Shape := ⟨2, ![512, 256]⟩
abbrev S512x512 : Shape := ⟨2, ![512, 512]⟩
abbrev S512x3072 : Shape := ⟨2, ![512, 3072]⟩
abbrev S512x128 : Shape := ⟨2, ![512, 128]⟩
abbrev S512x1 : Shape := ⟨2, ![512, 1]⟩
abbrev S1x256 : Shape := ⟨2, ![1, 256]⟩
abbrev S1x512 : Shape := ⟨2, ![1, 512]⟩
abbrev S1x3072 : Shape := ⟨2, ![1, 3072]⟩
abbrev S1x128 : Shape := ⟨2, ![1, 128]⟩

abbrev nBuf : Space → Nat
  | .hbm => 175
  | .vmem => 41
  | .smem => 0
  | _ => 0

abbrev hbmTy0_0 (i : Nat) : BufTy := match i % 128 with
  | 0 => ⟨S32768x1024, .f32⟩
  | 1 => ⟨S1024, .f32⟩
  | 2 => ⟨S1024x7472, .f32⟩
  | 3 => ⟨S7472, .f32⟩
  | 4 => ⟨S1024x256, .f32⟩
  | 5 => ⟨S_, .i32⟩
  | 6 => ⟨S_, .f32⟩
  | 7 => ⟨S1024x256, .f32⟩
  | 8 => ⟨S256, .f32⟩
  | 9 => ⟨S_, .i32⟩
  | 10 => ⟨S_, .f32⟩
  | 11 => ⟨S256, .f32⟩
  | 12 => ⟨S1024x256, .f32⟩
  | 13 => ⟨S_, .i32⟩
  | 14 => ⟨S_, .f32⟩
  | 15 => ⟨S1024x256, .f32⟩
  | 16 => ⟨S256, .f32⟩
  | 17 => ⟨S_, .i32⟩
  | 18 => ⟨S_, .f32⟩
  | 19 => ⟨S256, .f32⟩
  | 20 => ⟨S1024x512, .f32⟩
  | 21 => ⟨S_, .i32⟩
  | 22 => ⟨S_, .f32⟩
  | 23 => ⟨S1024x512, .f32⟩
  | 24 => ⟨S512, .f32⟩
  | 25 => ⟨S_, .i32⟩
  | 26 => ⟨S_, .f32⟩
  | 27 => ⟨S512, .f32⟩
  | 28 => ⟨S1024x512, .f32⟩
  | 29 => ⟨S_, .i32⟩
  | 30 => ⟨S_, .f32⟩
  | 31 => ⟨S1024x512, .f32⟩
  | 32 => ⟨S512, .f32⟩
  | 33 => ⟨S_, .i32⟩
  | 34 => ⟨S_, .f32⟩
  | 35 => ⟨S512, .f32⟩
  | 36 => ⟨S1024x512, .f32⟩
  | 37 => ⟨S_, .i32⟩
  | 38 => ⟨S_, .f32⟩
  | 39 => ⟨S1024x512, .f32⟩
  | 40 => ⟨S512, .f32⟩
  | 41 => ⟨S_, .i32⟩
  | 42 => ⟨S_, .f32⟩
  | 43 => ⟨S512, .f32⟩
  | 44 => ⟨S1024x512, .f32⟩
  | 45 => ⟨S_, .i32⟩
  | 46 => ⟨S_, .f32⟩
  | 47 => ⟨S1024x512, .f32⟩
  | 48 => ⟨S512, .f32⟩
  | 49 => ⟨S_, .i32⟩
  | 50 => ⟨S_, .f32⟩
  | 51 => ⟨S512, .f32⟩
  | 52 => ⟨S1024x512, .f32⟩
  | 53 => ⟨S_, .i32⟩
  | 54 => ⟨S_, .f32⟩
  | 55 => ⟨S1024x512, .f32⟩
  | 56 => ⟨S512, .f32⟩
  | 57 => ⟨S_, .i32⟩
  | 58 => ⟨S_, .f32⟩
  | 59 => ⟨S512, .f32⟩
  | 60 => ⟨S1024x512, .f32⟩
  | 61 => ⟨S_, .i32⟩
  | 62 => ⟨S_, .f32⟩
  | 63 => ⟨S1024x512, .f32⟩
  | 64 => ⟨S512, .f32⟩
  | 65 => ⟨S_, .i32⟩
  | 66 => ⟨S_, .f32⟩
  | 67 => ⟨S512, .f32⟩
  | 68 => ⟨S1024x3072, .f32⟩
  | 69 => ⟨S_, .i32⟩
  | 70 => ⟨S_, .f32⟩
  | 71 => ⟨S1024x3072, .f32⟩
  | 72 => ⟨S3072, .f32⟩
  | 73 => ⟨S_, .i32⟩
  | 74 => ⟨S_, .f32⟩
  | 75 => ⟨S3072, .f32⟩
  | 76 => ⟨S1024x16, .f32⟩
  | 77 => ⟨S_, .i32⟩
  | 78 => ⟨S_, .f32⟩
  | 79 => ⟨S1024x128, .f32⟩
  | 80 => ⟨S16, .f32⟩
  | 81 => ⟨S_, .i32⟩
  | 82 => ⟨S_, .f32⟩
  | 83 => ⟨S128, .f32⟩
  | 84 => ⟨S1024x128, .f32⟩
  | 85 => ⟨S_, .i32⟩
  | 86 => ⟨S_, .f32⟩
  | 87 => ⟨S1024x128, .f32⟩
  | 88 => ⟨S128, .f32⟩
  | 89 => ⟨S_, .i32⟩
  | 90 => ⟨S_, .f32⟩
  | 91 => ⟨S128, .f32⟩
  | 92 => ⟨S1024x128, .f32⟩
  | 93 => ⟨S_, .i32⟩
  | 94 => ⟨S_, .f32⟩
  | 95 => ⟨S1024x128, .f32⟩
  | 96 => ⟨S128, .f32⟩
  | 97 => ⟨S_, .i32⟩
  | 98 => ⟨S_, .f32⟩
  | 99 => ⟨S128, .f32⟩
  | 100 => ⟨S1024x128, .f32⟩
  | 101 => ⟨S_, .i32⟩
  | 102 => ⟨S_, .f32⟩
  | 103 => ⟨S1024x128, .f32⟩
  | 104 => ⟨S128, .f32⟩
  | 105 => ⟨S_, .i32⟩
  | 106 => ⟨S_, .f32⟩
  | 107 => ⟨S128, .f32⟩
  | 108 => ⟨S1024x128, .f32⟩
  | 109 => ⟨S_, .i32⟩
  | 110 => ⟨S_, .f32⟩
  | 111 => ⟨S1024x128, .f32⟩
  | 112 => ⟨S128, .f32⟩
  | 113 => ⟨S_, .i32⟩
  | 114 => ⟨S_, .f32⟩
  | 115 => ⟨S128, .f32⟩
  | 116 => ⟨S1024x128, .f32⟩
  | 117 => ⟨S_, .i32⟩
  | 118 => ⟨S_, .f32⟩
  | 119 => ⟨S1024x128, .f32⟩
  | 120 => ⟨S128, .f32⟩
  | 121 => ⟨S_, .i32⟩
  | 122 => ⟨S_, .f32⟩
  | 123 => ⟨S128, .f32⟩
  | 124 => ⟨S1024x128, .f32⟩
  | 125 => ⟨S_, .i32⟩
  | 126 => ⟨S_, .f32⟩
  | 127 => ⟨S1024x128, .f32⟩
  | _ => ⟨S32768x1024, .f32⟩

abbrev hbmTy0_1 (i : Nat) : BufTy := match i % 128 with
  | 0 => ⟨S128, .f32⟩
  | 1 => ⟨S_, .i32⟩
  | 2 => ⟨S_, .f32⟩
  | 3 => ⟨S128, .f32⟩
  | 4 => ⟨S1024x24, .f32⟩
  | 5 => ⟨S_, .i32⟩
  | 6 => ⟨S_, .f32⟩
  | 7 => ⟨S1024x128, .f32⟩
  | 8 => ⟨S24, .f32⟩
  | 9 => ⟨S_, .i32⟩
  | 10 => ⟨S_, .f32⟩
  | 11 => ⟨S128, .f32⟩
  | 12 => ⟨S1024x8, .f32⟩
  | 13 => ⟨S_, .i32⟩
  | 14 => ⟨S_, .f32⟩
  | 15 => ⟨S1024x128, .f32⟩
  | 16 => ⟨S8, .f32⟩
  | 17 => ⟨S_, .i32⟩
  | 18 => ⟨S_, .f32⟩
  | 19 => ⟨S128, .f32⟩
  | 20 => ⟨S1024x7552, .f32⟩
  | 21 => ⟨S1024x256, .f32⟩
  | 22 => ⟨S1024x7808, .f32⟩
  | 23 => ⟨S1024x7808, .bf16⟩
  | 24 => ⟨S7552, .f32⟩
  | 25 => ⟨S256, .f32⟩
  | 26 => ⟨S7808, .f32⟩
  | 27 => ⟨S1x7808, .f32⟩
  | 28 => ⟨S1x1024, .f32⟩
  | 29 => ⟨S32768x256, .f32⟩
  | 30 => ⟨S32768x256, .f32⟩
  | 31 => ⟨S32768x512, .f32⟩
  | 32 => ⟨S32768x512, .f32⟩
  | 33 => ⟨S32768x512, .f32⟩
  | 34 => ⟨S32768x512, .f32⟩
  | 35 => ⟨S32768x512, .bf16⟩
  | 36 => ⟨S32768x512, .f32⟩
  | 37 => ⟨S32768x3072, .bf16⟩
  | 38 => ⟨S32768x128, .f32⟩
  | 39 => ⟨S32768x128, .f32⟩
  | 40 => ⟨S32768x128, .f32⟩
  | 41 => ⟨S32768x128, .f32⟩
  | 42 => ⟨S32768x128, .bf16⟩
  | 43 => ⟨S32768x128, .f32⟩
  | 44 => ⟨S32768x128, .bf16⟩
  | 45 => ⟨S32768x128, .f32⟩
  | 46 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7808, .bf16⟩
  | .local _ .vmem, ⟨4, _⟩ => ⟨S1x7808, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x3072, .bf16⟩
  | .local _ .vmem, ⟨22, _⟩ => ⟨S512x3072, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .bf16⟩
  | .local _ .vmem, ⟨32, _⟩ => ⟨S512x128, .bf16⟩
  | .local _ .vmem, ⟨33, _⟩ => ⟨S512x128, .f32⟩
  | .local _ .vmem, ⟨34, _⟩ => ⟨S512x128, .f32⟩
  | .local _ .vmem, ⟨35, _⟩ => ⟨S512x128, .bf16⟩
  | .local _ .vmem, ⟨36, _⟩ => ⟨S512x128, .bf16⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_call4_v0 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_call5_v0 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_call6_v0 : Ref sig .tc := ⟨.hbm, 30, rfl⟩
abbrev main_v13 : Ref sig .tc := ⟨.hbm, 31, rfl⟩
abbrev main_v14 : Ref sig .tc := ⟨.hbm, 32, rfl⟩
abbrev main_c_6 : Ref sig .tc := ⟨.hbm, 33, rfl⟩
abbrev main_call7_v0 : Ref sig .tc := ⟨.hbm, 34, rfl⟩
abbrev main_v15 : Ref sig .tc := ⟨.hbm, 35, rfl⟩
abbrev main_v16 : Ref sig .tc := ⟨.hbm, 36, rfl⟩
abbrev main_c_7 : Ref sig .tc := ⟨.hbm, 37, rfl⟩
abbrev main_call8_v0 : Ref sig .tc := ⟨.hbm, 38, rfl⟩
abbrev main_v17 : Ref sig .tc := ⟨.hbm, 39, rfl⟩
abbrev main_v18 : Ref sig .tc := ⟨.hbm, 40, rfl⟩
abbrev main_c_8 : Ref sig .tc := ⟨.hbm, 41, rfl⟩
abbrev main_call9_v0 : Ref sig .tc := ⟨.hbm, 42, rfl⟩
abbrev main_v19 : Ref sig .tc := ⟨.hbm, 43, rfl⟩
abbrev main_v20 : Ref sig .tc := ⟨.hbm, 44, rfl⟩
abbrev main_c_9 : Ref sig .tc := ⟨.hbm, 45, rfl⟩
abbrev main_call10_v0 : Ref sig .tc := ⟨.hbm, 46, rfl⟩
abbrev main_v21 : Ref sig .tc := ⟨.hbm, 47, rfl⟩
abbrev main_v22 : Ref sig .tc := ⟨.hbm, 48, rfl⟩
abbrev main_c_10 : Ref sig .tc := ⟨.hbm, 49, rfl⟩
abbrev main_call11_v0 : Ref sig .tc := ⟨.hbm, 50, rfl⟩
abbrev main_v23 : Ref sig .tc := ⟨.hbm, 51, rfl⟩
abbrev main_v24 : Ref sig .tc := ⟨.hbm, 52, rfl⟩
abbrev main_c_11 : Ref sig .tc := ⟨.hbm, 53, rfl⟩
abbrev main_call12_v0 : Ref sig .tc := ⟨.hbm, 54, rfl⟩
abbrev main_v25 : Ref sig .tc := ⟨.hbm, 55, rfl⟩
abbrev main_v26 : Ref sig .tc := ⟨.hbm, 56, rfl⟩
abbrev main_c_12 : Ref sig .tc := ⟨.hbm, 57, rfl⟩
abbrev main_call13_v0 : Ref sig .tc := ⟨.hbm, 58, rfl⟩
abbrev main_v27 : Ref sig .tc := ⟨.hbm, 59, rfl⟩
abbrev main_v28 : Ref sig .tc := ⟨.hbm, 60, rfl⟩
abbrev main_c_13 : Ref sig .tc := ⟨.hbm, 61, rfl⟩
abbrev main_call14_v0 : Ref sig .tc := ⟨.hbm, 62, rfl⟩
abbrev main_v29 : Ref sig .tc := ⟨.hbm, 63, rfl⟩
abbrev main_v30 : Ref sig .tc := ⟨.hbm, 64, rfl⟩
abbrev main_c_14 : Ref sig .tc := ⟨.hbm, 65, rfl⟩
abbrev main_call15_v0 : Ref sig .tc := ⟨.hbm, 66, rfl⟩
abbrev main_v31 : Ref sig .tc := ⟨.hbm, 67, rfl⟩
abbrev main_v32 : Ref sig .tc := ⟨.hbm, 68, rfl⟩
abbrev main_c_15 : Ref sig .tc := ⟨.hbm, 69, rfl⟩
abbrev main_call16_v0 : Ref sig .tc := ⟨.hbm, 70, rfl⟩
abbrev main_v33 : Ref sig .tc := ⟨.hbm, 71, rfl⟩
abbrev main_v34 : Ref sig .tc := ⟨.hbm, 72, rfl⟩
abbrev main_c_16 : Ref sig .tc := ⟨.hbm, 73, rfl⟩
abbrev main_call17_v0 : Ref sig .tc := ⟨.hbm, 74, rfl⟩
abbrev main_v35 : Ref sig .tc := ⟨.hbm, 75, rfl⟩
abbrev main_v36 : Ref sig .tc := ⟨.hbm, 76, rfl⟩
abbrev main_c_17 : Ref sig .tc := ⟨.hbm, 77, rfl⟩
abbrev main_call18_v0 : Ref sig .tc := ⟨.hbm, 78, rfl⟩
abbrev main_v37 : Ref sig .tc := ⟨.hbm, 79, rfl⟩
abbrev main_v38 : Ref sig .tc := ⟨.hbm, 80, rfl⟩
abbrev main_c_18 : Ref sig .tc := ⟨.hbm, 81, rfl⟩
abbrev main_call19_v0 : Ref sig .tc := ⟨.hbm, 82, rfl⟩
abbrev main_v39 : Ref sig .tc := ⟨.hbm, 83, rfl⟩
abbrev main_v40 : Ref sig .tc := ⟨.hbm, 84, rfl⟩
abbrev main_c_19 : Ref sig .tc := ⟨.hbm, 85, rfl⟩
abbrev main_call20_v0 : Ref sig .tc := ⟨.hbm, 86, rfl⟩
abbrev main_v41 : Ref sig .tc := ⟨.hbm, 87, rfl⟩
abbrev main_v42 : Ref sig .tc := ⟨.hbm, 88, rfl⟩
abbrev main_c_20 : Ref sig .tc := ⟨.hbm, 89, rfl⟩
abbrev main_call21_v0 : Ref sig .tc := ⟨.hbm, 90, rfl⟩
abbrev main_v43 : Ref sig .tc := ⟨.hbm, 91, rfl⟩
abbrev main_v44 : Ref sig .tc := ⟨.hbm, 92, rfl⟩
abbrev main_c_21 : Ref sig .tc := ⟨.hbm, 93, rfl⟩
abbrev main_call22_v0 : Ref sig .tc := ⟨.hbm, 94, rfl⟩
abbrev main_v45 : Ref sig .tc := ⟨.hbm, 95, rfl⟩
abbrev main_v46 : Ref sig .tc := ⟨.hbm, 96, rfl⟩
abbrev main_c_22 : Ref sig .tc := ⟨.hbm, 97, rfl⟩
abbrev main_call23_v0 : Ref sig .tc := ⟨.hbm, 98, rfl⟩
abbrev main_v47 : Ref sig .tc := ⟨.hbm, 99, rfl⟩
abbrev main_v48 : Ref sig .tc := ⟨.hbm, 100, rfl⟩
abbrev main_c_23 : Ref sig .tc := ⟨.hbm, 101, rfl⟩
abbrev main_call24_v0 : Ref sig .tc := ⟨.hbm, 102, rfl⟩
abbrev main_v49 : Ref sig .tc := ⟨.hbm, 103, rfl⟩
abbrev main_v50 : Ref sig .tc := ⟨.hbm, 104, rfl⟩
abbrev main_c_24 : Ref sig .tc := ⟨.hbm, 105, rfl⟩
abbrev main_call25_v0 : Ref sig .tc := ⟨.hbm, 106, rfl⟩
abbrev main_v51 : Ref sig .tc := ⟨.hbm, 107, rfl⟩
abbrev main_v52 : Ref sig .tc := ⟨.hbm, 108, rfl⟩
abbrev main_c_25 : Ref sig .tc := ⟨.hbm, 109, rfl⟩
abbrev main_call26_v0 : Ref sig .tc := ⟨.hbm, 110, rfl⟩
abbrev main_v53 : Ref sig .tc := ⟨.hbm, 111, rfl⟩
abbrev main_v54 : Ref sig .tc := ⟨.hbm, 112, rfl⟩
abbrev main_c_26 : Ref sig .tc := ⟨.hbm, 113, rfl⟩
abbrev main_call27_v0 : Ref sig .tc := ⟨.hbm, 114, rfl⟩
abbrev main_v55 : Ref sig .tc := ⟨.hbm, 115, rfl⟩
abbrev main_v56 : Ref sig .tc := ⟨.hbm, 116, rfl⟩
abbrev main_c_27 : Ref sig .tc := ⟨.hbm, 117, rfl⟩
abbrev main_call28_v0 : Ref sig .tc := ⟨.hbm, 118, rfl⟩
abbrev main_v57 : Ref sig .tc := ⟨.hbm, 119, rfl⟩
abbrev main_v58 : Ref sig .tc := ⟨.hbm, 120, rfl⟩
abbrev main_c_28 : Ref sig .tc := ⟨.hbm, 121, rfl⟩
abbrev main_call29_v0 : Ref sig .tc := ⟨.hbm, 122, rfl⟩
abbrev main_v59 : Ref sig .tc := ⟨.hbm, 123, rfl⟩
abbrev main_v60 : Ref sig .tc := ⟨.hbm, 124, rfl⟩
abbrev main_c_29 : Ref sig .tc := ⟨.hbm, 125, rfl⟩
abbrev main_call30_v0 : Ref sig .tc := ⟨.hbm, 126, rfl⟩
abbrev main_v61 : Ref sig .tc := ⟨.hbm, 127, rfl⟩
abbrev main_v62 : Ref sig .tc := ⟨.hbm, 128, rfl⟩
abbrev main_c_30 : Ref sig .tc := ⟨.hbm, 129, rfl⟩
abbrev main_call31_v0 : Ref sig .tc := ⟨.hbm, 130, rfl⟩
abbrev main_v63 : Ref sig .tc := ⟨.hbm, 131, rfl⟩
abbrev main_v64 : Ref sig .tc := ⟨.hbm, 132, rfl⟩
abbrev main_c_31 : Ref sig .tc := ⟨.hbm, 133, rfl⟩
abbrev main_call32_v0 : Ref sig .tc := ⟨.hbm, 134, rfl⟩
abbrev main_v65 : Ref sig .tc := ⟨.hbm, 135, rfl⟩
abbrev main_v66 : Ref sig .tc := ⟨.hbm, 136, rfl⟩
abbrev main_c_32 : Ref sig .tc := ⟨.hbm, 137, rfl⟩
abbrev main_call33_v0 : Ref sig .tc := ⟨.hbm, 138, rfl⟩
abbrev main_v67 : Ref sig .tc := ⟨.hbm, 139, rfl⟩
abbrev main_v68 : Ref sig .tc := ⟨.hbm, 140, rfl⟩
abbrev main_c_33 : Ref sig .tc := ⟨.hbm, 141, rfl⟩
abbrev main_call34_v0 : Ref sig .tc := ⟨.hbm, 142, rfl⟩
abbrev main_v69 : Ref sig .tc := ⟨.hbm, 143, rfl⟩
abbrev main_v70 : Ref sig .tc := ⟨.hbm, 144, rfl⟩
abbrev main_c_34 : Ref sig .tc := ⟨.hbm, 145, rfl⟩
abbrev main_call35_v0 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81_0 : Ref sig .tc := ⟨.hbm, 157, rfl⟩
abbrev main_v81_1 : Ref sig .tc := ⟨.hbm, 158, rfl⟩
abbrev main_v81_2 : Ref sig .tc := ⟨.hbm, 159, rfl⟩
abbrev main_v81_3 : Ref sig .tc := ⟨.hbm, 160, rfl⟩
abbrev main_v81_4 : Ref sig .tc := ⟨.hbm, 161, rfl⟩
abbrev main_v81_5 : Ref sig .tc := ⟨.hbm, 162, rfl⟩
abbrev main_v81_6 : Ref sig .tc := ⟨.hbm, 163, rfl⟩
abbrev main_v81_7 : Ref sig .tc := ⟨.hbm, 164, rfl⟩
abbrev main_v81_8 : Ref sig .tc := ⟨.hbm, 165, rfl⟩
abbrev main_v81_9 : Ref sig .tc := ⟨.hbm, 166, rfl⟩
abbrev main_v81_10 : Ref sig .tc := ⟨.hbm, 167, rfl⟩
abbrev main_v81_11 : Ref sig .tc := ⟨.hbm, 168, rfl⟩
abbrev main_v81_12 : Ref sig .tc := ⟨.hbm, 169, rfl⟩
abbrev main_v81_13 : Ref sig .tc := ⟨.hbm, 170, rfl⟩
abbrev main_v81_14 : Ref sig .tc := ⟨.hbm, 171, rfl⟩
abbrev main_v81_15 : Ref sig .tc := ⟨.hbm, 172, rfl⟩
abbrev main_v81_16 : Ref sig .tc := ⟨.hbm, 173, rfl⟩
abbrev main_v81_17 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7808 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7808 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S32768x1024 : Shape := ⟨2, ![32768, 1024]⟩
abbrev S1024 : Shape := ⟨1, ![1024]⟩
abbrev S1024x7472 : Shape := ⟨2, ![1024, 7472]⟩
abbrev S7472 : Shape := ⟨1, ![7472]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7472 : Shape := ⟨2, ![32768, 7472]⟩
abbrev S1x7472 : Shape := ⟨2, ![1, 7472]⟩
abbrev S32768x256 : Shape := ⟨2, ![32768, 256]⟩
abbrev S32768x512 : Shape := ⟨2, ![32768, 512]⟩
abbrev S32768x16 : Shape := ⟨2, ![32768, 16]⟩
abbrev S32768x128 : Shape := ⟨2, ![32768, 128]⟩
abbrev S32768x24 : Shape := ⟨2, ![32768, 24]⟩
abbrev S32768x8 : Shape := ⟨2, ![32768, 8]⟩
abbrev S32768x3072 : Shape := ⟨2, ![32768, 3072]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7472, .f32⟩
  | .hbm, ⟨3, _⟩ => ⟨S7472, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x7472, .f32⟩
  | .hbm, ⟨21, _⟩ => ⟨S1x7472, .f32⟩
  | .hbm, ⟨22, _⟩ => ⟨S32768x7472, .f32⟩
  | .hbm, ⟨23, _⟩ => ⟨S32768x7472, .f32⟩
  | .hbm, ⟨24, _⟩ => ⟨S32768x256, .f32⟩
  | .hbm, ⟨25, _⟩ => ⟨S32768x256, .f32⟩
  | .hbm, ⟨26, _⟩ => ⟨S32768x512, .f32⟩
  | .hbm, ⟨27, _⟩ => ⟨S32768x512, .f32⟩
  | .hbm, ⟨28, _⟩ => ⟨S32768x16, .f32⟩
  | .hbm, ⟨29, _⟩ => ⟨S_, .i32⟩
  | .hbm, ⟨30, _⟩ => ⟨S_, .f32⟩
  | .hbm, ⟨31, _⟩ => ⟨S32768x128, .f32⟩
  | .hbm, ⟨32, _⟩ => ⟨S32768x512, .f32⟩
  | .hbm, ⟨33, _⟩ => ⟨S32768x128, .f32⟩
  | .hbm, ⟨34, _⟩ => ⟨S32768x128, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S32768x128, .f32⟩
  | .hbm, ⟨39, _⟩ => ⟨S32768x24, .f32⟩
  | .hbm, ⟨40, _⟩ => ⟨S_, .i32⟩
  | .hbm, ⟨41, _⟩ => ⟨S_, .f32⟩
  | .hbm, ⟨42, _⟩ => ⟨S32768x128, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x8, .f32⟩
  | .hbm, ⟨47, _⟩ => ⟨S_, .i32⟩
  | .hbm, ⟨48, _⟩ => ⟨S_, .f32⟩
  | .hbm, ⟨49, _⟩ => ⟨S32768x128, .f32⟩
  | .hbm, ⟨50, _⟩ => ⟨S32768x3072, .f32⟩
  | .hbm, ⟨51, _⟩ => ⟨S32768x512, .bf16⟩
  | .hbm, ⟨52, _⟩ => ⟨S32768x3072, .bf16⟩
  | .hbm, ⟨53, _⟩ => ⟨S32768x128, .bf16⟩
  | .hbm, ⟨54, _⟩ => ⟨S32768x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_call1_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_call2_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel5.lean ====
abbrev S2x16384x128 : Shape := ⟨3, ![2, 16384, 128]⟩
abbrev S64 : Shape := ⟨1, ![64]⟩
abbrev S2x32x64 : Shape := ⟨3, ![2, 32, 64]⟩
abbrev S2x2048x256 : Shape := ⟨3, ![2, 2048, 256]⟩
abbrev S2x256x64 : Shape := ⟨3, ![2, 256, 64]⟩
abbrev S1024 : Shape := ⟨1, ![1024]⟩
abbrev S_ : Shape := ⟨0, ![]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S1024x128 : Shape := ⟨2, ![1024, 128]⟩
abbrev S128x128 : Shape := ⟨2, ![128, 128]⟩
abbrev S64x64x256 : Shape := ⟨3, ![64, 64, 256]⟩
abbrev S2x2 : Shape := ⟨2, ![2, 2]⟩
abbrev S64x1x64x1x256 : Shape := ⟨5, ![64, 1, 64, 1, 256]⟩
abbrev S1x2x1x2x1 : Shape := ⟨5, ![1, 2, 1, 2, 1]⟩
abbrev S64x2x64x2x256 : Shape := ⟨5, ![64, 2, 64, 2, 256]⟩
abbrev S2x2x2048x512 : Shape := ⟨4, ![2, 2, 2048, 512]⟩
abbrev S2x1x256x1x64 : Shape := ⟨5, ![2, 1, 256, 1, 64]⟩
abbrev S2x2x256x2x64 : Shape := ⟨5, ![2, 2, 256, 2, 64]⟩
abbrev S2x512x128 : Shape := ⟨3, ![2, 512, 128]⟩
abbrev S2x1x2048x512 : Shape := ⟨4, ![2, 1, 2048, 512]⟩
abbrev S2x2048x512 : Shape := ⟨3, ![2, 2048, 512]⟩
abbrev S2x1024x2048 : Shape := ⟨3, ![2, 1024, 2048]⟩
abbrev S2x2x16x1x64 : Shape := ⟨5, ![2, 2, 16, 1, 64]⟩
abbrev S2x2x16x2x64 : Shape := ⟨5, ![2, 2, 16, 2, 64]⟩
abbrev S2x2x2048 : Shape := ⟨3, ![2, 2, 2048]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x1024x128 : Shape := ⟨3, ![2, 1024, 128]⟩
abbrev S2x2x64x1024 : Shape := ⟨4, ![2, 2, 64, 1024]⟩
abbrev S1x1024x2048 : Shape := ⟨3, ![1, 1024, 2048]⟩
abbrev S1x1024x128 : Shape := ⟨3, ![1, 1024, 128]⟩
abbrev S1x2x64x1024 : Shape := ⟨4, ![1, 2, 64, 1024]⟩
abbrev S1024x2048 : Shape := ⟨2, ![1024, 2048]⟩
abbrev S1x1x2048 : Shape := ⟨3, ![1, 1, 2048]⟩
abbrev S1x2048 : Shape := ⟨2, ![1, 2048]⟩
abbrev S1x2048x512 : Shape := ⟨3, ![1, 2048, 512]⟩
abbrev S2048x512 : Shape := ⟨2, ![2048, 512]⟩
abbrev S1024x512 : Shape := ⟨2, ![1024, 512]⟩
abbrev S1x512x128 : Shape := ⟨3, ![1, 512, 128]⟩
abbrev S512x128 : Shape := ⟨2, ![512, 128]⟩
abbrev S128x1024 : Shape := ⟨2, ![128, 1024]⟩
abbrev S64x1024 : Shape := ⟨2, ![64, 1024]⟩
abbrev S1x1x64x1024 : Shape := ⟨4, ![1, 1, 64, 1024]⟩

abbrev nBuf : Space → Nat
  | .hbm => 94
  | .vmem => 16
  | .smem => 0
  | _ => 0

abbrev bufTy : (tb : Table) → Fin (tcTables nBuf tb) → BufTy
  | .hbm, ⟨0, _⟩ => ⟨S2x16384x128, .f32⟩
  | .hbm, ⟨1, _⟩ => ⟨S2x16384x128, .f32⟩
  | .hbm, ⟨2, _⟩ => ⟨S64, .f32⟩
  | .hbm, ⟨3, _⟩ => ⟨S2x32x64, .f32⟩
  | .hbm, ⟨4, _⟩ => ⟨S2x2048x256, .f32⟩
  | .hbm, ⟨5, _⟩ => ⟨S2x256x64, .f32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S1024, .f32⟩
  | .hbm, ⟨25, _⟩ => ⟨S1024x1, .f32⟩
  | .hbm, ⟨26, _⟩ => ⟨S1x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x32, .f32⟩
  | .hbm, ⟨31, _⟩ => ⟨S1024x32, .f32⟩
  | .hbm, ⟨32, _⟩ => ⟨S1024x64, .f32⟩
  | .hbm, ⟨33, _⟩ => ⟨S1x1024x1x64, .f32⟩
  | .hbm, ⟨34, _⟩ => ⟨S1x1024x2x64, .f32⟩
  | .hbm, ⟨35, _⟩ => ⟨S1024x128, .f32⟩
  | .hbm, ⟨36, _⟩ => ⟨S1024x32, .f32⟩
  | .hbm, ⟨37, _⟩ => ⟨S1024x64, .f32⟩
  | .hbm, ⟨38, _⟩ => ⟨S1x1024x1x64, .f32⟩
  | .hbm, ⟨39, _⟩ => ⟨S1x1024x2x64, .f32⟩
  | .hbm, ⟨40, _⟩ => ⟨S1024x128, .f32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .f32⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .bf16⟩
  | .hbm, ⟨56, _⟩ => ⟨S64x64x256, .f32⟩
  | .hbm, ⟨57, _⟩ => ⟨S2x2, .i32⟩
  | .hbm, ⟨58, _⟩ => ⟨S2x2, .i32⟩
  | .hbm, ⟨59, _⟩ => ⟨S_, .i32⟩
  | .hbm, ⟨60, _⟩ => ⟨S2x2, .i32⟩
  | .hbm, ⟨61, _⟩ => ⟨S2x2, .i32⟩
  | .hbm, ⟨62, _⟩ => ⟨S2x2, .i1⟩
  | .hbm, ⟨63, _⟩ => ⟨S2x2, .f32⟩
  | .hbm, ⟨64, _⟩ => ⟨S64x1x64x1x256, .f32⟩
  | .hbm, ⟨65, _⟩ => ⟨S1x2x1x2x1, .f32⟩
  | .hbm, ⟨66, _⟩ => ⟨S64x2x64x2x256, .f32⟩
  | .hbm, ⟨67, _⟩ => ⟨S64x2x64x2x256, .f32⟩
  | .hbm, ⟨68, _⟩ => ⟨S64x2x64x2x256, .f32⟩
  | .hbm, ⟨69, _⟩ => ⟨S2x2x2048x512, .f32⟩
  | .hbm, ⟨70, _⟩ => ⟨S2x1x256x1x64, .f32⟩
  | .hbm, ⟨71, _⟩ => ⟨S1x2x1x2x1, .f32⟩
  | .hbm, ⟨72, _⟩ => ⟨S2x2x256x2x64, .f32⟩
  | .hbm, ⟨73, _⟩ => ⟨S2x2x256x2x64, .f32⟩
  | .hbm, ⟨74, _⟩ => ⟨S2x2x256x2x64, .f32⟩
  | .hbm, ⟨75, _⟩ => ⟨S2x512x128, .f32⟩
  | .hbm, ⟨76, _⟩ => ⟨S2x1x2048x512, .f32⟩
  | .hbm, ⟨77, _⟩ => ⟨S2x2048x512, .f32⟩
  | .hbm, ⟨78, _⟩ => ⟨S2x2048x512, .bf16⟩
  | .hbm, ⟨79, _⟩ => ⟨S2x1x2048x512, .f32⟩
  | .hbm, ⟨80, _⟩ => ⟨S2x2048x512, .f32⟩
  | .hbm, ⟨81, _⟩ => ⟨S2x2048x512, .bf16⟩
  | .hbm, ⟨82, _⟩ => ⟨S2x512x128, .bf16⟩
  | .hbm, ⟨83, _⟩ => ⟨S2x1024x2048, .f32⟩
  | .hbm, ⟨84, _⟩ => ⟨S2x1024x2048, .f32⟩
  | .hbm, ⟨85, _⟩ => ⟨S2x2x16x1x64, .f32⟩
  | .hbm, ⟨86, _⟩ => ⟨S2x2x16x2x64, .f32⟩
  | .hbm, ⟨87, _⟩ => ⟨S2x2x2048, .f32⟩
  | .hbm, ⟨88, _⟩ => ⟨S1x64, .f32⟩
  | .hbm, ⟨89, _⟩ => ⟨S2x64, .f32⟩
  | .hbm, ⟨90, _⟩ => ⟨S128, .f32⟩
  | .hbm, ⟨91, _⟩ => ⟨S1x128, .f32⟩
  | .hbm, ⟨92, _⟩ => ⟨S2x1024x128, .bf16⟩
  | .hbm, ⟨93, _⟩ => ⟨S2x2x64x1024, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S2x2x2048, .f32⟩
  | .local _ .vmem, ⟨5, _⟩ => ⟨S2x2048x512, .bf16⟩
  | .local _ .vmem, ⟨6, _⟩ => ⟨S2x2048x512, .bf16⟩
  | .local _ .vmem, ⟨7, _⟩ => ⟨S2x512x128, .bf16⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S128x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x2x64x1024, .bf16⟩
  | .local _ .vmem, ⟨15, _⟩ => ⟨S1x2x64x1024, .bf16⟩
  | _, _ => ⟨S2x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74_0 : Ref sig .tc := ⟨.hbm, 92, rfl⟩
abbrev main_v74_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S2x16384x128 : Shape := ⟨3, ![2, 16384, 128]⟩
abbrev S64 : Shape := ⟨1, ![64]⟩
abbrev S2x32x64 : Shape := ⟨3, ![2, 32, 64]⟩
abbrev S2x2048x256 : Shape := ⟨3, ![2, 2048, 256]⟩
abbrev S2x256x64 : Shape := ⟨3, ![2, 256, 64]⟩
abbrev S1024 : Shape := ⟨1, ![1024]⟩
abbrev S_ : Shape := ⟨0, ![]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256x64 : Shape := ⟨3, ![1, 256, 64]⟩
abbrev S256x64 : Shape := ⟨2, ![256, 64]⟩
abbrev S2x1024x16x2x64 : Shape := ⟨5, ![2, 1024, 16, 2, 64]⟩
abbrev S2x1023x16x2x64 : Shape := ⟨5, ![2, 1023, 16, 2, 64]⟩
abbrev S2x1x16x2x64 : Shape := ⟨5, ![2, 1, 16, 2, 64]⟩
abbrev S2x1024x32x2x64 : Shape := ⟨5, ![2, 1024, 32, 2, 64]⟩
abbrev S1x1x32x1x64 : Shape := ⟨5, ![1, 1, 32, 1, 64]⟩
abbrev S2x1024x2x32x64 : Shape := ⟨5, ![2, 1024, 2, 32, 64]⟩
abbrev S2x1024x2x2048 : Shape := ⟨4, ![2, 1024, 2, 2048]⟩
abbrev S2x1024x2x256 : Shape := ⟨4, ![2, 1024, 2, 256]⟩
abbrev S2x1024x2x64 : Shape := ⟨4, ![2, 1024, 2, 64]⟩
abbrev S2x1024x2 : Shape := ⟨3, ![2, 1024, 2]⟩
abbrev S2x1024x2x1 : Shape := ⟨4, ![2, 1024, 2, 1]⟩
abbrev S1x1x1x64 : Shape := ⟨4, ![1, 1, 1, 64]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1024x1x32 : Shape := ⟨3, ![1024, 1, 32]⟩
abbrev S2x1024x2x32 : Shape := ⟨4, ![2, 1024, 2, 32]⟩
abbrev S1x1024x1x32 : Shape := ⟨4, ![1, 1024, 1, 32]⟩
abbrev S2x1024x128 : Shape := ⟨3, ![2, 1024, 128]⟩
abbrev S2x2x64x1024 : Shape := ⟨4, ![2, 2, 64, 1024]⟩

abbrev nBuf : Space → Nat
  | .hbm => 141
  | .vmem => 0
  | .smem => 0
  | _ => 0

abbrev hbmTy0_0 (i : Nat) : BufTy := match i % 128 with
  | 0 => ⟨S2x16384x128, .f32⟩
  | 1 => ⟨S2x16384x128, .f32⟩
  | 2 => ⟨S64, .f32⟩
  | 3 => ⟨S2x32x64, .f32⟩
  | 4 => ⟨S2x2048x256, .f32⟩
  | 5 => ⟨S2x256x64, .f32⟩
  | 6 => ⟨S1024, .i32⟩
  | 7 => ⟨S_, .i32⟩
  | 8 => ⟨S1024, .i32⟩
  | 9 => ⟨S1024, .i32⟩
  | 10 => ⟨S_, .i32⟩
  | 11 => ⟨S1024, .i32⟩
  | 12 => ⟨S1024, .i32⟩
  | 13 => ⟨S_, .i32⟩
  | 14 => ⟨S1024, .i32⟩
  | 15 => ⟨S1024, .i32⟩
  | 16 => ⟨S1x32x64, .f32⟩
  | 17 => ⟨S32x64, .f32⟩
  | 18 => ⟨S1x2048x256, .f32⟩
  | 19 => ⟨S2048x256, .f32⟩
  | 20 => ⟨S1x256x64, .f32⟩
  | 21 => ⟨S256x64, .f32⟩
  | 22 => ⟨S2x1024x16x2x64, .f32⟩
  | 23 => ⟨S2x1023x16x2x64, .f32⟩
  | 24 => ⟨S2x1x16x2x64, .f32⟩
  | 25 => ⟨S2x1024x16x2x64, .f32⟩
  | 26 => ⟨S2x1024x32x2x64, .f32⟩
  | 27 => ⟨S1x1x32x1x64, .f32⟩
  | 28 => ⟨S2x1024x32x2x64, .f32⟩
  | 29 => ⟨S2x1024x32x2x64, .f32⟩
  | 30 => ⟨S2x1024x2x32x64, .f32⟩
  | 31 => ⟨S2x1024x2x2048, .f32⟩
  | 32 => ⟨S2x1024x2x256, .f32⟩
  | 33 => ⟨S2x1024x2x256, .f32⟩
  | 34 => ⟨S2x1024x2x256, .f32⟩
  | 35 => ⟨S_, .f32⟩
  | 36 => ⟨S2x1024x2x256, .f32⟩
  | 37 => ⟨S2x1024x2x256, .f32⟩
  | 38 => ⟨S2x1024x2x256, .f32⟩
  | 39 => ⟨S_, .f32⟩
  | 40 => ⟨S2x1024x2x256, .f32⟩
  | 41 => ⟨S2x1024x2x256, .f32⟩
  | 42 => ⟨S2x1024x2x256, .f32⟩
  | 43 => ⟨S_, .f32⟩
  | 44 => ⟨S2x1024x2x256, .f32⟩
  | 45 => ⟨S2x1024x2x256, .f32⟩
  | 46 => ⟨S_, .f32⟩
  | 47 => ⟨S2x1024x2x256, .f32⟩
  | 48 => ⟨S2x1024x2x256, .f32⟩
  | 49 => ⟨S2x1024x2x256, .f32⟩
  | 50 => ⟨S2x1024x2x64, .f32⟩
  | 51 => ⟨S2x1024x2x64, .f32⟩
  | 52 => ⟨S_, .f32⟩
  | 53 => ⟨S2x1024x2, .f32⟩
  | 54 => ⟨S2x1024x2x1, .f32⟩
  | 55 => ⟨S_, .f32⟩
  | 56 => ⟨S2x1024x2x1, .f32⟩
  | 57 => ⟨S2x1024x2x1, .f32⟩
  | 58 => ⟨S_, .f32⟩
  | 59 => ⟨S2x1024x2x1, .f32⟩
  | 60 => ⟨S2x1024x2x1, .f32⟩
  | 61 => ⟨S2x1024x2x1, .f32⟩
  | 62 => ⟨S2x1024x2x64, .f32⟩
  | 63 => ⟨S2x1024x2x64, .f32⟩
  | 64 => ⟨S1x1x1x64, .f32⟩
  | 65 => ⟨S2x1024x2x64, .f32⟩
  | 66 => ⟨S2x1024x2x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S1024, .f32⟩
  | 76 => ⟨S1024x1, .f32⟩
  | 77 => ⟨S1x32, .f32⟩
  | 78 => ⟨S1024x32, .f32⟩
  | 79 => ⟨S1024x32, .f32⟩
  | 80 => ⟨S1024x32, .f32⟩
  | 81 => ⟨S1024x32, .f32⟩
  | 82 => ⟨S1024x1x32, .f32⟩
  | 83 => ⟨S1024x32, .f32⟩
  | 84 => ⟨S1024x1x32, .f32⟩
  | 85 => ⟨S2x1024x2x32, .f32⟩
  | 86 => ⟨S2x1024x2x32, .f32⟩
  | 87 => ⟨S1x1024x1x32, .f32⟩
  | 88 => ⟨S2x1024x2x32, .f32⟩
  | 89 => ⟨S2x1024x2x32, .f32⟩
  | 90 => ⟨S1x1024x1x32, .f32⟩
  | 91 => ⟨S2x1024x2x32, .f32⟩
  | 92 => ⟨S2x1024x2x32, .f32⟩
  | 93 => ⟨S2x1024x2x32, .f32⟩
  | 94 => ⟨S1x1024x1x32, .f32⟩
  | 95 => ⟨S2x1024x2x32, .f32⟩
  | 96 => ⟨S2x1024x2x32, .f32⟩
  | 97 => ⟨S1x1024x1x32, .f32⟩
  | 98 => ⟨S2x1024x2x32, .f32⟩
  | 99 => ⟨S2x1024x2x32, .f32⟩
  | 100 => ⟨S2x1024x2x32, .f32⟩
  | 101 => ⟨S2x1024x2x64, .f32⟩
  | 102 => ⟨S1x32x64, .f32⟩
  | 103 => ⟨S32x64, .f32⟩
  | 104 => ⟨S1x2048x256, .f32⟩
  | 105 => ⟨S2048x256, .f32⟩
  | 106 => ⟨S1x256x64, .f32⟩
  | 107 => ⟨S256x64, .f32⟩
  | 108 => ⟨S2x1024x16x2x64, .f32⟩
  | 109 => ⟨S2x1023x16x2x64, .f32⟩
  | 110 => ⟨S2x1x16x2x64, .f32⟩
  | 111 => ⟨S2x1024x16x2x64, .f32⟩
  | 112 => ⟨S2x1024x32x2x64, .f32⟩
  | 113 => ⟨S1x1x32x1x64, .f32⟩
  | 114 => ⟨S2x1024x32x2x64, .f32⟩
  | 115 => ⟨S2x1024x32x2x64, .f32⟩
  | 116 => ⟨S2x1024x2x32x64, .f32⟩
  | 117 => ⟨S2x1024x2x2048, .f32⟩
  | 118 => ⟨S2x1024x2x256, .f32⟩
  | 119 => ⟨S2x1024x2x256, .f32⟩
  | 120 => ⟨S2x1024x2x256, .f32⟩
  | 121 => ⟨S_, .f32⟩
  | 122 => ⟨S2x1024x2x256, .f32⟩
  | 123 => ⟨S2x1024x2x256, .f32⟩
  | 124 => ⟨S2x1024x2x256, .f32⟩
  | 125 => ⟨S_, .f32⟩
  | 126 => ⟨S2x1024x2x256, .f32⟩
  | 127 => ⟨S2x1024x2x256, .f32⟩
  | _ => ⟨S2x16384x128, .f32⟩

abbrev hbmTy0_1 (i : Nat) : BufTy := match i % 128 with
  | 0 => ⟨S2x1024x2x256, .f32⟩
  | 1 => ⟨S_, .f32⟩
  | 2 => ⟨S2x1024x2x256, .f32⟩
  | 3 => ⟨S2x1024x2x256, .f32⟩
  | 4 => ⟨S_, .f32⟩
  | 5 => ⟨S2x1024x2x256, .f32⟩
  | 6 => ⟨S2x1024x2x256, .f32⟩
  | 7 => ⟨S2x1024x2x256, .f32⟩
  | 8 => ⟨S2x1024x2x64, .f32⟩
  | 9 => ⟨S2x1024x128, .f32⟩
  | 10 => ⟨S2x1024x128, .bf16⟩
  | 11 => ⟨S2x2x64x1024, .f32⟩
  | 12 => ⟨S2x2x64x1024, .bf16⟩
  | _ => ⟨S2x16384x128, .f32⟩

abbrev hbmTy (i : Nat) : BufTy := match i / 128 with
  | 0 => hbmTy0_0 i
  | 1 => hbmTy0_1 i
  | _ => ⟨S2x16384x128, .f32⟩

abbrev bufTy : (tb : Table) → Fin (tcTables nBuf tb) → BufTy
  | .hbm, ⟨i, _⟩ => hbmTy i
  | _, _ => ⟨S2x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_12 : Ref sig .tc := ⟨.hbm, 129, rfl⟩
abbrev main_v109 : Ref sig .tc := ⟨.hbm, 130, rfl⟩
abbrev main_v110 : Ref sig .tc := ⟨.hbm, 131, rfl⟩
abbrev main_cst_13 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩

abbrev nD : Nat := 1
abbrev τ : Topo := Topo.v7x

variable {F : FTy → Type} [FloatOps F]
-- ==== Proof.Recurrence.lean ====
/- The mLSTM recurrence over the reals: its closed form, and how a stretch of positions follows from the state before it. -/
module

public import Mathlib.Analysis.SpecialFunctions.Exp
public import Mathlib.Algebra.BigOperators.Fin
public import Mathlib.Algebra.BigOperators.Intervals

@[expose] public section

noncomputable section

namespace Cert.Mlstm

/-- The sum of the log forget gates before position `n`. -/
def P (f : ℕ → ℝ) (n : ℕ) : ℝ := ∑ s ∈ Finset.range n, f s

/-- The stabiliser after `n` positions. -/
def M (f i : ℕ → ℝ) : ℕ → ℝ
  | 0 => 0
  | n + 1 => max (f n + M f i n) (i n)

/-- The weight position `j` has after `n` positions. -/
def W (f i : ℕ → ℝ) (n j : ℕ) : ℝ := Real.exp (P f n - P f (j + 1) + i j - M f i n)

/-- The weighted sum of `g` over the first `n` positions: a component of the matrix or normaliser state. -/
def St (f i : ℕ → ℝ) (g : ℕ → ℝ) (n : ℕ) : ℝ := ∑ j ∈ Finset.range n, W f i n j * g j

theorem P_succ (f : ℕ → ℝ) (n : ℕ) : P f (n + 1) = P f n + f n := Finset.sum_range_succ _ _

/-- The sum over a stretch is the difference of the two prefix sums. -/
theorem P_add (f : ℕ → ℝ) (n r : ℕ) : P f (n + r) = P f n + ∑ s ∈ Finset.range r, f (n + s) := by
  unfold P; rw [Finset.sum_range_add]

/-- No position: no state. -/
theorem St_zero (f i g : ℕ → ℝ) : St f i g 0 = 0 := by simp [St]

/-- The stabiliser at row `r` of a stretch from `n` is the largest of the carried one, decayed, and of the row's own entries. -/
theorem M_le (f i : ℕ → ℝ) (n r : ℕ) (c : ℝ) : M f i (n + (r + 1)) ≤ c ↔
    (P f (n + (r + 1)) - P f n + M f i n ≤ c ∧
      ∀ s, s ≤ r → P f (n + (r + 1)) - P f (n + (s + 1)) + i (n + s) ≤ c) := by
  induction r generalizing c with
  | zero =>
    show max (f n + M f i n) (i n) ≤ c ↔ _
    rw [max_le_iff]
    refine and_congr (by rw [show n + (0 + 1) = n + 1 from rfl, P_succ]; ring_nf) ⟨fun h s hs => ?_, fun h => ?_⟩
    · obtain rfl : s = 0 := by omega
      simpa using h
    · simpa using h 0 le_rfl
  | succ r ih =>
    show max (f (n + (r + 1)) + M f i (n + (r + 1))) (i (n + (r + 1))) ≤ c ↔ _
    have hP : P f (n + (r + 1 + 1)) = P f (n + (r + 1)) + f (n + (r + 1)) := P_succ f _
    rw [max_le_iff, show f (n + (r + 1)) + M f i (n + (r + 1)) ≤ c ↔ M f i (n + (r + 1)) ≤ c - f (n + (r + 1)) from
      ⟨fun h => by linarith, fun h => by linarith⟩, ih]
    constructor
    · rintro ⟨⟨h1, h2⟩, h3⟩
      refine ⟨by rw [hP]; linarith, fun s hs => ?_⟩
      rcases Nat.lt_or_ge s (r + 1) with h | h
      · have := h2 s (by omega); rw [hP]; linarith
      · obtain rfl : s = r + 1 := by omega
        rw [sub_self]; linarith
    · rintro ⟨h1, h2⟩
      refine ⟨⟨by rw [hP] at h1; linarith, fun s hs => ?_⟩, ?_⟩
      · have := h2 s (by omega); rw [hP] at this; linarith
      · have := h2 (r + 1) le_rfl; rw [sub_self] at this; linarith

/-- A state after a stretch: the state before it, decayed, and the stretch's own positions. -/
theorem St_add (f i g : ℕ → ℝ) (n r : ℕ) : St f i g (n + r) =
    Real.exp (P f (n + r) - P f n + M f i n - M f i (n + r)) * St f i g n
      + ∑ s ∈ Finset.range r, Real.exp (P f (n + r) - P f (n + (s + 1)) + i (n + s) - M f i (n + r)) * g (n + s) := by
  unfold St
  rw [Finset.sum_range_add, Finset.mul_sum]
  congr 1
  refine Finset.sum_congr rfl fun j _ => ?_
  rw [← mul_assoc]
  unfold W
  rw [← Real.exp_add]
  congr 2
  ring

/-- The numerator at a position: the query against the matrix state after it. -/
def num (f i : ℕ → ℝ) (q : Fin 64 → ℝ) (k : ℕ → Fin 64 → ℝ) (v : ℕ → ℝ) (n : ℕ) : ℝ :=
  ∑ d, q d * St f i (fun j => k j d * v j) n

/-- The denominator at a position: the query against the normaliser state after it. -/
def den (f i : ℕ → ℝ) (q : Fin 64 → ℝ) (k : ℕ → Fin 64 → ℝ) (n : ℕ) : ℝ :=
  ∑ d, q d * St f i (fun j => k j d) n

/-- The layer's output at position `n` for one value column. -/
def hid (f i : ℕ → ℝ) (q : ℕ → Fin 64 → ℝ) (k : ℕ → Fin 64 → ℝ) (v : ℕ → ℝ) (n : ℕ) : ℝ :=
  num f i (q n) k v (n + 1) / max |den f i (q n) k (n + 1)| (Real.exp (-M f i (n + 1)))

/-- The numerator at row `r - 1` of a stretch from `n`. -/
theorem num_add (f i : ℕ → ℝ) (q : Fin 64 → ℝ) (k : ℕ → Fin 64 → ℝ) (v : ℕ → ℝ) (n r : ℕ) : num f i q k v (n + r) =
    Real.exp (P f (n + r) - P f n + M f i n - M f i (n + r)) * num f i q k v n
      + ∑ s ∈ Finset.range r, ((∑ d, q d * k (n + s) d) * Real.exp (P f (n + r) - P f (n + (s + 1)) + i (n + s) - M f i (n + r))) * v (n + s) := by
  unfold num
  simp only [St_add f i _ n r, mul_add, Finset.sum_add_distrib, Finset.mul_sum, Finset.sum_mul]
  congr 1
  · exact Finset.sum_congr rfl fun d _ => by ring
  · rw [Finset.sum_comm]
    exact Finset.sum_congr rfl fun s _ => Finset.sum_congr rfl fun d _ => by ring

/-- The denominator at row `r - 1` of a stretch from `n`. -/
theorem den_add (f i : ℕ → ℝ) (q : Fin 64 → ℝ) (k : ℕ → Fin 64 → ℝ) (n r : ℕ) : den f i q k (n + r) =
    Real.exp (P f (n + r) - P f n + M f i n - M f i (n + r)) * den f i q k n
      + ∑ s ∈ Finset.range r, (∑ d, q d * k (n + s) d) * Real.exp (P f (n + r) - P f (n + (s + 1)) + i (n + s) - M f i (n + r)) := by
  unfold den
  simp only [St_add f i _ n r, mul_add, Finset.sum_add_distrib, Finset.mul_sum, Finset.sum_mul]
  congr 1
  · exact Finset.sum_congr rfl fun d _ => by ring
  · rw [Finset.sum_comm]
    exact Finset.sum_congr rfl fun s _ => Finset.sum_congr rfl fun d _ => by ring

/-- A sum over the rows of a stretch up to row `t`, as a masked sum over all its rows. -/
theorem sum_mask {L : ℕ} (t : Fin L) (g : ℕ → ℝ) :
    (∑ s : Fin L, if s ≤ t then g s else 0) = ∑ s ∈ Finset.range (t.val + 1), g s := by
  have h : ∀ s : Fin L, (if s ≤ t then g s else 0) = (fun s : ℕ => if s ≤ t.val then g s else 0) s.val := fun s => rfl
  rw [Finset.sum_congr rfl fun s _ => h s, Fin.sum_univ_eq_sum_range (fun s : ℕ => if s ≤ t.val then g s else 0) L,
    ← Finset.sum_filter]
  refine Finset.sum_congr ?_ fun _ _ => rfl
  ext s
  have := t.isLt
  simp only [Finset.mem_filter, Finset.mem_range]
  omega

end Cert.Mlstm

end
-- ==== Proof.Head.lean ====
/- One head's outputs over a stretch of positions, as the kernel and the reference compute them over extended reals,
   and their values when every entry is a real number. -/
module

public import Idealize.ShloMosaic.Lib.Pointwise
public import proofs.«01_k».proof.Proof.Recurrence

@[expose] public section

noncomputable section

namespace Cert.Mlstm

open Idealize.ShloMosaic

/-- The pattern of minus infinity denotes `⊥`. -/
theorem bits_bot : Ideal.ofBits FTy.f32 4286578688#32 = ⊥ := by
  simp [Ideal.ofBits, Ideal.ieee]

/-- The pattern of `0.125` denotes an eighth. -/
theorem bits_eighth : Ideal.ofBits FTy.f32 1040187392#32 = ((1 / 8 : ℝ) : EReal) := by
  simp [Ideal.ofBits, Ideal.ieee]
  rw [← EReal.coe_mul]
  norm_num

/-- A finite sum of reals, in the extended reals. -/
theorem sum_coe {ι : Type*} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- Division of reals by a nonzero real. -/
theorem div_coe' (a : ℝ) {b : ℝ} (h : b ≠ 0) : Ideal.div (a : EReal) (b : EReal) = ((a / b : ℝ) : EReal) := by
  rw [Ideal.div_coe h, ← EReal.coe_mul, one_div, div_eq_mul_inv]

/-- The larger of two reals. -/
theorem max_coe (a b : ℝ) : max (a : EReal) (b : EReal) = ((max a b : ℝ) : EReal) := (EReal.coe_strictMono.monotone.map_max).symm

/-- The absolute value of a real. -/
theorem abs_coe (a : ℝ) : max (a : EReal) (-(a : EReal)) = ((|a| : ℝ) : EReal) := by
  rw [← EReal.coe_neg, max_coe, abs_eq_max_neg]

/-- The exponential of an entry that is masked by minus infinity. -/
theorem exp_mask (c : Prop) [Decidable c] (x m : ℝ) :
    Ideal.exp ((if c then (x : EReal) else ⊥) - (m : EReal)) = ((if c then Real.exp (x - m) else 0 : ℝ) : EReal) := by
  split
  · rw [← EReal.coe_sub, Ideal.exp_coe]
  · rw [EReal.bot_sub, Ideal.exp_bot, EReal.coe_zero]

/-- The masked largest entry together with the carried one is the real that bounds exactly what bounds them all. -/
theorem fold_coe {L : ℕ} (a : Fin L → ℝ) (t : Fin L) (u mx : ℝ) (h : ∀ c, mx ≤ c ↔ u ≤ c ∧ ∀ s, s ≤ t → a s ≤ c) :
    max (u : EReal) (Finset.univ.fold max ⊥ fun s => if s ≤ t then (a s : EReal) else ⊥) = (mx : EReal) := by
  refine eq_of_forall_ge_iff fun c => ?_
  rw [max_le_iff, Finset.fold_max_le]
  induction c with
  | bot => simp
  | top => simp
  | coe c =>
    rw [EReal.coe_le_coe_iff, EReal.coe_le_coe_iff, h c]
    refine and_congr Iff.rfl ⟨fun hh s hs => ?_, fun hh => ⟨bot_le, fun s _ => ?_⟩⟩
    · have := hh.2 s (Finset.mem_univ s)
      rw [if_pos hs] at this
      exact EReal.coe_le_coe_iff.1 this
    · split
      · next hs => exact EReal.coe_le_coe_iff.2 (hh s hs)
      · exact bot_le

/-- The kernel's causal mask over a stretch of 128 positions, at key row `s` and query lane `t`. -/
def causal (s t : Fin 128) : BitVec 1 :=
  IntOp.andi (IntOp.cmpi CmpIPredicate.sle (IntOp.addi (0#32) (BitVec.ofNat 32 s)) (BitVec.ofNat 32 t))
    (IntOp.cmpi CmpIPredicate.eq (IntOp.shrsi ArithUnit.vector (BitVec.ofNat 32 t) 7#32) 0#32)

set_option maxRecDepth 100000 in
theorem causal_bit : ∀ s t : Fin 128, causal s t = if s ≤ t then 1#1 else 0#1 := by decide +kernel

/-- The mask keeps the entries at or before the query. -/
theorem causal_select (s t : Fin 128) (x y : EReal) : Scalar.select (causal s t) x y = if s ≤ t then x else y := by
  rw [causal_bit]; split <;> rfl

/-- The masked log weight of key `s` at query `t`. -/
def dW (gi b bt : Fin 128 → EReal) (s t : Fin 128) : EReal :=
  Scalar.select (causal s t) (bt t + (gi s - b s)) (Ideal.ofBits FTy.f32 4286578688#32)

/-- The stabiliser at query `t`. -/
def mW (gi b bt : Fin 128 → EReal) (m : EReal) (t : Fin 128) : EReal :=
  max (bt t + m) (Finset.univ.fold max (Ideal.ofBits FTy.f32 4286578688#32) fun s => dW gi b bt s t)

/-- The head's gated output at query `t` for one value column: `qk` the query against each key, `qn` and `qc` the query
    against the carried normaliser and matrix, `v` the values, `og` the output gate. -/
def headOut (gi b bt : Fin 128 → EReal) (m : EReal) (qk : Fin 128 → EReal) (qn qc : EReal) (v : Fin 128 → EReal) (og : EReal)
    (t : Fin 128) : EReal :=
  Ideal.div (Ideal.exp (bt t + m - mW gi b bt m t) * qc + ∑ s, v s * (qk s * Ideal.exp (dW gi b bt s t - mW gi b bt m t)))
    (max (max (Ideal.exp (bt t + m - mW gi b bt m t) * qn + ∑ s, qk s * Ideal.exp (dW gi b bt s t - mW gi b bt m t))
        (-(Ideal.exp (bt t + m - mW gi b bt m t) * qn + ∑ s, qk s * Ideal.exp (dW gi b bt s t - mW gi b bt m t))))
      (Ideal.exp (0 - mW gi b bt m t)))
    * Ideal.div 1 (1 + Ideal.exp (0 - og))

/-- The decay the carried state takes over the stretch. -/
def decayW (gi b bt : Fin 128 → EReal) (m : EReal) : EReal :=
  Ideal.exp (b 127 + m - mW gi b bt m 127)

/-- The weight key `s` has in the state after the stretch. -/
def keyW (gi b bt : Fin 128 → EReal) (m : EReal) (s : Fin 128) : EReal :=
  Ideal.exp (b 127 - b s + gi s - mW gi b bt m 127)

/-- The real prefix sums of a stretch of 128 positions from `n`. -/
def cum (f : ℕ → ℝ) (n : ℕ) (s : Fin 128) : ℝ := P f (n + (s.val + 1)) - P f n

variable (f i : ℕ → ℝ) (n : ℕ)

theorem dW_real (s t : Fin 128) :
    dW (fun s => ((i (n + s.val) : ℝ) : EReal)) (fun s => (cum f n s : EReal)) (fun s => (cum f n s : EReal)) s t
      = if s ≤ t then ((P f (n + (t.val + 1)) - P f (n + (s.val + 1)) + i (n + s.val) : ℝ) : EReal) else ⊥ := by
  unfold dW
  rw [causal_select, bits_bot, ← EReal.coe_sub, ← EReal.coe_add]
  unfold cum
  congr 2
  ring

theorem mW_real (t : Fin 128) :
    mW (fun s => ((i (n + s.val) : ℝ) : EReal)) (fun s => (cum f n s : EReal)) (fun s => (cum f n s : EReal)) (M f i n : EReal) t
      = (M f i (n + (t.val + 1)) : EReal) := by
  unfold mW
  simp only [dW_real, bits_bot]
  rw [← EReal.coe_add]
  refine fold_coe (fun s : Fin 128 => P f (n + (t.val + 1)) - P f (n + (s.val + 1)) + i (n + s.val)) t _ _ fun c => ?_
  rw [M_le]
  unfold cum
  refine and_congr Iff.rfl ⟨fun h s hs => h s.val hs, fun h s hs => h ⟨s, by omega⟩ hs⟩

theorem decayW_real :
    decayW (fun s => ((i (n + s.val) : ℝ) : EReal)) (fun s => (cum f n s : EReal)) (fun s => (cum f n s : EReal)) (M f i n : EReal)
      = ((Real.exp (P f (n + 128) - P f n + M f i n - M f i (n + 128)) : ℝ) : EReal) := by
  unfold decayW
  rw [mW_real, ← EReal.coe_add, ← EReal.coe_sub, Ideal.exp_coe]
  rfl

theorem keyW_real (s : Fin 128) :
    keyW (fun s => ((i (n + s.val) : ℝ) : EReal)) (fun s => (cum f n s : EReal)) (fun s => (cum f n s : EReal)) (M f i n : EReal) s
      = ((Real.exp (P f (n + 128) - P f (n + (s.val + 1)) + i (n + s.val) - M f i (n + 128)) : ℝ) : EReal) := by
  unfold keyW
  rw [mW_real, ← EReal.coe_sub, ← EReal.coe_add, ← EReal.coe_sub, Ideal.exp_coe]
  unfold cum
  congr 2
  show P f (n + (127 + 1)) - P f n - (P f (n + (s.val + 1)) - P f n) + i (n + s.val) - M f i (n + (127 + 1)) = _
  ring

/-- The logistic function. -/
def sg (x : ℝ) : ℝ := 1 / (1 + Real.exp (-x))

theorem sg_real (x : ℝ) : Ideal.div 1 (1 + (Real.exp (-x) : EReal)) = (sg x : EReal) := by
  have h : (1 + Real.exp (-x)) ≠ 0 := (by positivity : (0 : ℝ) < 1 + Real.exp (-x)).ne'
  rw [← EReal.coe_one, ← EReal.coe_add, div_coe' _ h]
  rfl

theorem gate_real (x : ℝ) : Ideal.div 1 (1 + Ideal.exp (0 - (x : EReal))) = (sg x : EReal) := by
  rw [zero_sub, ← EReal.coe_neg, Ideal.exp_coe, sg_real]

/-- The head's output, with every entry real and the state the recurrence's, is the recurrence's output. -/
theorem headOut_real (q : ℕ → Fin 64 → ℝ) (k : ℕ → Fin 64 → ℝ) (v : ℕ → ℝ) (og : ℝ) (t : Fin 128) :
    headOut (fun s => ((i (n + s.val) : ℝ) : EReal)) (fun s => (cum f n s : EReal)) (fun s => (cum f n s : EReal)) (M f i n : EReal)
        (fun s => ((∑ d, q (n + t.val) d * k (n + s.val) d : ℝ) : EReal)) (den f i (q (n + t.val)) k n : EReal)
        (num f i (q (n + t.val)) k v n : EReal) (fun s => ((v (n + s.val) : ℝ) : EReal)) (og : EReal) t
      = ((hid f i q k v (n + t.val) * sg og : ℝ) : EReal) := by
  unfold headOut
  simp only [mW_real, dW_real, exp_mask, ← EReal.coe_mul, ← EReal.coe_add, ← EReal.coe_sub, Ideal.exp_coe, sum_coe, zero_sub, ← EReal.coe_neg, max_coe, sg_real]
  rw [div_coe' _ (lt_max_of_lt_right (Real.exp_pos _)).ne', ← EReal.coe_mul]
  congr 2
  have hn := num_add f i (q (n + t.val)) k v n (t.val + 1)
  have hd := den_add f i (q (n + t.val)) k n (t.val + 1)
  rw [← sum_mask t fun s => ((∑ d, q (n + t.val) d * k (n + s) d) * Real.exp (P f (n + (t.val + 1)) - P f (n + (s + 1)) + i (n + s) - M f i (n + (t.val + 1)))) * v (n + s)] at hn
  rw [← sum_mask t fun s => (∑ d, q (n + t.val) d * k (n + s) d) * Real.exp (P f (n + (t.val + 1)) - P f (n + (s + 1)) + i (n + s) - M f i (n + (t.val + 1)))] at hd
  unfold hid
  rw [show n + t.val + 1 = n + (t.val + 1) from rfl, hn, hd, abs_eq_max_neg]
  unfold cum
  congr 1
  · congr 1
    refine Finset.sum_congr rfl fun s _ => ?_
    split <;> ring
  · simp only [mul_ite, mul_zero]

end Cert.Mlstm

end
-- ==== Proof.Words.lean ====
/- The mLSTM body's stores over arbitrary loaded values: each head's output rows, stabiliser, key weights and the carried
   matrix and normaliser after each of the block's two stretches. -/
module

public import proofs.«01_k».proof.Proof.Head
public import proofs.«01_k».proof.Proof.Gen.KernelIdeal.Skeleton

@[expose] public section
set_option maxRecDepth 16384
noncomputable section
namespace Cert.Mlstm
open Idealize.ShloMosaic Idealize.ShloMosaic.TcCoe Idealize.SL.Sem
open Cert.KernelIdeal Cert.KernelIdeal.Gen

/-- Row `s` of the block's first stretch. -/
def r0 (s : Fin 128) : Fin 256 := ⟨s.val, by omega⟩

/-- Row `s` of the block's second stretch. -/
def r1 (s : Fin 128) : Fin 256 := ⟨128 + s.val, by omega⟩

/-- A value kept on the lanes of the head that the word `w` numbers. -/
def lane (x : Fin 256) (w : BitVec 32) (y : EReal) : EReal :=
  Scalar.select (IntOp.cmpi CmpIPredicate.eq (IntOp.shrsi ArithUnit.vector (BitVec.ofNat 32 x) 6#32) w) y 0

/-- Four heads' values, each on its own lanes. -/
def four (x : Fin 256) (a0 a1 a2 a3 : EReal) : EReal := lane x 0#32 a0 + lane x 1#32 a1 + lane x 2#32 a2 + lane x 3#32 a3

/-- The query at row `j` against the carried normaliser on the lanes of one head, in high and low parts. -/
def qnW (n : FVec Ideal S1x256 .f32) (qh ql : FVec Ideal S256x256 .bf16) (w : BitVec 32) (j : Fin 256) : EReal :=
  (∑ x, lane x w (n (ix2 0 x) * qh (ix2 x j)) + ∑ x, lane x w (n (ix2 0 x) * ql (ix2 x j)))
    + (∑ x, lane x w ((n (ix2 0 x) - n (ix2 0 x)) * qh (ix2 x j)) + ∑ x, lane x w ((n (ix2 0 x) - n (ix2 0 x)) * ql (ix2 x j)))

/-- The query at row `j` against row `r` of the carried matrix. -/
def qcW (ct : FVec Ideal S512x256 .f32) (qh : FVec Ideal S256x256 .bf16) (r : Fin 512) (j : Fin 256) : EReal :=
  ∑ x, ct (ix2 r x) * qh (ix2 x j)

/-- The query at row `j` with every lane but the first head's at zero. -/
def pad0 (qh : FVec Ideal S256x256 .bf16) (j x : Fin 256) : EReal :=
  if h : x.val < 64 then qh (ix2 x j) else if h : x.val - 64 < 64 then 0 else if h : x.val - 64 - 64 < 64 then 0 else 0

/-- The query at row `j` with every lane but the second head's at zero. -/
def pad1 (qh : FVec Ideal S256x256 .bf16) (j x : Fin 256) : EReal :=
  if h : x.val < 64 then 0 else if h : x.val - 64 < 64 then qh (ix2 ⟨64 + (x.val - 64), by omega⟩ j) else if h : x.val - 64 - 64 < 64 then 0 else 0

/-- The query at row `j` with every lane but the third head's at zero. -/
def pad2 (qh : FVec Ideal S256x256 .bf16) (j x : Fin 256) : EReal :=
  if h : x.val < 64 then 0 else if h : x.val - 64 < 64 then 0 else if h : x.val - 64 - 64 < 64 then qh (ix2 ⟨128 + (x.val - 64 - 64), by omega⟩ j) else 0

/-- The query at row `j` with every lane but the fourth head's at zero. -/
def pad3 (qh : FVec Ideal S256x256 .bf16) (j x : Fin 256) : EReal :=
  if h : x.val < 64 then 0 else if h : x.val - 64 < 64 then 0 else if h : x.val - 64 - 64 < 64 then 0 else qh (ix2 ⟨192 + (x.val - 64 - 64 - 64), by omega⟩ j)

/-- A padded query against key `s`. -/
def qkW (kb : FVec Ideal S128x256 .bf16) (p : Fin 256 → EReal) (s : Fin 128) : EReal := ∑ x, kb (ix2 s x) * p x

/-- The rows of the block that the first stretch's mask keeps. -/
def keep0 (x : Fin 256) : BitVec 1 :=
  IntOp.andi (IntOp.cmpi CmpIPredicate.sge (BitVec.ofNat 32 x) 0#32) (IntOp.cmpi CmpIPredicate.slt (BitVec.ofNat 32 x) 128#32)

/-- The rows of the block that the second stretch's mask keeps. -/
def keep1 (x : Fin 256) : BitVec 1 :=
  IntOp.andi (IntOp.cmpi CmpIPredicate.sge (BitVec.ofNat 32 x) 128#32) (IntOp.cmpi CmpIPredicate.slt (BitVec.ofNat 32 x) 256#32)

/-- The weights of the four heads for key row `s`, each on its own lanes. -/
def wkR (r : Fin 128 → Fin 256) (g b : FVec Ideal S256x128 .f32) (bt : FVec Ideal S128x256 .f32) (m0 m1 m2 m3 : FVec Ideal S1x1 .f32)
    (s : Fin 128) (x : Fin 256) : EReal :=
  four x (keyW (fun s => g (ix2 (r s) 0)) (fun s => b (ix2 (r s) 4)) (fun s => bt (ix2 4 (r s))) (m0 (ix2 0 0)) s)
    (keyW (fun s => g (ix2 (r s) 1)) (fun s => b (ix2 (r s) 5)) (fun s => bt (ix2 5 (r s))) (m1 (ix2 0 0)) s)
    (keyW (fun s => g (ix2 (r s) 2)) (fun s => b (ix2 (r s) 6)) (fun s => bt (ix2 6 (r s))) (m2 (ix2 0 0)) s)
    (keyW (fun s => g (ix2 (r s) 3)) (fun s => b (ix2 (r s) 7)) (fun s => bt (ix2 7 (r s))) (m3 (ix2 0 0)) s)

/-- The decays of the four heads, each on its own lanes. -/
def decR (r : Fin 128 → Fin 256) (g b : FVec Ideal S256x128 .f32) (bt : FVec Ideal S128x256 .f32) (m0 m1 m2 m3 : FVec Ideal S1x1 .f32)
    (x : Fin 256) : EReal :=
  four x (decayW (fun s => g (ix2 (r s) 0)) (fun s => b (ix2 (r s) 4)) (fun s => bt (ix2 4 (r s))) (m0 (ix2 0 0)))
    (decayW (fun s => g (ix2 (r s) 1)) (fun s => b (ix2 (r s) 5)) (fun s => bt (ix2 5 (r s))) (m1 (ix2 0 0)))
    (decayW (fun s => g (ix2 (r s) 2)) (fun s => b (ix2 (r s) 6)) (fun s => bt (ix2 6 (r s))) (m2 (ix2 0 0)))
    (decayW (fun s => g (ix2 (r s) 3)) (fun s => b (ix2 (r s) 7)) (fun s => bt (ix2 7 (r s))) (m3 (ix2 0 0)))

theorem out00 (g b : FVec Ideal S256x128 .f32) (bt : FVec Ideal S128x256 .f32) (m0 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay40 (k0_pay35 g b bt k0_pay20 m0) (k0_pay38 g b bt qh k0_pay20 kb (k0_pay23 ct) m0 v) (k0_pay39 g b bt qh k0_pay20 kb (k0_pay24 k0_pay19 n) (k0_pay25 qh k0_pay19 n) (k0_pay26 ql) m0) og) (ix2 t e)
      = headOut (fun s => g (ix2 (r0 s) 0)) (fun s => b (ix2 (r0 s) 4)) (fun s => bt (ix2 4 (r0 s))) (m0 (ix2 0 0))
          (qkW kb (pad0 qh (r0 t))) (qnW n qh ql 0#32 (r0 t)) (qcW ct qh ⟨e.val, by omega⟩ (r0 t)) (fun s => v (ix2 e s)) (og (ix2 t e)) t := by
  pointwise [k0_pay19, k0_pay20, k0_pay23, k0_pay24, k0_pay25, k0_pay26, k0_pay27, k0_pay30, k0_pay31, k0_pay32, k0_pay33, k0_pay34, k0_pay35, k0_pay36, k0_pay37, k0_pay38, k0_pay39, k0_pay40]
  rfl

theorem out01 (g b : FVec Ideal S256x128 .f32) (bt : FVec Ideal S128x256 .f32) (m1 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay57 (k0_pay55 g b bt qh k0_pay20 kb (k0_pay23 ct) m1 v) (k0_pay56 g b bt qh k0_pay20 kb (k0_pay27 (k0_pay24 k0_pay19 n) (k0_pay25 qh k0_pay19 n) (k0_pay26 ql)) m1) og) (ix2 t e)
      = headOut (fun s => g (ix2 (r0 s) 1)) (fun s => b (ix2 (r0 s) 5)) (fun s => bt (ix2 5 (r0 s))) (m1 (ix2 0 0))
          (qkW kb (pad1 qh (r0 t))) (qnW n qh ql 1#32 (r0 t)) (qcW ct qh ⟨128 + e.val, by omega⟩ (r0 t)) (fun s => v (ix2 e s)) (og (ix2 t e)) t := by
  pointwise [k0_pay19, k0_pay20, k0_pay23, k0_pay24, k0_pay25, k0_pay26, k0_pay27, k0_pay47, k0_pay48, k0_pay49, k0_pay50, k0_pay51, k0_pay52, k0_pay53, k0_pay54, k0_pay55, k0_pay56, k0_pay57]
  rfl

theorem out02 (g b : FVec Ideal S256x128 .f32) (bt : FVec Ideal S128x256 .f32) (m2 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay71 (k0_pay70 qh k0_pay20 kb (k0_pay23 ct) (k0_pay27 (k0_pay24 k0_pay19 n) (k0_pay25 qh k0_pay19 n) (k0_pay26 ql)) (k0_pay64 g) (k0_pay65 b) (k0_pay66 bt) m2 v) og) (ix2 t e)
      = headOut (fun s => g (ix2 (r0 s) 2)) (fun s => b (ix2 (r0 s) 6)) (fun s => bt (ix2 6 (r0 s))) (m2 (ix2 0 0))
          (qkW kb (pad2 qh (r0 t))) (qnW n qh ql 2#32 (r0 t)) (qcW ct qh ⟨256 + e.val, by omega⟩ (r0 t)) (fun s => v (ix2 e s)) (og (ix2 t e)) t := by
  pointwise [k0_pay19, k0_pay20, k0_pay23, k0_pay24, k0_pay25, k0_pay26, k0_pay27, k0_pay64, k0_pay65, k0_pay66, k0_pay67, k0_pay68, k0_pay69, k0_pay70, k0_pay71]
  rfl

theorem out03 (g b : FVec Ideal S256x128 .f32) (bt : FVec Ideal S128x256 .f32) (m3 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay88 (k0_pay86 qh k0_pay20 kb (k0_pay23 ct) (k0_pay27 (k0_pay24 k0_pay19 n) (k0_pay25 qh k0_pay19 n) (k0_pay26 ql)) (k0_pay80 bt) m3 (k0_pay81 g b) (k0_pay82 bt) v) (k0_pay87 og)) (ix2 t e)
      = headOut (fun s => g (ix2 (r0 s) 3)) (fun s => b (ix2 (r0 s) 7)) (fun s => bt (ix2 7 (r0 s))) (m3 (ix2 0 0))
          (qkW kb (pad3 qh (r0 t))) (qnW n qh ql 3#32 (r0 t)) (qcW ct qh ⟨384 + e.val, by omega⟩ (r0 t)) (fun s => v (ix2 e s)) (og (ix2 t e)) t := by
  pointwise [k0_pay19, k0_pay20, k0_pay23, k0_pay24, k0_pay25, k0_pay26, k0_pay27, k0_pay78, k0_pay79, k0_pay80, k0_pay81, k0_pay82, k0_pay83, k0_pay84, k0_pay85, k0_pay86, k0_pay87, k0_pay88]
  rfl

theorem stab00 (g b : FVec Ideal S256x128 .f32) (bt : FVec Ideal S128x256 .f32) (m0 : FVec Ideal S1x1 .f32) :
    (k0_pay46 (k0_pay41 (k0_pay35 g b bt k0_pay20 m0))) (ix2 0 0) = mW (fun s => g (ix2 (r0 s) 0)) (fun s => b (ix2 (r0 s) 4)) (fun s => bt (ix2 4 (r0 s))) (m0 (ix2 0 0)) 127 := by
  pointwise [k0_pay20, k0_pay30, k0_pay31, k0_pay32, k0_pay33, k0_pay34, k0_pay35, k0_pay41, k0_pay46]
  rfl

theorem stab01 (g b : FVec Ideal S256x128 .f32) (bt : FVec Ideal S128x256 .f32) (m1 : FVec Ideal S1x1 .f32) :
    (k0_pay63 (k0_pay52 g b bt k0_pay20 m1)) (ix2 0 0) = mW (fun s => g (ix2 (r0 s) 1)) (fun s => b (ix2 (r0 s) 5)) (fun s => bt (ix2 5 (r0 s))) (m1 (ix2 0 0)) 127 := by
  pointwise [k0_pay20, k0_pay47, k0_pay48, k0_pay49, k0_pay50, k0_pay51, k0_pay52, k0_pay58, k0_pay63]
  rfl

theorem stab02 (g b : FVec Ideal S256x128 .f32) (bt : FVec Ideal S128x256 .f32) (m2 : FVec Ideal S1x1 .f32) :
    (k0_pay77 (k0_pay69 k0_pay20 (k0_pay64 g) (k0_pay65 b) (k0_pay66 bt) m2)) (ix2 0 0) = mW (fun s => g (ix2 (r0 s) 2)) (fun s => b (ix2 (r0 s) 6)) (fun s => bt (ix2 6 (r0 s))) (m2 (ix2 0 0)) 127 := by
  pointwise [k0_pay20, k0_pay64, k0_pay65, k0_pay66, k0_pay67, k0_pay68, k0_pay69, k0_pay72, k0_pay77]
  rfl

theorem stab03 (g b : FVec Ideal S256x128 .f32) (bt : FVec Ideal S128x256 .f32) (m3 : FVec Ideal S1x1 .f32) :
    (k0_pay93 (k0_pay85 k0_pay20 (k0_pay80 bt) m3 (k0_pay81 g b) (k0_pay82 bt))) (ix2 0 0) = mW (fun s => g (ix2 (r0 s) 3)) (fun s => b (ix2 (r0 s) 7)) (fun s => bt (ix2 7 (r0 s))) (m3 (ix2 0 0)) 127 := by
  pointwise [k0_pay20, k0_pay78, k0_pay79, k0_pay80, k0_pay81, k0_pay82, k0_pay83, k0_pay84, k0_pay85, k0_pay89, k0_pay93]
  rfl

theorem key0 (g b : FVec Ideal S256x128 .f32) (bt : FVec Ideal S128x256 .f32) (m0 m1 m2 m3 : FVec Ideal S1x1 .f32) (ka : FVec Ideal S128x256 .f32) (t : Fin 128) (x : Fin 256) :
    (k0_pay95 k0_pay19 ka (k0_pay75 k0_pay19 (k0_pay61 k0_pay19 (k0_pay44 k0_pay19 k0_pay28 (k0_pay30 g) (k0_pay31 b) (k0_pay35 g b bt k0_pay20 m0)) (k0_pay47 g) (k0_pay48 b) (k0_pay52 g b bt k0_pay20 m1)) (k0_pay64 g) (k0_pay65 b) (k0_pay69 k0_pay20 (k0_pay64 g) (k0_pay65 b) (k0_pay66 bt) m2)) (k0_pay78 g) (k0_pay79 b) (k0_pay85 k0_pay20 (k0_pay80 bt) m3 (k0_pay81 g b) (k0_pay82 bt))) (ix2 t x) = ka (ix2 t x) * wkR r0 g b bt m0 m1 m2 m3 t x := by
  pointwise [k0_pay19, k0_pay20, k0_pay28, k0_pay30, k0_pay31, k0_pay32, k0_pay33, k0_pay34, k0_pay35, k0_pay41, k0_pay42, k0_pay43, k0_pay44, k0_pay47, k0_pay48, k0_pay49, k0_pay50, k0_pay51, k0_pay52, k0_pay58, k0_pay59, k0_pay60, k0_pay61, k0_pay64, k0_pay65, k0_pay66, k0_pay67, k0_pay68, k0_pay69, k0_pay72, k0_pay73, k0_pay74, k0_pay75, k0_pay78, k0_pay79, k0_pay80, k0_pay81, k0_pay82, k0_pay83, k0_pay84, k0_pay85, k0_pay89, k0_pay90, k0_pay91, k0_pay94, k0_pay95]
  rfl

theorem norm0 (g b : FVec Ideal S256x128 .f32) (bt : FVec Ideal S128x256 .f32) (m0 m1 m2 m3 : FVec Ideal S1x1 .f32) (ka : FVec Ideal S128x256 .f32) (n : FVec Ideal S1x256 .f32) (x : Fin 256) :
    (k0_pay99 n (k0_pay92 k0_pay19 (k0_pay76 k0_pay19 (k0_pay62 k0_pay19 (k0_pay45 k0_pay19 k0_pay29 (k0_pay31 b) m0 (k0_pay35 g b bt k0_pay20 m0)) (k0_pay48 b) m1 (k0_pay52 g b bt k0_pay20 m1)) (k0_pay65 b) m2 (k0_pay69 k0_pay20 (k0_pay64 g) (k0_pay65 b) (k0_pay66 bt) m2)) (k0_pay79 b) m3 (k0_pay85 k0_pay20 (k0_pay80 bt) m3 (k0_pay81 g b) (k0_pay82 bt))) (k0_pay94 k0_pay19 ka (k0_pay75 k0_pay19 (k0_pay61 k0_pay19 (k0_pay44 k0_pay19 k0_pay28 (k0_pay30 g) (k0_pay31 b) (k0_pay35 g b bt k0_pay20 m0)) (k0_pay47 g) (k0_pay48 b) (k0_pay52 g b bt k0_pay20 m1)) (k0_pay64 g) (k0_pay65 b) (k0_pay69 k0_pay20 (k0_pay64 g) (k0_pay65 b) (k0_pay66 bt) m2)) (k0_pay78 g) (k0_pay79 b) (k0_pay85 k0_pay20 (k0_pay80 bt) m3 (k0_pay81 g b) (k0_pay82 bt)))) (ix2 0 x) = decR r0 g b bt m0 m1 m2 m3 x * n (ix2 0 x) + ∑ s, ka (ix2 s x) * wkR r0 g b bt m0 m1 m2 m3 s x := by
  pointwise [k0_pay19, k0_pay20, k0_pay28, k0_pay29, k0_pay30, k0_pay31, k0_pay32, k0_pay33, k0_pay34, k0_pay35, k0_pay41, k0_pay42, k0_pay43, k0_pay44, k0_pay45, k0_pay47, k0_pay48, k0_pay49, k0_pay50, k0_pay51, k0_pay52, k0_pay58, k0_pay59, k0_pay60, k0_pay61, k0_pay62, k0_pay64, k0_pay65, k0_pay66, k0_pay67, k0_pay68, k0_pay69, k0_pay72, k0_pay73, k0_pay74, k0_pay75, k0_pay76, k0_pay78, k0_pay79, k0_pay80, k0_pay81, k0_pay82, k0_pay83, k0_pay84, k0_pay85, k0_pay89, k0_pay90, k0_pay91, k0_pay92, k0_pay94, k0_pay99]
  rfl

theorem mat0 (g b : FVec Ideal S256x128 .f32) (bt : FVec Ideal S128x256 .f32) (m0 m1 m2 m3 : FVec Ideal S1x1 .f32) (ct : FVec Ideal S512x256 .f32) (vt : FVec Ideal S512x256 .bf16) (kw : FVec Ideal S256x256 .bf16) (bd : FVec Ideal S512x256 .f32)
    (y : Fin 512) (x : Fin 256) :
    (k0_pay98 (iota .tc S1x256 32 [1] iota_S1x256_d1_w32) ct (k0_pay92 k0_pay19 (k0_pay76 k0_pay19 (k0_pay62 k0_pay19 (k0_pay45 k0_pay19 k0_pay29 (k0_pay31 b) m0 (k0_pay35 g b bt k0_pay20 m0)) (k0_pay48 b) m1 (k0_pay52 g b bt k0_pay20 m1)) (k0_pay65 b) m2 (k0_pay69 k0_pay20 (k0_pay64 g) (k0_pay65 b) (k0_pay66 bt) m2)) (k0_pay79 b) m3 (k0_pay85 k0_pay20 (k0_pay80 bt) m3 (k0_pay81 g b) (k0_pay82 bt))) (k0_pay96 (iota .tc S1x256 32 [1] iota_S1x256_d1_w32)) k0_pay97 vt kw bd) (ix2 y x) = decR r0 g b bt m0 m1 m2 m3 x * ct (ix2 y x)
      + (∑ s, Scalar.select (keep0 s) (vt (ix2 y s) * kw (ix2 s x)) 0) * bd (ix2 y x) := by
  pointwise [k0_pay19, k0_pay20, k0_pay29, k0_pay30, k0_pay31, k0_pay32, k0_pay33, k0_pay34, k0_pay35, k0_pay41, k0_pay42, k0_pay43, k0_pay45, k0_pay47, k0_pay48, k0_pay49, k0_pay50, k0_pay51, k0_pay52, k0_pay58, k0_pay59, k0_pay60, k0_pay62, k0_pay64, k0_pay65, k0_pay66, k0_pay67, k0_pay68, k0_pay69, k0_pay72, k0_pay73, k0_pay74, k0_pay76, k0_pay78, k0_pay79, k0_pay80, k0_pay81, k0_pay82, k0_pay83, k0_pay84, k0_pay85, k0_pay89, k0_pay90, k0_pay91, k0_pay92, k0_pay96, k0_pay97, k0_pay98]
  rfl

theorem out10 (g b : FVec Ideal S256x128 .f32) (bt : FVec Ideal S128x256 .f32) (m0 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay128 (k0_pay122 g b bt (k0_pay100 (iota .tc S1x128 32 [1] iota_S1x128_d1_w32) (iota .tc S128x1 32 [0] iota_S128x1_d0_w32)) m0) (k0_pay125 g b bt qh ql (k0_pay100 (iota .tc S1x128 32 [1] iota_S1x128_d1_w32) (iota .tc S128x1 32 [0] iota_S128x1_d0_w32)) kb (k0_pay106 k0_pay19 n) (k0_pay107 k0_pay19 n) (k0_pay108 k0_pay19 n) (k0_pay109 k0_pay19 n) (k0_pay110 k0_pay19 n) (k0_pay111 k0_pay19 n) (k0_pay112 k0_pay19 n) (k0_pay113 k0_pay19 n) m0) (k0_pay126 g b bt qh (k0_pay100 (iota .tc S1x128 32 [1] iota_S1x128_d1_w32) (iota .tc S128x1 32 [0] iota_S128x1_d0_w32)) kb m0) (k0_pay127 g b bt qh (k0_pay100 (iota .tc S1x128 32 [1] iota_S1x128_d1_w32) (iota .tc S128x1 32 [0] iota_S128x1_d0_w32)) (k0_pay103 ct) m0) v og) (ix2 t e)
      = headOut (fun s => g (ix2 (r1 s) 0)) (fun s => b (ix2 (r1 s) 4)) (fun s => bt (ix2 4 (r1 s))) (m0 (ix2 0 0))
          (qkW kb (pad0 qh (r1 t))) (qnW n qh ql 0#32 (r1 t)) (qcW ct qh ⟨e.val, by omega⟩ (r1 t)) (fun s => v (ix2 e s)) (og (ix2 t e)) t := by
  pointwise [k0_pay19, k0_pay100, k0_pay103, k0_pay104, k0_pay105, k0_pay106, k0_pay107, k0_pay108, k0_pay109, k0_pay110, k0_pay111, k0_pay112, k0_pay113, k0_pay114, k0_pay117, k0_pay118, k0_pay119, k0_pay120, k0_pay121, k0_pay122, k0_pay123, k0_pay124, k0_pay125, k0_pay126, k0_pay127, k0_pay128]
  rfl

theorem out11 (g b : FVec Ideal S256x128 .f32) (bt : FVec Ideal S128x256 .f32) (m1 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay146 (k0_pay141 g b bt (k0_pay100 (iota .tc S1x128 32 [1] iota_S1x128_d1_w32) (iota .tc S128x1 32 [0] iota_S128x1_d0_w32)) m1) (k0_pay144 g b bt qh (k0_pay100 (iota .tc S1x128 32 [1] iota_S1x128_d1_w32) (iota .tc S128x1 32 [0] iota_S128x1_d0_w32)) kb (k0_pay103 ct) m1 v) (k0_pay145 g b bt qh (k0_pay100 (iota .tc S1x128 32 [1] iota_S1x128_d1_w32) (iota .tc S128x1 32 [0] iota_S128x1_d0_w32)) kb (k0_pay114 qh ql (k0_pay106 k0_pay19 n) (k0_pay107 k0_pay19 n) (k0_pay108 k0_pay19 n) (k0_pay109 k0_pay19 n) (k0_pay110 k0_pay19 n) (k0_pay111 k0_pay19 n) (k0_pay112 k0_pay19 n) (k0_pay113 k0_pay19 n)) m1) og) (ix2 t e)
      = headOut (fun s => g (ix2 (r1 s) 1)) (fun s => b (ix2 (r1 s) 5)) (fun s => bt (ix2 5 (r1 s))) (m1 (ix2 0 0))
          (qkW kb (pad1 qh (r1 t))) (qnW n qh ql 1#32 (r1 t)) (qcW ct qh ⟨128 + e.val, by omega⟩ (r1 t)) (fun s => v (ix2 e s)) (og (ix2 t e)) t := by
  pointwise [k0_pay19, k0_pay100, k0_pay103, k0_pay104, k0_pay105, k0_pay106, k0_pay107, k0_pay108, k0_pay109, k0_pay110, k0_pay111, k0_pay112, k0_pay113, k0_pay114, k0_pay136, k0_pay137, k0_pay138, k0_pay139, k0_pay140, k0_pay141, k0_pay142, k0_pay143, k0_pay144, k0_pay145, k0_pay146]
  rfl

theorem out12 (g b : FVec Ideal S256x128 .f32) (bt : FVec Ideal S128x256 .f32) (m2 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay163 (k0_pay161 g b bt qh (k0_pay100 (iota .tc S1x128 32 [1] iota_S1x128_d1_w32) (iota .tc S128x1 32 [0] iota_S128x1_d0_w32)) kb (k0_pay103 ct) m2 v) (k0_pay162 g b bt qh (k0_pay100 (iota .tc S1x128 32 [1] iota_S1x128_d1_w32) (iota .tc S128x1 32 [0] iota_S128x1_d0_w32)) kb (k0_pay114 qh ql (k0_pay106 k0_pay19 n) (k0_pay107 k0_pay19 n) (k0_pay108 k0_pay19 n) (k0_pay109 k0_pay19 n) (k0_pay110 k0_pay19 n) (k0_pay111 k0_pay19 n) (k0_pay112 k0_pay19 n) (k0_pay113 k0_pay19 n)) m2) og) (ix2 t e)
      = headOut (fun s => g (ix2 (r1 s) 2)) (fun s => b (ix2 (r1 s) 6)) (fun s => bt (ix2 6 (r1 s))) (m2 (ix2 0 0))
          (qkW kb (pad2 qh (r1 t))) (qnW n qh ql 2#32 (r1 t)) (qcW ct qh ⟨256 + e.val, by omega⟩ (r1 t)) (fun s => v (ix2 e s)) (og (ix2 t e)) t := by
  pointwise [k0_pay19, k0_pay100, k0_pay103, k0_pay104, k0_pay105, k0_pay106, k0_pay107, k0_pay108, k0_pay109, k0_pay110, k0_pay111, k0_pay112, k0_pay113, k0_pay114, k0_pay153, k0_pay154, k0_pay155, k0_pay156, k0_pay157, k0_pay158, k0_pay159, k0_pay160, k0_pay161, k0_pay162, k0_pay163]
  rfl

theorem out13 (g b : FVec Ideal S256x128 .f32) (bt : FVec Ideal S128x256 .f32) (m3 : FVec Ideal S1x1 .f32) (qh ql : FVec Ideal S256x256 .bf16) (kb : FVec Ideal S128x256 .bf16) (ct : FVec Ideal S512x256 .f32)
    (n : FVec Ideal S1x256 .f32) (v : FVec Ideal S128x128 .bf16) (og : FVec Ideal S128x128 .f32) (t e : Fin 128) :
    (k0_pay177 (k0_pay176 qh (k0_pay100 (iota .tc S1x128 32 [1] iota_S1x128_d1_w32) (iota .tc S128x1 32 [0] iota_S128x1_d0_w32)) kb (k0_pay103 ct) (k0_pay114 qh ql (k0_pay106 k0_pay19 n) (k0_pay107 k0_pay19 n) (k0_pay108 k0_pay19 n) (k0_pay109 k0_pay19 n) (k0_pay110 k0_pay19 n) (k0_pay111 k0_pay19 n) (k0_pay112 k0_pay19 n) (k0_pay113 k0_pay19 n)) (k0_pay170 g) (k0_pay171 b) (k0_pay172 bt) m3 v) og) (ix2 t e)
      = headOut (fun s => g (ix2 (r1 s) 3)) (fun s => b (ix2 (r1 s) 7)) (fun s => bt (ix2 7 (r1 s))) (m3 (ix2 0 0))
          (qkW kb (pad3 qh (r1 t))) (qnW n qh ql 3#32 (r1 t)) (qcW ct qh ⟨384 + e.val, by omega⟩ (r1 t)) (fun s => v (ix2 e s)) (og (ix2 t e)) t := by
  pointwise [k0_pay19, k0_pay100, k0_pay103, k0_pay104, k0_pay105, k0_pay106, k0_pay107, k0_pay108, k0_pay109, k0_pay110, k0_pay111, k0_pay112, k0_pay113, k0_pay114, k0_pay170, k0_pay171, k0_pay172, k0_pay173, k0_pay174, k0_pay175, k0_pay176, k0_pay177]
  rfl

theorem stab10 (g b : FVec Ideal S256x128 .f32) (bt : FVec Ideal S128x256 .f32) (m0 : FVec Ideal S1x1 .f32) :
    (k0_pay135 (k0_pay129 (k0_pay122 g b bt (k0_pay100 (iota .tc S1x128 32 [1] iota_S1x128_d1_w32) (iota .tc S128x1 32 [0] iota_S128x1_d0_w32)) m0))) (ix2 0 0) = mW (fun s => g (ix2 (r1 s) 0)) (fun s => b (ix2 (r1 s) 4)) (fun s => bt (ix2 4 (r1 s))) (m0 (ix2 0 0)) 127 := by
  pointwise [k0_pay100, k0_pay117, k0_pay118, k0_pay119, k0_pay120, k0_pay121, k0_pay122, k0_pay129, k0_pay135]
  rfl

theorem stab11 (g b : FVec Ideal S256x128 .f32) (bt : FVec Ideal S128x256 .f32) (m1 : FVec Ideal S1x1 .f32) :
    (k0_pay152 (k0_pay147 (k0_pay141 g b bt (k0_pay100 (iota .tc S1x128 32 [1] iota_S1x128_d1_w32) (iota .tc S128x1 32 [0] iota_S128x1_d0_w32)) m1))) (ix2 0 0) = mW (fun s => g (ix2 (r1 s) 1)) (fun s => b (ix2 (r1 s) 5)) (fun s => bt (ix2 5 (r1 s))) (m1 (ix2 0 0)) 127 := by
  pointwise [k0_pay100, k0_pay136, k0_pay137, k0_pay138, k0_pay139, k0_pay140, k0_pay141, k0_pay147, k0_pay152]
  rfl

theorem stab12 (g b : FVec Ideal S256x128 .f32) (bt : FVec Ideal S128x256 .f32) (m2 : FVec Ideal S1x1 .f32) :
    (k0_pay169 (k0_pay158 g b bt (k0_pay100 (iota .tc S1x128 32 [1] iota_S1x128_d1_w32) (iota .tc S128x1 32 [0] iota_S128x1_d0_w32)) m2)) (ix2 0 0) = mW (fun s => g (ix2 (r1 s) 2)) (fun s => b (ix2 (r1 s) 6)) (fun s => bt (ix2 6 (r1 s))) (m2 (ix2 0 0)) 127 := by
  pointwise [k0_pay100, k0_pay153, k0_pay154, k0_pay155, k0_pay156, k0_pay157, k0_pay158, k0_pay164, k0_pay169]
  rfl

theorem stab13 (g b : FVec Ideal S256x128 .f32) (bt : FVec Ideal S128x256 .f32) (m3 : FVec Ideal S1x1 .f32) :
    (k0_pay182 (k0_pay175 (k0_pay100 (iota .tc S1x128 32 [1] iota_S1x128_d1_w32) (iota .tc S128x1 32 [0] iota_S128x1_d0_w32)) (k0_pay170 g) (k0_pay171 b) (k0_pay172 bt) m3)) (ix2 0 0) = mW (fun s => g (ix2 (r1 s) 3)) (fun s => b (ix2 (r1 s) 7)) (fun s => bt (ix2 7 (r1 s))) (m3 (ix2 0 0)) 127 := by
  pointwise [k0_pay100, k0_pay170, k0_pay171, k0_pay172, k0_pay173, k0_pay174, k0_pay175, k0_pay178, k0_pay182]
  rfl

theorem key1 (g b : FVec Ideal S256x128 .f32) (bt : FVec Ideal S128x256 .f32) (m0 m1 m2 m3 : FVec Ideal S1x1 .f32) (ka : FVec Ideal S128x256 .f32) (t : Fin 128) (x : Fin 256) :
    (k0_pay184 k0_pay19 ka (k0_pay167 k0_pay19 (k0_pay150 k0_pay19 (k0_pay132 k0_pay19 k0_pay115 (k0_pay117 g) (k0_pay118 b) (k0_pay122 g b bt (k0_pay100 (iota .tc S1x128 32 [1] iota_S1x128_d1_w32) (iota .tc S128x1 32 [0] iota_S128x1_d0_w32)) m0)) (k0_pay136 g) (k0_pay137 b) (k0_pay141 g b bt (k0_pay100 (iota .tc S1x128 32 [1] iota_S1x128_d1_w32) (iota .tc S128x1 32 [0] iota_S128x1_d0_w32)) m1)) (k0_pay153 g) (k0_pay154 b) (k0_pay158 g b bt (k0_pay100 (iota .tc S1x128 32 [1] iota_S1x128_d1_w32) (iota .tc S128x1 32 [0] iota_S128x1_d0_w32)) m2)) (k0_pay170 g) (k0_pay171 b) (k0_pay175 (k0_pay100 (iota .tc S1x128 32 [1] iota_S1x128_d1_w32) (iota .tc S128x1 32 [0] iota_S128x1_d0_w32)) (k0_pay170 g) (k0_pay171 b) (k0_pay172 bt) m3)) (ix2 t x) = ka (ix2 t x) * wkR r1 g b bt m0 m1 m2 m3 t x := by
  pointwise [k0_pay19, k0_pay100, k0_pay115, k0_pay117, k0_pay118, k0_pay119, k0_pay120, k0_pay121, k0_pay122, k0_pay129, k0_pay130, k0_pay131, k0_pay132, k0_pay136, k0_pay137, k0_pay138, k0_pay139, k0_pay140, k0_pay141, k0_pay147, k0_pay148, k0_pay149, k0_pay150, k0_pay153, k0_pay154, k0_pay155, k0_pay156, k0_pay157, k0_pay158, k0_pay164, k0_pay165, k0_pay166, k0_pay167, k0_pay170, k0_pay171, k0_pay172, k0_pay173, k0_pay174, k0_pay175, k0_pay178, k0_pay179, k0_pay180, k0_pay183, k0_pay184]
  rfl

theorem norm1 (g b : FVec Ideal S256x128 .f32) (bt : FVec Ideal S128x256 .f32) (m0 m1 m2 m3 : FVec Ideal S1x1 .f32) (ka : FVec Ideal S128x256 .f32) (n : FVec Ideal S1x256 .f32) (x : Fin 256) :
    (k0_pay1 (k0_pay186 n (k0_pay181 k0_pay19 (k0_pay168 k0_pay19 (k0_pay151 k0_pay19 (k0_pay134 k0_pay116 (k0_pay133 k0_pay19 (k0_pay118 b) m0 (k0_pay122 g b bt (k0_pay100 (iota .tc S1x128 32 [1] iota_S1x128_d1_w32) (iota .tc S128x1 32 [0] iota_S128x1_d0_w32)) m0))) (k0_pay137 b) m1 (k0_pay141 g b bt (k0_pay100 (iota .tc S1x128 32 [1] iota_S1x128_d1_w32) (iota .tc S128x1 32 [0] iota_S128x1_d0_w32)) m1)) (k0_pay154 b) m2 (k0_pay158 g b bt (k0_pay100 (iota .tc S1x128 32 [1] iota_S1x128_d1_w32) (iota .tc S128x1 32 [0] iota_S128x1_d0_w32)) m2)) (k0_pay171 b) m3 (k0_pay175 (k0_pay100 (iota .tc S1x128 32 [1] iota_S1x128_d1_w32) (iota .tc S128x1 32 [0] iota_S128x1_d0_w32)) (k0_pay170 g) (k0_pay171 b) (k0_pay172 bt) m3))) (k0_pay187 (k0_pay183 k0_pay19 ka (k0_pay167 k0_pay19 (k0_pay150 k0_pay19 (k0_pay132 k0_pay19 k0_pay115 (k0_pay117 g) (k0_pay118 b) (k0_pay122 g b bt (k0_pay100 (iota .tc S1x128 32 [1] iota_S1x128_d1_w32) (iota .tc S128x1 32 [0] iota_S128x1_d0_w32)) m0)) (k0_pay136 g) (k0_pay137 b) (k0_pay141 g b bt (k0_pay100 (iota .tc S1x128 32 [1] iota_S1x128_d1_w32) (iota .tc S128x1 32 [0] iota_S128x1_d0_w32)) m1)) (k0_pay153 g) (k0_pay154 b) (k0_pay158 g b bt (k0_pay100 (iota .tc S1x128 32 [1] iota_S1x128_d1_w32) (iota .tc S128x1 32 [0] iota_S128x1_d0_w32)) m2)) (k0_pay170 g) (k0_pay171 b) (k0_pay175 (k0_pay100 (iota .tc S1x128 32 [1] iota_S1x128_d1_w32) (iota .tc S128x1 32 [0] iota_S128x1_d0_w32)) (k0_pay170 g) (k0_pay171 b) (k0_pay172 bt) m3)))) (ix2 0 x) = decR r1 g b bt m0 m1 m2 m3 x * n (ix2 0 x) + ∑ s, ka (ix2 s x) * wkR r1 g b bt m0 m1 m2 m3 s x := by
  pointwise [k0_pay1, k0_pay19, k0_pay100, k0_pay115, k0_pay116, k0_pay117, k0_pay118, k0_pay119, k0_pay120, k0_pay121, k0_pay122, k0_pay129, k0_pay130, k0_pay131, k0_pay132, k0_pay133, k0_pay134, k0_pay136, k0_pay137, k0_pay138, k0_pay139, k0_pay140, k0_pay141, k0_pay147, k0_pay148, k0_pay149, k0_pay150, k0_pay151, k0_pay153, k0_pay154, k0_pay155, k0_pay156, k0_pay157, k0_pay158, k0_pay164, k0_pay165, k0_pay166, k0_pay167, k0_pay168, k0_pay170, k0_pay171, k0_pay172, k0_pay173, k0_pay174, k0_pay175, k0_pay178, k0_pay179, k0_pay180, k0_pay181, k0_pay183, k0_pay186, k0_pay187]
  rfl

theorem mat1 (g b : FVec Ideal S256x128 .f32) (bt : FVec Ideal S128x256 .f32) (m0 m1 m2 m3 : FVec Ideal S1x1 .f32) (ct : FVec Ideal S512x256 .f32) (vt : FVec Ideal S512x256 .bf16) (kw : FVec Ideal S256x256 .bf16) (bd : FVec Ideal S512x256 .f32)
    (y : Fin 512) (x : Fin 256) :
    (k0_pay185 (iota .tc S1x256 32 [1] iota_S1x256_d1_w32) ct (k0_pay181 k0_pay19 (k0_pay168 k0_pay19 (k0_pay151 k0_pay19 (k0_pay134 k0_pay116 (k0_pay133 k0_pay19 (k0_pay118 b) m0 (k0_pay122 g b bt (k0_pay100 (iota .tc S1x128 32 [1] iota_S1x128_d1_w32) (iota .tc S128x1 32 [0] iota_S128x1_d0_w32)) m0))) (k0_pay137 b) m1 (k0_pay141 g b bt (k0_pay100 (iota .tc S1x128 32 [1] iota_S1x128_d1_w32) (iota .tc S128x1 32 [0] iota_S128x1_d0_w32)) m1)) (k0_pay154 b) m2 (k0_pay158 g b bt (k0_pay100 (iota .tc S1x128 32 [1] iota_S1x128_d1_w32) (iota .tc S128x1 32 [0] iota_S128x1_d0_w32)) m2)) (k0_pay171 b) m3 (k0_pay175 (k0_pay100 (iota .tc S1x128 32 [1] iota_S1x128_d1_w32) (iota .tc S128x1 32 [0] iota_S128x1_d0_w32)) (k0_pay170 g) (k0_pay171 b) (k0_pay172 bt) m3)) vt kw bd) (ix2 y x) = decR r1 g b bt m0 m1 m2 m3 x * ct (ix2 y x)
      + (∑ s, Scalar.select (keep1 s) (vt (ix2 y s) * kw (ix2 s x)) 0) * bd (ix2 y x) := by
  pointwise [k0_pay19, k0_pay100, k0_pay116, k0_pay117, k0_pay118, k0_pay119, k0_pay120, k0_pay121, k0_pay122, k0_pay129, k0_pay130, k0_pay131, k0_pay133, k0_pay134, k0_pay136, k0_pay137, k0_pay138, k0_pay139, k0_pay140, k0_pay141, k0_pay147, k0_pay148, k0_pay149, k0_pay151, k0_pay153, k0_pay154, k0_pay155, k0_pay156, k0_pay157, k0_pay158, k0_pay164, k0_pay165, k0_pay166, k0_pay168, k0_pay170, k0_pay171, k0_pay172, k0_pay173, k0_pay174, k0_pay175, k0_pay178, k0_pay179, k0_pay180, k0_pay181, k0_pay185]
  rfl

end Cert.Mlstm

end
-- ==== Proof.Stretch.lean ====
/- One stretch of 128 positions of the mLSTM body over real entries: if the carried matrix, normaliser and stabilisers are the
   recurrence's before the stretch, the stretch's stores are the recurrence's outputs and its state after it. -/
module

public import proofs.«01_k».proof.Proof.Words

@[expose] public section
noncomputable section
namespace Cert.Mlstm
open Idealize.ShloMosaic Idealize.ShloMosaic.TcCoe Idealize.SL.Sem
open Cert.KernelIdeal Cert.KernelIdeal.Gen

/-- Lane `d` of head `h`. -/
def ln (h : Fin 4) (d : Fin 64) : Fin 256 := ⟨64 * h.val + d.val, by omega⟩

/-- The head of a lane. -/
def hd (x : Fin 256) : Fin 4 := ⟨x.val / 64, by omega⟩

theorem hd_ln (h : Fin 4) (d : Fin 64) : hd (ln h d) = h := Fin.ext (by show (64 * h.val + d.val) / 64 = h.val; omega)

/-- A sum over the lanes of one head. -/
theorem lane_sum (h : Fin 4) (F : Fin 256 → ℝ) : (∑ x, if hd x = h then F x else 0) = ∑ d, F (ln h d) := by
  rw [← Finset.sum_filter]
  symm
  refine Finset.sum_bij (fun d _ => ln h d) (fun d _ => ?_) (fun a _ b _ hab => ?_) (fun x hx => ?_) (fun _ _ => rfl)
  · rw [Finset.mem_filter]; exact ⟨Finset.mem_univ _, hd_ln h d⟩
  · have := congrArg Fin.val hab
    exact Fin.ext (by simp only [ln] at this; omega)
  · have hx' := congrArg Fin.val (Finset.mem_filter.1 hx).2
    have hv : x.val / 64 = h.val := hx'
    refine ⟨⟨x.val - 64 * h.val, by omega⟩, Finset.mem_univ _, Fin.ext ?_⟩
    show 64 * h.val + (x.val - 64 * h.val) = x.val
    omega

set_option maxRecDepth 100000 in
theorem head_bit : ∀ (x : Fin 256) (h : Fin 4),
    IntOp.cmpi CmpIPredicate.eq (IntOp.shrsi ArithUnit.vector (BitVec.ofNat 32 x) 6#32) (BitVec.ofNat 32 h) = if hd x = h then 1#1 else 0#1 := by
  decide +kernel

theorem lane_eq (x : Fin 256) (h : Fin 4) (y : EReal) : lane x (BitVec.ofNat 32 h) y = if hd x = h then y else 0 := by
  unfold lane; rw [head_bit]; split <;> rfl

/-- On a lane, the four heads' values come to the lane's own head's. -/
theorem four_eq (x : Fin 256) (a : Fin 4 → EReal) : four x (a 0) (a 1) (a 2) (a 3) = a (hd x) := by
  have h0 := lane_eq x 0 (a 0)
  have h1 := lane_eq x 1 (a 1)
  have h2 := lane_eq x 2 (a 2)
  have h3 := lane_eq x 3 (a 3)
  unfold four
  refine (congrArg₂ (· + ·) (congrArg₂ (· + ·) (congrArg₂ (· + ·) h0 h1) h2) h3).trans ?_
  generalize hd x = h
  fin_cases h <;> simp

theorem four_of (x : Fin 256) (a : Fin 4 → EReal) {a0 a1 a2 a3 : EReal} (h0 : a0 = a 0) (h1 : a1 = a 1) (h2 : a2 = a 2) (h3 : a3 = a 3) :
    four x a0 a1 a2 a3 = a (hd x) := by
  rw [h0, h1, h2, h3]; exact four_eq x a

variable (q k : ℕ → Fin 256 → ℝ) (v : ℕ → Fin 512 → ℝ) (f i : Fin 4 → ℕ → ℝ) (n : ℕ)

/-- The carried matrix before position `n`: each head's own block, zero elsewhere. -/
def Cst (y : Fin 512) (x : Fin 256) : ℝ := if y.val / 128 = x.val / 64 then St (f (hd x)) (i (hd x)) (fun j => k j x * v j y) n else 0

/-- The carried normaliser before position `n`. -/
def Nst (x : Fin 256) : ℝ := St (f (hd x)) (i (hd x)) (fun j => k j x) n

/-- The weight of key `s` in the state after a stretch from `n`, on each lane. -/
def wR (s : Fin 128) (x : Fin 256) : ℝ :=
  Real.exp (P (f (hd x)) (n + 128) - P (f (hd x)) (n + (s.val + 1)) + i (hd x) (n + s.val) - M (f (hd x)) (i (hd x)) (n + 128))

/-- The gates a stretch loads are the reals of positions from `n`. -/
structure GatesAt (r : Fin 128 → Fin 256) (g b : FVec Ideal S256x128 .f32) (bt : FVec Ideal S128x256 .f32) : Prop where
  gi : ∀ (h : Fin 4) (s : Fin 128), g (ix2 (r s) ⟨h.val, by omega⟩) = (i h (n + s.val) : EReal)
  bc : ∀ (h : Fin 4) (s : Fin 128), b (ix2 (r s) ⟨4 + h.val, by omega⟩) = (cum (f h) n s : EReal)
  br : ∀ (h : Fin 4) (s : Fin 128), bt (ix2 ⟨4 + h.val, by omega⟩ (r s)) = (cum (f h) n s : EReal)

/-- The carried stabilisers are the recurrence's before `n`. -/
structure StabAt (m0 m1 m2 m3 : FVec Ideal S1x1 .f32) : Prop where
  h0 : m0 (ix2 0 0) = (M (f 0) (i 0) n : EReal)
  h1 : m1 (ix2 0 0) = (M (f 1) (i 1) n : EReal)
  h2 : m2 (ix2 0 0) = (M (f 2) (i 2) n : EReal)
  h3 : m3 (ix2 0 0) = (M (f 3) (i 3) n : EReal)

variable {q k v f i n}
variable {r : Fin 128 → Fin 256} {g b : FVec Ideal S256x128 .f32} {bt : FVec Ideal S128x256 .f32} {m0 m1 m2 m3 : FVec Ideal S1x1 .f32}

theorem keyW_at {G B T : Fin 128 → EReal} {m : EReal} {f i : ℕ → ℝ} (hG : ∀ s, G s = (i (n + s.val) : EReal)) (hB : ∀ s, B s = (cum f n s : EReal))
    (hT : ∀ s, T s = (cum f n s : EReal)) (hm : m = (M f i n : EReal)) (s : Fin 128) :
    keyW G B T m s = ((Real.exp (P f (n + 128) - P f (n + (s.val + 1)) + i (n + s.val) - M f i (n + 128)) : ℝ) : EReal) := by
  obtain rfl := funext hG; obtain rfl := funext hB; obtain rfl := funext hT; subst hm
  exact keyW_real f i n s

theorem decayW_at {G B T : Fin 128 → EReal} {m : EReal} {f i : ℕ → ℝ} (hG : ∀ s, G s = (i (n + s.val) : EReal)) (hB : ∀ s, B s = (cum f n s : EReal))
    (hT : ∀ s, T s = (cum f n s : EReal)) (hm : m = (M f i n : EReal)) :
    decayW G B T m = ((Real.exp (P f (n + 128) - P f n + M f i n - M f i (n + 128)) : ℝ) : EReal) := by
  obtain rfl := funext hG; obtain rfl := funext hB; obtain rfl := funext hT; subst hm
  exact decayW_real f i n

theorem mW_at {G B T : Fin 128 → EReal} {m : EReal} {f i : ℕ → ℝ} (hG : ∀ s, G s = (i (n + s.val) : EReal)) (hB : ∀ s, B s = (cum f n s : EReal))
    (hT : ∀ s, T s = (cum f n s : EReal)) (hm : m = (M f i n : EReal)) :
    mW G B T m 127 = (M f i (n + 128) : EReal) := by
  obtain rfl := funext hG; obtain rfl := funext hB; obtain rfl := funext hT; subst hm
  exact mW_real f i n 127

theorem wkR_at (hg : GatesAt f i n r g b bt) (hm : StabAt f i n m0 m1 m2 m3) (s : Fin 128) (x : Fin 256) :
    wkR r g b bt m0 m1 m2 m3 s x = (wR f i n s x : EReal) := by
  unfold wkR
  exact four_of x (fun h => ((Real.exp (P (f h) (n + 128) - P (f h) (n + (s.val + 1)) + i h (n + s.val) - M (f h) (i h) (n + 128)) : ℝ) : EReal))
    (keyW_at (hg.gi 0) (hg.bc 0) (hg.br 0) hm.h0 s) (keyW_at (hg.gi 1) (hg.bc 1) (hg.br 1) hm.h1 s) (keyW_at (hg.gi 2) (hg.bc 2) (hg.br 2) hm.h2 s)
    (keyW_at (hg.gi 3) (hg.bc 3) (hg.br 3) hm.h3 s)

theorem decR_at (hg : GatesAt f i n r g b bt) (hm : StabAt f i n m0 m1 m2 m3) (x : Fin 256) :
    decR r g b bt m0 m1 m2 m3 x = ((Real.exp (P (f (hd x)) (n + 128) - P (f (hd x)) n + M (f (hd x)) (i (hd x)) n - M (f (hd x)) (i (hd x)) (n + 128)) : ℝ) : EReal) := by
  unfold decR
  exact four_of x (fun h => ((Real.exp (P (f h) (n + 128) - P (f h) n + M (f h) (i h) n - M (f h) (i h) (n + 128)) : ℝ) : EReal))
    (decayW_at (hg.gi 0) (hg.bc 0) (hg.br 0) hm.h0) (decayW_at (hg.gi 1) (hg.bc 1) (hg.br 1) hm.h1) (decayW_at (hg.gi 2) (hg.bc 2) (hg.br 2) hm.h2)
    (decayW_at (hg.gi 3) (hg.bc 3) (hg.br 3) hm.h3)

/-- The normaliser after the stretch. -/
theorem norm_at (hg : GatesAt f i n r g b bt) (hm : StabAt f i n m0 m1 m2 m3) {ka : FVec Ideal S128x256 .f32} {nn : FVec Ideal S1x256 .f32}
    (hk : ∀ s x, ka (ix2 s x) = (k (n + s.val) x : EReal)) (hn : ∀ x, nn (ix2 0 x) = (Nst k f i n x : EReal)) (x : Fin 256) :
    decR r g b bt m0 m1 m2 m3 x * nn (ix2 0 x) + ∑ s, ka (ix2 s x) * wkR r g b bt m0 m1 m2 m3 s x = (Nst k f i (n + 128) x : EReal) := by
  simp only [decR_at hg hm, wkR_at hg hm, hk, hn, ← EReal.coe_mul, sum_coe, ← EReal.coe_add]
  unfold Nst
  rw [St_add _ _ _ n 128, Finset.sum_range]
  refine congrArg (fun z : ℝ => (z : EReal)) (congrArg₂ (· + ·) rfl (Finset.sum_congr rfl fun s _ => ?_))
  exact mul_comm _ _

set_option maxRecDepth 100000 in
theorem keep0_bit : ∀ x : Fin 256, keep0 x = if x.val < 128 then 1#1 else 0#1 := by decide +kernel

set_option maxRecDepth 100000 in
theorem keep1_bit : ∀ x : Fin 256, keep1 x = if x.val < 128 then 0#1 else 1#1 := by decide +kernel

theorem keep0_sum (F : Fin 256 → EReal) : (∑ s, Scalar.select (keep0 s) (F s) 0) = ∑ s, F (r0 s) := by
  rw [show (∑ s, Scalar.select (keep0 s) (F s) 0) = ∑ s : Fin (128 + 128), Scalar.select (keep0 s) (F s) 0 from rfl, Fin.sum_univ_add]
  rw [Finset.sum_eq_zero (s := Finset.univ) (f := fun s : Fin 128 => Scalar.select (keep0 (Fin.natAdd 128 s)) (F (Fin.natAdd 128 s)) 0), add_zero]
  · refine Finset.sum_congr rfl fun s _ => ?_
    rw [keep0_bit, if_pos (show (Fin.castAdd 128 s).val < 128 from s.isLt)]; rfl
  · intro s _
    rw [keep0_bit, if_neg (show ¬ (Fin.natAdd 128 s).val < 128 from by simp)]; rfl

theorem keep1_sum (F : Fin 256 → EReal) : (∑ s, Scalar.select (keep1 s) (F s) 0) = ∑ s, F (r1 s) := by
  rw [show (∑ s, Scalar.select (keep1 s) (F s) 0) = ∑ s : Fin (128 + 128), Scalar.select (keep1 s) (F s) 0 from rfl, Fin.sum_univ_add]
  rw [Finset.sum_eq_zero (s := Finset.univ) (f := fun s : Fin 128 => Scalar.select (keep1 (Fin.castAdd 128 s)) (F (Fin.castAdd 128 s)) 0), zero_add]
  · refine Finset.sum_congr rfl fun s _ => ?_
    rw [keep1_bit, if_neg (show ¬ (Fin.natAdd 128 s).val < 128 from by simp)]; rfl
  · intro s _
    rw [keep1_bit, if_pos (show (Fin.castAdd 128 s).val < 128 from s.isLt)]; rfl

/-- The matrix after the stretch. -/
theorem mat_at (hg : GatesAt f i n r g b bt) (hm : StabAt f i n m0 m1 m2 m3) {ct : FVec Ideal S512x256 .f32} {vt : FVec Ideal S512x256 .bf16}
    {kw : FVec Ideal S256x256 .bf16} {bd : FVec Ideal S512x256 .f32} (hc : ∀ y x, ct (ix2 y x) = (Cst k v f i n y x : EReal))
    (hv : ∀ y s, vt (ix2 y (r s)) = (v (n + s.val) y : EReal)) (hk : ∀ s x, kw (ix2 (r s) x) = ((k (n + s.val) x * wR f i n s x : ℝ) : EReal))
    (hb : ∀ (y : Fin 512) (x : Fin 256), bd (ix2 y x) = ((if y.val / 128 = x.val / 64 then 1 else 0 : ℝ) : EReal)) (y : Fin 512) (x : Fin 256) :
    decR r g b bt m0 m1 m2 m3 x * ct (ix2 y x) + (∑ s, vt (ix2 y (r s)) * kw (ix2 (r s) x)) * bd (ix2 y x) = (Cst k v f i (n + 128) y x : EReal) := by
  simp only [decR_at hg hm, hk, hv, hc, hb, ← EReal.coe_mul, sum_coe, ← EReal.coe_add]
  unfold Cst
  refine congrArg (fun z : ℝ => (z : EReal)) ?_
  by_cases h : y.val / 128 = x.val / 64
  · simp only [if_pos h, mul_one]
    rw [St_add _ _ _ n 128, Finset.sum_range]
    refine congrArg₂ (· + ·) rfl (Finset.sum_congr rfl fun s _ => ?_)
    unfold wR; ring
  · simp only [if_neg h, mul_zero, add_zero]

theorem pad0_eq (qh : FVec Ideal S256x256 .bf16) (j x : Fin 256) : pad0 qh j x = if hd x = 0 then qh (ix2 x j) else 0 := by
  have hx : hd x = 0 ↔ x.val / 64 = 0 := Fin.ext_iff
  unfold pad0
  by_cases hh : hd x = 0
  · have h2 := hx.1 hh
    rw [if_pos hh]
    split_ifs <;> first | rfl | omega | exact congrArg (fun a => qh (ix2 a j)) (Fin.ext (by dsimp only; omega))
  · have h2 : ¬ x.val / 64 = 0 := fun e => hh (hx.2 e)
    rw [if_neg hh]
    split_ifs <;> first | rfl | omega

theorem pad1_eq (qh : FVec Ideal S256x256 .bf16) (j x : Fin 256) : pad1 qh j x = if hd x = 1 then qh (ix2 x j) else 0 := by
  have hx : hd x = 1 ↔ x.val / 64 = 1 := Fin.ext_iff
  unfold pad1
  by_cases hh : hd x = 1
  · have h2 := hx.1 hh
    rw [if_pos hh]
    split_ifs <;> first | rfl | omega | exact congrArg (fun a => qh (ix2 a j)) (Fin.ext (by dsimp only; omega))
  · have h2 : ¬ x.val / 64 = 1 := fun e => hh (hx.2 e)
    rw [if_neg hh]
    split_ifs <;> first | rfl | omega

theorem pad2_eq (qh : FVec Ideal S256x256 .bf16) (j x : Fin 256) : pad2 qh j x = if hd x = 2 then qh (ix2 x j) else 0 := by
  have hx : hd x = 2 ↔ x.val / 64 = 2 := Fin.ext_iff
  unfold pad2
  by_cases hh : hd x = 2
  · have h2 := hx.1 hh
    rw [if_pos hh]
    split_ifs <;> first | rfl | omega | exact congrArg (fun a => qh (ix2 a j)) (Fin.ext (by dsimp only; omega))
  · have h2 : ¬ x.val / 64 = 2 := fun e => hh (hx.2 e)
    rw [if_neg hh]
    split_ifs <;> first | rfl | omega

theorem pad3_eq (qh : FVec Ideal S256x256 .bf16) (j x : Fin 256) : pad3 qh j x = if hd x = 3 then qh (ix2 x j) else 0 := by
  have hx : hd x = 3 ↔ x.val / 64 = 3 := Fin.ext_iff
  unfold pad3
  by_cases hh : hd x = 3
  · have h2 := hx.1 hh
    rw [if_pos hh]
    split_ifs <;> first | rfl | omega | exact congrArg (fun a => qh (ix2 a j)) (Fin.ext (by dsimp only; omega))
  · have h2 : ¬ x.val / 64 = 3 := fun e => hh (hx.2 e)
    rw [if_neg hh]
    split_ifs <;> first | rfl | omega

/-- The recurrence's gated output at position `j` in output column `y`. -/
def outR (q k : ℕ → Fin 256 → ℝ) (v : ℕ → Fin 512 → ℝ) (f i : Fin 4 → ℕ → ℝ) (og : ℕ → Fin 512 → ℝ) (h : Fin 4) (y : Fin 512) (j : ℕ) : ℝ :=
  hid (f h) (i h) (fun j d => q j (ln h d)) (fun j d => k j (ln h d)) (fun j => v j y) j * sg (og j y)

/-- One head's stored output. -/
theorem head_at {og : ℕ → Fin 512 → ℝ} (h : Fin 4) (hg : GatesAt f i n r g b bt) {m : EReal} (hm : m = (M (f h) (i h) n : EReal)) {qh ql : FVec Ideal S256x256 .bf16}
    {kb : FVec Ideal S128x256 .bf16} {ct : FVec Ideal S512x256 .f32} {nn : FVec Ideal S1x256 .f32} {vv : Fin 128 → EReal} {o : EReal} {p : Fin 256 → EReal}
    (y : Fin 512) (t : Fin 128) (hy : y.val / 128 = h.val) (hp : ∀ x, p x = if hd x = h then qh (ix2 x (r t)) else 0)
    (hq : ∀ t x, qh (ix2 x (r t)) = (q (n + t.val) x : EReal)) (hl : ∀ t x, ql (ix2 x (r t)) = 0) (hk : ∀ s x, kb (ix2 s x) = (k (n + s.val) x : EReal))
    (hc : ∀ y x, ct (ix2 y x) = (Cst k v f i n y x : EReal)) (hn : ∀ x, nn (ix2 0 x) = (Nst k f i n x : EReal)) (hv : ∀ s : Fin 128, vv s = (v (n + s.val) y : EReal))
    (ho : o = (og (n + t.val) y : EReal)) :
    headOut (fun s => g (ix2 (r s) ⟨h.val, by omega⟩)) (fun s => b (ix2 (r s) ⟨4 + h.val, by omega⟩)) (fun s => bt (ix2 ⟨4 + h.val, by omega⟩ (r s))) m
      (qkW kb p) (qnW nn qh ql (BitVec.ofNat 32 h) (r t)) (qcW ct qh y (r t)) vv o t = (outR q k v f i og h y (n + t.val) : EReal) := by
  have e1 : qkW kb p = fun s => ((∑ d, q (n + t.val) (ln h d) * k (n + s.val) (ln h d) : ℝ) : EReal) := by
    funext s
    unfold qkW
    rw [← lane_sum h fun x => q (n + t.val) x * k (n + s.val) x, ← sum_coe]
    refine Finset.sum_congr rfl fun x _ => ?_
    rw [hp, hq, hk]
    split
    · rw [← EReal.coe_mul, mul_comm]
    · rw [mul_zero, EReal.coe_zero]
  have e2 : qnW nn qh ql (BitVec.ofNat 32 h) (r t) = (den (f h) (i h) (fun d => q (n + t.val) (ln h d)) (fun j d => k j (ln h d)) n : EReal) := by
    unfold qnW den
    simp only [lane_eq, hl, hn, hq, mul_zero, ite_self, Finset.sum_const_zero, add_zero, ← EReal.coe_sub, sub_self, EReal.coe_zero, zero_mul]
    have : ∀ d, q (n + t.val) (ln h d) * St (f h) (i h) (fun j => k j (ln h d)) n = (fun x => q (n + t.val) x * Nst k f i n x) (ln h d) := fun d => by
      show _ = _ * Nst k f i n (ln h d)
      unfold Nst; rw [hd_ln]
    rw [Finset.sum_congr rfl fun d _ => this d, ← lane_sum h fun x => q (n + t.val) x * Nst k f i n x, ← sum_coe]
    refine Finset.sum_congr rfl fun x _ => ?_
    split
    · rw [← EReal.coe_mul, mul_comm]
    · rfl
  have e3 : qcW ct qh y (r t) = (num (f h) (i h) (fun d => q (n + t.val) (ln h d)) (fun j d => k j (ln h d)) (fun j => v j y) n : EReal) := by
    unfold qcW num
    have : ∀ d, q (n + t.val) (ln h d) * St (f h) (i h) (fun j => k j (ln h d) * v j y) n
        = (fun x => q (n + t.val) x * St (f (hd x)) (i (hd x)) (fun j => k j x * v j y) n) (ln h d) := fun d => by
      show _ = _ * St (f (hd (ln h d))) (i (hd (ln h d))) _ n
      rw [hd_ln]
    rw [Finset.sum_congr rfl fun d _ => this d, ← lane_sum h fun x => q (n + t.val) x * St (f (hd x)) (i (hd x)) (fun j => k j x * v j y) n, ← sum_coe]
    refine Finset.sum_congr rfl fun x _ => ?_
    rw [hc, hq, ← EReal.coe_mul]
    unfold Cst
    have hx : y.val / 128 = x.val / 64 ↔ hd x = h := by
      rw [hy, Fin.ext_iff]; exact eq_comm
    by_cases hh : hd x = h
    · rw [if_pos (hx.2 hh), if_pos hh, mul_comm]
    · rw [if_neg (fun e => hh (hx.1 e)), if_neg hh, zero_mul]
  rw [e1, e2, e3, funext (hg.gi h), funext (hg.bc h), funext (hg.br h), funext hv, hm, ho]
  exact headOut_real (f h) (i h) n (fun j d => q j (ln h d)) (fun j d => k j (ln h d)) (fun j => v j y) (og (n + t.val) y) t

end Cert.Mlstm

end
-- ==== Proof.Loop.lean ====
/- One step of the reference's loop over real entries: if the carried arrays hold the recurrence's state before a chunk, they hold
   its state after the chunk, and the chunk's outputs are stacked. -/
module

public import proofs.«01_k».proof.Proof.Gen.ReferenceIdeal.Run
public import proofs.«01_k».proof.Proof.Stretch
public import Idealize.ShloMosaic.Lib.Pointwise
public import Idealize.ShloMosaic.Lib.DynamicIndex

@[expose] public section
noncomputable section
namespace Cert.Mlstm
open Idealize.ShloMosaic Idealize.ShloMosaic.TcCoe Idealize.SL.Sem
open Cert.ReferenceIdeal Cert.ReferenceIdeal.Gen Cert.ReferenceIdeal.Value

/-! ## Slices, updates and running sums -/

/-- A block read at a start inside the operand. -/
theorem slice_at {s t : Shape} {α : Type} (x : s.Idx → α) (start : Fin s.rank → Int) (h : s.Slices (fun _ => 0) t) (j : t.Idx) (y : s.Idx)
    (off : Fin s.rank → ℕ) (hs : ∀ a, start a = (off a : Int)) (hle : ∀ a, off a + t.size (a.cast h.1.symm) ≤ s.size a)
    (hy : ∀ a, (y a).val = off a + (j (a.cast h.1.symm)).val) : Host.dynamicSlice t x start h j = x y := by
  rw [Host.dynamicSlice_apply]
  congr 1
  rw [Shape.Idx.norm_def]
  funext a
  apply Fin.ext
  show Host.clampedStart s t h.1 start a + _ = _
  rw [Host.clampedStart_of_le h.1 start a (off a) (hs a) (hle a), hy a]

/-- An update read where it was written. -/
theorem update_in {s u : Shape} {α : Type} (x : s.Idx → α) (upd : u.Idx → α) (start : Fin s.rank → Int) (h : s.Slices (fun _ => 0) u) (y : s.Idx) (j : u.Idx)
    (off : Fin s.rank → ℕ) (hs : ∀ a, start a = (off a : Int)) (hle : ∀ a, off a + u.size (a.cast h.1.symm) ≤ s.size a)
    (hy : ∀ a, (y a).val = off a + (j (a.cast h.1.symm)).val) : Host.dynamicUpdateSlice x upd start h y = upd j := by
  have hc : ∀ a, Host.clampedStart s u h.1 start a = off a := fun a => Host.clampedStart_of_le h.1 start a (off a) (hs a) (hle a)
  rw [Host.dynamicUpdateSlice_apply, dif_pos (fun a => by
    have := (j (a.cast h.1.symm)).isLt
    rw [hc a, hy a]
    omega)]
  congr 1
  rw [Shape.Idx.norm_def]
  funext b
  apply Fin.ext
  show (y (b.cast h.1)).val - Host.clampedStart s u h.1 start (b.cast h.1) = _
  rw [hc, hy]
  exact Nat.add_sub_cancel_left _ _

/-- An update read elsewhere. -/
theorem update_out {s u : Shape} {α : Type} (x : s.Idx → α) (upd : u.Idx → α) (start : Fin s.rank → Int) (h : s.Slices (fun _ => 0) u) (y : s.Idx)
    (off : Fin s.rank → ℕ) (hs : ∀ a, start a = (off a : Int)) (hle : ∀ a, off a + u.size (a.cast h.1.symm) ≤ s.size a)
    (a : Fin s.rank) (hy : ¬ (off a ≤ (y a).val ∧ (y a).val < off a + u.size (a.cast h.1.symm))) : Host.dynamicUpdateSlice x upd start h y = x y := by
  rw [Host.dynamicUpdateSlice_apply, dif_neg (fun hin => hy (by
    have := hin a
    rw [Host.clampedStart_of_le h.1 start a (off a) (hs a) (hle a)] at this
    exact this))]

theorem foldl_plus {α : Type} (g : α → EReal) (L : List α) (r : EReal) : L.foldl (fun r n => r + g n) r = r + (L.map g).sum := by
  induction L generalizing r with
  | nil => simp
  | cons a L ih => rw [List.foldl_cons, ih, List.map_cons, List.sum_cons, add_assoc]

/-- The part of a window of 64 that ends at `l`. -/
theorem window_sum (F : ℕ → ℝ) (l : ℕ) (hl : l < 64) :
    (∑ n : Fin 64, if 63 ≤ l + n.val then F (l + n.val - 63) else 0) = ∑ s ∈ Finset.range (l + 1), F s := by
  rw [Fin.sum_univ_eq_sum_range (fun n => if 63 ≤ l + n then F (l + n - 63) else 0) 64, show 64 = (63 - l) + (l + 1) by omega, Finset.sum_range_add,
    Finset.sum_eq_zero (fun n hn => if_neg (by have := Finset.mem_range.1 hn; omega)), zero_add]
  refine Finset.sum_congr rfl fun s hs => ?_
  have := Finset.mem_range.1 hs
  rw [if_pos (by omega), show l + (63 - l + s) - 63 = s by omega]

theorem win_symm (n : Fin (⟨3, ![1, 1, 64]⟩ : Shape).numel) (hn : n.val < 64) : (⟨3, ![1, 1, 64]⟩ : Shape).rowMajor.symm n = ix3 0 0 ⟨n.val, hn⟩ := by
  rw [Equiv.symm_apply_eq]
  apply Fin.ext
  rw [Shape.rowMajor_val_three]
  show n.val = (0 * 1 + 0) * 64 + n.val
  omega

/-- The running sum over a chunk's positions. -/
theorem cumsum_at (x : FVec Ideal S2x4x64 .f32) (init : FVec Ideal S_ .f32) (hi : init (Shape.Idx.first h_S_) = 0)
    (F : ℕ → ℝ) (b : Fin 2) (h : Fin 4) (l : Fin 64) (hx : ∀ s : Fin 64, x (ix3 b h s) = (F s.val : EReal)) :
    Host.reduceWindowAdd ![1, 1, 64] ![1, 1, 1] ![0, 0, 63] ![0, 0, 0] x init reduceWindows_S2x4x64_S2x4x64_w1s1p0_0_w1s1p0_0_w64s1p63_0 h_S_ (ix3 b h l)
      = ((∑ s ∈ Finset.range (l.val + 1), F s : ℝ) : EReal) := by
  show Ideal.hostReduceWindowAdd ![1, 1, 64] ![1, 1, 1] ![0, 0, 63] ![0, 0, 0] reduceWindows_S2x4x64_S2x4x64_w1s1p0_0_w1s1p0_0_w64s1p63_0 x (init (Shape.Idx.first h_S_)) (ix3 b h l) = _
  rw [hi]
  unfold Ideal.hostReduceWindowAdd Host.reduceWindow
  refine (foldl_plus _ _ _).trans ?_
  rw [zero_add, ← Fin.sum_univ_def, ← window_sum F l.val l.isLt, ← sum_coe]
  refine Fintype.sum_equiv (finCongr (by decide)) _ _ fun n => ?_
  have hn : n.val < 64 := lt_of_lt_of_eq n.isLt (by decide)
  have hb := b.isLt
  have hh := h.isLt
  have hl := l.isLt
  have w : ∀ a, ((⟨3, ![1, 1, 64]⟩ : Shape).rowMajor.symm n a).val = (ix3 (n0 := 1) (n1 := 1) 0 0 ⟨n.val, hn⟩ a).val := fun a => by rw [win_symm n hn]
  have w0 := w 0
  have w1 := w 1
  have w2 := w 2
  change ((⟨3, ![1, 1, 64]⟩ : Shape).rowMajor.symm n 0).val = 0 at w0
  change ((⟨3, ![1, 1, 64]⟩ : Shape).rowMajor.symm n 1).val = 0 at w1
  change ((⟨3, ![1, 1, 64]⟩ : Shape).rowMajor.symm n 2).val = n.val at w2
  show _ = ((if 63 ≤ l.val + n.val then F (l.val + n.val - 63) else 0 : ℝ) : EReal)
  dsimp only
  split
  · next hin =>
    have h2 := (hin 2).1
    change 63 ≤ l.val * 1 + ((⟨3, ![1, 1, 64]⟩ : Shape).rowMajor.symm n 2).val at h2
    rw [w2] at h2
    rw [if_pos (by omega)]
    refine (congrArg x (funext fun a => Fin.ext ?_)).trans (hx ⟨l.val + n.val - 63, by omega⟩)
    match a with
    | ⟨0, _⟩ => show b.val * 1 + ((⟨3, ![1, 1, 64]⟩ : Shape).rowMajor.symm n 0).val - 0 = b.val; rw [w0]; omega
    | ⟨1, _⟩ => show h.val * 1 + ((⟨3, ![1, 1, 64]⟩ : Shape).rowMajor.symm n 1).val - 0 = h.val; rw [w1]; omega
    | ⟨2, _⟩ => show l.val * 1 + ((⟨3, ![1, 1, 64]⟩ : Shape).rowMajor.symm n 2).val - 63 = l.val + n.val - 63; rw [w2]; omega
  · next hin =>
    rw [if_neg fun hle => hin fun a => by
      match a with
      | ⟨0, _⟩ =>
        show 0 ≤ b.val * 1 + ((⟨3, ![1, 1, 64]⟩ : Shape).rowMajor.symm n 0).val ∧ b.val * 1 + ((⟨3, ![1, 1, 64]⟩ : Shape).rowMajor.symm n 0).val - 0 < 2
        rw [w0]; omega
      | ⟨1, _⟩ =>
        show 0 ≤ h.val * 1 + ((⟨3, ![1, 1, 64]⟩ : Shape).rowMajor.symm n 1).val ∧ h.val * 1 + ((⟨3, ![1, 1, 64]⟩ : Shape).rowMajor.symm n 1).val - 0 < 4
        rw [w1]; omega
      | ⟨2, _⟩ =>
        show 63 ≤ l.val * 1 + ((⟨3, ![1, 1, 64]⟩ : Shape).rowMajor.symm n 2).val ∧ l.val * 1 + ((⟨3, ![1, 1, 64]⟩ : Shape).rowMajor.symm n 2).val - 63 < 64
        rw [w2]; omega]
    exact EReal.coe_zero.symm

/-! ## The carried arrays -/

/-- Column `e` of head `h`'s values. -/
def vc (h : Fin 4) (e : Fin 128) : Fin 512 := ⟨128 * h.val + e.val, by omega⟩

/-- The arrays the loop reads hold real sequences in chunks of 64 positions. -/
structure Ins (V0 : Valuation τ sig (Elt Ideal)) (q k : Fin 2 → ℕ → Fin 256 → ℝ) (v : Fin 2 → ℕ → Fin 512 → ℝ) (f i : Fin 2 → Fin 4 → ℕ → ℝ) : Prop where
  q : ∀ (t : Fin 256) (b : Fin 2) (h : Fin 4) (l d : Fin 64), (V0 (Proc.devRef .tc main_v62_0) : S256x2x4x64x64.Idx → EReal) (ix5 t b h l d) = (q b (64 * t.val + l.val) (ln h d) : EReal)
  k : ∀ (t : Fin 256) (b : Fin 2) (h : Fin 4) (l d : Fin 64), (V0 (Proc.devRef .tc main_v62_1) : S256x2x4x64x64.Idx → EReal) (ix5 t b h l d) = (k b (64 * t.val + l.val) (ln h d) : EReal)
  v : ∀ (t : Fin 256) (b : Fin 2) (h : Fin 4) (l : Fin 64) (e : Fin 128), (V0 (Proc.devRef .tc main_v62_2) : S256x2x4x64x128.Idx → EReal) (ix5 t b h l e) = (v b (64 * t.val + l.val) (vc h e) : EReal)
  i : ∀ (t : Fin 256) (b : Fin 2) (h : Fin 4) (l : Fin 64), (V0 (Proc.devRef .tc main_v62_3) : S256x2x4x64.Idx → EReal) (ix4 t b h l) = (i b h (64 * t.val + l.val) : EReal)
  f : ∀ (t : Fin 256) (b : Fin 2) (h : Fin 4) (l : Fin 64), (V0 (Proc.devRef .tc main_v62_4) : S256x2x4x64.Idx → EReal) (ix4 t b h l) = (f b h (64 * t.val + l.val) : EReal)
  msk : ∀ l s : Fin 64, (V0 (Proc.devRef .tc main_v62_5) : S64x64.Idx → BitVec 1) (ix2 l s) = if s ≤ l then 1#1 else 0#1

/-- The carried arrays hold the recurrence's state before chunk `n` and the outputs of the chunks before it. -/
structure Sta (V0 : Valuation τ sig (Elt Ideal)) (q k : Fin 2 → ℕ → Fin 256 → ℝ) (v : Fin 2 → ℕ → Fin 512 → ℝ) (f i : Fin 2 → Fin 4 → ℕ → ℝ) (n : ℕ) : Prop where
  ctr : ∀ j, (V0 (Proc.devRef .tc main_v62_6) : S_.Idx → BitVec 32) j = BitVec.ofNat 32 n
  c : ∀ (b : Fin 2) (h : Fin 4) (d : Fin 64) (e : Fin 128), (V0 (Proc.devRef .tc main_v62_7) : S2x4x64x128.Idx → EReal) (ix4 b h d e)
    = (St (f b h) (i b h) (fun j => k b j (ln h d) * v b j (vc h e)) (64 * n) : EReal)
  nn : ∀ (b : Fin 2) (h : Fin 4) (d : Fin 64), (V0 (Proc.devRef .tc main_v62_8) : S2x4x64.Idx → EReal) (ix3 b h d)
    = (St (f b h) (i b h) (fun j => k b j (ln h d)) (64 * n) : EReal)
  m : ∀ (b : Fin 2) (h : Fin 4), (V0 (Proc.devRef .tc main_v62_9) : S2x4.Idx → EReal) (ix2 b h) = (M (f b h) (i b h) (64 * n) : EReal)
  o : ∀ (t : Fin 256), t.val < n → ∀ (b : Fin 2) (h : Fin 4) (l : Fin 64) (e : Fin 128), (V0 (Proc.devRef .tc main_v62_10) : S256x2x4x64x128.Idx → EReal) (ix5 t b h l e)
    = (hid (f b h) (i b h) (fun j d => q b j (ln h d)) (fun j d => k b j (ln h d)) (fun j => v b j (vc h e)) (64 * t.val + l.val) : EReal)

variable {V0 : Valuation τ sig (Elt Ideal)} {q k : Fin 2 → ℕ → Fin 256 → ℝ} {v : Fin 2 → ℕ → Fin 512 → ℝ} {f i : Fin 2 → Fin 4 → ℕ → ℝ} {n : ℕ}

theorem ctr_int (S : Sta V0 q k v f i n) (hn : n < 256) (j : S_.Idx) : ((V0 (Proc.devRef .tc main_v62_6) : S_.Idx → BitVec 32) j).toInt = (n : Int) := by
  rw [S.ctr j]; exact toInt_ofNat_of_lt (by omega)

/-- The chunk's start. -/
theorem start5 (S : Sta V0 q k v f i n) (hn : n < 256) (a : Fin 5) :
    (((![V0 (Proc.devRef .tc main_v62_6), constantI S_ 32 0#32, constantI S_ 32 0#32, constantI S_ 32 0#32, constantI S_ 32 0#32] : Fin 5 → (⟨S_, .i32⟩ : BufTy).Contents (Elt Ideal)) a (Shape.Idx.first h_S_)) : BitVec 32).toInt
      = ((![n, 0, 0, 0, 0] : Fin 5 → ℕ) a : Int) := by
  match a with
  | ⟨0, _⟩ => exact ctr_int S hn _
  | ⟨1, _⟩ => rfl
  | ⟨2, _⟩ => rfl
  | ⟨3, _⟩ => rfl
  | ⟨4, _⟩ => rfl

theorem start4 (S : Sta V0 q k v f i n) (hn : n < 256) (a : Fin 4) :
    (((![V0 (Proc.devRef .tc main_v62_6), constantI S_ 32 0#32, constantI S_ 32 0#32, constantI S_ 32 0#32] : Fin 4 → (⟨S_, .i32⟩ : BufTy).Contents (Elt Ideal)) a (Shape.Idx.first h_S_)) : BitVec 32).toInt
      = ((![n, 0, 0, 0] : Fin 4 → ℕ) a : Int) := by
  match a with
  | ⟨0, _⟩ => exact ctr_int S hn _
  | ⟨1, _⟩ => rfl
  | ⟨2, _⟩ => rfl
  | ⟨3, _⟩ => rfl

theorem r75 (I : Ins V0 q k v f i) (S : Sta V0 q k v f i n) (hn : n < 256) (b : Fin 2) (h : Fin 4) (l d : Fin 64) :
    (res_main_while0b_v75 V0 : S2x4x64x64.Idx → EReal) (ix4 b h l d) = (q b (64 * n + l.val) (ln h d) : EReal) := by
  unfold res_main_while0b_v75
  refine (shapeCast_apply _ _ (ix4 b h l d) (ix5 (0 : Fin 1) b h l d) (by
    rw [Shape.rowMajor_val_five, Shape.rowMajor_val_four]
    show (((0 * 2 + b.val) * 4 + h.val) * 64 + l.val) * 64 + d.val = ((b.val * 4 + h.val) * 64 + l.val) * 64 + d.val
    omega)).trans ?_
  refine (slice_at _ _ _ _ (ix5 (⟨n, hn⟩ : Fin 256) b h l d) ![n, 0, 0, 0, 0] (start5 S hn) (fun a => by fin_cases a <;> simp <;> omega)
    (fun a => by fin_cases a <;> first | rfl | exact (Nat.zero_add _).symm)).trans ?_
  exact I.q ⟨n, hn⟩ b h l d

theorem r76 (I : Ins V0 q k v f i) (S : Sta V0 q k v f i n) (hn : n < 256) (b : Fin 2) (h : Fin 4) (l d : Fin 64) :
    (res_main_while0b_v76 V0 : S2x4x64x64.Idx → EReal) (ix4 b h l d) = (k b (64 * n + l.val) (ln h d) : EReal) := by
  unfold res_main_while0b_v76
  refine (shapeCast_apply _ _ (ix4 b h l d) (ix5 (0 : Fin 1) b h l d) (by
    rw [Shape.rowMajor_val_five, Shape.rowMajor_val_four]
    show (((0 * 2 + b.val) * 4 + h.val) * 64 + l.val) * 64 + d.val = ((b.val * 4 + h.val) * 64 + l.val) * 64 + d.val
    omega)).trans ?_
  refine (slice_at _ _ _ _ (ix5 (⟨n, hn⟩ : Fin 256) b h l d) ![n, 0, 0, 0, 0] (start5 S hn) (fun a => by fin_cases a <;> simp <;> omega)
    (fun a => by fin_cases a <;> first | rfl | exact (Nat.zero_add _).symm)).trans ?_
  exact I.k ⟨n, hn⟩ b h l d

theorem r77 (I : Ins V0 q k v f i) (S : Sta V0 q k v f i n) (hn : n < 256) (b : Fin 2) (h : Fin 4) (l : Fin 64) (e : Fin 128) :
    (res_main_while0b_v77 V0 : S2x4x64x128.Idx → EReal) (ix4 b h l e) = (v b (64 * n + l.val) (vc h e) : EReal) := by
  unfold res_main_while0b_v77
  refine (shapeCast_apply _ _ (ix4 b h l e) (ix5 (0 : Fin 1) b h l e) (by
    rw [Shape.rowMajor_val_five, Shape.rowMajor_val_four]
    show (((0 * 2 + b.val) * 4 + h.val) * 64 + l.val) * 128 + e.val = ((b.val * 4 + h.val) * 64 + l.val) * 128 + e.val
    omega)).trans ?_
  refine (slice_at _ _ _ _ (ix5 (⟨n, hn⟩ : Fin 256) b h l e) ![n, 0, 0, 0, 0] (start5 S hn) (fun a => by fin_cases a <;> simp <;> omega)
    (fun a => by fin_cases a <;> first | rfl | exact (Nat.zero_add _).symm)).trans ?_
  exact I.v ⟨n, hn⟩ b h l e

/-- The chunk of a gate array. -/
theorem gate_at (S : Sta V0 q k v f i n) (hn : n < 256) (X : S256x2x4x64.Idx → EReal) (g : Fin 2 → Fin 4 → ℕ → ℝ) (hX : ∀ (t : Fin 256) (b : Fin 2) (h : Fin 4) (l : Fin 64), X (ix4 t b h l) = (g b h (64 * t.val + l.val) : EReal))
    (b : Fin 2) (h : Fin 4) (l : Fin 64) :
    (shapeCast S2x4x64 (Host.dynamicSlice S1x2x4x64 X (fun k => (((![V0 (Proc.devRef .tc main_v62_6), constantI S_ 32 0#32, constantI S_ 32 0#32, constantI S_ 32 0#32] : Fin 4 → (⟨S_, .i32⟩ : BufTy).Contents (Elt Ideal))) k (Shape.Idx.first h_S_)).toInt) sliceFits_S256x2x4x64_S1x2x4x64) shapeCasts_S1x2x4x64_S2x4x64 : S2x4x64.Idx → EReal) (ix3 b h l)
      = (g b h (64 * n + l.val) : EReal) := by
  refine (shapeCast_apply _ _ (ix3 b h l) (ix4 (0 : Fin 1) b h l) (by
    rw [Shape.rowMajor_val_four, Shape.rowMajor_val_three]
    show ((0 * 2 + b.val) * 4 + h.val) * 64 + l.val = (b.val * 4 + h.val) * 64 + l.val
    omega)).trans ?_
  refine (slice_at _ _ _ _ (ix4 (⟨n, hn⟩ : Fin 256) b h l) ![n, 0, 0, 0] (start4 S hn) (fun a => by fin_cases a <;> simp <;> omega)
    (fun a => by fin_cases a <;> first | rfl | exact (Nat.zero_add _).symm)).trans ?_
  exact hX ⟨n, hn⟩ b h l

theorem r80 (I : Ins V0 q k v f i) (S : Sta V0 q k v f i n) (hn : n < 256) (b : Fin 2) (h : Fin 4) (l : Fin 64) :
    (res_main_while0b_v80 V0 : S2x4x64.Idx → EReal) (ix3 b h l) = ((P (f b h) (64 * n + (l.val + 1)) - P (f b h) (64 * n) : ℝ) : EReal) := by
  unfold res_main_while0b_v80
  refine (cumsum_at _ _ (show Ideal.ofBits FTy.f32 0x00000000#32 = 0 from Ideal.ofBits_zero_f32) (fun s => f b h (64 * n + s)) b h l (fun s => gate_at S hn _ f I.f b h s)).trans ?_
  rw [P_add, add_sub_cancel_left]

theorem r89 (I : Ins V0 q k v f i) (S : Sta V0 q k v f i n) (hn : n < 256) (b : Fin 2) (h : Fin 4) (l s : Fin 64) :
    (res_main_while0b_v89 V0 : S2x4x64x64.Idx → EReal) (ix4 b h l s)
      = if s ≤ l then ((P (f b h) (64 * n + (l.val + 1)) - P (f b h) (64 * n + (s.val + 1)) + i b h (64 * n + s.val) : ℝ) : EReal) else ⊥ := by
  have B := r80 I S hn b h
  have G := gate_at S hn _ i I.i b h
  have C := I.msk l s
  unfold res_main_while0b_v89
  revert B G C
  generalize (res_main_while0b_v80 V0 : S2x4x64.Idx → EReal) = B
  generalize (V0 (Proc.devRef .tc main_v62_5) : S64x64.Idx → BitVec 1) = C
  generalize (shapeCast S2x4x64 _ _ : S2x4x64.Idx → EReal) = G
  intro hB hG hC
  pointwise
  rw [hB, hB, hG, hC]
  show Scalar.select _ _ (Ideal.ofBits FTy.f32 4286578688#32) = _
  rw [bits_bot, ← EReal.coe_sub, ← EReal.coe_add]
  split
  · exact congrArg (fun z : ℝ => (z : EReal)) (by ring)
  · rfl

theorem r92 (I : Ins V0 q k v f i) (S : Sta V0 q k v f i n) (hn : n < 256) (b : Fin 2) (h : Fin 4) (l : Fin 64) :
    (res_main_while0b_v92 V0 : S2x4x64.Idx → EReal) (ix3 b h l) = ((P (f b h) (64 * n + (l.val + 1)) - P (f b h) (64 * n) + M (f b h) (i b h) (64 * n) : ℝ) : EReal) := by
  have B := r80 I S hn b h l
  have m := S.m b h
  unfold res_main_while0b_v92
  revert B m
  generalize (res_main_while0b_v80 V0 : S2x4x64.Idx → EReal) = B
  generalize (V0 (Proc.devRef .tc main_v62_9) : S2x4.Idx → EReal) = m
  intro hB hm
  pointwise
  rw [hB, hm, ← EReal.coe_add]

/-- A maximum over the fibre of a row is one over its columns. -/
theorem fold_row (x : S2x4x64x64.Idx → EReal) (y : EReal) (b : Fin 2) (h : Fin 4) (l : Fin 64) :
    max y (Finset.fold max (Ideal.ofBits FTy.f32 4286578688#32) x {i | reducesTo_S2x4x64x64_S2x4x64_d3.drop i = ix3 b h l})
      = max y (Finset.fold max ⊥ (fun s : Fin 64 => x (ix4 b h l s)) Finset.univ) := by
  rw [← bits_bot]
  exact congrArg (max y) (reducesTo_S2x4x64x64_S2x4x64_d3.fold_fiber_r4_a3 (ix3 b h l) max (Ideal.ofBits FTy.f32 4286578688#32) x)

/-- The stabiliser of each row. -/
theorem r94 (I : Ins V0 q k v f i) (S : Sta V0 q k v f i n) (hn : n < 256) (b : Fin 2) (h : Fin 4) (l : Fin 64) :
    (res_main_while0b_v94 V0 : S2x4x64.Idx → EReal) (ix3 b h l) = (M (f b h) (i b h) (64 * n + (l.val + 1)) : EReal) := by
  have B := r89 I S hn b h l
  have m := r92 I S hn b h l
  unfold res_main_while0b_v94
  revert B m
  generalize (res_main_while0b_v89 V0 : S2x4x64x64.Idx → EReal) = B
  generalize (res_main_while0b_v92 V0 : S2x4x64.Idx → EReal) = m
  intro hB hm
  pointwise
  refine (fold_row B (m (ix3 b h l)) b h l).trans ?_
  rw [hm]
  simp only [hB]
  refine fold_coe (fun s : Fin 64 => P (f b h) (64 * n + (l.val + 1)) - P (f b h) (64 * n + (s.val + 1)) + i b h (64 * n + s.val)) l _ _ fun c => ?_
  rw [M_le]
  exact and_congr Iff.rfl ⟨fun h s hs => h s.val hs, fun h s hs => h ⟨s, by omega⟩ hs⟩

theorem r96 (I : Ins V0 q k v f i) (S : Sta V0 q k v f i n) (hn : n < 256) (b : Fin 2) (h : Fin 4) (l : Fin 64) :
    (res_main_while0b_v96 V0 : S2x4x64.Idx → EReal) (ix3 b h l)
      = ((Real.exp (P (f b h) (64 * n + (l.val + 1)) - P (f b h) (64 * n) + M (f b h) (i b h) (64 * n) - M (f b h) (i b h) (64 * n + (l.val + 1))) : ℝ) : EReal) := by
  have B := r94 I S hn b h l
  have m := r92 I S hn b h l
  unfold res_main_while0b_v96
  revert B m
  generalize (res_main_while0b_v94 V0 : S2x4x64.Idx → EReal) = B
  generalize (res_main_while0b_v92 V0 : S2x4x64.Idx → EReal) = m
  intro hB hm
  pointwise
  rw [hB, hm, ← EReal.coe_sub, Ideal.exp_coe]

/-- The query of row `l` against the key of row `s`, weighted. -/
theorem r102 (I : Ins V0 q k v f i) (S : Sta V0 q k v f i n) (hn : n < 256) (b : Fin 2) (h : Fin 4) (l s : Fin 64) :
    (res_main_while0b_v102 V0 : S2x4x64x64.Idx → EReal) (ix4 b h l s)
      = ((if s ≤ l then (∑ d, q b (64 * n + l.val) (ln h d) * k b (64 * n + s.val) (ln h d))
          * Real.exp (P (f b h) (64 * n + (l.val + 1)) - P (f b h) (64 * n + (s.val + 1)) + i b h (64 * n + s.val) - M (f b h) (i b h) (64 * n + (l.val + 1))) else 0 : ℝ) : EReal) := by
  have B := r89 I S hn b h l s
  have m := r94 I S hn b h l
  have Q := r75 I S hn b h l
  have K := r76 I S hn b h s
  unfold res_main_while0b_v102
  revert B m Q K
  generalize (res_main_while0b_v89 V0 : S2x4x64x64.Idx → EReal) = B
  generalize (res_main_while0b_v94 V0 : S2x4x64.Idx → EReal) = m
  generalize (res_main_while0b_v75 V0 : S2x4x64x64.Idx → EReal) = Q
  generalize (res_main_while0b_v76 V0 : S2x4x64x64.Idx → EReal) = K
  intro hB hm hQ hK
  pointwise
  simp only [hB, hm, hQ, hK, exp_mask, ← EReal.coe_mul, sum_coe, mul_ite, mul_zero]

theorem r121 (I : Ins V0 q k v f i) (S : Sta V0 q k v f i n) (hn : n < 256) (b : Fin 2) (h : Fin 4) :
    (res_main_while0b_v121 V0 : S2x4.Idx → EReal) (ix2 b h) = (M (f b h) (i b h) (64 * n + 64) : EReal) := by
  have B := r94 I S hn b h 63
  unfold res_main_while0b_v121
  revert B
  generalize (res_main_while0b_v94 V0 : S2x4x64.Idx → EReal) = B
  intro hB
  pointwise
  exact hB

/-- The weight of row `s` in the state after the chunk. -/
theorem r127 (I : Ins V0 q k v f i) (S : Sta V0 q k v f i n) (hn : n < 256) (b : Fin 2) (h : Fin 4) (s : Fin 64) :
    (res_main_while0b_v127 V0 : S2x4x64.Idx → EReal) (ix3 b h s)
      = ((Real.exp (P (f b h) (64 * n + 64) - P (f b h) (64 * n + (s.val + 1)) + i b h (64 * n + s.val) - M (f b h) (i b h) (64 * n + 64)) : ℝ) : EReal) := by
  have B := r89 I S hn b h 63 s
  have m := r121 I S hn b h
  rw [if_pos (show s ≤ (63 : Fin 64) from by show s.val ≤ 63; omega)] at B
  unfold res_main_while0b_v127
  revert B m
  generalize (res_main_while0b_v89 V0 : S2x4x64x64.Idx → EReal) = B
  generalize (res_main_while0b_v121 V0 : S2x4.Idx → EReal) = m
  intro hB hm
  pointwise
  rw [hB, hm, ← EReal.coe_sub, Ideal.exp_coe]
  rfl

/-- The carried state's decay over the chunk. -/
theorem r132 (I : Ins V0 q k v f i) (S : Sta V0 q k v f i n) (hn : n < 256) (b : Fin 2) (h : Fin 4) :
    (res_main_while0b_v132 V0 : S2x4.Idx → EReal) (ix2 b h)
      = ((Real.exp (P (f b h) (64 * n + 64) - P (f b h) (64 * n) + M (f b h) (i b h) (64 * n) - M (f b h) (i b h) (64 * n + 64)) : ℝ) : EReal) := by
  have B := r80 I S hn b h 63
  have m := r121 I S hn b h
  have m' := S.m b h
  unfold res_main_while0b_v132
  revert B m m'
  generalize (res_main_while0b_v80 V0 : S2x4x64.Idx → EReal) = B
  generalize (res_main_while0b_v121 V0 : S2x4.Idx → EReal) = m
  generalize (V0 (Proc.devRef .tc main_v62_9) : S2x4.Idx → EReal) = m'
  intro hB hm hm'
  pointwise
  rw [hB, hm, hm', ← EReal.coe_add, ← EReal.coe_sub, Ideal.exp_coe]
  rfl

theorem mul64 (n : ℕ) : 64 * (n + 1) = 64 * n + 64 := by omega

/-- The matrix state after the chunk. -/
theorem s7 (I : Ins V0 q k v f i) (S : Sta V0 q k v f i n) (hn : n < 256) (b : Fin 2) (h : Fin 4) (d : Fin 64) (e : Fin 128) :
    (step_main_v62_7 V0 : S2x4x64x128.Idx → EReal) (ix4 b h d e) = (St (f b h) (i b h) (fun j => k b j (ln h d) * v b j (vc h e)) (64 * (n + 1)) : EReal) := by
  have D := r132 I S hn b h
  have W := r127 I S hn b h
  have K := r76 I S hn b h
  have Q := r77 I S hn b h
  have C := S.c b h d e
  unfold step_main_v62_7
  revert D W K Q C
  generalize (res_main_while0b_v132 V0 : S2x4.Idx → EReal) = D
  generalize (res_main_while0b_v127 V0 : S2x4x64.Idx → EReal) = W
  generalize (res_main_while0b_v76 V0 : S2x4x64x64.Idx → EReal) = K
  generalize (res_main_while0b_v77 V0 : S2x4x64x128.Idx → EReal) = Q
  generalize (V0 (Proc.devRef .tc main_v62_7) : S2x4x64x128.Idx → EReal) = C
  intro hD hW hK hQ hC
  simp only [id]
  pointwise
  simp only [hD, hW, hK, hQ, hC, ← EReal.coe_mul, sum_coe, ← EReal.coe_add]
  rw [mul64, St_add _ _ _ (64 * n) 64, Finset.sum_range]
  refine congrArg (fun z : ℝ => (z : EReal)) (congrArg₂ (· + ·) rfl (Finset.sum_congr rfl fun s _ => ?_))
  ring

/-- The normaliser state after the chunk. -/
theorem s8 (I : Ins V0 q k v f i) (S : Sta V0 q k v f i n) (hn : n < 256) (b : Fin 2) (h : Fin 4) (d : Fin 64) :
    (step_main_v62_8 V0 : S2x4x64.Idx → EReal) (ix3 b h d) = (St (f b h) (i b h) (fun j => k b j (ln h d)) (64 * (n + 1)) : EReal) := by
  have D := r132 I S hn b h
  have W := r127 I S hn b h
  have K := r76 I S hn b h
  have C := S.nn b h d
  unfold step_main_v62_8
  revert D W K C
  generalize (res_main_while0b_v132 V0 : S2x4.Idx → EReal) = D
  generalize (res_main_while0b_v127 V0 : S2x4x64.Idx → EReal) = W
  generalize (res_main_while0b_v76 V0 : S2x4x64x64.Idx → EReal) = K
  generalize (V0 (Proc.devRef .tc main_v62_8) : S2x4x64.Idx → EReal) = C
  intro hD hW hK hC
  simp only [id]
  pointwise
  simp only [hD, hW, hK, hC, ← EReal.coe_mul, sum_coe, ← EReal.coe_add]
  rw [mul64, St_add _ _ _ (64 * n) 64, Finset.sum_range]

/-- The chunk's outputs. -/
def hblk (V0 : Valuation τ sig (Elt Ideal)) : FVec Ideal S2x4x64x128 .f32 :=
  Host.divf (addf (mulf (broadcastInDim S2x4x64x128 ![0, 1, 2, 3] bcast_S2x4x64x1_S2x4x64x128_0_1_2_3 (broadcastInDim S2x4x64x1 ![0, 1, 2] bcast_S2x4x64_S2x4x64x1_0_1_2 (res_main_while0b_v96 V0))) (Host.dotGeneral (φ₁ := .f32) (φ₂ := .f32) dot_S2x4x64x64_S2x4x64x128_S2x4x64x128_3_2_2_3_01_01 none (res_main_while0b_v75 V0) (V0 (Proc.devRef .tc main_v62_7)))) (Host.dotGeneral (φ₁ := .f32) (φ₂ := .f32) dot_S2x4x64x64_S2x4x64x128_S2x4x64x128_3_2_2_3_01_01 none (res_main_while0b_v102 V0) (res_main_while0b_v77 V0))) (broadcastInDim S2x4x64x128 ![0, 1, 2, 3] bcast_S2x4x64x1_S2x4x64x128_0_1_2_3 (broadcastInDim S2x4x64x1 ![0, 1, 2] bcast_S2x4x64_S2x4x64x1_0_1_2 (maximumf (Host.absf (addf (mulf (res_main_while0b_v96 V0) (Host.dotGeneral (φ₁ := .f32) (φ₂ := .f32) dot_S2x4x64x64_S2x4x64_S2x4x64_3_2_2_n_01_01 none (res_main_while0b_v75 V0) (V0 (Proc.devRef .tc main_v62_8)))) (Host.reduceAdd (res_main_while0b_v102 V0) (constant S_ .f32 0x00000000#32) reducesTo_S2x4x64x64_S2x4x64_d3 h_S_))) (Host.exp (Host.negf (res_main_while0b_v94 V0))))))

theorem out_at (I : Ins V0 q k v f i) (S : Sta V0 q k v f i n) (hn : n < 256) (b : Fin 2) (h : Fin 4) (l : Fin 64) (e : Fin 128) :
    hblk V0 (ix4 b h l e) = (hid (f b h) (i b h) (fun j d => q b j (ln h d)) (fun j d => k b j (ln h d)) (fun j => v b j (vc h e)) (64 * n + l.val) : EReal) := by
  have D := r96 I S hn b h l
  have W := r94 I S hn b h l
  have Q := r75 I S hn b h l
  have K := r102 I S hn b h l
  have X := r77 I S hn b h
  have N := S.nn b h
  have C := fun d => S.c b h d e
  unfold hblk
  revert D W Q K X N C
  generalize (res_main_while0b_v96 V0 : S2x4x64.Idx → EReal) = D
  generalize (res_main_while0b_v94 V0 : S2x4x64.Idx → EReal) = W
  generalize (res_main_while0b_v75 V0 : S2x4x64x64.Idx → EReal) = Q
  generalize (res_main_while0b_v102 V0 : S2x4x64x64.Idx → EReal) = K
  generalize (res_main_while0b_v77 V0 : S2x4x64x128.Idx → EReal) = X
  generalize (V0 (Proc.devRef .tc main_v62_8) : S2x4x64.Idx → EReal) = N
  generalize (V0 (Proc.devRef .tc main_v62_7) : S2x4x64x128.Idx → EReal) = C
  intro hD hW hQ hK hX hN hC
  pointwise
  simp only [hD, hW, hQ, hK, hX, hN, hC, ← EReal.coe_mul, sum_coe, ← EReal.coe_add, ← EReal.coe_neg, Ideal.exp_coe]
  have e1 : Real.exp (P (f b h) (64 * n + (l.val + 1)) - P (f b h) (64 * n) + M (f b h) (i b h) (64 * n) - M (f b h) (i b h) (64 * n + (l.val + 1)))
        * (∑ d, q b (64 * n + l.val) (ln h d) * St (f b h) (i b h) (fun j => k b j (ln h d) * v b j (vc h e)) (64 * n))
      + (∑ s : Fin 64, (if s ≤ l then (∑ d, q b (64 * n + l.val) (ln h d) * k b (64 * n + s.val) (ln h d))
          * Real.exp (P (f b h) (64 * n + (l.val + 1)) - P (f b h) (64 * n + (s.val + 1)) + i b h (64 * n + s.val) - M (f b h) (i b h) (64 * n + (l.val + 1))) else 0) * v b (64 * n + s.val) (vc h e))
      = num (f b h) (i b h) (fun d => q b (64 * n + l.val) (ln h d)) (fun j d => k b j (ln h d)) (fun j => v b j (vc h e)) (64 * n + (l.val + 1)) := by
    rw [num_add]
    simp only [ite_mul, zero_mul]
    refine congrArg₂ (· + ·) rfl ?_
    exact sum_mask l fun s => ((∑ d, q b (64 * n + l.val) (ln h d) * k b (64 * n + s) (ln h d))
          * Real.exp (P (f b h) (64 * n + (l.val + 1)) - P (f b h) (64 * n + (s + 1)) + i b h (64 * n + s) - M (f b h) (i b h) (64 * n + (l.val + 1)))) * v b (64 * n + s) (vc h e)
  have e2 : Real.exp (P (f b h) (64 * n + (l.val + 1)) - P (f b h) (64 * n) + M (f b h) (i b h) (64 * n) - M (f b h) (i b h) (64 * n + (l.val + 1)))
        * (∑ d, q b (64 * n + l.val) (ln h d) * St (f b h) (i b h) (fun j => k b j (ln h d)) (64 * n))
      + (∑ s : Fin 64, (if s ≤ l then (∑ d, q b (64 * n + l.val) (ln h d) * k b (64 * n + s.val) (ln h d))
          * Real.exp (P (f b h) (64 * n + (l.val + 1)) - P (f b h) (64 * n + (s.val + 1)) + i b h (64 * n + s.val) - M (f b h) (i b h) (64 * n + (l.val + 1))) else 0))
      = den (f b h) (i b h) (fun d => q b (64 * n + l.val) (ln h d)) (fun j d => k b j (ln h d)) (64 * n + (l.val + 1)) := by
    rw [den_add]
    refine congrArg₂ (· + ·) rfl ?_
    exact sum_mask l fun s => (∑ d, q b (64 * n + l.val) (ln h d) * k b (64 * n + s) (ln h d))
          * Real.exp (P (f b h) (64 * n + (l.val + 1)) - P (f b h) (64 * n + (s + 1)) + i b h (64 * n + s) - M (f b h) (i b h) (64 * n + (l.val + 1)))
  rw [e1, e2]
  refine (congrArg₂ (fun x y => Ideal.div _ (max x y)) (abs_coe _) rfl).trans ?_
  rw [max_coe, div_coe' _ (lt_of_lt_of_le (Real.exp_pos _) (le_max_right _ _)).ne']
  rfl

theorem step10_eq : step_main_v62_10 V0 = id (Host.dynamicUpdateSlice (V0 (Proc.devRef .tc main_v62_10)) (broadcastInDim S1x2x4x64x128 ![1, 2, 3, 4] bcast_S2x4x64x128_S1x2x4x64x128_1_2_3_4 (hblk V0)) (fun k => (((![V0 (Proc.devRef .tc main_v62_6), constantI S_ 32 0#32, constantI S_ 32 0#32, constantI S_ 32 0#32, constantI S_ 32 0#32] : Fin 5 → (⟨S_, .i32⟩ : BufTy).Contents (Elt Ideal))) k (Shape.Idx.first h_S_)).toInt) updateFits_S256x2x4x64x128_S1x2x4x64x128) := by
  unfold step_main_v62_10 hblk
  rfl

end Cert.Mlstm
end
-- ==== Proof.Step.lean ====
/- The reference's loop: every step keeps the carried arrays equal to the recurrence's state, so its outputs are the recurrence's. -/
module

public import proofs.«01_k».proof.Proof.Loop

@[expose] public section
noncomputable section
namespace Cert.Mlstm
open Idealize.ShloMosaic Idealize.ShloMosaic.TcCoe Idealize.SL.Sem
open Cert.ReferenceIdeal Cert.ReferenceIdeal.Gen Cert.ReferenceIdeal.Value

variable {V0 : Valuation τ sig (Elt Ideal)} {q k : Fin 2 → ℕ → Fin 256 → ℝ} {v : Fin 2 → ℕ → Fin 512 → ℝ} {f i : Fin 2 → Fin 4 → ℕ → ℝ} {n : ℕ}

theorem s6 (S : Sta V0 q k v f i n) (j : S_.Idx) : (step_main_v62_6 V0 : S_.Idx → BitVec 32) j = BitVec.ofNat 32 (n + 1) := by
  unfold step_main_v62_6
  refine (congrArg (fun z : BitVec 32 => z + 1#32) (S.ctr j)).trans ?_
  rw [BitVec.ofNat_add]

theorem s9 (I : Ins V0 q k v f i) (S : Sta V0 q k v f i n) (hn : n < 256) (b : Fin 2) (h : Fin 4) :
    (step_main_v62_9 V0 : S2x4.Idx → EReal) (ix2 b h) = (M (f b h) (i b h) (64 * (n + 1)) : EReal) := by
  unfold step_main_v62_9
  rw [mul64]
  exact r121 I S hn b h

/-- The chunk's own outputs after the step. -/
theorem s10_in (I : Ins V0 q k v f i) (S : Sta V0 q k v f i n) (hn : n < 256) (t : Fin 256) (ht : t.val = n) (b : Fin 2) (h : Fin 4) (l : Fin 64) (e : Fin 128) :
    (step_main_v62_10 V0 : S256x2x4x64x128.Idx → EReal) (ix5 t b h l e)
      = (hid (f b h) (i b h) (fun j d => q b j (ln h d)) (fun j d => k b j (ln h d)) (fun j => v b j (vc h e)) (64 * t.val + l.val) : EReal) := by
  rw [step10_eq, ht]
  refine (update_in _ _ _ _ (ix5 t b h l e) (ix5 (0 : Fin 1) b h l e) ![n, 0, 0, 0, 0] (start5 S hn) ?_ ?_).trans ?_
  · intro a
    match a with
    | ⟨0, _⟩ => show n + 1 ≤ 256; omega
    | ⟨1, _⟩ => exact le_refl 2
    | ⟨2, _⟩ => exact le_refl 4
    | ⟨3, _⟩ => exact le_refl 64
    | ⟨4, _⟩ => exact le_refl 128
  · intro a
    match a with
    | ⟨0, _⟩ => exact ht
    | ⟨1, _⟩ => exact (Nat.zero_add _).symm
    | ⟨2, _⟩ => exact (Nat.zero_add _).symm
    | ⟨3, _⟩ => exact (Nat.zero_add _).symm
    | ⟨4, _⟩ => exact (Nat.zero_add _).symm
  · refine Eq.trans ?_ (out_at I S hn b h l e)
    generalize hblk V0 = H
    pointwise

/-- Earlier outputs stay. -/
theorem s10_out (S : Sta V0 q k v f i n) (hn : n < 256) (t : Fin 256) (ht : t.val < n) (b : Fin 2) (h : Fin 4) (l : Fin 64) (e : Fin 128) :
    (step_main_v62_10 V0 : S256x2x4x64x128.Idx → EReal) (ix5 t b h l e)
      = (V0 (Proc.devRef .tc main_v62_10) : S256x2x4x64x128.Idx → EReal) (ix5 t b h l e) := by
  rw [step10_eq]
  refine update_out _ _ _ _ (ix5 t b h l e) ![n, 0, 0, 0, 0] (start5 S hn) ?_ (0 : Fin 5) ?_
  · intro a
    match a with
    | ⟨0, _⟩ => show n + 1 ≤ 256; omega
    | ⟨1, _⟩ => exact le_refl 2
    | ⟨2, _⟩ => exact le_refl 4
    | ⟨3, _⟩ => exact le_refl 64
    | ⟨4, _⟩ => exact le_refl 128
  · rintro ⟨hl, _⟩
    exact absurd (show n ≤ t.val from hl) (by omega)

/-- One step. -/
theorem step_sta (I : Ins V0 q k v f i) (S : Sta V0 q k v f i n) (hn : n < 256) : Sta (STEP V0) q k v f i (n + 1) where
  ctr j := by rw [STEP_main_v62_6]; exact s6 S j
  c b h d e := by rw [STEP_main_v62_7]; exact s7 I S hn b h d e
  nn b h d := by rw [STEP_main_v62_8]; exact s8 I S hn b h d
  m b h := by rw [STEP_main_v62_9]; exact s9 I S hn b h
  o t ht b h l e := by
    rw [STEP_main_v62_10]
    rcases Nat.lt_or_ge t.val n with hlt | hge
    · exact (s10_out S hn t hlt b h l e).trans (S.o t hlt b h l e)
    · exact s10_in I S hn t (by omega) b h l e

theorem step_ins (I : Ins V0 q k v f i) : Ins (STEP V0) q k v f i where
  q t b h l d := by rw [STEP_main_v62_0]; exact I.q t b h l d
  k t b h l d := by rw [STEP_main_v62_1]; exact I.k t b h l d
  v t b h l e := by rw [STEP_main_v62_2]; exact I.v t b h l e
  i t b h l := by rw [STEP_main_v62_3]; exact I.i t b h l
  f t b h l := by rw [STEP_main_v62_4]; exact I.f t b h l
  msk l s := by rw [STEP_main_v62_5]; exact I.msk l s

/-- All steps. -/
theorem steps (I : Ins V0 q k v f i) (S : Sta V0 q k v f i 0) (n : ℕ) (hn : n ≤ 256) : Ins (STEP^[n] V0) q k v f i ∧ Sta (STEP^[n] V0) q k v f i n := by
  induction n with
  | zero => exact ⟨I, S⟩
  | succ n ih =>
    obtain ⟨I', S'⟩ := ih (by omega)
    rw [Function.iterate_succ_apply']
    exact ⟨step_ins I', step_sta I' S' (by omega)⟩

end Cert.Mlstm
end
-- ==== Proof.Base.lean ====
/- What a block's body loads and computes before the recurrence, over real entries: the running sums of the forget gates, the
   activated convolution, its query and key lanes. -/
module

public import proofs.«01_k».proof.Proof.Stretch
public import Idealize.ShloMosaic.Lib.Pointwise
public import Idealize.ShloMosaic.Lib.WritesUnit
public import Idealize.ShloMosaic.Lib.Pipeline.Value

@[expose] public section
set_option maxRecDepth 16384
noncomputable section
namespace Cert.Mlstm
open Idealize.ShloMosaic Idealize.ShloMosaic.TcCoe Idealize.SL.Sem
open Cert.KernelIdeal Cert.KernelIdeal.Gen

/-! ## Loads -/

/-- A load of a rectangle of a buffer that holds `X` reads `X` at the rectangle's own position. -/
theorem ld_apply {s : Shape} {e : EltTy} {m : Memref sig .tc .vmem s e} (hm : m.IsWhole) (X : Vec Ideal s e) {off size : Fin s.rank → ℕ}
    (inb : ∀ a, off a + size a ≤ s.size a) (x : (Rect.unit off size inb).shape.Idx) (y : s.Idx) (hy : ∀ a, (y a).val = off a + (x a).val) :
    View.readAt (Elt Ideal) m.view (Rect.unit off size inb).toLoadRect (hm.unread X) x = X y := by
  have : (Rect.unit off size inb).idx x = y := funext fun a => Fin.ext (by
    show off a + 1 * (x a).val = (y a).val
    rw [hy a, Nat.one_mul])
  show m.view.read (Elt Ideal) (hm.unread X) ((Rect.unit off size inb).idx x) = X y
  rw [hm.read_unread, this]

/-- A load of a rectangle after writes reads what the writes left at the rectangle's own position. -/
theorem lw_apply {s : Shape} {e : EltTy} (v : View sig .tc .vmem s e) (f : v.ty.Contents (Elt Ideal)) {off size : Fin s.rank → ℕ}
    (inb : ∀ a, off a + size a ≤ s.size a) (x : (Rect.unit off size inb).shape.Idx) (y : s.Idx) (hy : ∀ a, (y a).val = off a + (x a).val) :
    View.readAt (Elt Ideal) v (Rect.unit off size inb).toLoadRect f x = v.read (Elt Ideal) f y := by
  have : (Rect.unit off size inb).idx x = y := funext fun a => Fin.ext (by
    show off a + 1 * (x a).val = (y a).val
    rw [hy a, Nat.one_mul])
  show v.read (Elt Ideal) f ((Rect.unit off size inb).idx x) = _
  rw [this]

/-- A load of a rectangle that earlier stores cover reads what they left there. -/
theorem cv_apply {s : Shape} {e : EltTy} (v : View sig .tc .vmem s e) (L : List (View.Piece (Elt Ideal) s e)) {off size : Fin s.rank → ℕ}
    (inb : ∀ a, off a + size a ≤ s.size a) (x : (Rect.unit off size inb).shape.Idx) (y : s.Idx) (hy : ∀ a, (y a).val = off a + (x a).val) :
    v.readCov L (Rect.unit off size inb).toLoadRect x = v.read (Elt Ideal) (v.writes (Elt Ideal) v.junk L) y := by
  have : (Rect.unit off size inb).idx x = y := funext fun a => Fin.ext (by
    show off a + 1 * (x a).val = (y a).val
    rw [hy a, Nat.one_mul])
  rw [← this, View.read_writes_junk_apply_eq_canon, View.readCov_eq_canon']

/-! ## The running sums of the forget gates -/

/-- The logarithm of the logistic function. -/
def lsg (x : ℝ) : ℝ := min x 0 - Real.log (1 + Real.exp (-|x|))

theorem min_coe (a b : ℝ) : min (a : EReal) (b : EReal) = ((min a b : ℝ) : EReal) := (EReal.coe_strictMono.monotone.map_min).symm

theorem log_coe' {x : ℝ} (h : 0 < x) : Ideal.log (x : EReal) = (Real.log x : EReal) := by
  rw [Ideal.log_coe, if_neg (not_le.2 h)]

theorem lsg_real (x : ℝ) : min (x : EReal) 0 - Ideal.log (1 + Ideal.exp (0 - max (x : EReal) (-(x : EReal)))) = (lsg x : EReal) := by
  rw [abs_coe, zero_sub, ← EReal.coe_neg, Ideal.exp_coe, ← EReal.coe_one, ← EReal.coe_add, log_coe' (by positivity), ← EReal.coe_zero, min_coe, ← EReal.coe_sub]
  rfl

theorem sums_word (g : Vec Ideal S256x128 .f32) (t : Vec Ideal S256x256 .bf16) (r : Fin 256) (c : Fin 128) :
    k0_pay12 g t (ix2 r c) = ∑ x, t (ix2 r x) * (min (g (ix2 x c)) 0 - Ideal.log (1 + Ideal.exp (0 - max (g (ix2 x c)) (-(g (ix2 x c))))))
      + ∑ x, t (ix2 r x) * ((min (g (ix2 x c)) 0 - Ideal.log (1 + Ideal.exp (0 - max (g (ix2 x c)) (-(g (ix2 x c))))))
        - (min (g (ix2 x c)) 0 - Ideal.log (1 + Ideal.exp (0 - max (g (ix2 x c)) (-(g (ix2 x c))))))) := by
  pointwise [k0_pay11, k0_pay12]
  rfl

theorem sumsT_word (g : Vec Ideal S256x128 .f32) (t : Vec Ideal S256x256 .bf16) (r : Fin 256) (c : Fin 128) :
    k0_pay13 g t (ix2 c r) = k0_pay12 g t (ix2 r c) := by
  pointwise [k0_pay13]

/-- The block's mask of positions of the same stretch that do not come later. -/
def triR (r x : Fin 256) : ℝ := if x.val / 128 = r.val / 128 ∧ x.val ≤ r.val then 1 else 0

theorem sums_at {g : Vec Ideal S256x128 .f32} {t : Vec Ideal S256x256 .bf16} {a : ℕ → ℝ} {n : ℕ} {c : Fin 128} (hg : ∀ x : Fin 256, g (ix2 x c) = (a (n + x.val) : EReal))
    (ht : ∀ r x, t (ix2 r x) = (triR r x : EReal)) (r : Fin 256) :
    k0_pay12 g t (ix2 r c) = ((∑ x, triR r x * lsg (a (n + x.val)) : ℝ) : EReal) := by
  rw [sums_word]
  simp only [hg, ht, lsg_real, ← EReal.coe_sub, sub_self, EReal.coe_zero, mul_zero, Finset.sum_const_zero, add_zero, ← EReal.coe_mul, sum_coe]

theorem tri0 (f : ℕ → ℝ) (n : ℕ) (s : Fin 128) : ∑ x, triR (r0 s) x * f (n + x.val) = cum f n s := by
  rw [show (∑ x, triR (r0 s) x * f (n + x.val)) = ∑ x : Fin (128 + 128), triR (r0 s) x * f (n + x.val) from rfl, Fin.sum_univ_add]
  rw [Finset.sum_eq_zero (s := Finset.univ) (f := fun x : Fin 128 => triR (r0 s) (Fin.natAdd 128 x) * f (n + (Fin.natAdd 128 x).val)), add_zero]
  · unfold cum
    rw [P_add, add_sub_cancel_left, ← sum_mask s fun j => f (n + j)]
    refine Finset.sum_congr rfl fun x _ => ?_
    have e : ((Fin.castAdd 128 x).val / 128 = (r0 s).val / 128 ∧ (Fin.castAdd 128 x).val ≤ (r0 s).val) ↔ x ≤ s := by
      show (x.val / 128 = s.val / 128 ∧ x.val ≤ s.val) ↔ x.val ≤ s.val
      omega
    unfold triR
    by_cases h : x ≤ s
    · rw [if_pos (e.2 h), if_pos h, one_mul]; rfl
    · rw [if_neg (fun z => h (e.1 z)), if_neg h, zero_mul]
  · intro x _
    unfold triR
    rw [if_neg (by show ¬ ((128 + x.val) / 128 = s.val / 128 ∧ _); omega), zero_mul]

theorem tri1 (f : ℕ → ℝ) (n : ℕ) (s : Fin 128) : ∑ x, triR (r1 s) x * f (n + x.val) = cum f (n + 128) s := by
  rw [show (∑ x, triR (r1 s) x * f (n + x.val)) = ∑ x : Fin (128 + 128), triR (r1 s) x * f (n + x.val) from rfl, Fin.sum_univ_add]
  rw [Finset.sum_eq_zero (s := Finset.univ) (f := fun x : Fin 128 => triR (r1 s) (Fin.castAdd 128 x) * f (n + (Fin.castAdd 128 x).val)), zero_add]
  · unfold cum
    rw [P_add f (n + 128), add_sub_cancel_left, ← sum_mask s fun j => f (n + 128 + j)]
    refine Finset.sum_congr rfl fun x _ => ?_
    have e : ((Fin.natAdd 128 x).val / 128 = (r1 s).val / 128 ∧ (Fin.natAdd 128 x).val ≤ (r1 s).val) ↔ x ≤ s := by
      show ((128 + x.val) / 128 = (128 + s.val) / 128 ∧ 128 + x.val ≤ 128 + s.val) ↔ x.val ≤ s.val
      omega
    unfold triR
    by_cases h : x ≤ s
    · rw [if_pos (e.2 h), if_pos h, one_mul]
      exact congrArg f (by show n + (128 + x.val) = n + 128 + x.val; omega)
    · rw [if_neg (fun z => h (e.1 z)), if_neg h, zero_mul]
  · intro x _
    unfold triR
    rw [if_neg (by show ¬ (x.val / 128 = (128 + s.val) / 128 ∧ _); omega), zero_mul]

/-- The gate lanes of a block at `n`: input gates in lanes 0 to 3, forget gates in lanes 4 to 7. -/
structure Lanes (a i : Fin 4 → ℕ → ℝ) (n : ℕ) (g : Vec Ideal S256x128 .f32) (t : Vec Ideal S256x256 .bf16) : Prop where
  gi : ∀ (h : Fin 4) (x : Fin 256), g (ix2 x ⟨h.val, by omega⟩) = (i h (n + x.val) : EReal)
  ga : ∀ (h : Fin 4) (x : Fin 256), g (ix2 x ⟨4 + h.val, by omega⟩) = (a h (n + x.val) : EReal)
  tr : ∀ r x, t (ix2 r x) = (triR r x : EReal)

variable {a i : Fin 4 → ℕ → ℝ} {n : ℕ}

theorem copy_word (g : Vec Ideal S256x128 .f32) (r : Fin 256) (c : Fin 128) : k0_pay11 g (ix2 r c) = g (ix2 r c) := by
  pointwise [k0_pay11]

theorem gates0 {g : Vec Ideal S256x128 .f32} {t : Vec Ideal S256x256 .bf16} (h : Lanes a i n g t) :
    GatesAt (fun h j => lsg (a h j)) i n r0 (k0_pay11 g) (k0_pay12 g t) (k0_pay13 g t) where
  gi e s := (copy_word g _ _).trans (h.gi e (r0 s))
  bc e s := (sums_at (h.ga e) h.tr (r0 s)).trans (congrArg _ (tri0 (fun j => lsg (a e j)) n s))
  br e s := (sumsT_word g t _ _).trans ((sums_at (h.ga e) h.tr (r0 s)).trans (congrArg _ (tri0 (fun j => lsg (a e j)) n s)))

theorem gates1 {g : Vec Ideal S256x128 .f32} {t : Vec Ideal S256x256 .bf16} (h : Lanes a i n g t) :
    GatesAt (fun h j => lsg (a h j)) i (n + 128) r1 (k0_pay11 g) (k0_pay12 g t) (k0_pay13 g t) where
  gi e s := (copy_word g _ _).trans ((h.gi e (r1 s)).trans (congrArg (fun z => ((i e z : ℝ) : EReal)) (by show n + (128 + s.val) = n + 128 + s.val; omega)))
  bc e s := (sums_at (h.ga e) h.tr (r1 s)).trans (congrArg _ (tri1 (fun j => lsg (a e j)) n s))
  br e s := (sumsT_word g t _ _).trans ((sums_at (h.ga e) h.tr (r1 s)).trans (congrArg _ (tri1 (fun j => lsg (a e j)) n s)))

/-! ## The activated convolution -/

/-- The convolved sequence after three rows of zeros. -/
def padX (X : ℕ → Fin 512 → ℝ) (m : ℕ) (c : Fin 512) : ℝ := if m < 3 then 0 else X (m - 3) c

/-- The convolution of four taps with its bias. -/
def cvR (X : ℕ → Fin 512 → ℝ) (w : Fin 4 → Fin 512 → ℝ) (b : Fin 512 → ℝ) (p : ℕ) (c : Fin 512) : ℝ :=
  b c + w 0 c * padX X p c + w 1 c * padX X (p + 1) c + w 2 c * padX X (p + 2) c + w 3 c * padX X (p + 3) c

/-- Its activation. -/
def acR (X : ℕ → Fin 512 → ℝ) (w : Fin 4 → Fin 512 → ℝ) (b : Fin 512 → ℝ) (p : ℕ) (c : Fin 512) : ℝ := cvR X w b p c * sg (cvR X w b p c)

theorem act_word (cb w0 w1 w2 w3 : Vec Ideal S1x512 .f32) (a0 a1 a2 a3 : Vec Ideal S256x512 .f32) (r : Fin 256) (c : Fin 512) :
    k0_pay10 (k0_pay7 cb w0 a0 w1 a1 w2 a2) a3 (k0_pay8 w3) (ix2 r c)
      = (cb (ix2 0 c) + w0 (ix2 0 c) * a0 (ix2 r c) + w1 (ix2 0 c) * a1 (ix2 r c) + w2 (ix2 0 c) * a2 (ix2 r c) + w3 (ix2 0 c) * a3 (ix2 r c))
        * Ideal.div 1 (1 + Ideal.exp (0 - (cb (ix2 0 c) + w0 (ix2 0 c) * a0 (ix2 r c) + w1 (ix2 0 c) * a1 (ix2 r c) + w2 (ix2 0 c) * a2 (ix2 r c) + w3 (ix2 0 c) * a3 (ix2 r c)))) := by
  pointwise [k0_pay10, k0_pay7, k0_pay8]

theorem act_at {X : ℕ → Fin 512 → ℝ} {w : Fin 4 → Fin 512 → ℝ} {b : Fin 512 → ℝ} {n : ℕ} {cb w0 w1 w2 w3 : Vec Ideal S1x512 .f32}
    {a0 a1 a2 a3 : Vec Ideal S256x512 .f32} (hb : ∀ c, cb (ix2 0 c) = (b c : EReal)) (h0 : ∀ c, w0 (ix2 0 c) = (w 0 c : EReal))
    (h1 : ∀ c, w1 (ix2 0 c) = (w 1 c : EReal)) (h2 : ∀ c, w2 (ix2 0 c) = (w 2 c : EReal)) (h3 : ∀ c, w3 (ix2 0 c) = (w 3 c : EReal))
    (k0 : ∀ (r : Fin 256) c, a0 (ix2 r c) = (padX X (n + r.val) c : EReal)) (k1 : ∀ (r : Fin 256) c, a1 (ix2 r c) = (padX X (n + r.val + 1) c : EReal))
    (k2 : ∀ (r : Fin 256) c, a2 (ix2 r c) = (padX X (n + r.val + 2) c : EReal)) (k3 : ∀ (r : Fin 256) c, a3 (ix2 r c) = (padX X (n + r.val + 3) c : EReal))
    (r : Fin 256) (c : Fin 512) : k0_pay10 (k0_pay7 cb w0 a0 w1 a1 w2 a2) a3 (k0_pay8 w3) (ix2 r c) = (acR X w b (n + r.val) c : EReal) := by
  rw [act_word]
  simp only [hb, h0, h1, h2, h3, k0, k1, k2, k3, ← EReal.coe_mul, ← EReal.coe_add, gate_real]
  rfl

/-- The query lanes. -/
def qR (u : ℕ → Fin 512 → ℝ) (p : ℕ) (x : Fin 256) : ℝ := u p ⟨x.val, by omega⟩

/-- The key lanes, scaled. -/
def kR (u : ℕ → Fin 512 → ℝ) (p : ℕ) (x : Fin 256) : ℝ := u p ⟨256 + x.val, by omega⟩ * (1 / 8)

theorem q_word (z : Vec Ideal S256x256 .f32) (x j : Fin 256) : k0_pay15 z (ix2 x j) = z (ix2 j x) := by
  pointwise [k0_pay14, k0_pay15]

theorem ql_word (z : Vec Ideal S256x256 .f32) (x j : Fin 256) : k0_pay16 z (ix2 x j) = z (ix2 j x) - z (ix2 j x) := by
  pointwise [k0_pay14, k0_pay15, k0_pay16]

theorem ql_zero {z : Vec Ideal S256x256 .f32} {u : Fin 256 → Fin 256 → ℝ} (h : ∀ j x, z (ix2 j x) = (u j x : EReal)) (x j : Fin 256) : k0_pay16 z (ix2 x j) = 0 := by
  rw [ql_word, h, ← EReal.coe_sub, sub_self, EReal.coe_zero]

theorem ka0_word (z : Vec Ideal S128x256 .f32) (s : Fin 128) (x : Fin 256) : k0_pay21 z (ix2 s x) = z (ix2 s x) * Ideal.ofBits FTy.f32 1040187392#32 := by
  pointwise [k0_pay21]

theorem kb0_word (z : Vec Ideal S128x256 .f32) (s : Fin 128) (x : Fin 256) : k0_pay22 z (ix2 s x) = z (ix2 s x) * Ideal.ofBits FTy.f32 1040187392#32 := by
  pointwise [k0_pay21, k0_pay22]

theorem ka1_word (z : Vec Ideal S128x256 .f32) (s : Fin 128) (x : Fin 256) : k0_pay101 z (ix2 s x) = z (ix2 s x) * Ideal.ofBits FTy.f32 1040187392#32 := by
  pointwise [k0_pay101]

theorem kb1_word (z : Vec Ideal S128x256 .f32) (s : Fin 128) (x : Fin 256) : k0_pay102 (k0_pay101 z) (ix2 s x) = z (ix2 s x) * Ideal.ofBits FTy.f32 1040187392#32 := by
  pointwise [k0_pay101, k0_pay102]

theorem eighth {z : EReal} {u : ℝ} (h : z = (u : EReal)) : z * Ideal.ofBits FTy.f32 1040187392#32 = ((u * (1 / 8) : ℝ) : EReal) := by
  rw [h, bits_eighth, ← EReal.coe_mul]

theorem vt_word (v : Vec Ideal S256x512 .bf16) (y : Fin 512) (s : Fin 256) : k0_pay18 v (ix2 y s) = v (ix2 s y) := by
  pointwise [k0_pay18]

theorem x_word (z : Vec Ideal S256x512 .f32) (r : Fin 256) (c : Fin 512) : k0_pay6 z (ix2 r c) = z (ix2 r c) := by
  pointwise [k0_pay6]

theorem tail_word (z : Vec Ideal S8x512 .f32) (r : Fin 8) (c : Fin 512) : k0_pay9 z (ix2 r c) = z (ix2 r c) := by
  pointwise [k0_pay9]

end Cert.Mlstm

end
-- ==== Proof.Point.lean ====
/- One block of 256 positions: if the carried buffers hold the recurrence's state before the block and the loaded blocks are the
   sequence's, the block's stores are the recurrence's outputs and the carried buffers hold its state after the block. -/
module

public import proofs.«01_k».proof.Proof.Base
public import proofs.«01_k».proof.Proof.Gen.KernelIdeal.Frame

@[expose] public section
set_option maxRecDepth 16384
noncomputable section
namespace Cert.Mlstm
open Idealize.ShloMosaic Idealize.ShloMosaic.TcCoe Idealize.SL.Sem
open Cert.KernelIdeal Cert.KernelIdeal.Gen

/-- The blocks loaded at the 256 positions from `n`. -/
structure Block (X : ℕ → Fin 512 → ℝ) (w : Fin 4 → Fin 512 → ℝ) (b : Fin 512 → ℝ) (v og : ℕ → Fin 512 → ℝ) (a i : Fin 4 → ℕ → ℝ) (n : ℕ)
    (x0 : Vec Ideal S256x512 .f32) (x1 : Vec Ideal S256x512 .bf16) (x2 : Vec Ideal S256x512 .f32) (x3 : Vec Ideal S256x128 .f32) (x4 : Vec Ideal S4x512 .f32) (x5 : Vec Ideal S1x512 .f32) (x6 : Vec Ideal S256x256 .bf16) (x7 : Vec Ideal S512x256 .f32) : Prop where
  x0 : ∀ (r : Fin 256) c, x0 (ix2 r c) = (X (n + r.val) c : EReal)
  x1 : ∀ (r : Fin 256) c, x1 (ix2 r c) = (v (n + r.val) c : EReal)
  x2 : ∀ (r : Fin 256) c, x2 (ix2 r c) = (og (n + r.val) c : EReal)
  l : Lanes a i n x3 x6
  x4 : ∀ (j : Fin 4) c, x4 (ix2 j c) = (w j c : EReal)
  x5 : ∀ c, x5 (ix2 0 c) = (b c : EReal)
  x7 : ∀ (y : Fin 512) (x : Fin 256), x7 (ix2 y x) = ((if y.val / 128 = x.val / 64 then 1 else 0 : ℝ) : EReal)

/-- The carried buffers hold the last rows of the sequence and the recurrence's state before `n`. -/
structure Carry (X : ℕ → Fin 512 → ℝ) (w : Fin 4 → Fin 512 → ℝ) (b : Fin 512 → ℝ) (v : ℕ → Fin 512 → ℝ) (a i : Fin 4 → ℕ → ℝ) (n : ℕ)
    (xs0 : Vec Ideal S264x512 .f32) (xs1 : Vec Ideal S512x256 .f32) (xs2 : Vec Ideal S1x256 .f32) (xs3 : Vec Ideal S8x128 .f32) : Prop where
  xx : ∀ (R : Fin 264) c, 5 ≤ R.val → R.val < 8 → xs0 (ix2 R c) = (padX X (n + R.val - 5) c : EReal)
  ct : ∀ y x, xs1 (ix2 y x) = (Cst (kR (acR X w b)) v (fun h j => lsg (a h j)) i n y x : EReal)
  nn : ∀ x, xs2 (ix2 0 x) = (Nst (kR (acR X w b)) (fun h j => lsg (a h j)) i n x : EReal)
  m : ∀ h : Fin 4, xs3 (ix2 0 ⟨h.val, by omega⟩) = (M (fun j => lsg (a h j)) (i h) n : EReal)

/-- The output in column `y` at position `j`. -/
def outB (X : ℕ → Fin 512 → ℝ) (w : Fin 4 → Fin 512 → ℝ) (b : Fin 512 → ℝ) (v og : ℕ → Fin 512 → ℝ) (a i : Fin 4 → ℕ → ℝ) (_r : Fin 256) (y : Fin 512) (j : ℕ) : ℝ :=
  outR (qR (acR X w b)) (kR (acR X w b)) v (fun h j => lsg (a h j)) i og ⟨y.val / 128, by omega⟩ y j

theorem outB_eq {X : ℕ → Fin 512 → ℝ} {w : Fin 4 → Fin 512 → ℝ} {b : Fin 512 → ℝ} {v og : ℕ → Fin 512 → ℝ} {a i : Fin 4 → ℕ → ℝ} {r : Fin 256} {y : Fin 512} {j j' : ℕ} {h : Fin 4}
    (hy : y.val / 128 = h.val) (hj : j = j') :
    (outR (qR (acR X w b)) (kR (acR X w b)) v (fun h j => lsg (a h j)) i og h y j : EReal) = (outB X w b v og a i r y j' : EReal) := by
  have e : (⟨y.val / 128, by omega⟩ : Fin 4) = h := Fin.ext hy
  unfold outB
  rw [hj, e]

theorem split4 (y : Fin 512) : (∃ d : Fin 128, y = ⟨d.val, by omega⟩) ∨ (∃ d : Fin 128, y = ⟨128 + d.val, by omega⟩) ∨ (∃ d : Fin 128, y = ⟨256 + d.val, by omega⟩)
    ∨ (∃ d : Fin 128, y = ⟨384 + d.val, by omega⟩) := by
  rcases (show y.val < 128 ∨ (128 ≤ y.val ∧ y.val < 256) ∨ (256 ≤ y.val ∧ y.val < 384) ∨ (384 ≤ y.val ∧ y.val < 512) by omega) with h | h | h | h
  · exact .inl ⟨⟨y.val, h⟩, rfl⟩
  · exact .inr (.inl ⟨⟨y.val - 128, by omega⟩, Fin.ext (by show y.val = 128 + (y.val - 128); omega)⟩)
  · exact .inr (.inr (.inl ⟨⟨y.val - 256, by omega⟩, Fin.ext (by show y.val = 256 + (y.val - 256); omega)⟩))
  · exact .inr (.inr (.inr ⟨⟨y.val - 384, by omega⟩, Fin.ext (by show y.val = 384 + (y.val - 384); omega)⟩))

theorem key_at {ka z : EReal} {u y : ℝ} (h : ka = (u : EReal)) (h' : z = (y : EReal)) : ka * z = ((u * y : ℝ) : EReal) := by
  rw [h, h', ← EReal.coe_mul]

theorem Cst_zero (k : ℕ → Fin 256 → ℝ) (v : ℕ → Fin 512 → ℝ) (f i : Fin 4 → ℕ → ℝ) (y : Fin 512) (x : Fin 256) : Cst k v f i 0 y x = 0 := by
  unfold Cst; rw [St_zero, ite_self]

theorem Nst_zero (k : ℕ → Fin 256 → ℝ) (f i : Fin 4 → ℕ → ℝ) (x : Fin 256) : Nst k f i 0 x = 0 := by
  unfold Nst; rw [St_zero]

theorem zero2 (y : Fin 512) (x : Fin 256) : (k0_pay2 : FVec Ideal S512x256 .f32) (ix2 y x) = 0 := by
  pointwise [k0_pay2]

theorem zero3 (x : Fin 256) : (k0_pay3 : FVec Ideal S1x256 .f32) (ix2 0 x) = 0 := by
  pointwise [k0_pay3]

theorem zero4 (r : Fin 8) (x : Fin 128) : (k0_pay4 : FVec Ideal S8x128 .f32) (ix2 r x) = 0 := by
  pointwise [k0_pay4]

theorem zero5 (r : Fin 8) (x : Fin 512) : (k0_pay5 : FVec Ideal S8x512 .f32) (ix2 r x) = 0 := by
  pointwise [k0_pay5]

/-- The extended sequence's rows after the block's own rows are stored. -/
theorem xx_read {X : ℕ → Fin 512 → ℝ} {n : ℕ} (vw : View sig .tc .vmem S264x512 .f32) (f : vw.ty.Contents (Elt Ideal)) (L : List (View.Piece (Elt Ideal) S264x512 .f32))
    (z : Vec Ideal S256x512 .f32) (hz : ∀ (r : Fin 256) c, z (ix2 r c) = (X (n + r.val) c : EReal))
    (hL : ∀ (R : Fin 264) (c : Fin 512), 5 ≤ R.val → R.val < 8 → vw.read (Elt Ideal) (vw.writes (Elt Ideal) f L) (ix2 R c) = (padX X (n + R.val - 5) c : EReal))
    (R : Fin 264) (c : Fin 512) (h : 5 ≤ R.val) :
    vw.read (Elt Ideal) (vw.writes (Elt Ideal) f (⟨Rect.unit ![8, 0] S256x512.size inb_S264x512_S256x512_8_0, k0_pay6 z⟩ :: L)) (ix2 R c) = (padX X (n + R.val - 5) c : EReal) := by
  rcases Nat.lt_or_ge R.val 8 with h8 | h8
  · exact (View.read_writes_cons_unit_of_not_mem _ _ _ _ _ _ rfl 0 (Or.inl h8)).trans (hL R c h h8)
  · refine (View.read_writes_cons_unit_of_mem _ _ _ _ _ _ (ix2 (⟨R.val - 8, by omega⟩ : Fin 256) c) rfl
      (fun a => by fin_cases a <;> first | (show R.val = 8 + (R.val - 8); omega) | exact (Nat.zero_add _).symm)).trans ((x_word _ _ _).trans ((hz _ c).trans ?_))
    refine congrArg (fun z : ℝ => (z : EReal)) ?_
    unfold padX
    rw [if_neg (by omega)]
    exact congrArg (fun z => X z c) (by show n + (R.val - 8) = _; omega)

set_option maxHeartbeats 4000000 in
theorem pointA {X : ℕ → Fin 512 → ℝ} {w : Fin 4 → Fin 512 → ℝ} {b : Fin 512 → ℝ} {v og : ℕ → Fin 512 → ℝ} {a e : Fin 4 → ℕ → ℝ}  (dv : Dev nD) (i : grid0.Coords) (arg2 : Memref sig .tc .vmem S256x512 .f32) (harg2 : arg2.IsWhole) (arg3 : Memref sig .tc .vmem S256x512 .bf16) (harg3 : arg3.IsWhole) (arg4 : Memref sig .tc .vmem S256x512 .f32) (harg4 : arg4.IsWhole) (arg5 : Memref sig .tc .vmem S256x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S256x512 .bf16) (harg10 : arg10.IsWhole) (arg11 : Memref sig .tc .vmem S264x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S8x128 .f32) (harg14 : arg14.IsWhole) (arg15 : Memref sig .tc .vmem S256x256 .bf16) (harg15 : arg15.IsWhole) (arg16 : Memref sig .tc .vmem S512x256 .bf16) (harg16 : arg16.IsWhole) (arg17 : Memref sig .tc .vmem S256x512 .f32) (harg17 : arg17.IsWhole) (hc0 : cond0_0 i)
    (x0 : Vec Ideal S256x512 .f32) (x1 : Vec Ideal S256x512 .bf16) (x2 : Vec Ideal S256x512 .f32) (x3 : Vec Ideal S256x128 .f32) (x4 : Vec Ideal S4x512 .f32) (x5 : Vec Ideal S1x512 .f32) (x6 : Vec Ideal S256x256 .bf16) (x7 : Vec Ideal S512x256 .f32)
    (hB : Block X w b v og a e 0 x0 x1 x2 x3 x4 x5 x6 x7)  :
    (∀ r y, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 r y) = (outB X w b v og a e r y (0 + r.val) : EReal))
    ∧ Carry X w b v a e (0 + 256) (sout0_A_0 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (sout0_A_1 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (sout0_A_2 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (sout0_A_3 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) := by
  have z0 : ∀ (R : Fin 264) (c : Fin 512), 5 ≤ R.val → R.val < 8 → arg11.view.read (Elt Ideal) (arg11.view.writes (Elt Ideal) arg11.view.junk [⟨Rect.unit ![0, 0] S8x512.size inb_S264x512_S8x512_0_0, (k0_pay5 : FVec Ideal S8x512 .f32)⟩]) (ix2 R c) = (padX X (0 + R.val - 5) c : EReal) := fun R c h1 h2 =>
    (by refine Eq.trans (View.read_writes_cons_unit_of_mem _ _ _ _ _ _ (ix2 ⟨R.val, h2⟩ c) rfl (fun a => by fin_cases a <;> first | rfl | exact (Nat.zero_add _).symm)) ?_; exact ((by refine Eq.trans (zero5 _ _) ?_; exact (by unfold padX; rw [if_pos (by omega), EReal.coe_zero]))))
  have k0 : ∀ (r : Fin 256) c, (kernelRun0_A.sl.v14 dv arg2 harg2 arg11 x0) (ix2 r c) = (padX X (0 + r.val + 0) c : EReal) := fun r c =>
    (cv_apply _ _ _ _ (ix2 ⟨5 + r.val, by omega⟩ c) (fun a => by fin_cases a <;> first | rfl | exact (Nat.zero_add _).symm)).trans
      ((xx_read _ _ _ _ (fun r c => (by refine Eq.trans (ld_apply harg2 x0 _ _ (ix2 r c) (fun a => by fin_cases a <;> first | rfl | exact (Nat.zero_add _).symm)) ?_; exact (hB.x0 r c))) z0 _ c (by show 5 ≤ 5 + r.val; omega)).trans
        (congrArg (fun z => ((padX X z c : ℝ) : EReal)) (by show 0 + (5 + r.val) - 5 = 0 + r.val + 0; omega)))
  have k1 : ∀ (r : Fin 256) c, (kernelRun0_A.sl.v19 dv arg2 harg2 arg11 x0) (ix2 r c) = (padX X (0 + r.val + 1) c : EReal) := fun r c =>
    (cv_apply _ _ _ _ (ix2 ⟨6 + r.val, by omega⟩ c) (fun a => by fin_cases a <;> first | rfl | exact (Nat.zero_add _).symm)).trans
      ((xx_read _ _ _ _ (fun r c => (by refine Eq.trans (ld_apply harg2 x0 _ _ (ix2 r c) (fun a => by fin_cases a <;> first | rfl | exact (Nat.zero_add _).symm)) ?_; exact (hB.x0 r c))) z0 _ c (by show 5 ≤ 6 + r.val; omega)).trans
        (congrArg (fun z => ((padX X z c : ℝ) : EReal)) (by show 0 + (6 + r.val) - 5 = 0 + r.val + 1; omega)))
  have k2 : ∀ (r : Fin 256) c, (kernelRun0_A.sl.v24 dv arg2 harg2 arg11 x0) (ix2 r c) = (padX X (0 + r.val + 2) c : EReal) := fun r c =>
    (cv_apply _ _ _ _ (ix2 ⟨7 + r.val, by omega⟩ c) (fun a => by fin_cases a <;> first | rfl | exact (Nat.zero_add _).symm)).trans
      ((xx_read _ _ _ _ (fun r c => (by refine Eq.trans (ld_apply harg2 x0 _ _ (ix2 r c) (fun a => by fin_cases a <;> first | rfl | exact (Nat.zero_add _).symm)) ?_; exact (hB.x0 r c))) z0 _ c (by show 5 ≤ 7 + r.val; omega)).trans
        (congrArg (fun z => ((padX X z c : ℝ) : EReal)) (by show 0 + (7 + r.val) - 5 = 0 + r.val + 2; omega)))
  have k3 : ∀ (r : Fin 256) c, (kernelRun0_A.sl.v29 dv arg2 harg2 arg11 x0) (ix2 r c) = (padX X (0 + r.val + 3) c : EReal) := fun r c =>
    (cv_apply _ _ _ _ (ix2 ⟨8 + r.val, by omega⟩ c) (fun a => by fin_cases a <;> first | rfl | exact (Nat.zero_add _).symm)).trans
      ((by refine Eq.trans (View.read_writes_cons_unit_of_mem _ _ _ _ _ _ (ix2 r c) rfl (fun a => by fin_cases a <;> first | rfl | exact (Nat.zero_add _).symm)) ?_; exact ((by refine Eq.trans (x_word _ r c) ?_; exact ((by refine Eq.trans (ld_apply harg2 x0 _ _ (ix2 r c) (fun a => by fin_cases a <;> first | rfl | exact (Nat.zero_add _).symm)) ?_; exact ((hB.x0 r c).trans
        (congrArg (fun z : ℝ => (z : EReal)) (by unfold padX; rw [if_neg (by omega)]; exact congrArg (fun z => X z c) (by omega))))))))))
  have e0 : ∀ c : Fin 512, (View.readAt (Elt Ideal) arg6.view (Rect.unit (s := S4x512) ![0, 0] S1x512.size inb_S4x512_S1x512_0_0).toLoadRect (harg6.unread x4)) (ix2 0 c) = (w 0 c : EReal) := fun c => (by refine Eq.trans (ld_apply harg6 x4 _ _ (ix2 0 c) (fun a => by fin_cases a <;> first | rfl | exact (Nat.zero_add _).symm)) ?_; exact (hB.x4 0 c))
  have e1 : ∀ c : Fin 512, (View.readAt (Elt Ideal) arg6.view (Rect.unit (s := S4x512) ![1, 0] S1x512.size inb_S4x512_S1x512_1_0).toLoadRect (harg6.unread x4)) (ix2 0 c) = (w 1 c : EReal) := fun c => (by refine Eq.trans (ld_apply harg6 x4 _ _ (ix2 1 c) (fun a => by fin_cases a <;> first | rfl | exact (Nat.zero_add _).symm)) ?_; exact (hB.x4 1 c))
  have e2 : ∀ c : Fin 512, (View.readAt (Elt Ideal) arg6.view (Rect.unit (s := S4x512) ![2, 0] S1x512.size inb_S4x512_S1x512_2_0).toLoadRect (harg6.unread x4)) (ix2 0 c) = (w 2 c : EReal) := fun c => (by refine Eq.trans (ld_apply harg6 x4 _ _ (ix2 2 c) (fun a => by fin_cases a <;> first | rfl | exact (Nat.zero_add _).symm)) ?_; exact (hB.x4 2 c))
  have e3 : ∀ c : Fin 512, (View.readAt (Elt Ideal) arg6.view (Rect.unit (s := S4x512) ![3, 0] S1x512.size inb_S4x512_S1x512_3_0).toLoadRect (harg6.unread x4)) (ix2 0 c) = (w 3 c : EReal) := fun c => (by refine Eq.trans (ld_apply harg6 x4 _ _ (ix2 3 c) (fun a => by fin_cases a <;> first | rfl | exact (Nat.zero_add _).symm)) ?_; exact (hB.x4 3 c))
  have e5 : ∀ c : Fin 512, (View.readAt (Elt Ideal) arg7.view (Rect.unit (s := S1x512) ![0, 0] S1x512.size inb_S1x512_S1x512_0_0).toLoadRect (harg7.unread x5)) (ix2 0 c) = (b c : EReal) := fun c => (by refine Eq.trans (ld_apply harg7 x5 _ _ (ix2 0 c) (fun a => by fin_cases a <;> first | rfl | exact (Nat.zero_add _).symm)) ?_; exact (hB.x5 c))
  have hA : ∀ (r : Fin 256) c, k0_pay10 (kernelRun0_A.sl.r dv arg2 harg2 arg6 harg6 arg7 harg7 arg11 x0 x4 x5) (kernelRun0_A.sl.v29 dv arg2 harg2 arg11 x0) (kernelRun0_A.sl.r_1 dv arg6 harg6 x4) (ix2 r c) = (acR X w b (0 + r.val) c : EReal) := by
    unfold kernelRun0_A.sl.r kernelRun0_A.sl.r_1
    exact act_at e5 e0 e1 e2 e3 k0 k1 k2 k3
  have h70 : ∀ j x, (kernelRun0_A.sl.v70 dv arg2 harg2 arg6 harg6 arg7 harg7 arg11 arg17 x0 x4 x5) (ix2 j x) = (qR (acR X w b) (0 + j.val) x : EReal) := fun j x =>
    (by refine Eq.trans (cv_apply _ _ _ _ (ix2 j ⟨x.val, by omega⟩) (fun a => by fin_cases a <;> first | rfl | exact (Nat.zero_add _).symm)) ?_; exact ((by refine Eq.trans (View.read_writes_cons_unit_of_mem _ _ _ _ _ _ (ix2 j ⟨x.val, by omega⟩) rfl (fun a => by fin_cases a <;> first | rfl | exact (Nat.zero_add _).symm)) ?_; exact (hA j _))))
  have hK0 : ∀ (s : Fin 128) (x : Fin 256), (kernelRun0_A.sl.v105 dv arg2 harg2 arg6 harg6 arg7 harg7 arg11 arg17 x0 x4 x5) (ix2 s x) = (acR X w b (0 + s.val) ⟨256 + x.val, by omega⟩ : EReal) := fun s x =>
    (by refine Eq.trans (cv_apply _ _ _ _ (ix2 (r0 s) ⟨256 + x.val, by omega⟩) (fun a => by fin_cases a <;> first | rfl | exact (Nat.zero_add _).symm)) ?_; exact ((by refine Eq.trans (View.read_writes_cons_unit_of_mem _ _ _ _ _ _ (ix2 (r0 s) ⟨256 + x.val, by omega⟩) rfl (fun a => by fin_cases a <;> first | rfl | exact (Nat.zero_add _).symm)) ?_; exact (hA (r0 s) _))))
  have hK1 : ∀ (s : Fin 128) (x : Fin 256), (kernelRun0_A.sl.v556 dv arg2 harg2 arg6 harg6 arg7 harg7 arg11 arg17 x0 x4 x5) (ix2 s x) = (acR X w b (0 + 128 + s.val) ⟨256 + x.val, by omega⟩ : EReal) := fun s x =>
    (by refine Eq.trans (cv_apply _ _ _ _ (ix2 (r1 s) ⟨256 + x.val, by omega⟩) (fun a => by fin_cases a <;> first | rfl | exact (Nat.zero_add _).symm)) ?_; exact ((by refine Eq.trans (View.read_writes_cons_unit_of_mem _ _ _ _ _ _ (ix2 (r1 s) ⟨256 + x.val, by omega⟩) rfl (fun a => by fin_cases a <;> first | rfl | exact (Nat.zero_add _).symm)) ?_; exact ((hA (r1 s) _).trans
      (congrArg (fun z => ((acR X w b z ⟨256 + x.val, by omega⟩ : ℝ) : EReal)) (by show 0 + (128 + s.val) = 0 + 128 + s.val; omega))))))
  have q0 : ∀ (t : Fin 128) x, (kernelRun0_A.sl.r_5 dv arg2 harg2 arg6 harg6 arg7 harg7 arg11 arg17 x0 x4 x5) (ix2 x (r0 t)) = (qR (acR X w b) (0 + t.val) x : EReal) := fun t x => (by refine Eq.trans (q_word _ x _) ?_; exact (h70 (r0 t) x))
  have q1 : ∀ (t : Fin 128) x, (kernelRun0_A.sl.r_5 dv arg2 harg2 arg6 harg6 arg7 harg7 arg11 arg17 x0 x4 x5) (ix2 x (r1 t)) = (qR (acR X w b) (0 + 128 + t.val) x : EReal) := fun t x => (by refine Eq.trans (q_word _ x _) ?_; exact ((h70 (r1 t) x).trans
      (congrArg (fun z => ((qR (acR X w b) z x : ℝ) : EReal)) (by show 0 + (128 + t.val) = 0 + 128 + t.val; omega))))
  have l0 : ∀ (t : Fin 128) x, (kernelRun0_A.sl.r_6 dv arg2 harg2 arg6 harg6 arg7 harg7 arg11 arg17 x0 x4 x5) (ix2 x (r0 t)) = 0 := fun t x => ql_zero h70 x _
  have l1 : ∀ (t : Fin 128) x, (kernelRun0_A.sl.r_6 dv arg2 harg2 arg6 harg6 arg7 harg7 arg11 arg17 x0 x4 x5) (ix2 x (r1 t)) = 0 := fun t x => ql_zero h70 x _
  have ka0 : ∀ s x, k0_pay21 (kernelRun0_A.sl.v105 dv arg2 harg2 arg6 harg6 arg7 harg7 arg11 arg17 x0 x4 x5) (ix2 s x) = (kR (acR X w b) (0 + s.val) x : EReal) := fun s x => (by refine Eq.trans (ka0_word _ s x) ?_; exact (eighth (hK0 s x)))
  have kb0 : ∀ s x, k0_pay22 (kernelRun0_A.sl.v105 dv arg2 harg2 arg6 harg6 arg7 harg7 arg11 arg17 x0 x4 x5) (ix2 s x) = (kR (acR X w b) (0 + s.val) x : EReal) := fun s x => (by refine Eq.trans (kb0_word _ s x) ?_; exact (eighth (hK0 s x)))
  have ka1 : ∀ s x, k0_pay101 (kernelRun0_A.sl.v556 dv arg2 harg2 arg6 harg6 arg7 harg7 arg11 arg17 x0 x4 x5) (ix2 s x) = (kR (acR X w b) (0 + 128 + s.val) x : EReal) := fun s x => (by refine Eq.trans (ka1_word _ s x) ?_; exact (eighth (hK1 s x)))
  have kb1 : ∀ s x, k0_pay102 (k0_pay101 (kernelRun0_A.sl.v556 dv arg2 harg2 arg6 harg6 arg7 harg7 arg11 arg17 x0 x4 x5)) (ix2 s x) = (kR (acR X w b) (0 + 128 + s.val) x : EReal) := fun s x => (by refine Eq.trans (kb1_word _ s x) ?_; exact (eighth (hK1 s x)))
  have ht : ∀ y (s : Fin 256), k0_pay18 (View.readAt (Elt Ideal) arg3.view (Rect.unit ![0, 0] S256x512.size inb_S256x512_S256x512_0_0).toLoadRect (harg3.unread x1)) (ix2 y s) = (v (0 + s.val) y : EReal) := fun y s =>
    (by refine Eq.trans (vt_word _ y s) ?_; exact ((by refine Eq.trans (ld_apply harg3 x1 _ _ (ix2 s y) (fun a => by fin_cases a <;> first | rfl | exact (Nat.zero_add _).symm)) ?_; exact (hB.x1 s y))))
  have hV : ∀ y (s : Fin 256), (kernelRun0_A.sl.v522 dv arg3 harg3 arg16 x1) (ix2 y s) = (v (0 + s.val) y : EReal) := fun y s =>
    (by refine Eq.trans (cv_apply _ _ _ _ (ix2 y s) (fun a => by fin_cases a <;> first | rfl | exact (Nat.zero_add _).symm)) ?_; exact ((by refine Eq.trans (View.read_writes_cons_unit_of_mem _ _ _ _ _ _ (ix2 y s) rfl (fun a => by fin_cases a <;> first | rfl | exact (Nat.zero_add _).symm)) ?_; exact (ht y s))))
  have hV1 : ∀ y (s : Fin 128), (kernelRun0_A.sl.v522 dv arg3 harg3 arg16 x1) (ix2 y (r1 s)) = (v (0 + 128 + s.val) y : EReal) := fun y s => (hV y (r1 s)).trans
      (congrArg (fun z => ((v z y : ℝ) : EReal)) (by show 0 + (128 + s.val) = 0 + 128 + s.val; omega))
  have hL : Lanes a e 0 (View.readAt (Elt Ideal) arg5.view (Rect.unit ![0, 0] S256x128.size inb_S256x128_S256x128_0_0).toLoadRect (harg5.unread x3)) (View.readAt (Elt Ideal) arg8.view (Rect.unit ![0, 0] S256x256.size inb_S256x256_S256x256_0_0).toLoadRect (harg8.unread x6)) :=
    ⟨fun h x => (by refine Eq.trans (ld_apply harg5 x3 _ _ (ix2 x ⟨h.val, by omega⟩) (fun a => by fin_cases a <;> first | rfl | exact (Nat.zero_add _).symm)) ?_; exact (hB.l.gi h x)), fun h x => (by refine Eq.trans (ld_apply harg5 x3 _ _ (ix2 x ⟨4 + h.val, by omega⟩) (fun a => by fin_cases a <;> first | rfl | exact (Nat.zero_add _).symm)) ?_; exact (hB.l.ga h x)),
      fun r x => (by refine Eq.trans (ld_apply harg8 x6 _ _ (ix2 r x) (fun a => by fin_cases a <;> first | rfl | exact (Nat.zero_add _).symm)) ?_; exact (hB.l.tr r x))⟩
  have g0 : GatesAt (fun h j => lsg (a h j)) e 0 r0 (kernelRun0_A.sl.r_2 dv arg5 harg5 x3) (kernelRun0_A.sl.r_3 dv arg5 harg5 arg8 harg8 x3 x6) (kernelRun0_A.sl.r_4 dv arg5 harg5 arg8 harg8 x3 x6) := gates0 hL
  have g1 : GatesAt (fun h j => lsg (a h j)) e (0 + 128) r1 (kernelRun0_A.sl.r_2 dv arg5 harg5 x3) (kernelRun0_A.sl.r_3 dv arg5 harg5 arg8 harg8 x3 x6) (kernelRun0_A.sl.r_4 dv arg5 harg5 arg8 harg8 x3 x6) := gates1 hL
  have hbd : ∀ (y : Fin 512) (x : Fin 256), (View.readAt (Elt Ideal) arg9.view (Rect.unit ![0, 0] S512x256.size inb_S512x256_S512x256_0_0).toLoadRect (harg9.unread x7)) (ix2 y x) = ((if y.val / 128 = x.val / 64 then 1 else 0 : ℝ) : EReal) := fun y x =>
    (by refine Eq.trans (ld_apply harg9 x7 _ _ (ix2 y x) (fun a => by fin_cases a <;> first | rfl | exact (Nat.zero_add _).symm)) ?_; exact (hB.x7 y x))
  have m0 : StabAt (fun h j => lsg (a h j)) e 0 (kernelRun0_A.sl.v159 (F := Ideal) dv arg14) (kernelRun0_A.sl.v248 (F := Ideal) dv arg5 harg5 arg8 harg8 arg14 x3 x6) (kernelRun0_A.sl.v337 (F := Ideal) dv arg5 harg5 arg8 harg8 arg14 x3 x6) (kernelRun0_A.sl.v426 (F := Ideal) dv arg5 harg5 arg8 harg8 arg14 x3 x6) :=
    ⟨(by refine Eq.trans (cv_apply _ _ _ _ (ix2 0 0) (fun a => by fin_cases a <;> first | rfl | exact (Nat.zero_add _).symm)) ?_; exact ((by refine Eq.trans (View.read_writes_cons_unit_of_mem _ _ _ _ _ _ (ix2 0 0) rfl (fun a => by fin_cases a <;> first | rfl | exact (Nat.zero_add _).symm)) ?_; exact ((zero4 0 0).trans EReal.coe_zero.symm)))),
      (by refine Eq.trans (cv_apply _ _ _ _ (ix2 0 1) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_mem _ _ _ _ _ _ (ix2 0 1) rfl (fun a => by fin_cases a <;> first | rfl | exact (Nat.zero_add _).symm)) ?_; exact ((zero4 0 1).trans EReal.coe_zero.symm)))))),
      (by refine Eq.trans (cv_apply _ _ _ _ (ix2 0 2) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_mem _ _ _ _ _ _ (ix2 0 2) rfl (fun a => by fin_cases a <;> first | rfl | exact (Nat.zero_add _).symm)) ?_; exact ((zero4 0 2).trans EReal.coe_zero.symm)))))))),
      (by refine Eq.trans (cv_apply _ _ _ _ (ix2 0 3) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_mem _ _ _ _ _ _ (ix2 0 3) rfl (fun a => by fin_cases a <;> first | rfl | exact (Nat.zero_add _).symm)) ?_; exact ((zero4 0 3).trans EReal.coe_zero.symm))))))))))⟩
  have c0 : ∀ (y : Fin 512) (x : Fin 256), (kernelRun0_A.sl.v109 (F := Ideal) dv arg12) (ix2 y x) = (Cst (kR (acR X w b)) v (fun h j => lsg (a h j)) e 0 y x : EReal) := fun y x => (by refine Eq.trans (cv_apply _ _ _ _ (ix2 y x) (fun a => by fin_cases a <;> first | rfl | exact (Nat.zero_add _).symm)) ?_; exact ((by refine Eq.trans (View.read_writes_cons_unit_of_mem _ _ _ _ _ _ (ix2 y x) rfl (fun a => by fin_cases a <;> first | rfl | exact (Nat.zero_add _).symm)) ?_; exact ((by refine Eq.trans (zero2 y x) ?_; exact (by rw [Cst_zero, EReal.coe_zero]))))))
  have n0 : ∀ x : Fin 256, (kernelRun0_A.sl.v111 (F := Ideal) dv arg13) (ix2 0 x) = (Nst (kR (acR X w b)) (fun h j => lsg (a h j)) e 0 x : EReal) := fun x => (by refine Eq.trans (cv_apply _ _ _ _ (ix2 0 x) (fun a => by fin_cases a <;> first | rfl | exact (Nat.zero_add _).symm)) ?_; exact ((by refine Eq.trans (View.read_writes_cons_unit_of_mem _ _ _ _ _ _ (ix2 0 x) rfl (fun a => by fin_cases a <;> first | rfl | exact (Nat.zero_add _).symm)) ?_; exact ((by refine Eq.trans (zero3 x) ?_; exact (by rw [Nst_zero, EReal.coe_zero]))))))
  have m1 : StabAt (fun h j => lsg (a h j)) e (0 + 128) (kernelRun0_A.sl.v610 dv arg5 harg5 arg8 harg8 arg14 x3 x6) (kernelRun0_A.sl.v699 dv arg5 harg5 arg8 harg8 arg14 x3 x6) (kernelRun0_A.sl.v788 dv arg5 harg5 arg8 harg8 arg14 x3 x6) (kernelRun0_A.sl.v877 dv arg5 harg5 arg8 harg8 arg14 x3 x6) :=
    ⟨(by refine Eq.trans (cv_apply _ _ _ _ (ix2 0 0) (fun a => by fin_cases a <;> first | rfl | exact (Nat.zero_add _).symm)) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab00 _ _ _ _) ?_; exact (mW_at (g0.gi 0) (g0.bc 0) (g0.br 0) m0.h0)))))))))))),
      (by refine Eq.trans (cv_apply _ _ _ _ (ix2 0 1) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab01 _ _ _ _) ?_; exact (mW_at (g0.gi 1) (g0.bc 1) (g0.br 1) m0.h1)))))))))))),
      (by refine Eq.trans (cv_apply _ _ _ _ (ix2 0 2) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab02 _ _ _ _) ?_; exact (mW_at (g0.gi 2) (g0.bc 2) (g0.br 2) m0.h2)))))))))))),
      (by refine Eq.trans (cv_apply _ _ _ _ (ix2 0 3) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_mem _ _ _ _ _ _ (ix2 0 0) rfl (fun a => by fin_cases a <;> first | rfl | exact (Nat.zero_add _).symm)) ?_; exact ((by refine Eq.trans (stab03 _ _ _ _) ?_; exact (mW_at (g0.gi 3) (g0.bc 3) (g0.br 3) m0.h3))))))))))))⟩
  have w0 : ∀ s x, (kernelRun0_A.sl.v529 dv arg2 harg2 arg5 harg5 arg6 harg6 arg7 harg7 arg8 harg8 arg11 arg14 arg15 arg17 x0 x3 x4 x5 x6) (ix2 (r0 s) x) = ((kR (acR X w b) (0 + s.val) x * wR (fun h j => lsg (a h j)) e 0 s x : ℝ) : EReal) := fun s x =>
    (by refine Eq.trans (cv_apply _ _ _ _ (ix2 (r0 s) x) (fun a => by fin_cases a <;> first | rfl | exact (Nat.zero_add _).symm)) ?_; exact ((by refine Eq.trans (View.read_writes_cons_unit_of_mem _ _ _ _ _ _ (ix2 s x) rfl (fun a => by fin_cases a <;> first | rfl | exact (Nat.zero_add _).symm)) ?_; exact ((by refine Eq.trans (key0 _ _ _ _ _ _ _ _ s x) ?_; exact (key_at (ka0 s x) (wkR_at g0 m0 s x)))))))
  have n1 : ∀ x, (kernelRun0_A.sl.v562 dv arg2 harg2 arg5 harg5 arg6 harg6 arg7 harg7 arg8 harg8 arg11 arg13 arg14 arg17 x0 x3 x4 x5 x6) (ix2 0 x) = (Nst (kR (acR X w b)) (fun h j => lsg (a h j)) e (0 + 128) x : EReal) := fun x => (by refine Eq.trans (cv_apply _ _ _ _ (ix2 0 x) (fun a => by fin_cases a <;> first | rfl | exact (Nat.zero_add _).symm)) ?_; exact ((by refine Eq.trans (View.read_writes_cons_unit_of_mem _ _ _ _ _ _ (ix2 0 x) rfl (fun a => by fin_cases a <;> first | rfl | exact (Nat.zero_add _).symm)) ?_; exact ((by refine Eq.trans (norm0 _ _ _ _ _ _ _ _ _ x) ?_; exact (norm_at g0 m0 ka0 n0 x))))))
  have c1 : ∀ y x, (kernelRun0_A.sl.v560 dv arg2 harg2 arg3 harg3 arg5 harg5 arg6 harg6 arg7 harg7 arg8 harg8 arg9 harg9 arg11 arg12 arg14 arg15 arg16 arg17 x0 x1 x3 x4 x5 x6 x7) (ix2 y x) = (Cst (kR (acR X w b)) v (fun h j => lsg (a h j)) e (0 + 128) y x : EReal) := fun y x => (by refine Eq.trans (cv_apply _ _ _ _ (ix2 y x) (fun a => by fin_cases a <;> first | rfl | exact (Nat.zero_add _).symm)) ?_; exact ((by refine Eq.trans (View.read_writes_cons_unit_of_mem _ _ _ _ _ _ (ix2 y x) rfl (fun a => by fin_cases a <;> first | rfl | exact (Nat.zero_add _).symm)) ?_; exact ((mat0 _ _ _ _ _ _ _ _ _ _ _ y x).trans
      ((by refine Eq.trans (congrArg (fun z => _ + z * _) (keep0_sum _)) ?_; exact (mat_at g0 m0 c0 (fun y s => hV y (r0 s)) w0 hbd y x)))))))
  have w1 : ∀ s x, (kernelRun0_A.sl.v980 dv arg2 harg2 arg5 harg5 arg6 harg6 arg7 harg7 arg8 harg8 arg11 arg14 arg15 arg17 x0 x3 x4 x5 x6) (ix2 (r1 s) x) = ((kR (acR X w b) (0 + 128 + s.val) x * wR (fun h j => lsg (a h j)) e (0 + 128) s x : ℝ) : EReal) := fun s x =>
    (by refine Eq.trans (cv_apply _ _ _ _ (ix2 (r1 s) x) (fun a => by fin_cases a <;> first | rfl | exact (Nat.zero_add _).symm)) ?_; exact ((by refine Eq.trans (View.read_writes_cons_unit_of_mem _ _ _ _ _ _ (ix2 s x) rfl (fun a => by fin_cases a <;> first | rfl | exact (Nat.zero_add _).symm)) ?_; exact ((by refine Eq.trans (key1 _ _ _ _ _ _ _ _ s x) ?_; exact (key_at (ka1 s x) (wkR_at g1 m1 s x)))))))
  have o13 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r1 t) ⟨384 + d.val, by omega⟩) = (outR (qR (acR X w b)) (kR (acR X w b)) v (fun h j => lsg (a h j)) e og 3 ⟨384 + d.val, by omega⟩ (0 + 128 + t.val) : EReal) := fun t d =>
    (by refine Eq.trans (View.read_writes_cons_unit_of_mem _ _ _ _ _ _ (ix2 t d) rfl (fun a => by fin_cases a <;> first | rfl | exact (Nat.zero_add _).symm)) ?_; exact ((out13 _ _ _ _ _ _ _ _ _ _ _ t d).trans
      (head_at 3 g1 m1.h3 ⟨384 + d.val, by omega⟩ t (by show (384 + d.val) / 128 = 3; omega) (pad3_eq _ _) q1 l1 kb1 c1 n1
        (fun s => (by refine Eq.trans (cv_apply _ _ _ _ (ix2 ⟨384 + d.val, by omega⟩ (r1 s)) (fun a => by fin_cases a <;> first | rfl | exact (Nat.zero_add _).symm)) ?_; exact ((by refine Eq.trans (View.read_writes_cons_unit_of_mem _ _ _ _ _ _ (ix2 ⟨384 + d.val, by omega⟩ (r1 s)) rfl (fun a => by fin_cases a <;> first | rfl | exact (Nat.zero_add _).symm)) ?_; exact ((by refine Eq.trans (ht _ (r1 s)) ?_; exact (congrArg (fun z => ((v z ⟨384 + d.val, by omega⟩ : ℝ) : EReal)) (by show 0 + (r1 s).val = 0 + 128 + s.val; first | rfl | (simp only [r0, r1]; omega)))))))))
        ((by refine Eq.trans (ld_apply harg4 x2 _ _ (ix2 (r1 t) ⟨384 + d.val, by omega⟩) (fun a => by fin_cases a <;> first | rfl | exact (Nat.zero_add _).symm)) ?_; exact ((by refine Eq.trans (hB.x2 (r1 t) _) ?_; exact (congrArg (fun z => ((og z ⟨384 + d.val, by omega⟩ : ℝ) : EReal)) (by show 0 + (r1 t).val = 0 + 128 + t.val; first | rfl | (simp only [r0, r1]; omega))))))))))
  have o12 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r1 t) ⟨256 + d.val, by omega⟩) = (outR (qR (acR X w b)) (kR (acR X w b)) v (fun h j => lsg (a h j)) e og 2 ⟨256 + d.val, by omega⟩ (0 + 128 + t.val) : EReal) := fun t d =>
    (by refine Eq.trans (View.read_writes_cons_unit_of_not_mem _ _ _ _ _ _ rfl 1 (Or.inl (by show 256 + d.val < 384; omega))) ?_; exact ((by refine Eq.trans (View.read_writes_cons_unit_of_mem _ _ _ _ _ _ (ix2 t d) rfl (fun a => by fin_cases a <;> first | rfl | exact (Nat.zero_add _).symm)) ?_; exact ((out12 _ _ _ _ _ _ _ _ _ _ _ t d).trans
      (head_at 2 g1 m1.h2 ⟨256 + d.val, by omega⟩ t (by show (256 + d.val) / 128 = 2; omega) (pad2_eq _ _) q1 l1 kb1 c1 n1
        (fun s => (by refine Eq.trans (cv_apply _ _ _ _ (ix2 ⟨256 + d.val, by omega⟩ (r1 s)) (fun a => by fin_cases a <;> first | rfl | exact (Nat.zero_add _).symm)) ?_; exact ((by refine Eq.trans (View.read_writes_cons_unit_of_mem _ _ _ _ _ _ (ix2 ⟨256 + d.val, by omega⟩ (r1 s)) rfl (fun a => by fin_cases a <;> first | rfl | exact (Nat.zero_add _).symm)) ?_; exact ((by refine Eq.trans (ht _ (r1 s)) ?_; exact (congrArg (fun z => ((v z ⟨256 + d.val, by omega⟩ : ℝ) : EReal)) (by show 0 + (r1 s).val = 0 + 128 + s.val; first | rfl | (simp only [r0, r1]; omega)))))))))
        ((by refine Eq.trans (ld_apply harg4 x2 _ _ (ix2 (r1 t) ⟨256 + d.val, by omega⟩) (fun a => by fin_cases a <;> first | rfl | exact (Nat.zero_add _).symm)) ?_; exact ((by refine Eq.trans (hB.x2 (r1 t) _) ?_; exact (congrArg (fun z => ((og z ⟨256 + d.val, by omega⟩ : ℝ) : EReal)) (by show 0 + (r1 t).val = 0 + 128 + t.val; first | rfl | (simp only [r0, r1]; omega))))))))))))
  have o11 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r1 t) ⟨128 + d.val, by omega⟩) = (outR (qR (acR X w b)) (kR (acR X w b)) v (fun h j => lsg (a h j)) e og 1 ⟨128 + d.val, by omega⟩ (0 + 128 + t.val) : EReal) := fun t d =>
    (by refine Eq.trans (View.read_writes_cons_unit_of_not_mem _ _ _ _ _ _ rfl 1 (Or.inl (by show 128 + d.val < 384; omega))) ?_; exact ((by refine Eq.trans (View.read_writes_cons_unit_of_not_mem _ _ _ _ _ _ rfl 1 (Or.inl (by show 128 + d.val < 256; omega))) ?_; exact ((by refine Eq.trans (View.read_writes_cons_unit_of_mem _ _ _ _ _ _ (ix2 t d) rfl (fun a => by fin_cases a <;> first | rfl | exact (Nat.zero_add _).symm)) ?_; exact ((out11 _ _ _ _ _ _ _ _ _ _ _ t d).trans
      (head_at 1 g1 m1.h1 ⟨128 + d.val, by omega⟩ t (by show (128 + d.val) / 128 = 1; omega) (pad1_eq _ _) q1 l1 kb1 c1 n1
        (fun s => (by refine Eq.trans (cv_apply _ _ _ _ (ix2 ⟨128 + d.val, by omega⟩ (r1 s)) (fun a => by fin_cases a <;> first | rfl | exact (Nat.zero_add _).symm)) ?_; exact ((by refine Eq.trans (View.read_writes_cons_unit_of_mem _ _ _ _ _ _ (ix2 ⟨128 + d.val, by omega⟩ (r1 s)) rfl (fun a => by fin_cases a <;> first | rfl | exact (Nat.zero_add _).symm)) ?_; exact ((by refine Eq.trans (ht _ (r1 s)) ?_; exact (congrArg (fun z => ((v z ⟨128 + d.val, by omega⟩ : ℝ) : EReal)) (by show 0 + (r1 s).val = 0 + 128 + s.val; first | rfl | (simp only [r0, r1]; omega)))))))))
        ((by refine Eq.trans (ld_apply harg4 x2 _ _ (ix2 (r1 t) ⟨128 + d.val, by omega⟩) (fun a => by fin_cases a <;> first | rfl | exact (Nat.zero_add _).symm)) ?_; exact ((by refine Eq.trans (hB.x2 (r1 t) _) ?_; exact (congrArg (fun z => ((og z ⟨128 + d.val, by omega⟩ : ℝ) : EReal)) (by show 0 + (r1 t).val = 0 + 128 + t.val; first | rfl | (simp only [r0, r1]; omega))))))))))))))
  have o10 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r1 t) ⟨d.val, by omega⟩) = (outR (qR (acR X w b)) (kR (acR X w b)) v (fun h j => lsg (a h j)) e og 0 ⟨d.val, by omega⟩ (0 + 128 + t.val) : EReal) := fun t d =>
    (by refine Eq.trans (View.read_writes_cons_unit_of_not_mem _ _ _ _ _ _ rfl 1 (Or.inl (by show d.val < 384; omega))) ?_; exact ((by refine Eq.trans (View.read_writes_cons_unit_of_not_mem _ _ _ _ _ _ rfl 1 (Or.inl (by show d.val < 256; omega))) ?_; exact ((by refine Eq.trans (View.read_writes_cons_unit_of_not_mem _ _ _ _ _ _ rfl 1 (Or.inl (by show d.val < 128; omega))) ?_; exact ((by refine Eq.trans (View.read_writes_cons_unit_of_mem _ _ _ _ _ _ (ix2 t d) rfl (fun a => by fin_cases a <;> first | rfl | exact (Nat.zero_add _).symm)) ?_; exact ((out10 _ _ _ _ _ _ _ _ _ _ _ t d).trans
      (head_at 0 g1 m1.h0 ⟨d.val, by omega⟩ t (by show (d.val) / 128 = 0; omega) (pad0_eq _ _) q1 l1 kb1 c1 n1
        (fun s => (by refine Eq.trans (cv_apply _ _ _ _ (ix2 ⟨d.val, by omega⟩ (r1 s)) (fun a => by fin_cases a <;> first | rfl | exact (Nat.zero_add _).symm)) ?_; exact ((by refine Eq.trans (View.read_writes_cons_unit_of_mem _ _ _ _ _ _ (ix2 ⟨d.val, by omega⟩ (r1 s)) rfl (fun a => by fin_cases a <;> first | rfl | exact (Nat.zero_add _).symm)) ?_; exact ((by refine Eq.trans (ht _ (r1 s)) ?_; exact (congrArg (fun z => ((v z ⟨d.val, by omega⟩ : ℝ) : EReal)) (by show 0 + (r1 s).val = 0 + 128 + s.val; first | rfl | (simp only [r0, r1]; omega)))))))))
        ((by refine Eq.trans (ld_apply harg4 x2 _ _ (ix2 (r1 t) ⟨d.val, by omega⟩) (fun a => by fin_cases a <;> first | rfl | exact (Nat.zero_add _).symm)) ?_; exact ((by refine Eq.trans (hB.x2 (r1 t) _) ?_; exact (congrArg (fun z => ((og z ⟨d.val, by omega⟩ : ℝ) : EReal)) (by show 0 + (r1 t).val = 0 + 128 + t.val; first | rfl | (simp only [r0, r1]; omega))))))))))))))))
  have o03 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r0 t) ⟨384 + d.val, by omega⟩) = (outR (qR (acR X w b)) (kR (acR X w b)) v (fun h j => lsg (a h j)) e og 3 ⟨384 + d.val, by omega⟩ (0 + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_mem _ _ _ _ _ _ (ix2 t d) rfl (fun a => by fin_cases a <;> first | rfl | exact (Nat.zero_add _).symm)) ?_; exact ((out03 _ _ _ _ _ _ _ _ _ _ _ t d).trans
      (head_at 3 g0 m0.h3 ⟨384 + d.val, by omega⟩ t (by show (384 + d.val) / 128 = 3; omega) (pad3_eq _ _) q0 l0 kb0 c0 n0
        (fun s => (by refine Eq.trans (cv_apply _ _ _ _ (ix2 ⟨384 + d.val, by omega⟩ (r0 s)) (fun a => by fin_cases a <;> first | rfl | exact (Nat.zero_add _).symm)) ?_; exact ((by refine Eq.trans (View.read_writes_cons_unit_of_mem _ _ _ _ _ _ (ix2 ⟨384 + d.val, by omega⟩ (r0 s)) rfl (fun a => by fin_cases a <;> first | rfl | exact (Nat.zero_add _).symm)) ?_; exact ((by refine Eq.trans (ht _ (r0 s)) ?_; exact (congrArg (fun z => ((v z ⟨384 + d.val, by omega⟩ : ℝ) : EReal)) (by show 0 + (r0 s).val = 0 + s.val; first | rfl | (simp only [r0, r1]; omega)))))))))
        ((by refine Eq.trans (ld_apply harg4 x2 _ _ (ix2 (r0 t) ⟨384 + d.val, by omega⟩) (fun a => by fin_cases a <;> first | rfl | exact (Nat.zero_add _).symm)) ?_; exact ((by refine Eq.trans (hB.x2 (r0 t) _) ?_; exact (congrArg (fun z => ((og z ⟨384 + d.val, by omega⟩ : ℝ) : EReal)) (by show 0 + (r0 t).val = 0 + t.val; first | rfl | (simp only [r0, r1]; omega))))))))))))))))))
  have o02 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r0 t) ⟨256 + d.val, by omega⟩) = (outR (qR (acR X w b)) (kR (acR X w b)) v (fun h j => lsg (a h j)) e og 2 ⟨256 + d.val, by omega⟩ (0 + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 1 (Or.inl (by show 256 + d.val < 384; omega))) ?_; exact ((by refine Eq.trans (View.read_writes_cons_unit_of_mem _ _ _ _ _ _ (ix2 t d) rfl (fun a => by fin_cases a <;> first | rfl | exact (Nat.zero_add _).symm)) ?_; exact ((out02 _ _ _ _ _ _ _ _ _ _ _ t d).trans
      (head_at 2 g0 m0.h2 ⟨256 + d.val, by omega⟩ t (by show (256 + d.val) / 128 = 2; omega) (pad2_eq _ _) q0 l0 kb0 c0 n0
        (fun s => (by refine Eq.trans (cv_apply _ _ _ _ (ix2 ⟨256 + d.val, by omega⟩ (r0 s)) (fun a => by fin_cases a <;> first | rfl | exact (Nat.zero_add _).symm)) ?_; exact ((by refine Eq.trans (View.read_writes_cons_unit_of_mem _ _ _ _ _ _ (ix2 ⟨256 + d.val, by omega⟩ (r0 s)) rfl (fun a => by fin_cases a <;> first | rfl | exact (Nat.zero_add _).symm)) ?_; exact ((by refine Eq.trans (ht _ (r0 s)) ?_; exact (congrArg (fun z => ((v z ⟨256 + d.val, by omega⟩ : ℝ) : EReal)) (by show 0 + (r0 s).val = 0 + s.val; first | rfl | (simp only [r0, r1]; omega)))))))))
        ((by refine Eq.trans (ld_apply harg4 x2 _ _ (ix2 (r0 t) ⟨256 + d.val, by omega⟩) (fun a => by fin_cases a <;> first | rfl | exact (Nat.zero_add _).symm)) ?_; exact ((by refine Eq.trans (hB.x2 (r0 t) _) ?_; exact (congrArg (fun z => ((og z ⟨256 + d.val, by omega⟩ : ℝ) : EReal)) (by show 0 + (r0 t).val = 0 + t.val; first | rfl | (simp only [r0, r1]; omega))))))))))))))))))))
  have o01 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r0 t) ⟨128 + d.val, by omega⟩) = (outR (qR (acR X w b)) (kR (acR X w b)) v (fun h j => lsg (a h j)) e og 1 ⟨128 + d.val, by omega⟩ (0 + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 1 (Or.inl (by show 128 + d.val < 384; omega))) ?_; exact ((by refine Eq.trans (View.read_writes_cons_unit_of_not_mem _ _ _ _ _ _ rfl 1 (Or.inl (by show 128 + d.val < 256; omega))) ?_; exact ((by refine Eq.trans (View.read_writes_cons_unit_of_mem _ _ _ _ _ _ (ix2 t d) rfl (fun a => by fin_cases a <;> first | rfl | exact (Nat.zero_add _).symm)) ?_; exact ((out01 _ _ _ _ _ _ _ _ _ _ _ t d).trans
      (head_at 1 g0 m0.h1 ⟨128 + d.val, by omega⟩ t (by show (128 + d.val) / 128 = 1; omega) (pad1_eq _ _) q0 l0 kb0 c0 n0
        (fun s => (by refine Eq.trans (cv_apply _ _ _ _ (ix2 ⟨128 + d.val, by omega⟩ (r0 s)) (fun a => by fin_cases a <;> first | rfl | exact (Nat.zero_add _).symm)) ?_; exact ((by refine Eq.trans (View.read_writes_cons_unit_of_mem _ _ _ _ _ _ (ix2 ⟨128 + d.val, by omega⟩ (r0 s)) rfl (fun a => by fin_cases a <;> first | rfl | exact (Nat.zero_add _).symm)) ?_; exact ((by refine Eq.trans (ht _ (r0 s)) ?_; exact (congrArg (fun z => ((v z ⟨128 + d.val, by omega⟩ : ℝ) : EReal)) (by show 0 + (r0 s).val = 0 + s.val; first | rfl | (simp only [r0, r1]; omega)))))))))
        ((by refine Eq.trans (ld_apply harg4 x2 _ _ (ix2 (r0 t) ⟨128 + d.val, by omega⟩) (fun a => by fin_cases a <;> first | rfl | exact (Nat.zero_add _).symm)) ?_; exact ((by refine Eq.trans (hB.x2 (r0 t) _) ?_; exact (congrArg (fun z => ((og z ⟨128 + d.val, by omega⟩ : ℝ) : EReal)) (by show 0 + (r0 t).val = 0 + t.val; first | rfl | (simp only [r0, r1]; omega))))))))))))))))))))))
  have o00 : ∀ t d : Fin 128, out0_A_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 (ix2 (r0 t) ⟨d.val, by omega⟩) = (outR (qR (acR X w b)) (kR (acR X w b)) v (fun h j => lsg (a h j)) e og 0 ⟨d.val, by omega⟩ (0 + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 1 (Or.inl (by show d.val < 384; omega))) ?_; exact ((by refine Eq.trans (View.read_writes_cons_unit_of_not_mem _ _ _ _ _ _ rfl 1 (Or.inl (by show d.val < 256; omega))) ?_; exact ((by refine Eq.trans (View.read_writes_cons_unit_of_not_mem _ _ _ _ _ _ rfl 1 (Or.inl (by show d.val < 128; omega))) ?_; exact ((by refine Eq.trans (View.read_writes_cons_unit_of_mem _ _ _ _ _ _ (ix2 t d) rfl (fun a => by fin_cases a <;> first | rfl | exact (Nat.zero_add _).symm)) ?_; exact ((out00 _ _ _ _ _ _ _ _ _ _ _ t d).trans
      (head_at 0 g0 m0.h0 ⟨d.val, by omega⟩ t (by show (d.val) / 128 = 0; omega) (pad0_eq _ _) q0 l0 kb0 c0 n0
        (fun s => (by refine Eq.trans (cv_apply _ _ _ _ (ix2 ⟨d.val, by omega⟩ (r0 s)) (fun a => by fin_cases a <;> first | rfl | exact (Nat.zero_add _).symm)) ?_; exact ((by refine Eq.trans (View.read_writes_cons_unit_of_mem _ _ _ _ _ _ (ix2 ⟨d.val, by omega⟩ (r0 s)) rfl (fun a => by fin_cases a <;> first | rfl | exact (Nat.zero_add _).symm)) ?_; exact ((by refine Eq.trans (ht _ (r0 s)) ?_; exact (congrArg (fun z => ((v z ⟨d.val, by omega⟩ : ℝ) : EReal)) (by show 0 + (r0 s).val = 0 + s.val; first | rfl | (simp only [r0, r1]; omega)))))))))
        ((by refine Eq.trans (ld_apply harg4 x2 _ _ (ix2 (r0 t) ⟨d.val, by omega⟩) (fun a => by fin_cases a <;> first | rfl | exact (Nat.zero_add _).symm)) ?_; exact ((by refine Eq.trans (hB.x2 (r0 t) _) ?_; exact (congrArg (fun z => ((og z ⟨d.val, by omega⟩ : ℝ) : EReal)) (by show 0 + (r0 t).val = 0 + t.val; first | rfl | (simp only [r0, r1]; omega))))))))))))))))))))))))
  refine ⟨fun r y => ?_, fun R c h1 h2 => ?_, fun y x => ?_, fun x => ?_, fun h => ?_⟩
  · have hd : y.val / 128 < 4 := by omega
    rcases Nat.lt_or_ge r.val 128 with hr | hr
    · obtain ⟨t, rfl⟩ : ∃ t, r = r0 t := ⟨⟨r.val, hr⟩, rfl⟩
      rcases split4 y with ⟨d, rfl⟩ | ⟨d, rfl⟩ | ⟨d, rfl⟩ | ⟨d, rfl⟩
      · exact (by refine Eq.trans (o00 t d) ?_; exact (outB_eq (h := 0) (by show d.val / 128 = 0; omega) rfl))
      · exact (by refine Eq.trans (o01 t d) ?_; exact (outB_eq (h := 1) (by show (128 + d.val) / 128 = 1; omega) rfl))
      · exact (by refine Eq.trans (o02 t d) ?_; exact (outB_eq (h := 2) (by show (256 + d.val) / 128 = 2; omega) rfl))
      · exact (by refine Eq.trans (o03 t d) ?_; exact (outB_eq (h := 3) (by show (384 + d.val) / 128 = 3; omega) rfl))
    · obtain ⟨t, rfl⟩ : ∃ t, r = r1 t := ⟨⟨r.val - 128, by omega⟩, Fin.ext (by show r.val = 128 + (r.val - 128); omega)⟩
      rcases split4 y with ⟨d, rfl⟩ | ⟨d, rfl⟩ | ⟨d, rfl⟩ | ⟨d, rfl⟩
      · exact (by refine Eq.trans (o10 t d) ?_; exact (outB_eq (h := 0) (by show d.val / 128 = 0; omega) (by show 0 + 128 + t.val = 0 + (128 + t.val); omega)))
      · exact (by refine Eq.trans (o11 t d) ?_; exact (outB_eq (h := 1) (by show (128 + d.val) / 128 = 1; omega) (by show 0 + 128 + t.val = 0 + (128 + t.val); omega)))
      · exact (by refine Eq.trans (o12 t d) ?_; exact (outB_eq (h := 2) (by show (256 + d.val) / 128 = 2; omega) (by show 0 + 128 + t.val = 0 + (128 + t.val); omega)))
      · exact (by refine Eq.trans (o13 t d) ?_; exact (outB_eq (h := 3) (by show (384 + d.val) / 128 = 3; omega) (by show 0 + 128 + t.val = 0 + (128 + t.val); omega)))
  · have hx : X (0 + (248 + R.val)) c = padX X (0 + 256 + R.val - 5) c := by
      unfold padX
      rw [if_neg (by omega)]
      exact congrArg (fun z => X z c) (by omega)
    exact (by refine Eq.trans (View.read_writes_cons_unit_of_mem _ _ _ _ _ _ (ix2 (⟨R.val, h2⟩ : Fin 8) c) rfl (fun a => by fin_cases a <;> first | rfl | exact (Nat.zero_add _).symm)) ?_; exact ((by refine Eq.trans (tail_word _ _ _) ?_; exact ((cv_apply _ _ _ _ (ix2 ⟨256 + R.val, by omega⟩ c) (fun a => by fin_cases a <;> first | rfl | exact (Nat.zero_add _).symm)).trans
      ((by refine Eq.trans (View.read_writes_cons_unit_of_mem _ _ _ _ _ _ (ix2 ⟨248 + R.val, by omega⟩ c) rfl (fun a => by fin_cases a <;> first | (show 256 + R.val = 8 + (248 + R.val); omega) | exact (Nat.zero_add _).symm)) ?_; exact ((by refine Eq.trans (x_word _ _ _) ?_; exact ((by refine Eq.trans (ld_apply harg2 x0 _ _ (ix2 ⟨248 + R.val, by omega⟩ c) (fun a => by fin_cases a <;> first | rfl | exact (Nat.zero_add _).symm)) ?_; exact ((by refine Eq.trans (hB.x0 _ c) ?_; exact (congrArg (fun z : ℝ => (z : EReal)) hx)))))))))))))
  · exact (by refine Eq.trans (View.read_writes_cons_unit_of_mem _ _ _ _ _ _ (ix2 y x) rfl (fun a => by fin_cases a <;> first | rfl | exact (Nat.zero_add _).symm)) ?_; exact ((mat1 _ _ _ _ _ _ _ _ _ _ _ y x).trans
      ((by refine Eq.trans (congrArg (fun z => _ + z * _) (keep1_sum _)) ?_; exact (mat_at g1 m1 c1 hV1 w1 hbd y x)))))
  · exact (by refine Eq.trans (View.read_writes_cons_unit_of_mem _ _ _ _ _ _ (ix2 0 x) rfl (fun a => by fin_cases a <;> first | rfl | exact (Nat.zero_add _).symm)) ?_; exact ((by refine Eq.trans (norm1 _ _ _ _ _ _ _ _ _ x) ?_; exact (norm_at g1 m1 ka1 n1 x))))
  · fin_cases h
    · exact (by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab10 _ _ _ _) ?_; exact (mW_at (g1.gi 0) (g1.bc 0) (g1.br 0) m1.h0))))))))))
    · exact (by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab11 _ _ _ _) ?_; exact (mW_at (g1.gi 1) (g1.bc 1) (g1.br 1) m1.h1))))))))
    · exact (by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab12 _ _ _ _) ?_; exact (mW_at (g1.gi 2) (g1.bc 2) (g1.br 2) m1.h2))))))
    · exact (by refine Eq.trans (View.read_writes_cons_unit_of_mem _ _ _ _ _ _ (ix2 0 0) rfl (fun a => by fin_cases a <;> first | rfl | exact (Nat.zero_add _).symm)) ?_; exact ((by refine Eq.trans (stab13 _ _ _ _) ?_; exact (mW_at (g1.gi 3) (g1.bc 3) (g1.br 3) m1.h3))))

set_option maxHeartbeats 4000000 in
theorem pointB {X : ℕ → Fin 512 → ℝ} {w : Fin 4 → Fin 512 → ℝ} {b : Fin 512 → ℝ} {v og : ℕ → Fin 512 → ℝ} {a e : Fin 4 → ℕ → ℝ} {n : ℕ} (dv : Dev nD) (i : grid0.Coords) (arg2 : Memref sig .tc .vmem S256x512 .f32) (harg2 : arg2.IsWhole) (arg3 : Memref sig .tc .vmem S256x512 .bf16) (harg3 : arg3.IsWhole) (arg4 : Memref sig .tc .vmem S256x512 .f32) (harg4 : arg4.IsWhole) (arg5 : Memref sig .tc .vmem S256x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S256x512 .bf16) (harg10 : arg10.IsWhole) (arg11 : Memref sig .tc .vmem S264x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S8x128 .f32) (harg14 : arg14.IsWhole) (arg15 : Memref sig .tc .vmem S256x256 .bf16) (harg15 : arg15.IsWhole) (arg16 : Memref sig .tc .vmem S512x256 .bf16) (harg16 : arg16.IsWhole) (arg17 : Memref sig .tc .vmem S256x512 .f32) (harg17 : arg17.IsWhole) (hc0 : ¬ cond0_0 i)
    (x0 : Vec Ideal S256x512 .f32) (x1 : Vec Ideal S256x512 .bf16) (x2 : Vec Ideal S256x512 .f32) (x3 : Vec Ideal S256x128 .f32) (x4 : Vec Ideal S4x512 .f32) (x5 : Vec Ideal S1x512 .f32) (x6 : Vec Ideal S256x256 .bf16) (x7 : Vec Ideal S512x256 .f32) (xs0 : Vec Ideal S264x512 .f32) (xs1 : Vec Ideal S512x256 .f32) (xs2 : Vec Ideal S1x256 .f32) (xs3 : Vec Ideal S8x128 .f32)
    (hB : Block X w b v og a e n x0 x1 x2 x3 x4 x5 x6 x7) (hS : Carry X w b v a e n xs0 xs1 xs2 xs3) :
    (∀ r y, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 r y) = (outB X w b v og a e r y (n + r.val) : EReal))
    ∧ Carry X w b v a e (n + 256) (sout0_B_0 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3) (sout0_B_1 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3) (sout0_B_2 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3) (sout0_B_3 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3) := by
  have k0 : ∀ (r : Fin 256) c, (View.readAt (Elt Ideal) arg11.view (Rect.unit (s := S264x512) ![5, 0] S256x512.size inb_S264x512_S256x512_5_0).toLoadRect (arg11.view.writes (Elt Ideal) (harg11.unread xs0) (kernelRun0_B.sl.HS0_1 dv arg2 harg2 x0))) (ix2 r c) = (padX X (n + r.val + 0) c : EReal) := fun r c =>
    (lw_apply _ _ _ _ (ix2 ⟨5 + r.val, by omega⟩ c) (fun a => by fin_cases a <;> first | rfl | exact (Nat.zero_add _).symm)).trans
      ((xx_read _ _ _ _ (fun r c => (by refine Eq.trans (ld_apply harg2 x0 _ _ (ix2 r c) (fun a => by fin_cases a <;> first | rfl | exact (Nat.zero_add _).symm)) ?_; exact (hB.x0 r c))) (fun R c h1 h2 => (by refine Eq.trans (congrFun (harg11.read_unread xs0) _) ?_; exact (hS.xx R c h1 h2))) _ c (by show 5 ≤ 5 + r.val; omega)).trans
        (congrArg (fun z => ((padX X z c : ℝ) : EReal)) (by show n + (5 + r.val) - 5 = n + r.val + 0; omega)))
  have k1 : ∀ (r : Fin 256) c, (View.readAt (Elt Ideal) arg11.view (Rect.unit (s := S264x512) ![6, 0] S256x512.size inb_S264x512_S256x512_6_0).toLoadRect (arg11.view.writes (Elt Ideal) (harg11.unread xs0) (kernelRun0_B.sl.HS0_1 dv arg2 harg2 x0))) (ix2 r c) = (padX X (n + r.val + 1) c : EReal) := fun r c =>
    (lw_apply _ _ _ _ (ix2 ⟨6 + r.val, by omega⟩ c) (fun a => by fin_cases a <;> first | rfl | exact (Nat.zero_add _).symm)).trans
      ((xx_read _ _ _ _ (fun r c => (by refine Eq.trans (ld_apply harg2 x0 _ _ (ix2 r c) (fun a => by fin_cases a <;> first | rfl | exact (Nat.zero_add _).symm)) ?_; exact (hB.x0 r c))) (fun R c h1 h2 => (by refine Eq.trans (congrFun (harg11.read_unread xs0) _) ?_; exact (hS.xx R c h1 h2))) _ c (by show 5 ≤ 6 + r.val; omega)).trans
        (congrArg (fun z => ((padX X z c : ℝ) : EReal)) (by show n + (6 + r.val) - 5 = n + r.val + 1; omega)))
  have k2 : ∀ (r : Fin 256) c, (View.readAt (Elt Ideal) arg11.view (Rect.unit (s := S264x512) ![7, 0] S256x512.size inb_S264x512_S256x512_7_0).toLoadRect (arg11.view.writes (Elt Ideal) (harg11.unread xs0) (kernelRun0_B.sl.HS0_1 dv arg2 harg2 x0))) (ix2 r c) = (padX X (n + r.val + 2) c : EReal) := fun r c =>
    (lw_apply _ _ _ _ (ix2 ⟨7 + r.val, by omega⟩ c) (fun a => by fin_cases a <;> first | rfl | exact (Nat.zero_add _).symm)).trans
      ((xx_read _ _ _ _ (fun r c => (by refine Eq.trans (ld_apply harg2 x0 _ _ (ix2 r c) (fun a => by fin_cases a <;> first | rfl | exact (Nat.zero_add _).symm)) ?_; exact (hB.x0 r c))) (fun R c h1 h2 => (by refine Eq.trans (congrFun (harg11.read_unread xs0) _) ?_; exact (hS.xx R c h1 h2))) _ c (by show 5 ≤ 7 + r.val; omega)).trans
        (congrArg (fun z => ((padX X z c : ℝ) : EReal)) (by show n + (7 + r.val) - 5 = n + r.val + 2; omega)))
  have k3 : ∀ (r : Fin 256) c, (kernelRun0_B.sl.v29 dv arg2 harg2 arg11 x0) (ix2 r c) = (padX X (n + r.val + 3) c : EReal) := fun r c =>
    (cv_apply _ _ _ _ (ix2 ⟨8 + r.val, by omega⟩ c) (fun a => by fin_cases a <;> first | rfl | exact (Nat.zero_add _).symm)).trans
      ((by refine Eq.trans (View.read_writes_cons_unit_of_mem _ _ _ _ _ _ (ix2 r c) rfl (fun a => by fin_cases a <;> first | rfl | exact (Nat.zero_add _).symm)) ?_; exact ((by refine Eq.trans (x_word _ r c) ?_; exact ((by refine Eq.trans (ld_apply harg2 x0 _ _ (ix2 r c) (fun a => by fin_cases a <;> first | rfl | exact (Nat.zero_add _).symm)) ?_; exact ((hB.x0 r c).trans
        (congrArg (fun z : ℝ => (z : EReal)) (by unfold padX; rw [if_neg (by omega)]; exact congrArg (fun z => X z c) (by omega))))))))))
  have e0 : ∀ c : Fin 512, (View.readAt (Elt Ideal) arg6.view (Rect.unit (s := S4x512) ![0, 0] S1x512.size inb_S4x512_S1x512_0_0).toLoadRect (harg6.unread x4)) (ix2 0 c) = (w 0 c : EReal) := fun c => (by refine Eq.trans (ld_apply harg6 x4 _ _ (ix2 0 c) (fun a => by fin_cases a <;> first | rfl | exact (Nat.zero_add _).symm)) ?_; exact (hB.x4 0 c))
  have e1 : ∀ c : Fin 512, (View.readAt (Elt Ideal) arg6.view (Rect.unit (s := S4x512) ![1, 0] S1x512.size inb_S4x512_S1x512_1_0).toLoadRect (harg6.unread x4)) (ix2 0 c) = (w 1 c : EReal) := fun c => (by refine Eq.trans (ld_apply harg6 x4 _ _ (ix2 1 c) (fun a => by fin_cases a <;> first | rfl | exact (Nat.zero_add _).symm)) ?_; exact (hB.x4 1 c))
  have e2 : ∀ c : Fin 512, (View.readAt (Elt Ideal) arg6.view (Rect.unit (s := S4x512) ![2, 0] S1x512.size inb_S4x512_S1x512_2_0).toLoadRect (harg6.unread x4)) (ix2 0 c) = (w 2 c : EReal) := fun c => (by refine Eq.trans (ld_apply harg6 x4 _ _ (ix2 2 c) (fun a => by fin_cases a <;> first | rfl | exact (Nat.zero_add _).symm)) ?_; exact (hB.x4 2 c))
  have e3 : ∀ c : Fin 512, (View.readAt (Elt Ideal) arg6.view (Rect.unit (s := S4x512) ![3, 0] S1x512.size inb_S4x512_S1x512_3_0).toLoadRect (harg6.unread x4)) (ix2 0 c) = (w 3 c : EReal) := fun c => (by refine Eq.trans (ld_apply harg6 x4 _ _ (ix2 3 c) (fun a => by fin_cases a <;> first | rfl | exact (Nat.zero_add _).symm)) ?_; exact (hB.x4 3 c))
  have e5 : ∀ c : Fin 512, (View.readAt (Elt Ideal) arg7.view (Rect.unit (s := S1x512) ![0, 0] S1x512.size inb_S1x512_S1x512_0_0).toLoadRect (harg7.unread x5)) (ix2 0 c) = (b c : EReal) := fun c => (by refine Eq.trans (ld_apply harg7 x5 _ _ (ix2 0 c) (fun a => by fin_cases a <;> first | rfl | exact (Nat.zero_add _).symm)) ?_; exact (hB.x5 c))
  have hA : ∀ (r : Fin 256) c, k0_pay10 (kernelRun0_B.sl.r dv arg2 harg2 arg6 harg6 arg7 harg7 arg11 harg11 x0 x4 x5 xs0) (kernelRun0_B.sl.v29 dv arg2 harg2 arg11 x0) (kernelRun0_B.sl.r_1 dv arg6 harg6 x4) (ix2 r c) = (acR X w b (n + r.val) c : EReal) := by
    unfold kernelRun0_B.sl.r kernelRun0_B.sl.r_1
    exact act_at e5 e0 e1 e2 e3 k0 k1 k2 k3
  have h70 : ∀ j x, (kernelRun0_B.sl.v70 dv arg2 harg2 arg6 harg6 arg7 harg7 arg11 harg11 arg17 x0 x4 x5 xs0) (ix2 j x) = (qR (acR X w b) (n + j.val) x : EReal) := fun j x =>
    (by refine Eq.trans (cv_apply _ _ _ _ (ix2 j ⟨x.val, by omega⟩) (fun a => by fin_cases a <;> first | rfl | exact (Nat.zero_add _).symm)) ?_; exact ((by refine Eq.trans (View.read_writes_cons_unit_of_mem _ _ _ _ _ _ (ix2 j ⟨x.val, by omega⟩) rfl (fun a => by fin_cases a <;> first | rfl | exact (Nat.zero_add _).symm)) ?_; exact (hA j _))))
  have hK0 : ∀ (s : Fin 128) (x : Fin 256), (kernelRun0_B.sl.v105 dv arg2 harg2 arg6 harg6 arg7 harg7 arg11 harg11 arg17 x0 x4 x5 xs0) (ix2 s x) = (acR X w b (n + s.val) ⟨256 + x.val, by omega⟩ : EReal) := fun s x =>
    (by refine Eq.trans (cv_apply _ _ _ _ (ix2 (r0 s) ⟨256 + x.val, by omega⟩) (fun a => by fin_cases a <;> first | rfl | exact (Nat.zero_add _).symm)) ?_; exact ((by refine Eq.trans (View.read_writes_cons_unit_of_mem _ _ _ _ _ _ (ix2 (r0 s) ⟨256 + x.val, by omega⟩) rfl (fun a => by fin_cases a <;> first | rfl | exact (Nat.zero_add _).symm)) ?_; exact (hA (r0 s) _))))
  have hK1 : ∀ (s : Fin 128) (x : Fin 256), (kernelRun0_B.sl.v556 dv arg2 harg2 arg6 harg6 arg7 harg7 arg11 harg11 arg17 x0 x4 x5 xs0) (ix2 s x) = (acR X w b (n + 128 + s.val) ⟨256 + x.val, by omega⟩ : EReal) := fun s x =>
    (by refine Eq.trans (cv_apply _ _ _ _ (ix2 (r1 s) ⟨256 + x.val, by omega⟩) (fun a => by fin_cases a <;> first | rfl | exact (Nat.zero_add _).symm)) ?_; exact ((by refine Eq.trans (View.read_writes_cons_unit_of_mem _ _ _ _ _ _ (ix2 (r1 s) ⟨256 + x.val, by omega⟩) rfl (fun a => by fin_cases a <;> first | rfl | exact (Nat.zero_add _).symm)) ?_; exact ((hA (r1 s) _).trans
      (congrArg (fun z => ((acR X w b z ⟨256 + x.val, by omega⟩ : ℝ) : EReal)) (by show n + (128 + s.val) = n + 128 + s.val; omega))))))
  have q0 : ∀ (t : Fin 128) x, (kernelRun0_B.sl.r_5 dv arg2 harg2 arg6 harg6 arg7 harg7 arg11 harg11 arg17 x0 x4 x5 xs0) (ix2 x (r0 t)) = (qR (acR X w b) (n + t.val) x : EReal) := fun t x => (by refine Eq.trans (q_word _ x _) ?_; exact (h70 (r0 t) x))
  have q1 : ∀ (t : Fin 128) x, (kernelRun0_B.sl.r_5 dv arg2 harg2 arg6 harg6 arg7 harg7 arg11 harg11 arg17 x0 x4 x5 xs0) (ix2 x (r1 t)) = (qR (acR X w b) (n + 128 + t.val) x : EReal) := fun t x => (by refine Eq.trans (q_word _ x _) ?_; exact ((h70 (r1 t) x).trans
      (congrArg (fun z => ((qR (acR X w b) z x : ℝ) : EReal)) (by show n + (128 + t.val) = n + 128 + t.val; omega))))
  have l0 : ∀ (t : Fin 128) x, (kernelRun0_B.sl.r_6 dv arg2 harg2 arg6 harg6 arg7 harg7 arg11 harg11 arg17 x0 x4 x5 xs0) (ix2 x (r0 t)) = 0 := fun t x => ql_zero h70 x _
  have l1 : ∀ (t : Fin 128) x, (kernelRun0_B.sl.r_6 dv arg2 harg2 arg6 harg6 arg7 harg7 arg11 harg11 arg17 x0 x4 x5 xs0) (ix2 x (r1 t)) = 0 := fun t x => ql_zero h70 x _
  have ka0 : ∀ s x, k0_pay21 (kernelRun0_B.sl.v105 dv arg2 harg2 arg6 harg6 arg7 harg7 arg11 harg11 arg17 x0 x4 x5 xs0) (ix2 s x) = (kR (acR X w b) (n + s.val) x : EReal) := fun s x => (by refine Eq.trans (ka0_word _ s x) ?_; exact (eighth (hK0 s x)))
  have kb0 : ∀ s x, k0_pay22 (kernelRun0_B.sl.v105 dv arg2 harg2 arg6 harg6 arg7 harg7 arg11 harg11 arg17 x0 x4 x5 xs0) (ix2 s x) = (kR (acR X w b) (n + s.val) x : EReal) := fun s x => (by refine Eq.trans (kb0_word _ s x) ?_; exact (eighth (hK0 s x)))
  have ka1 : ∀ s x, k0_pay101 (kernelRun0_B.sl.v556 dv arg2 harg2 arg6 harg6 arg7 harg7 arg11 harg11 arg17 x0 x4 x5 xs0) (ix2 s x) = (kR (acR X w b) (n + 128 + s.val) x : EReal) := fun s x => (by refine Eq.trans (ka1_word _ s x) ?_; exact (eighth (hK1 s x)))
  have kb1 : ∀ s x, k0_pay102 (k0_pay101 (kernelRun0_B.sl.v556 dv arg2 harg2 arg6 harg6 arg7 harg7 arg11 harg11 arg17 x0 x4 x5 xs0)) (ix2 s x) = (kR (acR X w b) (n + 128 + s.val) x : EReal) := fun s x => (by refine Eq.trans (kb1_word _ s x) ?_; exact (eighth (hK1 s x)))
  have ht : ∀ y (s : Fin 256), k0_pay18 (View.readAt (Elt Ideal) arg3.view (Rect.unit ![0, 0] S256x512.size inb_S256x512_S256x512_0_0).toLoadRect (harg3.unread x1)) (ix2 y s) = (v (n + s.val) y : EReal) := fun y s =>
    (by refine Eq.trans (vt_word _ y s) ?_; exact ((by refine Eq.trans (ld_apply harg3 x1 _ _ (ix2 s y) (fun a => by fin_cases a <;> first | rfl | exact (Nat.zero_add _).symm)) ?_; exact (hB.x1 s y))))
  have hV : ∀ y (s : Fin 256), (kernelRun0_B.sl.v522 dv arg3 harg3 arg16 x1) (ix2 y s) = (v (n + s.val) y : EReal) := fun y s =>
    (by refine Eq.trans (cv_apply _ _ _ _ (ix2 y s) (fun a => by fin_cases a <;> first | rfl | exact (Nat.zero_add _).symm)) ?_; exact ((by refine Eq.trans (View.read_writes_cons_unit_of_mem _ _ _ _ _ _ (ix2 y s) rfl (fun a => by fin_cases a <;> first | rfl | exact (Nat.zero_add _).symm)) ?_; exact (ht y s))))
  have hV1 : ∀ y (s : Fin 128), (kernelRun0_B.sl.v522 dv arg3 harg3 arg16 x1) (ix2 y (r1 s)) = (v (n + 128 + s.val) y : EReal) := fun y s => (hV y (r1 s)).trans
      (congrArg (fun z => ((v z y : ℝ) : EReal)) (by show n + (128 + s.val) = n + 128 + s.val; omega))
  have hL : Lanes a e n (View.readAt (Elt Ideal) arg5.view (Rect.unit ![0, 0] S256x128.size inb_S256x128_S256x128_0_0).toLoadRect (harg5.unread x3)) (View.readAt (Elt Ideal) arg8.view (Rect.unit ![0, 0] S256x256.size inb_S256x256_S256x256_0_0).toLoadRect (harg8.unread x6)) :=
    ⟨fun h x => (by refine Eq.trans (ld_apply harg5 x3 _ _ (ix2 x ⟨h.val, by omega⟩) (fun a => by fin_cases a <;> first | rfl | exact (Nat.zero_add _).symm)) ?_; exact (hB.l.gi h x)), fun h x => (by refine Eq.trans (ld_apply harg5 x3 _ _ (ix2 x ⟨4 + h.val, by omega⟩) (fun a => by fin_cases a <;> first | rfl | exact (Nat.zero_add _).symm)) ?_; exact (hB.l.ga h x)),
      fun r x => (by refine Eq.trans (ld_apply harg8 x6 _ _ (ix2 r x) (fun a => by fin_cases a <;> first | rfl | exact (Nat.zero_add _).symm)) ?_; exact (hB.l.tr r x))⟩
  have g0 : GatesAt (fun h j => lsg (a h j)) e n r0 (kernelRun0_B.sl.r_2 dv arg5 harg5 x3) (kernelRun0_B.sl.r_3 dv arg5 harg5 arg8 harg8 x3 x6) (kernelRun0_B.sl.r_4 dv arg5 harg5 arg8 harg8 x3 x6) := gates0 hL
  have g1 : GatesAt (fun h j => lsg (a h j)) e (n + 128) r1 (kernelRun0_B.sl.r_2 dv arg5 harg5 x3) (kernelRun0_B.sl.r_3 dv arg5 harg5 arg8 harg8 x3 x6) (kernelRun0_B.sl.r_4 dv arg5 harg5 arg8 harg8 x3 x6) := gates1 hL
  have hbd : ∀ (y : Fin 512) (x : Fin 256), (View.readAt (Elt Ideal) arg9.view (Rect.unit ![0, 0] S512x256.size inb_S512x256_S512x256_0_0).toLoadRect (harg9.unread x7)) (ix2 y x) = ((if y.val / 128 = x.val / 64 then 1 else 0 : ℝ) : EReal) := fun y x =>
    (by refine Eq.trans (ld_apply harg9 x7 _ _ (ix2 y x) (fun a => by fin_cases a <;> first | rfl | exact (Nat.zero_add _).symm)) ?_; exact (hB.x7 y x))
  have m0 : StabAt (fun h j => lsg (a h j)) e n (View.readAt (Elt Ideal) arg14.view (Rect.unit (s := S8x128) ![0, 0] S1x1.size inb_S8x128_S1x1_0_0).toLoadRect (harg14.unread xs3)) (kernelRun0_B.sl.v248 dv arg14 harg14 xs3) (kernelRun0_B.sl.v337 dv arg14 harg14 xs3) (kernelRun0_B.sl.v426 dv arg14 harg14 xs3) :=
    ⟨(by refine Eq.trans (ld_apply harg14 xs3 _ _ (ix2 0 0) (fun a => by fin_cases a <;> first | rfl | exact (Nat.zero_add _).symm)) ?_; exact (hS.m 0)), (by refine Eq.trans (ld_apply harg14 xs3 _ _ (ix2 0 1) (fun a => by fin_cases a <;> first | rfl | exact (Nat.zero_add _).symm)) ?_; exact (hS.m 1)), (by refine Eq.trans (ld_apply harg14 xs3 _ _ (ix2 0 2) (fun a => by fin_cases a <;> first | rfl | exact (Nat.zero_add _).symm)) ?_; exact (hS.m 2)), (by refine Eq.trans (ld_apply harg14 xs3 _ _ (ix2 0 3) (fun a => by fin_cases a <;> first | rfl | exact (Nat.zero_add _).symm)) ?_; exact (hS.m 3))⟩
  have c0 : ∀ y x, (kernelRun0_B.sl.r_9 dv arg12 harg12 xs1) (ix2 y x) = (Cst (kR (acR X w b)) v (fun h j => lsg (a h j)) e n y x : EReal) := fun y x => (by refine Eq.trans (ld_apply harg12 xs1 _ _ (ix2 y x) (fun a => by fin_cases a <;> first | rfl | exact (Nat.zero_add _).symm)) ?_; exact (hS.ct y x))
  have n0 : ∀ x, (kernelRun0_B.sl.r_11 dv arg13 harg13 xs2) (ix2 0 x) = (Nst (kR (acR X w b)) (fun h j => lsg (a h j)) e n x : EReal) := fun x => (by refine Eq.trans (ld_apply harg13 xs2 _ _ (ix2 0 x) (fun a => by fin_cases a <;> first | rfl | exact (Nat.zero_add _).symm)) ?_; exact (hS.nn x))
  have m1 : StabAt (fun h j => lsg (a h j)) e (n + 128) (kernelRun0_B.sl.v610 dv arg5 harg5 arg8 harg8 arg14 harg14 x3 x6 xs3) (kernelRun0_B.sl.v699 dv arg5 harg5 arg8 harg8 arg14 harg14 x3 x6 xs3) (kernelRun0_B.sl.v788 dv arg5 harg5 arg8 harg8 arg14 harg14 x3 x6 xs3) (kernelRun0_B.sl.v877 dv arg5 harg5 arg8 harg8 arg14 harg14 x3 x6 xs3) :=
    ⟨(by refine Eq.trans (cv_apply _ _ _ _ (ix2 0 0) (fun a => by fin_cases a <;> first | rfl | exact (Nat.zero_add _).symm)) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab00 _ _ _ _) ?_; exact (mW_at (g0.gi 0) (g0.bc 0) (g0.br 0) m0.h0)))))))))))),
      (by refine Eq.trans (cv_apply _ _ _ _ (ix2 0 1) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab01 _ _ _ _) ?_; exact (mW_at (g0.gi 1) (g0.bc 1) (g0.br 1) m0.h1)))))))))))),
      (by refine Eq.trans (cv_apply _ _ _ _ (ix2 0 2) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab02 _ _ _ _) ?_; exact (mW_at (g0.gi 2) (g0.bc 2) (g0.br 2) m0.h2)))))))))))),
      (by refine Eq.trans (cv_apply _ _ _ _ (ix2 0 3) (fun a => by fin_cases a <;> first | rfl | exact (Nat.zero_add _).symm)) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_not_mem _ _ _ _ _ _ rfl 1 (Or.inr (by decide))) ?_; exact ((by refine Eq.trans (View.read_writes_cons_unit_of_mem _ _ _ _ _ _ (ix2 0 0) rfl (fun a => by fin_cases a <;> first | rfl | exact (Nat.zero_add _).symm)) ?_; exact ((by refine Eq.trans (stab03 _ _ _ _) ?_; exact (mW_at (g0.gi 3) (g0.bc 3) (g0.br 3) m0.h3))))))))))))⟩
  have w0 : ∀ s x, (kernelRun0_B.sl.v529 dv arg2 harg2 arg5 harg5 arg6 harg6 arg7 harg7 arg8 harg8 arg11 harg11 arg14 harg14 arg15 arg17 x0 x3 x4 x5 x6 xs0 xs3) (ix2 (r0 s) x) = ((kR (acR X w b) (n + s.val) x * wR (fun h j => lsg (a h j)) e n s x : ℝ) : EReal) := fun s x =>
    (by refine Eq.trans (cv_apply _ _ _ _ (ix2 (r0 s) x) (fun a => by fin_cases a <;> first | rfl | exact (Nat.zero_add _).symm)) ?_; exact ((by refine Eq.trans (View.read_writes_cons_unit_of_mem _ _ _ _ _ _ (ix2 s x) rfl (fun a => by fin_cases a <;> first | rfl | exact (Nat.zero_add _).symm)) ?_; exact ((by refine Eq.trans (key0 _ _ _ _ _ _ _ _ s x) ?_; exact (key_at (ka0 s x) (wkR_at g0 m0 s x)))))))
  have n1 : ∀ x, (kernelRun0_B.sl.v562 dv arg2 harg2 arg5 harg5 arg6 harg6 arg7 harg7 arg8 harg8 arg11 harg11 arg13 harg13 arg14 harg14 arg17 x0 x3 x4 x5 x6 xs0 xs2 xs3) (ix2 0 x) = (Nst (kR (acR X w b)) (fun h j => lsg (a h j)) e (n + 128) x : EReal) := fun x => (by refine Eq.trans (cv_apply _ _ _ _ (ix2 0 x) (fun a => by fin_cases a <;> first | rfl | exact (Nat.zero_add _).symm)) ?_; exact ((by refine Eq.trans (View.read_writes_cons_unit_of_mem _ _ _ _ _ _ (ix2 0 x) rfl (fun a => by fin_cases a <;> first | rfl | exact (Nat.zero_add _).symm)) ?_; exact ((by refine Eq.trans (norm0 _ _ _ _ _ _ _ _ _ x) ?_; exact (norm_at g0 m0 ka0 n0 x))))))
  have c1 : ∀ y x, (kernelRun0_B.sl.v560 dv arg2 harg2 arg3 harg3 arg5 harg5 arg6 harg6 arg7 harg7 arg8 harg8 arg9 harg9 arg11 harg11 arg12 harg12 arg14 harg14 arg15 arg16 arg17 x0 x1 x3 x4 x5 x6 x7 xs0 xs1 xs3) (ix2 y x) = (Cst (kR (acR X w b)) v (fun h j => lsg (a h j)) e (n + 128) y x : EReal) := fun y x => (by refine Eq.trans (cv_apply _ _ _ _ (ix2 y x) (fun a => by fin_cases a <;> first | rfl | exact (Nat.zero_add _).symm)) ?_; exact ((by refine Eq.trans (View.read_writes_cons_unit_of_mem _ _ _ _ _ _ (ix2 y x) rfl (fun a => by fin_cases a <;> first | rfl | exact (Nat.zero_add _).symm)) ?_; exact ((mat0 _ _ _ _ _ _ _ _ _ _ _ y x).trans
      ((by refine Eq.trans (congrArg (fun z => _ + z * _) (keep0_sum _)) ?_; exact (mat_at g0 m0 c0 (fun y s => hV y (r0 s)) w0 hbd y x)))))))
  have w1 : ∀ s x, (kernelRun0_B.sl.v980 dv arg2 harg2 arg5 harg5 arg6 harg6 arg7 harg7 arg8 harg8 arg11 harg11 arg14 harg14 arg15 arg17 x0 x3 x4 x5 x6 xs0 xs3) (ix2 (r1 s) x) = ((kR (acR X w b) (n + 128 + s.val) x * wR (fun h j => lsg (a h j)) e (n + 128) s x : ℝ) : EReal) := fun s x =>
    (by refine Eq.trans (cv_apply _ _ _ _ (ix2 (r1 s) x) (fun a => by fin_cases a <;> first | rfl | exact (Nat.zero_add _).symm)) ?_; exact ((by refine Eq.trans (View.read_writes_cons_unit_of_mem _ _ _ _ _ _ (ix2 s x) rfl (fun a => by fin_cases a <;> first | rfl | exact (Nat.zero_add _).symm)) ?_; exact ((by refine Eq.trans (key1 _ _ _ _ _ _ _ _ s x) ?_; exact (key_at (ka1 s x) (wkR_at g1 m1 s x)))))))
  have o13 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r1 t) ⟨384 + d.val, by omega⟩) = (outR (qR (acR X w b)) (kR (acR X w b)) v (fun h j => lsg (a h j)) e og 3 ⟨384 + d.val, by omega⟩ (n + 128 + t.val) : EReal) := fun t d =>
    (by refine Eq.trans (View.read_writes_cons_unit_of_mem _ _ _ _ _ _ (ix2 t d) rfl (fun a => by fin_cases a <;> first | rfl | exact (Nat.zero_add _).symm)) ?_; exact ((out13 _ _ _ _ _ _ _ _ _ _ _ t d).trans
      (head_at 3 g1 m1.h3 ⟨384 + d.val, by omega⟩ t (by show (384 + d.val) / 128 = 3; omega) (pad3_eq _ _) q1 l1 kb1 c1 n1
        (fun s => (by refine Eq.trans (cv_apply _ _ _ _ (ix2 ⟨384 + d.val, by omega⟩ (r1 s)) (fun a => by fin_cases a <;> first | rfl | exact (Nat.zero_add _).symm)) ?_; exact ((by refine Eq.trans (View.read_writes_cons_unit_of_mem _ _ _ _ _ _ (ix2 ⟨384 + d.val, by omega⟩ (r1 s)) rfl (fun a => by fin_cases a <;> first | rfl | exact (Nat.zero_add _).symm)) ?_; exact ((by refine Eq.trans (ht _ (r1 s)) ?_; exact (congrArg (fun z => ((v z ⟨384 + d.val, by omega⟩ : ℝ) : EReal)) (by show n + (r1 s).val = n + 128 + s.val; first | rfl | (simp only [r0, r1]; omega)))))))))
        ((by refine Eq.trans (ld_apply harg4 x2 _ _ (ix2 (r1 t) ⟨384 + d.val, by omega⟩) (fun a => by fin_cases a <;> first | rfl | exact (Nat.zero_add _).symm)) ?_; exact ((by refine Eq.trans (hB.x2 (r1 t) _) ?_; exact (congrArg (fun z => ((og z ⟨384 + d.val, by omega⟩ : ℝ) : EReal)) (by show n + (r1 t).val = n + 128 + t.val; first | rfl | (simp only [r0, r1]; omega))))))))))
  have o12 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r1 t) ⟨256 + d.val, by omega⟩) = (outR (qR (acR X w b)) (kR (acR X w b)) v (fun h j => lsg (a h j)) e og 2 ⟨256 + d.val, by omega⟩ (n + 128 + t.val) : EReal) := fun t d =>
    (by refine Eq.trans (View.read_writes_cons_unit_of_not_mem _ _ _ _ _ _ rfl 1 (Or.inl (by show 256 + d.val < 384; omega))) ?_; exact ((by refine Eq.trans (View.read_writes_cons_unit_of_mem _ _ _ _ _ _ (ix2 t d) rfl (fun a => by fin_cases a <;> first | rfl | exact (Nat.zero_add _).symm)) ?_; exact ((out12 _ _ _ _ _ _ _ _ _ _ _ t d).trans
      (head_at 2 g1 m1.h2 ⟨256 + d.val, by omega⟩ t (by show (256 + d.val) / 128 = 2; omega) (pad2_eq _ _) q1 l1 kb1 c1 n1
        (fun s => (by refine Eq.trans (cv_apply _ _ _ _ (ix2 ⟨256 + d.val, by omega⟩ (r1 s)) (fun a => by fin_cases a <;> first | rfl | exact (Nat.zero_add _).symm)) ?_; exact ((by refine Eq.trans (View.read_writes_cons_unit_of_mem _ _ _ _ _ _ (ix2 ⟨256 + d.val, by omega⟩ (r1 s)) rfl (fun a => by fin_cases a <;> first | rfl | exact (Nat.zero_add _).symm)) ?_; exact ((by refine Eq.trans (ht _ (r1 s)) ?_; exact (congrArg (fun z => ((v z ⟨256 + d.val, by omega⟩ : ℝ) : EReal)) (by show n + (r1 s).val = n + 128 + s.val; first | rfl | (simp only [r0, r1]; omega)))))))))
        ((by refine Eq.trans (ld_apply harg4 x2 _ _ (ix2 (r1 t) ⟨256 + d.val, by omega⟩) (fun a => by fin_cases a <;> first | rfl | exact (Nat.zero_add _).symm)) ?_; exact ((by refine Eq.trans (hB.x2 (r1 t) _) ?_; exact (congrArg (fun z => ((og z ⟨256 + d.val, by omega⟩ : ℝ) : EReal)) (by show n + (r1 t).val = n + 128 + t.val; first | rfl | (simp only [r0, r1]; omega))))))))))))
  have o11 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r1 t) ⟨128 + d.val, by omega⟩) = (outR (qR (acR X w b)) (kR (acR X w b)) v (fun h j => lsg (a h j)) e og 1 ⟨128 + d.val, by omega⟩ (n + 128 + t.val) : EReal) := fun t d =>
    (by refine Eq.trans (View.read_writes_cons_unit_of_not_mem _ _ _ _ _ _ rfl 1 (Or.inl (by show 128 + d.val < 384; omega))) ?_; exact ((by refine Eq.trans (View.read_writes_cons_unit_of_not_mem _ _ _ _ _ _ rfl 1 (Or.inl (by show 128 + d.val < 256; omega))) ?_; exact ((by refine Eq.trans (View.read_writes_cons_unit_of_mem _ _ _ _ _ _ (ix2 t d) rfl (fun a => by fin_cases a <;> first | rfl | exact (Nat.zero_add _).symm)) ?_; exact ((out11 _ _ _ _ _ _ _ _ _ _ _ t d).trans
      (head_at 1 g1 m1.h1 ⟨128 + d.val, by omega⟩ t (by show (128 + d.val) / 128 = 1; omega) (pad1_eq _ _) q1 l1 kb1 c1 n1
        (fun s => (by refine Eq.trans (cv_apply _ _ _ _ (ix2 ⟨128 + d.val, by omega⟩ (r1 s)) (fun a => by fin_cases a <;> first | rfl | exact (Nat.zero_add _).symm)) ?_; exact ((by refine Eq.trans (View.read_writes_cons_unit_of_mem _ _ _ _ _ _ (ix2 ⟨128 + d.val, by omega⟩ (r1 s)) rfl (fun a => by fin_cases a <;> first | rfl | exact (Nat.zero_add _).symm)) ?_; exact ((by refine Eq.trans (ht _ (r1 s)) ?_; exact (congrArg (fun z => ((v z ⟨128 + d.val, by omega⟩ : ℝ) : EReal)) (by show n + (r1 s).val = n + 128 + s.val; first | rfl | (simp only [r0, r1]; omega)))))))))
        ((by refine Eq.trans (ld_apply harg4 x2 _ _ (ix2 (r1 t) ⟨128 + d.val, by omega⟩) (fun a => by fin_cases a <;> first | rfl | exact (Nat.zero_add _).symm)) ?_; exact ((by refine Eq.trans (hB.x2 (r1 t) _) ?_; exact (congrArg (fun z => ((og z ⟨128 + d.val, by omega⟩ : ℝ) : EReal)) (by show n + (r1 t).val = n + 128 + t.val; first | rfl | (simp only [r0, r1]; omega))))))))))))))
  have o10 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r1 t) ⟨d.val, by omega⟩) = (outR (qR (acR X w b)) (kR (acR X w b)) v (fun h j => lsg (a h j)) e og 0 ⟨d.val, by omega⟩ (n + 128 + t.val) : EReal) := fun t d =>
    (by refine Eq.trans (View.read_writes_cons_unit_of_not_mem _ _ _ _ _ _ rfl 1 (Or.inl (by show d.val < 384; omega))) ?_; exact ((by refine Eq.trans (View.read_writes_cons_unit_of_not_mem _ _ _ _ _ _ rfl 1 (Or.inl (by show d.val < 256; omega))) ?_; exact ((by refine Eq.trans (View.read_writes_cons_unit_of_not_mem _ _ _ _ _ _ rfl 1 (Or.inl (by show d.val < 128; omega))) ?_; exact ((by refine Eq.trans (View.read_writes_cons_unit_of_mem _ _ _ _ _ _ (ix2 t d) rfl (fun a => by fin_cases a <;> first | rfl | exact (Nat.zero_add _).symm)) ?_; exact ((out10 _ _ _ _ _ _ _ _ _ _ _ t d).trans
      (head_at 0 g1 m1.h0 ⟨d.val, by omega⟩ t (by show (d.val) / 128 = 0; omega) (pad0_eq _ _) q1 l1 kb1 c1 n1
        (fun s => (by refine Eq.trans (cv_apply _ _ _ _ (ix2 ⟨d.val, by omega⟩ (r1 s)) (fun a => by fin_cases a <;> first | rfl | exact (Nat.zero_add _).symm)) ?_; exact ((by refine Eq.trans (View.read_writes_cons_unit_of_mem _ _ _ _ _ _ (ix2 ⟨d.val, by omega⟩ (r1 s)) rfl (fun a => by fin_cases a <;> first | rfl | exact (Nat.zero_add _).symm)) ?_; exact ((by refine Eq.trans (ht _ (r1 s)) ?_; exact (congrArg (fun z => ((v z ⟨d.val, by omega⟩ : ℝ) : EReal)) (by show n + (r1 s).val = n + 128 + s.val; first | rfl | (simp only [r0, r1]; omega)))))))))
        ((by refine Eq.trans (ld_apply harg4 x2 _ _ (ix2 (r1 t) ⟨d.val, by omega⟩) (fun a => by fin_cases a <;> first | rfl | exact (Nat.zero_add _).symm)) ?_; exact ((by refine Eq.trans (hB.x2 (r1 t) _) ?_; exact (congrArg (fun z => ((og z ⟨d.val, by omega⟩ : ℝ) : EReal)) (by show n + (r1 t).val = n + 128 + t.val; first | rfl | (simp only [r0, r1]; omega))))))))))))))))
  have o03 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r0 t) ⟨384 + d.val, by omega⟩) = (outR (qR (acR X w b)) (kR (acR X w b)) v (fun h j => lsg (a h j)) e og 3 ⟨384 + d.val, by omega⟩ (n + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_mem _ _ _ _ _ _ (ix2 t d) rfl (fun a => by fin_cases a <;> first | rfl | exact (Nat.zero_add _).symm)) ?_; exact ((out03 _ _ _ _ _ _ _ _ _ _ _ t d).trans
      (head_at 3 g0 m0.h3 ⟨384 + d.val, by omega⟩ t (by show (384 + d.val) / 128 = 3; omega) (pad3_eq _ _) q0 l0 kb0 c0 n0
        (fun s => (by refine Eq.trans (cv_apply _ _ _ _ (ix2 ⟨384 + d.val, by omega⟩ (r0 s)) (fun a => by fin_cases a <;> first | rfl | exact (Nat.zero_add _).symm)) ?_; exact ((by refine Eq.trans (View.read_writes_cons_unit_of_mem _ _ _ _ _ _ (ix2 ⟨384 + d.val, by omega⟩ (r0 s)) rfl (fun a => by fin_cases a <;> first | rfl | exact (Nat.zero_add _).symm)) ?_; exact ((by refine Eq.trans (ht _ (r0 s)) ?_; exact (congrArg (fun z => ((v z ⟨384 + d.val, by omega⟩ : ℝ) : EReal)) (by show n + (r0 s).val = n + s.val; first | rfl | (simp only [r0, r1]; omega)))))))))
        ((by refine Eq.trans (ld_apply harg4 x2 _ _ (ix2 (r0 t) ⟨384 + d.val, by omega⟩) (fun a => by fin_cases a <;> first | rfl | exact (Nat.zero_add _).symm)) ?_; exact ((by refine Eq.trans (hB.x2 (r0 t) _) ?_; exact (congrArg (fun z => ((og z ⟨384 + d.val, by omega⟩ : ℝ) : EReal)) (by show n + (r0 t).val = n + t.val; first | rfl | (simp only [r0, r1]; omega))))))))))))))))))
  have o02 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r0 t) ⟨256 + d.val, by omega⟩) = (outR (qR (acR X w b)) (kR (acR X w b)) v (fun h j => lsg (a h j)) e og 2 ⟨256 + d.val, by omega⟩ (n + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 1 (Or.inl (by show 256 + d.val < 384; omega))) ?_; exact ((by refine Eq.trans (View.read_writes_cons_unit_of_mem _ _ _ _ _ _ (ix2 t d) rfl (fun a => by fin_cases a <;> first | rfl | exact (Nat.zero_add _).symm)) ?_; exact ((out02 _ _ _ _ _ _ _ _ _ _ _ t d).trans
      (head_at 2 g0 m0.h2 ⟨256 + d.val, by omega⟩ t (by show (256 + d.val) / 128 = 2; omega) (pad2_eq _ _) q0 l0 kb0 c0 n0
        (fun s => (by refine Eq.trans (cv_apply _ _ _ _ (ix2 ⟨256 + d.val, by omega⟩ (r0 s)) (fun a => by fin_cases a <;> first | rfl | exact (Nat.zero_add _).symm)) ?_; exact ((by refine Eq.trans (View.read_writes_cons_unit_of_mem _ _ _ _ _ _ (ix2 ⟨256 + d.val, by omega⟩ (r0 s)) rfl (fun a => by fin_cases a <;> first | rfl | exact (Nat.zero_add _).symm)) ?_; exact ((by refine Eq.trans (ht _ (r0 s)) ?_; exact (congrArg (fun z => ((v z ⟨256 + d.val, by omega⟩ : ℝ) : EReal)) (by show n + (r0 s).val = n + s.val; first | rfl | (simp only [r0, r1]; omega)))))))))
        ((by refine Eq.trans (ld_apply harg4 x2 _ _ (ix2 (r0 t) ⟨256 + d.val, by omega⟩) (fun a => by fin_cases a <;> first | rfl | exact (Nat.zero_add _).symm)) ?_; exact ((by refine Eq.trans (hB.x2 (r0 t) _) ?_; exact (congrArg (fun z => ((og z ⟨256 + d.val, by omega⟩ : ℝ) : EReal)) (by show n + (r0 t).val = n + t.val; first | rfl | (simp only [r0, r1]; omega))))))))))))))))))))
  have o01 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r0 t) ⟨128 + d.val, by omega⟩) = (outR (qR (acR X w b)) (kR (acR X w b)) v (fun h j => lsg (a h j)) e og 1 ⟨128 + d.val, by omega⟩ (n + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 1 (Or.inl (by show 128 + d.val < 384; omega))) ?_; exact ((by refine Eq.trans (View.read_writes_cons_unit_of_not_mem _ _ _ _ _ _ rfl 1 (Or.inl (by show 128 + d.val < 256; omega))) ?_; exact ((by refine Eq.trans (View.read_writes_cons_unit_of_mem _ _ _ _ _ _ (ix2 t d) rfl (fun a => by fin_cases a <;> first | rfl | exact (Nat.zero_add _).symm)) ?_; exact ((out01 _ _ _ _ _ _ _ _ _ _ _ t d).trans
      (head_at 1 g0 m0.h1 ⟨128 + d.val, by omega⟩ t (by show (128 + d.val) / 128 = 1; omega) (pad1_eq _ _) q0 l0 kb0 c0 n0
        (fun s => (by refine Eq.trans (cv_apply _ _ _ _ (ix2 ⟨128 + d.val, by omega⟩ (r0 s)) (fun a => by fin_cases a <;> first | rfl | exact (Nat.zero_add _).symm)) ?_; exact ((by refine Eq.trans (View.read_writes_cons_unit_of_mem _ _ _ _ _ _ (ix2 ⟨128 + d.val, by omega⟩ (r0 s)) rfl (fun a => by fin_cases a <;> first | rfl | exact (Nat.zero_add _).symm)) ?_; exact ((by refine Eq.trans (ht _ (r0 s)) ?_; exact (congrArg (fun z => ((v z ⟨128 + d.val, by omega⟩ : ℝ) : EReal)) (by show n + (r0 s).val = n + s.val; first | rfl | (simp only [r0, r1]; omega)))))))))
        ((by refine Eq.trans (ld_apply harg4 x2 _ _ (ix2 (r0 t) ⟨128 + d.val, by omega⟩) (fun a => by fin_cases a <;> first | rfl | exact (Nat.zero_add _).symm)) ?_; exact ((by refine Eq.trans (hB.x2 (r0 t) _) ?_; exact (congrArg (fun z => ((og z ⟨128 + d.val, by omega⟩ : ℝ) : EReal)) (by show n + (r0 t).val = n + t.val; first | rfl | (simp only [r0, r1]; omega))))))))))))))))))))))
  have o00 : ∀ t d : Fin 128, out0_B_8 dv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0 xs1 xs2 xs3 (ix2 (r0 t) ⟨d.val, by omega⟩) = (outR (qR (acR X w b)) (kR (acR X w b)) v (fun h j => lsg (a h j)) e og 0 ⟨d.val, by omega⟩ (n + t.val) : EReal) := fun t d =>
    (by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 0 (Or.inl (by show t.val < 128; omega))) ?_; exact ((by refine Eq.trans (View.read_writes_cons_unit_of_not_mem _ _ _ _ _ _ rfl 1 (Or.inl (by show d.val < 384; omega))) ?_; exact ((by refine Eq.trans (View.read_writes_cons_unit_of_not_mem _ _ _ _ _ _ rfl 1 (Or.inl (by show d.val < 256; omega))) ?_; exact ((by refine Eq.trans (View.read_writes_cons_unit_of_not_mem _ _ _ _ _ _ rfl 1 (Or.inl (by show d.val < 128; omega))) ?_; exact ((by refine Eq.trans (View.read_writes_cons_unit_of_mem _ _ _ _ _ _ (ix2 t d) rfl (fun a => by fin_cases a <;> first | rfl | exact (Nat.zero_add _).symm)) ?_; exact ((out00 _ _ _ _ _ _ _ _ _ _ _ t d).trans
      (head_at 0 g0 m0.h0 ⟨d.val, by omega⟩ t (by show (d.val) / 128 = 0; omega) (pad0_eq _ _) q0 l0 kb0 c0 n0
        (fun s => (by refine Eq.trans (cv_apply _ _ _ _ (ix2 ⟨d.val, by omega⟩ (r0 s)) (fun a => by fin_cases a <;> first | rfl | exact (Nat.zero_add _).symm)) ?_; exact ((by refine Eq.trans (View.read_writes_cons_unit_of_mem _ _ _ _ _ _ (ix2 ⟨d.val, by omega⟩ (r0 s)) rfl (fun a => by fin_cases a <;> first | rfl | exact (Nat.zero_add _).symm)) ?_; exact ((by refine Eq.trans (ht _ (r0 s)) ?_; exact (congrArg (fun z => ((v z ⟨d.val, by omega⟩ : ℝ) : EReal)) (by show n + (r0 s).val = n + s.val; first | rfl | (simp only [r0, r1]; omega)))))))))
        ((by refine Eq.trans (ld_apply harg4 x2 _ _ (ix2 (r0 t) ⟨d.val, by omega⟩) (fun a => by fin_cases a <;> first | rfl | exact (Nat.zero_add _).symm)) ?_; exact ((by refine Eq.trans (hB.x2 (r0 t) _) ?_; exact (congrArg (fun z => ((og z ⟨d.val, by omega⟩ : ℝ) : EReal)) (by show n + (r0 t).val = n + t.val; first | rfl | (simp only [r0, r1]; omega))))))))))))))))))))))))
  refine ⟨fun r y => ?_, fun R c h1 h2 => ?_, fun y x => ?_, fun x => ?_, fun h => ?_⟩
  · have hd : y.val / 128 < 4 := by omega
    rcases Nat.lt_or_ge r.val 128 with hr | hr
    · obtain ⟨t, rfl⟩ : ∃ t, r = r0 t := ⟨⟨r.val, hr⟩, rfl⟩
      rcases split4 y with ⟨d, rfl⟩ | ⟨d, rfl⟩ | ⟨d, rfl⟩ | ⟨d, rfl⟩
      · exact (by refine Eq.trans (o00 t d) ?_; exact (outB_eq (h := 0) (by show d.val / 128 = 0; omega) rfl))
      · exact (by refine Eq.trans (o01 t d) ?_; exact (outB_eq (h := 1) (by show (128 + d.val) / 128 = 1; omega) rfl))
      · exact (by refine Eq.trans (o02 t d) ?_; exact (outB_eq (h := 2) (by show (256 + d.val) / 128 = 2; omega) rfl))
      · exact (by refine Eq.trans (o03 t d) ?_; exact (outB_eq (h := 3) (by show (384 + d.val) / 128 = 3; omega) rfl))
    · obtain ⟨t, rfl⟩ : ∃ t, r = r1 t := ⟨⟨r.val - 128, by omega⟩, Fin.ext (by show r.val = 128 + (r.val - 128); omega)⟩
      rcases split4 y with ⟨d, rfl⟩ | ⟨d, rfl⟩ | ⟨d, rfl⟩ | ⟨d, rfl⟩
      · exact (by refine Eq.trans (o10 t d) ?_; exact (outB_eq (h := 0) (by show d.val / 128 = 0; omega) (by show n + 128 + t.val = n + (128 + t.val); omega)))
      · exact (by refine Eq.trans (o11 t d) ?_; exact (outB_eq (h := 1) (by show (128 + d.val) / 128 = 1; omega) (by show n + 128 + t.val = n + (128 + t.val); omega)))
      · exact (by refine Eq.trans (o12 t d) ?_; exact (outB_eq (h := 2) (by show (256 + d.val) / 128 = 2; omega) (by show n + 128 + t.val = n + (128 + t.val); omega)))
      · exact (by refine Eq.trans (o13 t d) ?_; exact (outB_eq (h := 3) (by show (384 + d.val) / 128 = 3; omega) (by show n + 128 + t.val = n + (128 + t.val); omega)))
  · have hx : X (n + (248 + R.val)) c = padX X (n + 256 + R.val - 5) c := by
      unfold padX
      rw [if_neg (by omega)]
      exact congrArg (fun z => X z c) (by omega)
    exact (by refine Eq.trans (View.read_writes_cons_unit_of_mem _ _ _ _ _ _ (ix2 (⟨R.val, h2⟩ : Fin 8) c) rfl (fun a => by fin_cases a <;> first | rfl | exact (Nat.zero_add _).symm)) ?_; exact ((by refine Eq.trans (tail_word _ _ _) ?_; exact ((cv_apply _ _ _ _ (ix2 ⟨256 + R.val, by omega⟩ c) (fun a => by fin_cases a <;> first | rfl | exact (Nat.zero_add _).symm)).trans
      ((by refine Eq.trans (View.read_writes_cons_unit_of_mem _ _ _ _ _ _ (ix2 ⟨248 + R.val, by omega⟩ c) rfl (fun a => by fin_cases a <;> first | (show 256 + R.val = 8 + (248 + R.val); omega) | exact (Nat.zero_add _).symm)) ?_; exact ((by refine Eq.trans (x_word _ _ _) ?_; exact ((by refine Eq.trans (ld_apply harg2 x0 _ _ (ix2 ⟨248 + R.val, by omega⟩ c) (fun a => by fin_cases a <;> first | rfl | exact (Nat.zero_add _).symm)) ?_; exact ((by refine Eq.trans (hB.x0 _ c) ?_; exact (congrArg (fun z : ℝ => (z : EReal)) hx)))))))))))))
  · exact (by refine Eq.trans (View.read_writes_cons_unit_of_mem _ _ _ _ _ _ (ix2 y x) rfl (fun a => by fin_cases a <;> first | rfl | exact (Nat.zero_add _).symm)) ?_; exact ((mat1 _ _ _ _ _ _ _ _ _ _ _ y x).trans
      ((by refine Eq.trans (congrArg (fun z => _ + z * _) (keep1_sum _)) ?_; exact (mat_at g1 m1 c1 hV1 w1 hbd y x)))))
  · exact (by refine Eq.trans (View.read_writes_cons_unit_of_mem _ _ _ _ _ _ (ix2 0 x) rfl (fun a => by fin_cases a <;> first | rfl | exact (Nat.zero_add _).symm)) ?_; exact ((by refine Eq.trans (norm1 _ _ _ _ _ _ _ _ _ x) ?_; exact (norm_at g1 m1 ka1 n1 x))))
  · fin_cases h
    · exact (by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab10 _ _ _ _) ?_; exact (mW_at (g1.gi 0) (g1.bc 0) (g1.br 0) m1.h0))))))))))
    · exact (by refine Eq.trans (View.read_writes_cons_unit_of_not_mem _ _ _ _ _ _ rfl 1 (Or.inl (by decide))) ?_; exact ((by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab11 _ _ _ _) ?_; exact (mW_at (g1.gi 1) (g1.bc 1) (g1.br 1) m1.h1))))))))
    · exact (by refine Eq.trans (View.read_writes_cons_unit_of_not_mem _ _ _ _ _ _ rfl 1 (Or.inl (by decide))) ?_; exact ((by refine Eq.trans (View.read_writes_cons_unit_of_mem _ _ _ _ _ _ (ix2 0 0) rfl (fun a => by fin_cases a <;> first | rfl | exact (Nat.zero_add _).symm)) ?_; exact ((by refine Eq.trans (stab12 _ _ _ _) ?_; exact (mW_at (g1.gi 2) (g1.bc 2) (g1.br 2) m1.h2))))))
    · exact (by refine Eq.trans (View.read_writes_cons_unit_of_mem _ _ _ _ _ _ (ix2 0 0) rfl (fun a => by fin_cases a <;> first | rfl | exact (Nat.zero_add _).symm)) ?_; exact ((by refine Eq.trans (stab13 _ _ _ _) ?_; exact (mW_at (g1.gi 3) (g1.bc 3) (g1.br 3) m1.h3))))

end Cert.Mlstm

end
-- ==== Proof.Entry.lean ====
/- The arrays the kernel's region is entered with, read at an index: the reshaped arguments, the gates side by side and the two masks. -/
module

public import proofs.«01_k».proof.Proof.Point
public import proofs.«01_k».proof.Proof.Gen.KernelIdeal.Value

@[expose] public section
set_option maxRecDepth 16384
noncomputable section
namespace Cert.Mlstm
open Idealize.ShloMosaic Idealize.ShloMosaic.TcCoe Idealize.SL.Sem
open Cert.KernelIdeal Cert.KernelIdeal.Gen

variable (m : (ℓ : Loc nD τ sig) → Buf (Elt Ideal) ℓ)

/-- A batched array laid out row after row. -/
theorem flat3 {C : ℕ} {α : Type} (A : (⟨3, ![2, 16384, C]⟩ : Shape).Idx → α) (h : (⟨3, ![2, 16384, C]⟩ : Shape).ShapeCasts ⟨2, ![32768, C]⟩) (R : Fin 32768) (p : Fin C) :
    shapeCast ⟨2, ![32768, C]⟩ A h (ix2 R p) = A (ix3 ⟨R.val / 16384, by omega⟩ ⟨R.val % 16384, by omega⟩ p) := by
  refine shapeCast_apply A h _ _ ?_
  rw [Shape.rowMajor_val_three, Shape.rowMajor_val_two]
  show (R.val / 16384 * 16384 + R.val % 16384) * C + p.val = R.val * C + p.val
  rw [Nat.div_add_mod']

/-! The masks' words: the stretch a position is in and the order of two positions. -/

theorem div128 : ∀ r : Fin 512, IntOp.divsi .host (BitVec.ofNat 32 r.val) 128#32 = BitVec.ofNat 32 (r.val / 128) := by decide +kernel
theorem div64 : ∀ r : Fin 256, IntOp.divsi .host (BitVec.ofNat 32 r.val) 64#32 = BitVec.ofNat 32 (r.val / 64) := by decide +kernel
theorem eqBit : ∀ a b : Fin 4, IntOp.cmpi .eq (BitVec.ofNat 32 a.val) (BitVec.ofNat 32 b.val) = if a.val = b.val then 1#1 else 0#1 := by decide +kernel
theorem leBit : ∀ a b : Fin 256, IntOp.cmpi .sle (BitVec.ofNat 32 a.val) (BitVec.ofNat 32 b.val) = if a.val ≤ b.val then 1#1 else 0#1 := by decide +kernel
theorem bit1 : (FloatOps.uitofp .f32 (1#1) : Ideal .f32) = ((1 : ℝ) : EReal) := by
  show ((((1#1).toNat : ℕ) : ℝ) : EReal) = _
  norm_num
theorem bit0 : (FloatOps.uitofp .f32 (0#1) : Ideal .f32) = ((0 : ℝ) : EReal) := by
  show ((((0#1).toNat : ℕ) : ℝ) : EReal) = _
  norm_num

theorem ent24 (c : Dev nD) (r x : Fin 256)  : (V m c main_v24 : S256x256.Idx → EReal) (ix2 r x) = (triR r x : EReal) := by
  have e : (V m c main_v24 : S256x256.Idx → EReal) = truncf .bf16 (uitofp (F := Ideal) .f32 (andi (cmpi .eq (Host.divsi (iotaInDim S256x256 32 0) (broadcastInDim S256x256 ![] bcast_S_S256x256 (constantI S_ 32 128#32))) (Host.divsi (iotaInDim S256x256 32 1) (broadcastInDim S256x256 ![] bcast_S_S256x256 (constantI S_ 32 128#32)))) (cmpi .sle (iotaInDim S256x256 32 1) (iotaInDim S256x256 32 0)))) bitsLt_bf16_f32 := by
    unfold V hostOps0; after_results
  rw [e]
  pointwise
  rw [div128 ⟨r.val, by omega⟩, div128 ⟨x.val, by omega⟩, eqBit ⟨r.val / 128, by omega⟩ ⟨x.val / 128, by omega⟩, leBit x r]
  unfold triR
  by_cases h1 : r.val / 128 = x.val / 128 <;> by_cases h2 : x.val ≤ r.val
  · rw [if_pos h1, if_pos h2, if_pos ⟨h1.symm, h2⟩]; exact bit1
  · rw [if_pos h1, if_neg h2, if_neg (fun h => h2 h.2)]; exact bit0
  · rw [if_neg h1, if_pos h2, if_neg (fun h => h1 h.1.symm)]; exact bit0
  · rw [if_neg h1, if_neg h2, if_neg (fun h => h1 h.1.symm)]; exact bit0
theorem ent26 (c : Dev nD) (r : Fin 512) (x : Fin 256)  : (V m c main_v26 : S512x256.Idx → EReal) (ix2 r x) = ((if r.val / 128 = x.val / 64 then 1 else 0 : ℝ) : EReal) := by
  have e : (V m c main_v26 : S512x256.Idx → EReal) = uitofp (F := Ideal) .f32 (cmpi .eq (Host.divsi (iotaInDim S512x256 32 0) (broadcastInDim S512x256 ![] bcast_S_S512x256 (constantI S_ 32 128#32))) (Host.divsi (iotaInDim S512x256 32 1) (broadcastInDim S512x256 ![] bcast_S_S512x256 (constantI S_ 32 64#32)))) := by
    unfold V hostOps0; after_results
  rw [e]
  pointwise
  rw [div128 r, div64 x, eqBit ⟨r.val / 128, by omega⟩ ⟨x.val / 64, by omega⟩]
  by_cases h : r.val / 128 = x.val / 64
  · rw [if_pos h, if_pos h]; exact bit1
  · rw [if_neg h, if_neg h]; exact bit0
theorem ent7 (c : Dev nD) (p : Fin 512) : (V m c main_v7 : S1x512.Idx → EReal) (ix2 0 p) = (m ((c : Thread nD τ).loc main_arg6) : S512.Idx → EReal) (ix1 p) := by
  have e : (V m c main_v7 : S1x512.Idx → EReal) = broadcastInDim S1x512 ![1] bcast_S512_S1x512_1 (m ((c : Thread nD τ).loc main_arg6)) := by
    unfold V hostOps0; after_results
  rw [e]
  pointwise
theorem ent2 (c : Dev nD) (R : Fin 32768) (p : Fin 512) : (V m c main_v2 : S32768x512.Idx → EReal) (ix2 R p)
   = (m ((c : Thread nD τ).loc main_arg0) : S2x16384x512.Idx → EReal) (ix3 ⟨R.val / 16384, by omega⟩ ⟨R.val % 16384, by omega⟩ p) := by
  have e : (V m c main_v2 : S32768x512.Idx → EReal) = shapeCast S32768x512 (m ((c : Thread nD τ).loc main_arg0)) shapeCasts_S2x16384x512_S32768x512 := by
    unfold V hostOps0; after_results; rfl
  rw [e]
  exact flat3 _ _ R p
theorem ent4 (c : Dev nD) (R : Fin 32768) (p : Fin 512) : (V m c main_v4 : S32768x512.Idx → EReal) (ix2 R p)
   = (m ((c : Thread nD τ).loc main_arg1) : S2x16384x512.Idx → EReal) (ix3 ⟨R.val / 16384, by omega⟩ ⟨R.val % 16384, by omega⟩ p) := by
  have e : (V m c main_v4 : S32768x512.Idx → EReal) = shapeCast S32768x512 (m ((c : Thread nD τ).loc main_arg1)) shapeCasts_S2x16384x512_S32768x512 := by
    unfold V hostOps0; after_results; rfl
  rw [e]
  exact flat3 _ _ R p
theorem ent5 (c : Dev nD) (R : Fin 32768) (p : Fin 512) : (V m c main_v5 : S32768x512.Idx → EReal) (ix2 R p)
   = (m ((c : Thread nD τ).loc main_arg2) : S2x16384x512.Idx → EReal) (ix3 ⟨R.val / 16384, by omega⟩ ⟨R.val % 16384, by omega⟩ p) := by
  have e : (V m c main_v5 : S32768x512.Idx → EReal) = shapeCast S32768x512 (m ((c : Thread nD τ).loc main_arg2)) shapeCasts_S2x16384x512_S32768x512 := by
    unfold V hostOps0; after_results; rfl
  rw [e]
  exact flat3 _ _ R p
/-- The gates' rows: the input gates, the forget gates and zeros side by side. -/
def gcat (A B : (⟨S2x16384x4, .f32⟩ : BufTy).Contents (Elt Ideal)) (Z : (⟨S2x16384x120, .f32⟩ : BufTy).Contents (Elt Ideal)) : (⟨S2x16384x128, .f32⟩ : BufTy).Contents (Elt Ideal) :=
  concatenate S2x16384x128 2 [⟨S2x16384x4, A⟩, ⟨S2x16384x4, B⟩, ⟨S2x16384x120, Z⟩] concatenates_S2x16384x4_S2x16384x4_S2x16384x120_S2x16384x128_d2
theorem gcat0 (A : (⟨S2x16384x4, .f32⟩ : BufTy).Contents (Elt Ideal)) (B Z) (b : Fin 2) (j : Fin 16384) (h : Fin 4) : gcat A B Z (ix3 b j ⟨h.val, by omega⟩) = A (ix3 b j h) := by
  unfold gcat
  pointwise
theorem gcat1 (A : (⟨S2x16384x4, .f32⟩ : BufTy).Contents (Elt Ideal)) (B Z) (b : Fin 2) (j : Fin 16384) (h : Fin 4) : gcat A B Z (ix3 b j ⟨4 + h.val, by omega⟩) = B (ix3 b j h) := by
  unfold gcat
  pointwise
theorem gts (c : Dev nD) : (V m c main_v6 : S32768x128.Idx → EReal) = shapeCast S32768x128 (gcat (m ((c : Thread nD τ).loc main_arg3)) (m ((c : Thread nD τ).loc main_arg4)) (V m c main_v0)) shapeCasts_S2x16384x128_S32768x128 := by
  have e1 : V m c main_v1 = gcat (m ((c : Thread nD τ).loc main_arg3)) (m ((c : Thread nD τ).loc main_arg4)) (V m c main_v0) := by
    unfold V hostOps0; after_results; rfl
  rw [← e1]
  unfold V hostOps0; after_results; rfl
end Cert.Mlstm
end
-- ==== Proof.Grid.lean ====
/- The kernel's result array: by induction on the grid's points each point's stores are the recurrence's outputs of its block. -/
module

public import proofs.«01_k».proof.Proof.Entry

@[expose] public section
set_option maxRecDepth 16384
noncomputable section
namespace Cert.Mlstm
open Idealize.ShloMosaic Idealize.ShloMosaic.TcCoe Idealize.SL.Sem
open Cert.KernelIdeal Cert.KernelIdeal.Gen Cert.KernelIdeal.Value

/-- The real sequence of one batch element, zero past its end. -/
def at3 {C : ℕ} (A : (⟨3, ![2, 16384, C]⟩ : Shape).Idx → EReal) (b : Fin 2) (j : ℕ) (p : Fin C) : ℝ :=
  if h : j < 16384 then (A (ix3 b ⟨j, h⟩ p)).toReal else 0

/-- Every element is a real number. -/
def Fin' {s : Shape} (A : s.Idx → EReal) : Prop := ∀ i, A i ≠ ⊤ ∧ A i ≠ ⊥

theorem at3_coe {C : ℕ} {A : (⟨3, ![2, 16384, C]⟩ : Shape).Idx → EReal} (hA : Fin' A) (b : Fin 2) (j : ℕ) (h : j < 16384) (p : Fin C) :
    A (ix3 b ⟨j, h⟩ p) = (at3 A b j p : EReal) := by
  unfold at3
  rw [dif_pos h, EReal.coe_toReal (hA _).1 (hA _).2]

theorem row_at {C : ℕ} {A : (⟨3, ![2, 16384, C]⟩ : Shape).Idx → EReal} (hA : Fin' A) (t r : ℕ) (ht : t < 128) (hr : r < 256) (R : ℕ) (hR : R = t * 256 + r) (p : Fin C) :
    A (ix3 ⟨R / 16384, by omega⟩ ⟨R % 16384, by omega⟩ p) = (at3 A ⟨t / 64, by omega⟩ (256 * (t % 64) + r) p : EReal) :=
  (congrArg₂ (fun u w => A (ix3 u w p)) (Fin.ext (by show R / 16384 = t / 64; omega) : (⟨R / 16384, by omega⟩ : Fin 2) = ⟨t / 64, by omega⟩)
    (Fin.ext (by show R % 16384 = 256 * (t % 64) + r; omega) : (⟨R % 16384, by omega⟩ : Fin 16384) = ⟨256 * (t % 64) + r, by omega⟩)).trans (at3_coe hA _ _ _ p)

variable (m : (ℓ : Loc nD τ sig) → Buf (Elt Ideal) ℓ)

theorem idxFacts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ (∀ a, win0_4.index t a = 0) ∧ (∀ a, win0_5.index t a = 0) ∧ (∀ a, win0_6.index t a = 0) ∧ (∀ a, win0_7.index t a = 0) :=
  (by decide +kernel : ∀ t : Fin grid0.N, _)

/-- The argument arrays. -/
abbrev a0 (c : Dev nD) : S2x16384x512.Idx → EReal := m ((c : Thread nD τ).loc main_arg0)
abbrev a1 (c : Dev nD) : S2x16384x512.Idx → EReal := m ((c : Thread nD τ).loc main_arg1)
abbrev a2 (c : Dev nD) : S2x16384x512.Idx → EReal := m ((c : Thread nD τ).loc main_arg2)
abbrev a3 (c : Dev nD) : S2x16384x4.Idx → EReal := m ((c : Thread nD τ).loc main_arg3)
abbrev a4 (c : Dev nD) : S2x16384x4.Idx → EReal := m ((c : Thread nD τ).loc main_arg4)
abbrev a5 (c : Dev nD) : S4x512.Idx → EReal := m ((c : Thread nD τ).loc main_arg5)
abbrev a6 (c : Dev nD) : S512.Idx → EReal := m ((c : Thread nD τ).loc main_arg6)

/-- Every argument's elements are real numbers. -/
structure AllFin (A0 A1 A2 : S2x16384x512.Idx → EReal) (A3 A4 : S2x16384x4.Idx → EReal) (A5 : S4x512.Idx → EReal) (A6 : S512.Idx → EReal) : Prop where
  f0 : Fin' A0
  f1 : Fin' A1
  f2 : Fin' A2
  f3 : Fin' A3
  f4 : Fin' A4
  f5 : Fin' A5
  f6 : Fin' A6

/-- The convolution's weights and offsets as real numbers. -/
def cw (A5 : S4x512.Idx → EReal) (k : Fin 4) (p : Fin 512) : ℝ := (A5 (ix2 k p)).toReal
def cb (A6 : S512.Idx → EReal) (p : Fin 512) : ℝ := (A6 (ix1 p)).toReal

/-- The result of one batch element at position `j`, column `y`. -/
def resB (A0 A1 A2 : S2x16384x512.Idx → EReal) (A3 A4 : S2x16384x4.Idx → EReal) (A5 : S4x512.Idx → EReal) (A6 : S512.Idx → EReal)
    (b : Fin 2) (r : Fin 256) (y : Fin 512) (j : ℕ) : ℝ :=
  outB (at3 A0 b) (cw A5) (cb A6) (at3 A1 b) (at3 A2 b) (fun h j => at3 A4 b j h) (fun h j => at3 A3 b j h) r y j

theorem blk0 (c : Dev nD) (t : Fin cfg0.N) (ht : t.val < 128) : ∀ (r : Fin 256) (p : Fin 512), (iblk m c 0 t : S256x512.Idx → EReal) (ix2 r p) = (V m c main_v2 : S32768x512.Idx → EReal) (ix2 ⟨t.val * 256 + r.val, by omega⟩ p) := by
  obtain ⟨p0, q0, p1, q1, p2, q2, p3, q3, g4, g5, g6, g7⟩ := idxFacts t
  intro r p
  show V m c main_v2 (((cfg0.win 0).blk t).view.emb (ix2 r p : S256x512.Idx)) = _
  congr 1
  funext a; apply Fin.ext
  match a with
  | ⟨0, _⟩ => show win0_0.index t (0 : Fin 2) * 256 + 1 * r.val = t.val * 256 + r.val; rw [p0]; omega
  | ⟨1, _⟩ => show win0_0.index t (1 : Fin 2) * 512 + 1 * p.val = p.val; rw [q0]; omega

theorem blk1 (c : Dev nD) (t : Fin cfg0.N) (ht : t.val < 128) : ∀ (r : Fin 256) (p : Fin 512), (iblk m c 1 t : S256x512.Idx → EReal) (ix2 r p) = (V m c main_v4 : S32768x512.Idx → EReal) (ix2 ⟨t.val * 256 + r.val, by omega⟩ p) := by
  obtain ⟨p0, q0, p1, q1, p2, q2, p3, q3, g4, g5, g6, g7⟩ := idxFacts t
  intro r p
  show V m c main_v4 (((cfg0.win 1).blk t).view.emb (ix2 r p : S256x512.Idx)) = _
  congr 1
  funext a; apply Fin.ext
  match a with
  | ⟨0, _⟩ => show win0_1.index t (0 : Fin 2) * 256 + 1 * r.val = t.val * 256 + r.val; rw [p1]; omega
  | ⟨1, _⟩ => show win0_1.index t (1 : Fin 2) * 512 + 1 * p.val = p.val; rw [q1]; omega

theorem blk2 (c : Dev nD) (t : Fin cfg0.N) (ht : t.val < 128) : ∀ (r : Fin 256) (p : Fin 512), (iblk m c 2 t : S256x512.Idx → EReal) (ix2 r p) = (V m c main_v5 : S32768x512.Idx → EReal) (ix2 ⟨t.val * 256 + r.val, by omega⟩ p) := by
  obtain ⟨p0, q0, p1, q1, p2, q2, p3, q3, g4, g5, g6, g7⟩ := idxFacts t
  intro r p
  show V m c main_v5 (((cfg0.win 2).blk t).view.emb (ix2 r p : S256x512.Idx)) = _
  congr 1
  funext a; apply Fin.ext
  match a with
  | ⟨0, _⟩ => show win0_2.index t (0 : Fin 2) * 256 + 1 * r.val = t.val * 256 + r.val; rw [p2]; omega
  | ⟨1, _⟩ => show win0_2.index t (1 : Fin 2) * 512 + 1 * p.val = p.val; rw [q2]; omega

theorem blk3 (c : Dev nD) (t : Fin cfg0.N) (ht : t.val < 128) : ∀ (r : Fin 256) (p : Fin 128), (iblk m c 3 t : S256x128.Idx → EReal) (ix2 r p) = (V m c main_v6 : S32768x128.Idx → EReal) (ix2 ⟨t.val * 256 + r.val, by omega⟩ p) := by
  obtain ⟨p0, q0, p1, q1, p2, q2, p3, q3, g4, g5, g6, g7⟩ := idxFacts t
  intro r p
  show V m c main_v6 (((cfg0.win 3).blk t).view.emb (ix2 r p : S256x128.Idx)) = _
  congr 1
  funext a; apply Fin.ext
  match a with
  | ⟨0, _⟩ => show win0_3.index t (0 : Fin 2) * 256 + 1 * r.val = t.val * 256 + r.val; rw [p3]; omega
  | ⟨1, _⟩ => show win0_3.index t (1 : Fin 2) * 128 + 1 * p.val = p.val; rw [q3]; omega

theorem blk4 (c : Dev nD) (t : Fin cfg0.N) (ht : t.val < 128) : ∀ (k : Fin 4) (p : Fin 512), (iblk m c 4 t : S4x512.Idx → EReal) (ix2 k p) = a5 m c (ix2 k p) := by
  obtain ⟨p0, q0, p1, q1, p2, q2, p3, q3, g4, g5, g6, g7⟩ := idxFacts t
  intro k p
  unfold a5
  rw [← V_main_arg5 m c]
  show V m c main_arg5 (((cfg0.win 4).blk t).view.emb (ix2 k p : S4x512.Idx)) = _
  congr 1
  funext a; apply Fin.ext
  match a with
  | ⟨0, _⟩ => show win0_4.index t (0 : Fin 2) * 4 + 1 * k.val = k.val; rw [g4]; omega
  | ⟨1, _⟩ => show win0_4.index t (1 : Fin 2) * 512 + 1 * p.val = p.val; rw [g4]; omega

theorem blk5 (c : Dev nD) (t : Fin cfg0.N) (ht : t.val < 128) : ∀ (p : Fin 512), (iblk m c 5 t : S1x512.Idx → EReal) (ix2 0 p) = (V m c main_v7 : S1x512.Idx → EReal) (ix2 0 p) := by
  obtain ⟨p0, q0, p1, q1, p2, q2, p3, q3, g4, g5, g6, g7⟩ := idxFacts t
  intro p
  show V m c main_v7 (((cfg0.win 5).blk t).view.emb (ix2 0 p : S1x512.Idx)) = _
  congr 1
  funext a; apply Fin.ext
  match a with
  | ⟨0, _⟩ => show win0_5.index t (0 : Fin 2) * 1 + 1 * 0 = 0; rw [g5]
  | ⟨1, _⟩ => show win0_5.index t (1 : Fin 2) * 512 + 1 * p.val = p.val; rw [g5]; omega

theorem blk6 (c : Dev nD) (t : Fin cfg0.N) (ht : t.val < 128) : ∀ (r x : Fin 256), (iblk m c 6 t : S256x256.Idx → EReal) (ix2 r x) = (V m c main_v24 : S256x256.Idx → EReal) (ix2 r x) := by
  obtain ⟨p0, q0, p1, q1, p2, q2, p3, q3, g4, g5, g6, g7⟩ := idxFacts t
  intro r x
  show V m c main_v24 (((cfg0.win 6).blk t).view.emb (ix2 r x : S256x256.Idx)) = _
  congr 1
  funext a; apply Fin.ext
  match a with
  | ⟨0, _⟩ => show win0_6.index t (0 : Fin 2) * 256 + 1 * r.val = r.val; rw [g6]; omega
  | ⟨1, _⟩ => show win0_6.index t (1 : Fin 2) * 256 + 1 * x.val = x.val; rw [g6]; omega

theorem blk7 (c : Dev nD) (t : Fin cfg0.N) (ht : t.val < 128) : ∀ (y : Fin 512) (x : Fin 256), (iblk m c 7 t : S512x256.Idx → EReal) (ix2 y x) = (V m c main_v26 : S512x256.Idx → EReal) (ix2 y x) := by
  obtain ⟨p0, q0, p1, q1, p2, q2, p3, q3, g4, g5, g6, g7⟩ := idxFacts t
  intro y x
  show V m c main_v26 (((cfg0.win 7).blk t).view.emb (ix2 y x : S512x256.Idx)) = _
  congr 1
  funext a; apply Fin.ext
  match a with
  | ⟨0, _⟩ => show win0_7.index t (0 : Fin 2) * 512 + 1 * y.val = y.val; rw [g7]; omega
  | ⟨1, _⟩ => show win0_7.index t (1 : Fin 2) * 256 + 1 * x.val = x.val; rw [g7]; omega

set_option maxHeartbeats 1000000 in
/-- The blocks a point loads. -/
theorem block_at (c : Dev nD) (hF : AllFin (a0 m c) (a1 m c) (a2 m c) (a3 m c) (a4 m c) (a5 m c) (a6 m c)) (t : Fin cfg0.N) (ht : t.val < 128) :
    Block (at3 (a0 m c) ⟨t.val / 64, by omega⟩) (cw (a5 m c)) (cb (a6 m c)) (at3 (a1 m c) ⟨t.val / 64, by omega⟩) (at3 (a2 m c) ⟨t.val / 64, by omega⟩)
      (fun h j => at3 (a4 m c) ⟨t.val / 64, by omega⟩ j h) (fun h j => at3 (a3 m c) ⟨t.val / 64, by omega⟩ j h) (256 * (t.val % 64))
      (iblk m c 0 t) (iblk m c 1 t) (iblk m c 2 t) (iblk m c 3 t) (iblk m c 4 t) (iblk m c 5 t) (iblk m c 6 t) (iblk m c 7 t) := by
  refine ⟨fun r p => ?_, fun r p => ?_, fun r p => ?_, ⟨fun h x => ?_, fun h x => ?_, fun r x => ?_⟩, fun k p => ?_, fun p => ?_, fun y x => ?_⟩
  · exact (blk0 m c t ht r p).trans ((ent2 m c _ p).trans (row_at hF.f0 t.val r.val ht r.isLt _ rfl p))
  · exact (blk1 m c t ht r p).trans ((ent4 m c _ p).trans (row_at hF.f1 t.val r.val ht r.isLt _ rfl p))
  · exact (blk2 m c t ht r p).trans ((ent5 m c _ p).trans (row_at hF.f2 t.val r.val ht r.isLt _ rfl p))
  · refine (blk3 m c t ht x _).trans ((congrFun (gts m c) _).trans ((flat3 _ _ _ _).trans ((gcat0 _ _ _ _ _ h).trans (row_at hF.f3 t.val x.val ht x.isLt _ rfl h))))
  · refine (blk3 m c t ht x _).trans ((congrFun (gts m c) _).trans ((flat3 _ _ _ _).trans ((gcat1 _ _ _ _ _ h).trans (row_at hF.f4 t.val x.val ht x.isLt _ rfl h))))
  · exact (blk6 m c t ht r x).trans (ent24 m c r x)
  · exact (blk4 m c t ht k p).trans (EReal.coe_toReal (hF.f5 _).1 (hF.f5 _).2).symm
  · exact (blk5 m c t ht p).trans ((ent7 m c p).trans (EReal.coe_toReal (hF.f6 _).1 (hF.f6 _).2).symm)
  · exact (blk7 m c t ht y x).trans (ent26 m c y x)

set_option maxHeartbeats 1000000 in
/-- A point which begins a batch element. -/
theorem first (c : Dev nD) (hF : AllFin (a0 m c) (a1 m c) (a2 m c) (a3 m c) (a4 m c) (a5 m c) (a6 m c)) (n : ℕ) (hn : n < cfg0.N) (hn' : n < 128) (acc : _) (h0 : n % 64 = 0) :
  (∀ r y, (stAt0 m c n hn acc).1 (ix2 r y) = (resB (a0 m c) (a1 m c) (a2 m c) (a3 m c) (a4 m c) (a5 m c) (a6 m c) ⟨n / 64, by omega⟩ r y (256 * (n % 64) + r.val) : EReal))
  ∧ Carry (at3 (a0 m c) ⟨n / 64, by omega⟩) (cw (a5 m c)) (cb (a6 m c)) (at3 (a1 m c) ⟨n / 64, by omega⟩)
      (fun h j => at3 (a4 m c) ⟨n / 64, by omega⟩ j h) (fun h j => at3 (a3 m c) ⟨n / 64, by omega⟩ j h) (256 * (n % 64) + 256)
      (stAt0 m c n hn acc).2.1 (stAt0 m c n hn acc).2.2.1 (stAt0 m c n hn acc).2.2.2.1 (stAt0 m c n hn acc).2.2.2.2 := by
  have hb := block_at m c hF ⟨n, hn⟩ hn'
  have hN : 256 * (n % 64) = 0 := by omega
  change Block _ _ _ _ _ _ _ (256 * (n % 64)) _ _ _ _ _ _ _ _ at hb
  rw [hN] at hb
  have q := pointA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n, hn⟩).mpr h0) _ _ _ _ _ _ _ _ hb
  rw [stAt0_A m c ⟨n, hn⟩ acc h0, hN]
  refine ⟨fun r y => ?_, ?_⟩
  · have := q.1 r y
    unfold resB
    dsimp only
    exact this
  · have := q.2
    dsimp only
    exact this

set_option maxHeartbeats 1000000 in
/-- What the buffers hold after a point. -/
theorem sweep (c : Dev nD) (hF : AllFin (a0 m c) (a1 m c) (a2 m c) (a3 m c) (a4 m c) (a5 m c) (a6 m c)) : ∀ (n : ℕ) (hn : n < cfg0.N) (hn' : n < 128),
    (∀ r y, (outsAt0 m c n hn).1 (ix2 r y) = (resB (a0 m c) (a1 m c) (a2 m c) (a3 m c) (a4 m c) (a5 m c) (a6 m c) ⟨n / 64, by omega⟩ r y (256 * (n % 64) + r.val) : EReal))
    ∧ Carry (at3 (a0 m c) ⟨n / 64, by omega⟩) (cw (a5 m c)) (cb (a6 m c)) (at3 (a1 m c) ⟨n / 64, by omega⟩)
        (fun h j => at3 (a4 m c) ⟨n / 64, by omega⟩ j h) (fun h j => at3 (a3 m c) ⟨n / 64, by omega⟩ j h) (256 * (n % 64) + 256)
        (outsAt0 m c n hn).2.1 (outsAt0 m c n hn).2.2.1 (outsAt0 m c n hn).2.2.2.1 (outsAt0 m c n hn).2.2.2.2 := by
  intro n
  induction n with
  | zero =>
    intro hn hn'
    rw [outsAt0_zero]
    exact first m c hF 0 hn hn' _ rfl
  | succ k ih =>
    intro hn hn'
    rw [outsAt0_succ]
    by_cases h0 : (k + 1) % 64 = 0
    · exact first m c hF (k + 1) hn hn' _ h0
    · have hi := (ih (Nat.lt_of_succ_lt hn) (by omega)).2
      have hb := block_at m c hF ⟨k + 1, hn⟩ hn'
      have e : (⟨(k + 1) / 64, by omega⟩ : Fin 2) = ⟨k / 64, by omega⟩ := Fin.ext (by show (k + 1) / 64 = k / 64; omega)
      have hN : 256 * ((k + 1) % 64) = 256 * (k % 64) + 256 := by omega
      change Block _ _ _ _ _ _ _ (256 * ((k + 1) % 64)) _ _ _ _ _ _ _ _ at hb
      rw [hN] at hb
      rw [stAt0_B m c ⟨k + 1, hn⟩ _ h0, hN]
      simp only [e] at hb ⊢
      exact pointB c _ _ _ _ _ _ _ _ _ _ _ _ _ _ _ _ _ _ _ _ _ _ _ _ _ _ _ _ _ _ _ _ _ _ _ _ _ _ _ _ _ _ _ _ _ _ hb hi

/-- The kernel's result array. -/
def res (A0 A1 A2 : S2x16384x512.Idx → EReal) (A3 A4 : S2x16384x4.Idx → EReal) (A5 : S4x512.Idx → EReal) (A6 : S512.Idx → EReal) :
    S32768x512.Idx → EReal := fun i =>
  ((resB A0 A1 A2 A3 A4 A5 A6 ⟨(i 0).val / 16384, by have : (i 0).val < 32768 := (i 0).isLt; omega⟩ 0 (i 1) ((i 0).val % 16384) : ℝ) : EReal)

theorem result_at (c : Dev nD) (hF : AllFin (a0 m c) (a1 m c) (a2 m c) (a3 m c) (a4 m c) (a5 m c) (a6 m c)) :
    G8 m c = res (a0 m c) (a1 m c) (a2 m c) (a3 m c) (a4 m c) (a5 m c) (a6 m c) := by
  funext i
  have h0 : (i 0).val < 32768 := (i 0).isLt
  have h1 : (i 1).val < 512 := (i 1).isLt
  have hp : pt8Of i = (i 0).val / 256 := by show 1 * ((i 0).val / 256 - 0) + 1 * ((i 1).val / 512 - 0) = _; omega
  have hN : pt8Of i < cfg0.N := by rw [hp]; exact lt_of_lt_of_eq (by omega) N_0.symm
  have hl : loc8Of i = ix2 (⟨(i 0).val % 256, by omega⟩ : Fin 256) (i 1) := by
    funext a; apply Fin.ext
    match a with
    | ⟨0, _⟩ => rfl
    | ⟨1, _⟩ => show (i 1).val % 512 = (i 1).val; omega
  have e : pt8Of i / 64 = (i 0).val / 16384 := by rw [hp]; omega
  unfold G8
  rw [dif_pos hN, ← outsAt0_sweep m c _ hN, hl]
  refine ((sweep m c hF _ hN (by omega)).1 _ _).trans ?_
  unfold res
  have e' : 256 * (pt8Of i % 64) + (i 0).val % 256 = (i 0).val % 16384 := by omega
  simp only [e, e']
  rfl
end Cert.Mlstm
end
-- ==== Proof.RefEntry.lean ====
/- What the reference's loop finds at its entry: the convolved and activated queries and keys, the values and the gates, cut into
   chunks of 64 positions, and an empty state. -/
module

public import proofs.«01_k».proof.Proof.Step
public import proofs.«01_k».proof.Proof.Grid

@[expose] public section
noncomputable section
namespace Cert.Mlstm
open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

/-! ## The arrays -/

def rpad (A0 : FVec Ideal S2x16384x512 .f32) : FVec Ideal S2x16387x512 .f32 :=
  pad S2x16387x512 ![0, 3, 0] ![0, 0, 0] ![0, 0, 0] A0 (sitofp .f32 (constantI S_ 32 0#32)) pads_S2x16384x512_S2x16387x512_000_300_000 h_S_

def rrow (A : FVec Ideal S1x512 .f32) : FVec Ideal S2x16384x512 .f32 :=
  broadcastInDim S2x16384x512 ![0, 1, 2] bcast_S1x1x512_S2x16384x512_0_1_2 (broadcastInDim S1x1x512 ![2] bcast_S512_S1x1x512_2 (shapeCast S512 A shapeCasts_S1x512_S512))

def rconv (A0 : FVec Ideal S2x16384x512 .f32) (A5 : FVec Ideal S4x512 .f32) (A6 : FVec Ideal S512 .f32) : FVec Ideal S2x16384x512 .f32 :=
  addf (addf (addf (addf (addf (broadcastInDim S2x16384x512 ![] bcast_S_S2x16384x512 (constant S_ .f32 0x00000000#32))
    (mulf (extractStridedSlice S2x16384x512 ![0, 0, 0] (rpad A0) slices_S2x16387x512_S2x16384x512_0_0_0) (rrow (extractStridedSlice S1x512 ![0, 0] A5 slices_S4x512_S1x512_0_0))))
    (mulf (extractStridedSlice S2x16384x512 ![0, 1, 0] (rpad A0) slices_S2x16387x512_S2x16384x512_0_1_0) (rrow (extractStridedSlice S1x512 ![1, 0] A5 slices_S4x512_S1x512_1_0))))
    (mulf (extractStridedSlice S2x16384x512 ![0, 2, 0] (rpad A0) slices_S2x16387x512_S2x16384x512_0_2_0) (rrow (extractStridedSlice S1x512 ![2, 0] A5 slices_S4x512_S1x512_2_0))))
    (mulf (extractStridedSlice S2x16384x512 ![0, 3, 0] (rpad A0) slices_S2x16387x512_S2x16384x512_0_3_0) (rrow (extractStridedSlice S1x512 ![3, 0] A5 slices_S4x512_S1x512_3_0))))
    (broadcastInDim S2x16384x512 ![0, 1, 2] bcast_S1x1x512_S2x16384x512_0_1_2 (broadcastInDim S1x1x512 ![2] bcast_S512_S1x1x512_2 A6))

def rgate (x : FVec Ideal S2x16384x512 .f32) : FVec Ideal S2x16384x512 .f32 :=
  Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf x)))

def rq (x : FVec Ideal S2x16384x512 .f32) : FVec Ideal S256x2x4x64x64 .f32 :=
  transpose S256x2x4x64x64 [1, 0, 3, 2, 4] (shapeCast S2x256x64x4x64 (shapeCast S2x16384x4x64 (extractStridedSlice S2x16384x256 ![0, 0, 0] x slices_S2x16384x512_S2x16384x256_0_0_0) shapeCasts_S2x16384x256_S2x16384x4x64) shapeCasts_S2x16384x4x64_S2x256x64x4x64) transposes_S2x256x64x4x64_S256x2x4x64x64_1_0_3_2_4

def rk (x : FVec Ideal S2x16384x512 .f32) : FVec Ideal S256x2x4x64x64 .f32 :=
  transpose S256x2x4x64x64 [1, 0, 3, 2, 4] (shapeCast S2x256x64x4x64 (mulf (shapeCast S2x16384x4x64 (extractStridedSlice S2x16384x256 ![0, 0, 256] x slices_S2x16384x512_S2x16384x256_0_0_256) shapeCasts_S2x16384x256_S2x16384x4x64) (broadcastInDim S2x16384x4x64 ![] bcast_S_S2x16384x4x64 (constant S_ .f32 0x3E000000#32))) shapeCasts_S2x16384x4x64_S2x256x64x4x64) transposes_S2x256x64x4x64_S256x2x4x64x64_1_0_3_2_4

def rv (x : FVec Ideal S2x16384x512 .f32) : FVec Ideal S256x2x4x64x128 .f32 :=
  transpose S256x2x4x64x128 [1, 0, 3, 2, 4] (shapeCast S2x256x64x4x128 (shapeCast S2x16384x4x128 x shapeCasts_S2x16384x512_S2x16384x4x128) shapeCasts_S2x16384x4x128_S2x256x64x4x128) transposes_S2x256x64x4x128_S256x2x4x64x128_1_0_3_2_4

def rg (x : FVec Ideal S2x16384x4 .f32) : FVec Ideal S256x2x4x64 .f32 :=
  shapeCast S256x2x4x64 (transpose S256x2x4x64x1 [1, 0, 3, 2, 4] (shapeCast S2x256x64x4x1 (broadcastInDim S2x16384x4x1 ![0, 1, 2] bcast_S2x16384x4_S2x16384x4x1_0_1_2 x) shapeCasts_S2x16384x4x1_S2x256x64x4x1) transposes_S2x256x64x4x1_S256x2x4x64x1_1_0_3_2_4) shapeCasts_S256x2x4x64x1_S256x2x4x64

def rzero : FVec Ideal S2x16384x4 .f32 := broadcastInDim S2x16384x4 ![] bcast_S_S2x16384x4 (constant S_ .f32 0x00000000#32)

def rlog (x : FVec Ideal S2x16384x4 .f32) : FVec Ideal S2x16384x4 .f32 :=
  Host.negf (select (cmpf .une (subf (Host.negf x) rzero) (subf (Host.negf x) rzero)) (addf (Host.negf x) rzero)
    (addf (maximumf (Host.negf x) rzero) (Host.log1p (Host.exp (Host.negf (Host.absf (subf (Host.negf x) rzero)))))))

def rmask : S64x64.Idx → BitVec 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

variable (m : (ℓ : Loc nD τ sig) → Buf (Elt Ideal) ℓ) (c : Dev nD)

abbrev ra (b : Ref sig .tc) : Buf (Elt Ideal) ((c.tc : Thread nD τ).loc b) := m ((c.tc : Thread nD τ).loc b)

def rsil : FVec Ideal S2x16384x512 .f32 :=
  mulf (rconv (ra m c main_arg0) (ra m c main_arg5) (ra m c main_arg6)) (rgate (rconv (ra m c main_arg0) (ra m c main_arg5) (ra m c main_arg6)))

theorem rent0 : entryContents preI m c (Proc.devRef .tc main_v62_0) = rq (rsil m c) := by
  simp only [entryContents, afterL_cons, afterL_nil]
  after_reads_simp
  rfl
theorem rent1 : entryContents preI m c (Proc.devRef .tc main_v62_1) = rk (rsil m c) := by
  simp only [entryContents, afterL_cons, afterL_nil]
  after_reads_simp
  rfl
theorem rent2 : entryContents preI m c (Proc.devRef .tc main_v62_2) = rv (ra m c main_arg1) := by
  simp only [entryContents, afterL_cons, afterL_nil]
  after_reads_simp
  rfl
theorem rent3 : entryContents preI m c (Proc.devRef .tc main_v62_3) = rg (ra m c main_arg3) := by
  simp only [entryContents, afterL_cons, afterL_nil]
  after_reads_simp
  rfl
theorem rent4 : entryContents preI m c (Proc.devRef .tc main_v62_4) = rg (rlog (ra m c main_arg4)) := by
  simp only [entryContents, afterL_cons, afterL_nil]
  after_reads_simp
  rfl
theorem rent5 : entryContents preI m c (Proc.devRef .tc main_v62_5) = rmask := by
  simp only [entryContents, afterL_cons, afterL_nil]
  after_reads_simp
  rfl
theorem rent7 : entryContents preI m c (Proc.devRef .tc main_v62_7) = broadcastInDim S2x4x64x128 ![] bcast_S_S2x4x64x128 (constant (F := Ideal) S_ .f32 0x00000000#32) := by
  simp only [entryContents, afterL_cons, afterL_nil]
  after_reads_simp
  rfl
theorem rent8 : entryContents preI m c (Proc.devRef .tc main_v62_8) = broadcastInDim S2x4x64 ![] bcast_S_S2x4x64 (constant (F := Ideal) S_ .f32 0x00000000#32) := by
  simp only [entryContents, afterL_cons, afterL_nil]
  after_reads_simp
  rfl
theorem rent9 : entryContents preI m c (Proc.devRef .tc main_v62_9) = broadcastInDim S2x4 ![] bcast_S_S2x4 (constant (F := Ideal) S_ .f32 0x00000000#32) := by
  simp only [entryContents, afterL_cons, afterL_nil]
  after_reads_simp
  rfl

end Cert.Mlstm
end
-- ==== Proof.RefRead.lean ====
/- The reference's entry arrays over real inputs, element by element. -/
module

public import proofs.«01_k».proof.Proof.RefEntry

@[expose] public section
noncomputable section
namespace Cert.Mlstm
open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

/-- A position in a chunk. -/
def ps (t : Fin 256) (l : Fin 64) : Fin 16384 := ⟨64 * t.val + l.val, by omega⟩

theorem rpad_at {A0 : S2x16384x512.Idx → EReal} (hA : Fin' A0) (b : Fin 2) (r : Fin 16387) (p : Fin 512) :
    rpad A0 (ix3 b r p) = (padX (at3 A0 b) r.val p : EReal) := by
  pointwise [rpad]
  unfold padX
  by_cases h3 : r.val < 3
  · rw [dif_neg (by omega), if_pos h3]
    show (((0#32 : BitVec 32).toInt : ℝ) : EReal) = ((0 : ℝ) : EReal)
    simp
  · rw [dif_pos ⟨by omega, by omega⟩, if_neg h3]
    exact at3_coe hA b (r.val - 3) (by omega) p

theorem rrow_at (A : S1x512.Idx → EReal) (b : Fin 2) (j : Fin 16384) (p : Fin 512) : rrow A (ix3 b j p) = A (ix2 0 p) := by
  pointwise [rrow]

theorem rgate_at {x : S2x16384x512.Idx → EReal} (b : Fin 2) (j : Fin 16384) (p : Fin 512) {r : ℝ} (h : x (ix3 b j p) = (r : EReal)) :
    rgate x (ix3 b j p) = (sg r : EReal) := by
  pointwise [rgate]
  rw [h, ← EReal.coe_neg, Ideal.exp_coe, sg_real]

theorem rconv_at {A0 : S2x16384x512.Idx → EReal} {A5 : S4x512.Idx → EReal} {A6 : S512.Idx → EReal} (h0 : Fin' A0) (h5 : Fin' A5) (h6 : Fin' A6)
    (b : Fin 2) (j : Fin 16384) (p : Fin 512) : rconv A0 A5 A6 (ix3 b j p) = (cvR (at3 A0 b) (cw A5) (cb A6) j.val p : EReal) := by
  have P := rpad_at h0 b
  unfold rconv
  revert P
  generalize rpad A0 = X
  intro hX
  pointwise
  simp only [rrow_at]
  have e5 : ∀ (k : Fin 4) (p : Fin 512), A5 (ix2 k p) = (cw A5 k p : EReal) := fun k p => (EReal.coe_toReal (h5 _).1 (h5 _).2).symm
  have e6 : ∀ p : Fin 512, A6 (ix1 p) = (cb A6 p : EReal) := fun p => (EReal.coe_toReal (h6 _).1 (h6 _).2).symm
  pointwise
  simp only [hX, e5, e6, ← EReal.coe_mul, ← EReal.coe_add]
  refine congrArg (fun z : ℝ => (z : EReal)) ?_
  unfold cvR
  rw [Nat.add_comm 1 j.val, Nat.add_comm 2 j.val, Nat.add_comm 3 j.val]
  ring

theorem rlog_at {x : S2x16384x4.Idx → EReal} (b : Fin 2) (j : Fin 16384) (h : Fin 4) {r : ℝ} (hr : x (ix3 b j h) = (r : EReal)) :
    rlog x (ix3 b j h) = (lsg r : EReal) := by
  pointwise [rlog, rzero]
  rw [if_neg (fun hne => hne rfl), hr, ← EReal.coe_neg]
  show -(max _ _ + Ideal.log (1 + Ideal.exp (-(max ((-r : ℝ) : EReal) (-((-r : ℝ) : EReal)))))) = _
  rw [abs_coe, ← EReal.coe_neg, Ideal.exp_coe, ← EReal.coe_one, ← EReal.coe_add, log_coe' (by positivity), ← EReal.coe_zero, max_coe, ← EReal.coe_add, ← EReal.coe_neg]
  refine congrArg (fun z : ℝ => (z : EReal)) ?_
  unfold lsg
  rw [abs_neg]
  have : max (-r) 0 = -min r 0 := by rw [← max_neg_neg, neg_zero]
  rw [this]
  ring

theorem rmask_at (l s : Fin 64) : rmask (ix2 l s) = if s ≤ l then 1#1 else 0#1 := by
  revert l s
  decide +kernel

theorem rq_at (x : S2x16384x512.Idx → EReal) (t : Fin 256) (b : Fin 2) (h : Fin 4) (l d : Fin 64) :
    rq x (ix5 t b h l d) = x (ix3 b (ps t l) ⟨(ln h d).val, by omega⟩) := by
  unfold rq
  pointwise
  exact congrArg₂ (fun u w => x (ix3 b u w)) (Fin.ext (by show t.val * 64 + l.val = 64 * t.val + l.val; omega)) (Fin.ext (by show h.val * 64 + d.val = 64 * h.val + d.val; omega))

theorem rk_at (x : S2x16384x512.Idx → EReal) (t : Fin 256) (b : Fin 2) (h : Fin 4) (l d : Fin 64) :
    rk x (ix5 t b h l d) = x (ix3 b (ps t l) ⟨256 + (ln h d).val, by omega⟩) * (1 / 8 : ℝ) := by
  unfold rk
  pointwise
  rw [bits_eighth]
  exact congrArg₂ (fun u w => x (ix3 b u w) * ((1 / 8 : ℝ) : EReal)) (Fin.ext (by show t.val * 64 + l.val = 64 * t.val + l.val; omega)) (Fin.ext (by show 256 + (h.val * 64 + d.val) = 256 + (64 * h.val + d.val); omega))

theorem rv_at (x : S2x16384x512.Idx → EReal) (t : Fin 256) (b : Fin 2) (h : Fin 4) (l : Fin 64) (e : Fin 128) :
    rv x (ix5 t b h l e) = x (ix3 b (ps t l) (vc h e)) := by
  unfold rv
  pointwise
  exact congrArg₂ (fun u w => x (ix3 b u w)) (Fin.ext (by show t.val * 64 + l.val = 64 * t.val + l.val; omega)) (Fin.ext (by show h.val * 128 + e.val = 128 * h.val + e.val; omega))

theorem rg_at (x : S2x16384x4.Idx → EReal) (t : Fin 256) (b : Fin 2) (h : Fin 4) (l : Fin 64) :
    rg x (ix4 t b h l) = x (ix3 b (ps t l) h) := by
  unfold rg
  pointwise
  exact congrArg₂ (fun u w => x (ix3 b u w)) (Fin.ext (by show t.val * 64 + l.val = 64 * t.val + l.val; omega)) (Fin.ext (by rfl))

/-- The activated convolution. -/
theorem rsil_at {m : (ℓ : Loc nD τ sig) → Buf (Elt Ideal) ℓ} {c : Dev nD} (h0 : Fin' (ra m c main_arg0 : S2x16384x512.Idx → EReal)) (h5 : Fin' (ra m c main_arg5 : S4x512.Idx → EReal))
    (h6 : Fin' (ra m c main_arg6 : S512.Idx → EReal)) (b : Fin 2) (j : Fin 16384) (p : Fin 512) :
    rsil m c (ix3 b j p) = (acR (at3 (ra m c main_arg0 : S2x16384x512.Idx → EReal) b) (cw (ra m c main_arg5 : S4x512.Idx → EReal)) (cb (ra m c main_arg6 : S512.Idx → EReal)) j.val p : EReal) := by
  have C := rconv_at h0 h5 h6 b j p
  have G := rgate_at b j p C
  refine (congrArg₂ (fun u w : EReal => u * w) C G).trans ?_
  rw [← EReal.coe_mul]
  rfl

end Cert.Mlstm
end
-- ==== Proof.RefOut.lean ====
/- The reference's result over real inputs: the loop started at its entry arrays stacks the recurrence's outputs, and the result is
   these, gated. -/
module

public import proofs.«01_k».proof.Proof.RefRead

@[expose] public section
noncomputable section
namespace Cert.Mlstm
open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value

variable {m : (ℓ : Loc nD τ sig) → Buf (Elt Ideal) ℓ} {c : Dev nD}

abbrev rarg0 (m : (ℓ : Loc nD τ sig) → Buf (Elt Ideal) ℓ) (c : Dev nD) : S2x16384x512.Idx → EReal := ra m c main_arg0
abbrev rarg1 (m : (ℓ : Loc nD τ sig) → Buf (Elt Ideal) ℓ) (c : Dev nD) : S2x16384x512.Idx → EReal := ra m c main_arg1
abbrev rarg2 (m : (ℓ : Loc nD τ sig) → Buf (Elt Ideal) ℓ) (c : Dev nD) : S2x16384x512.Idx → EReal := ra m c main_arg2
abbrev rarg3 (m : (ℓ : Loc nD τ sig) → Buf (Elt Ideal) ℓ) (c : Dev nD) : S2x16384x4.Idx → EReal := ra m c main_arg3
abbrev rarg4 (m : (ℓ : Loc nD τ sig) → Buf (Elt Ideal) ℓ) (c : Dev nD) : S2x16384x4.Idx → EReal := ra m c main_arg4
abbrev rarg5 (m : (ℓ : Loc nD τ sig) → Buf (Elt Ideal) ℓ) (c : Dev nD) : S4x512.Idx → EReal := ra m c main_arg5
abbrev rarg6 (m : (ℓ : Loc nD τ sig) → Buf (Elt Ideal) ℓ) (c : Dev nD) : S512.Idx → EReal := ra m c main_arg6

/-- The activated convolution, the queries, the keys, the values and the gates as real sequences. -/
abbrev Xac (m : (ℓ : Loc nD τ sig) → Buf (Elt Ideal) ℓ) (c : Dev nD) (b : Fin 2) : ℕ → Fin 512 → ℝ := acR (at3 (rarg0 m c) b) (cw (rarg5 m c)) (cb (rarg6 m c))
abbrev Xq (m : (ℓ : Loc nD τ sig) → Buf (Elt Ideal) ℓ) (c : Dev nD) (b : Fin 2) : ℕ → Fin 256 → ℝ := qR (Xac m c b)
abbrev Xk (m : (ℓ : Loc nD τ sig) → Buf (Elt Ideal) ℓ) (c : Dev nD) (b : Fin 2) : ℕ → Fin 256 → ℝ := kR (Xac m c b)
abbrev Xv (m : (ℓ : Loc nD τ sig) → Buf (Elt Ideal) ℓ) (c : Dev nD) (b : Fin 2) : ℕ → Fin 512 → ℝ := at3 (rarg1 m c) b
abbrev Xf (m : (ℓ : Loc nD τ sig) → Buf (Elt Ideal) ℓ) (c : Dev nD) (b : Fin 2) (h : Fin 4) (j : ℕ) : ℝ := lsg (at3 (rarg4 m c) b j h)
abbrev Xi (m : (ℓ : Loc nD τ sig) → Buf (Elt Ideal) ℓ) (c : Dev nD) (b : Fin 2) (h : Fin 4) (j : ℕ) : ℝ := at3 (rarg3 m c) b j h

theorem ins_entry (hF : AllFin (rarg0 m c) (rarg1 m c) (rarg2 m c) (rarg3 m c) (rarg4 m c) (rarg5 m c) (rarg6 m c)) :
    Ins (entryContents preI m c) (Xq m c) (Xk m c) (Xv m c) (Xf m c) (Xi m c) where
  q t b h l d := by
    rw [rent0]
    exact (rq_at (rsil m c) t b h l d).trans (rsil_at hF.f0 hF.f5 hF.f6 b (ps t l) _)
  k t b h l d := by
    rw [rent1]
    refine (rk_at (rsil m c) t b h l d).trans ?_
    refine (congrArg (fun z : EReal => z * ((1 / 8 : ℝ) : EReal)) (rsil_at hF.f0 hF.f5 hF.f6 b (ps t l) _)).trans ?_
    exact (EReal.coe_mul _ _).symm
  v t b h l e := by
    rw [rent2]
    exact (rv_at (rarg1 m c) t b h l e).trans (at3_coe hF.f1 b (64 * t.val + l.val) (ps t l).isLt (vc h e))
  i t b h l := by
    rw [rent3]
    exact (rg_at (rarg3 m c) t b h l).trans (at3_coe hF.f3 b (64 * t.val + l.val) (ps t l).isLt h)
  f t b h l := by
    rw [rent4]
    exact (rg_at (rlog (rarg4 m c)) t b h l).trans (rlog_at b (ps t l) h (at3_coe hF.f4 b (64 * t.val + l.val) (ps t l).isLt h))
  msk l s := by
    rw [rent5]
    exact rmask_at l s

theorem sta_entry : Sta (entryContents preI m c) (Xq m c) (Xk m c) (Xv m c) (Xf m c) (Xi m c) 0 where
  ctr j := congrFun (ctr_entry m c) j
  c b h d e := by
    rw [rent7, Nat.mul_zero, St_zero]
    pointwise
    rfl
  nn b h d := by
    rw [rent8, Nat.mul_zero, St_zero]
    pointwise
    rfl
  m b h := by
    rw [rent9, Nat.mul_zero]
    pointwise
    rfl
  o t ht := absurd ht (Nat.not_lt_zero _)

/-- The stacked outputs at the loop's end. -/
theorem stacked (hF : AllFin (rarg0 m c) (rarg1 m c) (rarg2 m c) (rarg3 m c) (rarg4 m c) (rarg5 m c) (rarg6 m c)) (t : Fin 256) (b : Fin 2) (h : Fin 4) (l : Fin 64) (e : Fin 128) :
    ((STEP^[256] (entryContents preI m c)) (Proc.devRef .tc main_v62_10) : S256x2x4x64x128.Idx → EReal) (ix5 t b h l e)
      = (hid (Xf m c b h) (Xi m c b h) (fun j d => Xq m c b j (ln h d)) (fun j d => Xk m c b j (ln h d)) (fun j => Xv m c b j (vc h e)) (64 * t.val + l.val) : EReal) :=
  (steps (ins_entry hF) sta_entry 256 (le_refl _)).2.o t t.isLt b h l e

/-- Chunks back to rows, gated. -/
def rout (O : FVec Ideal S256x2x4x64x128 .f32) (x : FVec Ideal S2x16384x512 .f32) : S32768x512.Idx → EReal :=
  truncf (φ := .f32) .bf16 (shapeCast S32768x512 (mulf (shapeCast S2x16384x512 (shapeCast S2x16384x4x128 (transpose S2x256x64x4x128 [1, 0, 3, 2, 4] O transposes_S256x2x4x64x128_S2x256x64x4x128_1_0_3_2_4) shapeCasts_S2x256x64x4x128_S2x16384x4x128) shapeCasts_S2x16384x4x128_S2x16384x512) (rgate x)) shapeCasts_S2x16384x512_S32768x512) bitsLt_bf16_f32

theorem rout_at (O : S256x2x4x64x128.Idx → EReal) (x : S2x16384x512.Idx → EReal) (R : Fin 32768) (y : Fin 512) :
    rout O x (ix2 R y) = O (ix5 ⟨R.val % 16384 / 64, by omega⟩ ⟨R.val / 16384, by omega⟩ ⟨y.val / 128, by omega⟩ ⟨R.val % 16384 % 64, by omega⟩ ⟨y.val % 128, by omega⟩)
      * rgate x (ix3 ⟨R.val / 16384, by omega⟩ ⟨R.val % 16384, by omega⟩ y) := by
  unfold rout
  generalize rgate x = g
  pointwise

theorem out_eq (V0 : Valuation τ sig (Elt Ideal)) : out_main_v74 V0 = rout (V0 (Proc.devRef .tc main_v62_10)) (V0 (Proc.devRef .tc main_arg2)) := by
  unfold out_main_v74 rout rgate
  rfl

/-- The reference's result, element by element. -/
theorem ref_result_at (hF : AllFin (rarg0 m c) (rarg1 m c) (rarg2 m c) (rarg3 m c) (rarg4 m c) (rarg5 m c) (rarg6 m c)) (R : Fin 32768) (y : Fin 512) :
    rout ((STEP^[256] (entryContents preI m c)) (Proc.devRef .tc main_v62_10)) (rarg2 m c) (ix2 R y)
      = res (rarg0 m c) (rarg1 m c) (rarg2 m c) (rarg3 m c) (rarg4 m c) (rarg5 m c) (rarg6 m c) (ix2 R y) := by
  refine (rout_at _ _ R y).trans ?_
  refine (congrArg₂ (fun u w : EReal => u * w) (stacked hF _ _ _ _ _) (rgate_at _ _ _ (at3_coe hF.f2 _ _ _ y))).trans ?_
  rw [← EReal.coe_mul]
  refine congrArg (fun z : ℝ => (z : EReal)) ?_
  show _ = resB _ _ _ _ _ _ _ ⟨R.val / 16384, _⟩ 0 y (R.val % 16384)
  unfold resB outB outR
  have e1 : 64 * (R.val % 16384 / 64) + R.val % 16384 % 64 = R.val % 16384 := by omega
  have e2 : vc ⟨y.val / 128, by omega⟩ ⟨y.val % 128, by omega⟩ = y := Fin.ext (by show 128 * (y.val / 128) + y.val % 128 = y.val; omega)
  dsimp only
  rw [e1, e2]

/-- The reference's result. -/
theorem ref_result (hF : AllFin (rarg0 m c) (rarg1 m c) (rarg2 m c) (rarg3 m c) (rarg4 m c) (rarg5 m c) (rarg6 m c)) :
    out_main_v74 (STEP^[256] (entryContents preI m c)) = res (rarg0 m c) (rarg1 m c) (rarg2 m c) (rarg3 m c) (rarg4 m c) (rarg5 m c) (rarg6 m c) := by
  rw [out_eq, iter_main_arg2 m c 256]
  funext i
  have hi : i = ix2 (i 0) (i 1) := by funext a; match a with | ⟨0, _⟩ => rfl | ⟨1, _⟩ => rfl
  rw [hi]
  exact ref_result_at hF (i 0) (i 1)

end Cert.Mlstm
end
-- ==== Proof.Finite.lean ====
/- What the precondition says: every element of every argument is a real number. -/
module

public import proofs.«01_k».proof.Proof.Grid
public import proofs.«01_k».proof.Proof.Gen.Pre_finite
public import proofs.«01_k».proof.Defs

@[expose] public section
noncomputable section
namespace Cert.Mlstm
open Idealize.ShloMosaic Idealize.ShloMosaic.TcCoe Idealize.SL.Sem
open Cert.Pre_finite

/-- A conjunction of bits over a list holds only if every bit is set. -/
theorem foldl_and {α : Type} (g : α → BitVec 1) (L : List α) (a : BitVec 1) (H : L.foldl (fun r n => IntOp.andi r (g n)) a = 1#1) :
    a = 1#1 ∧ ∀ n ∈ L, g n = 1#1 := by
  induction L generalizing a with
  | nil => exact ⟨H, fun n hn => absurd hn List.not_mem_nil⟩
  | cons b L ih =>
    obtain ⟨h1, h2⟩ := ih _ H
    obtain ⟨ha, hb⟩ := (show ∀ u w : BitVec 1, IntOp.andi u w = 1#1 → u = 1#1 ∧ w = 1#1 by decide) _ _ h1
    exact ⟨ha, fun n hn => by
      rcases List.mem_cons.1 hn with rfl | hn
      · exact hb
      · exact h2 n hn⟩

theorem bits_top : Ideal.ofBits FTy.f32 0x7F800000#32 = ⊤ := by
  simp [Ideal.ofBits, Ideal.ieee]

/-- An array whose absolute values are all below infinity is real. -/
theorem fin_of {s : Shape} {axes : List (Fin s.rank)} (A : FVec Ideal s .f32) (hb : S_.BroadcastsInDim s (![] : Fin 0 → Fin s.rank)) (h : s.ReducesTo axes S_) (hu : 0 < S_.numel)
    (H : Host.reduce IntOp.andi (cmpf .olt (Host.absf A) (broadcastInDim s ![] hb (constant S_ .f32 0x7F800000#32))) (constantI S_ 1 1#1) h hu ix0 = 1#1) : Fin' (A : s.Idx → EReal) := by
  intro i
  obtain ⟨_, h2⟩ := foldl_and _ _ _ H
  have hi := h2 (s.rowMajor i) (List.mem_filter.2 ⟨List.mem_finRange _, decide_eq_true (funext fun a => a.elim0)⟩)
  simp only [Equiv.symm_apply_apply] at hi
  have hlt : max (A i : EReal) (-(A i : EReal)) < ⊤ := by
    by_contra hn
    have : Ideal.cmp .olt (max (A i : EReal) (-(A i : EReal))) (Ideal.ofBits FTy.f32 0x7F800000#32) = 1#1 := hi
    rw [bits_top] at this
    simp only [Ideal.cmp] at this
    rw [decide_eq_false hn] at this
    exact absurd this (by decide)
  refine ⟨fun ht => ?_, fun hbt => ?_⟩
  · rw [ht] at hlt; exact absurd (lt_of_le_of_lt (le_max_left _ _) hlt) (lt_irrefl _)
  · rw [hbt] at hlt; exact absurd (lt_of_le_of_lt (le_max_right _ _) hlt) (by simp)

theorem and_ix (x y : IVec S_ 1) (h : andi x y ix0 = 1#1) : x ix0 = 1#1 ∧ y ix0 = 1#1 :=
  (show ∀ u w : BitVec 1, IntOp.andi u w = 1#1 → u = 1#1 ∧ w = 1#1 by decide) _ _ h

theorem all_fin (A0 A1 A2 : FVec Ideal S2x16384x512 .f32) (A3 A4 : FVec Ideal S2x16384x4 .f32) (A5 : FVec Ideal S4x512 .f32) (A6 : FVec Ideal S512 .f32)
    (H : Cert.Pre_finite.fn (F := Ideal) A0 A1 A2 A3 A4 A5 A6 = fun _ => 1#1) : AllFin A0 A1 A2 A3 A4 A5 A6 := by
  have H := congrFun H ix0
  unfold fn fn_part1 at H
  dsimp only at H
  obtain ⟨H, h6⟩ := and_ix _ _ H
  obtain ⟨H, h5⟩ := and_ix _ _ H
  obtain ⟨H, h4⟩ := and_ix _ _ H
  obtain ⟨H, h3⟩ := and_ix _ _ H
  obtain ⟨H, h2⟩ := and_ix _ _ H
  obtain ⟨h0, h1⟩ := and_ix _ _ H
  exact ⟨fin_of A0 _ _ _ h0, fin_of A1 _ _ _ h1, fin_of A2 _ _ _ h2, fin_of A3 _ _ _ h3, fin_of A4 _ _ _ h4, fin_of A5 _ _ _ h5, fin_of A6 _ _ _ h6⟩

end Cert.Mlstm
end
-- ==== Proof.Mlstm.lean ====
/- The mLSTM kernel and its reference leave one function of the arguments in their result arrays. -/
module

public import proofs.«01_k».proof.Proof.RefOut
public import proofs.«01_k».proof.Proof.Finite

@[expose] public section
noncomputable section
namespace Cert.Mlstm
open Idealize.ShloMosaic Idealize.ShloMosaic.TcCoe Idealize.SL.Sem

theorem algebraic : Cert.algebraic_KernelIdeal_ReferenceIdeal_pre_finite := by
  intro m ρ m' ρ' hpre hagree
  have hF := fun c => all_fin _ _ _ _ _ _ _ (hpre c)
  refine ⟨_, (θ_run Cert.KernelIdeal.defs _ _).mono (fun r h c => ⟨((h c).1.trans (result_at m c (hF c))), (h c).2⟩)
    (Cert.KernelIdeal.Value.run (F := Ideal) m ρ), ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := hagree c
  have hR := hF c
  rw [← h0, ← h1, ← h2, ← h3, ← h4, ← h5, ← h6] at hR
  refine (h c).1.trans ((ref_result (m := m') (c := c) hR).trans ?_)
  unfold rarg0 rarg1 rarg2 rarg3 rarg4 rarg5 rarg6 ra
  rw [h0, h1, h2, h3, h4, h5, h6]

end Cert.Mlstm
end
-- ==== Proof.Ffn.lean ====
/- The value of the feed-forward call: the kernel's result array and the reference's are one function of the arguments. -/
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise

@[expose] public section

set_option maxRecDepth 16384

noncomputable section

namespace Cert.Ffn

open Idealize.ShloMosaic Idealize.ShloMosaic.TcCoe Idealize.SL.Sem
open Idealize.ShloMosaic.Pipeline (Dat)

/-- Row `x` normalised by its root mean square and scaled by `g`, at column `k`. -/
def norm (x g : Fin 1024 → EReal) (k : Fin 1024) : EReal :=
  x k * Ideal.rsqrt (Ideal.div (∑ j, x j * x j) (Ideal.ofBits FTy.f32 1149239296#32) + Ideal.ofBits FTy.f32 897988541#32) * g k

/-- The hidden unit: `silu` of the gate product times the up product. -/
def hidden (h a b : Fin 1024 → EReal) : EReal :=
  (∑ k, h k * a k) * Ideal.div 1 (1 + Ideal.exp (0 - ∑ k, h k * a k)) * ∑ k, h k * b k

/-- The layer at row `x`, output column `l`: the residual plus half of the gated product's projection. -/
def ffn (x g : Fin 1024 → EReal) (wg wu : Fin 1024 → Fin 2816 → EReal) (wd : Fin 2816 → EReal) (l : Fin 1024) : EReal :=
  x l + Ideal.ofBits FTy.f32 1056964608#32 *
    ∑ f, hidden (norm x g) (fun k => wg k f) (fun k => wu k f) * wd f

/-- The layer over whole arrays: row by row. -/
def ffnArr (X : (⟨2, ![32768, 1024]⟩ : Shape).Idx → EReal) (g : (⟨1, ![1024]⟩ : Shape).Idx → EReal)
    (wg wu : (⟨2, ![1024, 2816]⟩ : Shape).Idx → EReal) (wd : (⟨2, ![2816, 1024]⟩ : Shape).Idx → EReal) :
    (⟨2, ![32768, 1024]⟩ : Shape).Idx → EReal := fun i =>
  ffn (fun k => X (ix2 (i 0) k)) (fun k => g (ix1 k)) (fun k f => wg (ix2 k f)) (fun k f => wu (ix2 k f))
    (fun f => wd (ix2 f (i 1))) (i 1)

section Kernel

open Cert.Kernel2Ideal Cert.Kernel2Ideal.Gen

/-- The body's result block at row `r` and column `l`, over its five input blocks. -/
theorem block_apply (x : Vec Ideal S512x1024 .f32) (g : Vec Ideal S1x1024 .f32) (wg wu : Vec Ideal S1024x2816 .bf16)
    (wd : Vec Ideal S2816x1024 .bf16) (r : Fin 512) (l : Fin 1024) :
    out0_5 x g wg wu wd (ix2 r l)
      = ffn (fun k => x (ix2 r k)) (fun k => g (ix2 0 k)) (fun k f => wg (ix2 k f)) (fun k f => wu (ix2 k f))
          (fun f => wd (ix2 f l)) l := by
  have hz : (![0, 0] : Fin 2 → Nat) = fun _ => 0 := funext fun a => by fin_cases a <;> rfl
  unfold out0_5
  rw [View.canon_unit_zero hz]
  have hn : ∀ k : Fin 1024, k0_pay2 (View.ld x r0_0) (View.ld g r0_1) (ix2 r k)
      = norm (fun k => x (ix2 r k)) (fun k => g (ix2 0 k)) k := by
    intro k
    pointwise [k0_pay2, norm]
  pointwise [k0_pay1, k0_pay3]
  simp only [hn]
  unfold ffn
  rw [Fin.sum_univ_two_halves 1536 1280 rfl]
  rfl

variable (m : (ℓ : Loc nD τ sig) → Buf (Elt Ideal) ℓ)

/-- The five argument arrays' function. -/
abbrev spec (c : Dev nD) : Buf (Elt Ideal) ((c : Thread nD τ).loc main_v4) :=
  ffnArr (m ((c : Thread nD τ).loc main_arg0)) (m ((c : Thread nD τ).loc main_arg1)) (m ((c : Thread nD τ).loc main_arg2))
    (m ((c : Thread nD τ).loc main_arg3)) (m ((c : Thread nD τ).loc main_arg4))

/-- The block indices of the row windows are the grid point's number, the other windows' are zero. -/
theorem idx_facts : ∀ t : Fin cfg0.N, win0_5.index t 0 = t.val ∧ win0_5.index t 1 = 0
    ∧ win0_0.index t 0 = t.val ∧ win0_0.index t 1 = 0 ∧ (∀ a, win0_1.index t a = 0) ∧ (∀ a, win0_2.index t a = 0)
    ∧ (∀ a, win0_3.index t a = 0) ∧ (∀ a, win0_4.index t a = 0) ∧ (cfg0.win 5).flush t = true :=
  (by decide +kernel : ∀ t : Fin grid0.N, _)

/-- The array of window 1 at region entry: the gain, as one row. -/
theorem entry1 (c : Dev nD) (k : Fin 1024) :
    (V m c main_v0 : S1x1024.Idx → EReal) (ix2 0 k) = (m ((c : Thread nD τ).loc main_arg1) : S1024.Idx → EReal) (ix1 k) := by
  have e : V m c main_v0 = broadcastInDim S1x1024 ![1] bcast_S1024_S1x1024_1 (m ((c : Thread nD τ).loc main_arg1)) := by
    unfold V hostOps0; after_results
  rw [e]
  pointwise

/-- The arrays of windows 2 to 4 at region entry: the weights, the change of format keeping every value. -/
theorem entry2 (c : Dev nD) : (V m c main_v1 : S1024x2816.Idx → EReal) = m ((c : Thread nD τ).loc main_arg2) := by
  unfold V hostOps0; after_results; rfl
theorem entry3 (c : Dev nD) : (V m c main_v2 : S1024x2816.Idx → EReal) = m ((c : Thread nD τ).loc main_arg3) := by
  unfold V hostOps0; after_results; rfl
theorem entry4 (c : Dev nD) : (V m c main_v3 : S2816x1024.Idx → EReal) = m ((c : Thread nD τ).loc main_arg4) := by
  unfold V hostOps0; after_results; rfl

/-- Block `t` of the rows: rows `512 t` and following of the argument. -/
theorem iblk0 (c : Dev nD) (t : Fin cfg0.N) (r : Fin 512) (h : t.val * 512 + r.val < 32768) (k : Fin 1024) :
    (iblk m c 0 t : S512x1024.Idx → EReal) (ix2 r k)
      = (m ((c : Thread nD τ).loc main_arg0) : S32768x1024.Idx → EReal) (ix2 ⟨t.val * 512 + r.val, h⟩ k) := by
  obtain ⟨-, -, f0, f1, -⟩ := idx_facts t
  rw [← V_main_arg0 m c]
  show V m c main_arg0 (((cfg0.win 0).blk t).view.emb (ix2 r k : S512x1024.Idx)) = _
  congr 1
  funext a; apply Fin.ext
  match a with
  | ⟨0, _⟩ => show win0_0.index t (0 : Fin 2) * 512 + 1 * r.val = t.val * 512 + r.val; rw [f0]; omega
  | ⟨1, _⟩ => show win0_0.index t (1 : Fin 2) * 1024 + 1 * k.val = k.val; rw [f1]; omega

/-- The other windows' blocks are their whole arrays at every point. -/
theorem iblk1 (c : Dev nD) (t : Fin cfg0.N) (k : Fin 1024) :
    (iblk m c 1 t : S1x1024.Idx → EReal) (ix2 0 k) = (m ((c : Thread nD τ).loc main_arg1) : S1024.Idx → EReal) (ix1 k) := by
  obtain ⟨-, -, -, -, g1, -⟩ := idx_facts t
  rw [← entry1 m c k]
  show V m c main_v0 (((cfg0.win 1).blk t).view.emb (ix2 0 k : S1x1024.Idx)) = _
  congr 1
  funext a; apply Fin.ext
  match a with
  | ⟨0, _⟩ => show win0_1.index t (0 : Fin 2) * 1 + 1 * 0 = 0; rw [g1]
  | ⟨1, _⟩ => show win0_1.index t (1 : Fin 2) * 1024 + 1 * k.val = k.val; rw [g1]; omega
theorem iblk2 (c : Dev nD) (t : Fin cfg0.N) : (iblk m c 2 t : S1024x2816.Idx → EReal) = m ((c : Thread nD τ).loc main_arg2) := by
  obtain ⟨-, -, -, -, -, g, -⟩ := idx_facts t
  rw [← entry2 m c]
  funext i
  show V m c main_v1 (((cfg0.win 2).blk t).view.emb i) = _
  congr 1
  funext a; apply Fin.ext
  match a with
  | ⟨0, _⟩ => show win0_2.index t (0 : Fin 2) * 1024 + 1 * (i 0).val = (i 0).val; rw [g]; omega
  | ⟨1, _⟩ => show win0_2.index t (1 : Fin 2) * 2816 + 1 * (i 1).val = (i 1).val; rw [g]; omega
theorem iblk3 (c : Dev nD) (t : Fin cfg0.N) : (iblk m c 3 t : S1024x2816.Idx → EReal) = m ((c : Thread nD τ).loc main_arg3) := by
  obtain ⟨-, -, -, -, -, -, g, -⟩ := idx_facts t
  rw [← entry3 m c]
  funext i
  show V m c main_v2 (((cfg0.win 3).blk t).view.emb i) = _
  congr 1
  funext a; apply Fin.ext
  match a with
  | ⟨0, _⟩ => show win0_3.index t (0 : Fin 2) * 1024 + 1 * (i 0).val = (i 0).val; rw [g]; omega
  | ⟨1, _⟩ => show win0_3.index t (1 : Fin 2) * 2816 + 1 * (i 1).val = (i 1).val; rw [g]; omega
theorem iblk4 (c : Dev nD) (t : Fin cfg0.N) : (iblk m c 4 t : S2816x1024.Idx → EReal) = m ((c : Thread nD τ).loc main_arg4) := by
  obtain ⟨-, -, -, -, -, -, -, g, -⟩ := idx_facts t
  rw [← entry4 m c]
  funext i
  show V m c main_v3 (((cfg0.win 4).blk t).view.emb i) = _
  congr 1
  funext a; apply Fin.ext
  match a with
  | ⟨0, _⟩ => show win0_4.index t (0 : Fin 2) * 2816 + 1 * (i 0).val = (i 0).val; rw [g]; omega
  | ⟨1, _⟩ => show win0_4.index t (1 : Fin 2) * 1024 + 1 * (i 1).val = (i 1).val; rw [g]; omega

/-- The block at point `t`, row `r`, column `l`, is the layer's function at row `512 t + r`. -/
theorem point_apply (c : Dev nD) (t : Fin cfg0.N) (r : Fin 512) (l : Fin 1024) (h : t.val * 512 + r.val < 32768) :
    out0_5 (iblk m c 0 t) (iblk m c 1 t) (iblk m c 2 t) (iblk m c 3 t) (iblk m c 4 t) (ix2 r l)
      = (spec m c : S32768x1024.Idx → EReal) (ix2 ⟨t.val * 512 + r.val, h⟩ l) := by
  refine (block_apply _ _ _ _ _ r l).trans ?_
  rw [iblk2, iblk3, iblk4]
  simp only [iblk0 m c t r h, iblk1]
  rfl

/-- What point `t` writes back is block `t` of the layer's function of the arguments. -/
theorem flushed_eq (c : Dev nD) (t : Fin cfg0.N) :
    (dats m 0 c).flushed 5 t = ((cfg0.win 5).blk t).view.read (Elt Ideal) (spec m c) := by
  rw [Value.flushed5]
  obtain ⟨e0, e1, -⟩ := idx_facts t
  funext y
  have hy0 : (y 0).val < 512 := (y 0).isLt
  have hy1 : (y 1).val < 1024 := (y 1).isLt
  have ht : t.val < 64 := t.isLt
  have h : t.val * 512 + (y 0).val < 32768 := by omega
  have hi : ((cfg0.win 5).blk t).view.emb y = (ix2 ⟨t.val * 512 + (y 0).val, h⟩ ⟨(y 1).val, hy1⟩ : S32768x1024.Idx) := by
    funext a; apply Fin.ext
    match a with
    | ⟨0, _⟩ => show win0_5.index t (0 : Fin 2) * 512 + 1 * (y 0).val = t.val * 512 + (y 0).val; rw [e0]; omega
    | ⟨1, _⟩ => show win0_5.index t (1 : Fin 2) * 1024 + 1 * (y 1).val = (y 1).val; rw [e1]; omega
  have hx : (cfg0.win 5).xinj (grid0.coords t) y = (ix2 ⟨(y 0).val, hy0⟩ ⟨(y 1).val, hy1⟩ : S512x1024.Idx) := by
    funext a; apply Fin.ext
    match a with
    | ⟨0, _⟩ => rfl
    | ⟨1, _⟩ => rfl
  show out0_5 (iblk m c 0 t) (iblk m c 1 t) (iblk m c 2 t) (iblk m c 3 t) (iblk m c 4 t) ((cfg0.win 5).xinj (grid0.coords t) y)
    = spec m c (((cfg0.win 5).blk t).view.emb y)
  rw [hx, hi]
  exact point_apply m c t ⟨(y 0).val, hy0⟩ ⟨(y 1).val, hy1⟩ h

/-- Every row lies in some point's block. -/
theorem cover (i : S32768x1024.Idx) : ∃ t : Fin cfg0.N, (cfg0.win 5).flush t = true ∧ i ∈ ((cfg0.win 5).blk t).view.set := by
  have h0 : (i 0).val < 32768 := (i 0).isLt
  have h1 : (i 1).val < 1024 := (i 1).isLt
  have hN : cfg0.N = 64 := rfl
  let t : Fin cfg0.N := ⟨(i 0).val / 512, by omega⟩
  obtain ⟨e0, e1, -, -, -, -, -, -, hf⟩ := idx_facts t
  have e0' : win0_5.index t 0 = (i 0).val / 512 := e0
  refine ⟨t, hf, ?_⟩
  show i ∈ ((View.whole main_v4).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512
              rw [e0']; omega
  | ⟨1, _⟩ => show win0_5.index t (1 : Fin 2) * 1024 ≤ (i 1).val ∧ (i 1).val < win0_5.index t (1 : Fin 2) * 1024 + 1024
              rw [e1]; omega

/-- The kernel's result array after the run is the layer's function of the arguments. -/
theorem final (c : Dev nD) : (dats m 0 c).arrAt 5 cfg0.N = spec m c :=
  (dats m 0 c).arrAt_eq_of_cover 5 _ (fun t _ => flushed_eq m c t) (fun i => cover i)

end Kernel

/-- The two programs leave one function of the arguments in their result arrays. -/
theorem algebraic : Cert.algebraic_Kernel2Ideal_Reference2Ideal := by
  intro m ρ m' ρ' _ hagree
  refine ⟨_, (θ_run Cert.Kernel2Ideal.defs _ _).mono (fun r h c => ⟨((h c).1.trans (final m c)), (h c).2⟩)
    (Cert.Kernel2Ideal.Value.run_blocks (F := Ideal) m ρ), ?_⟩
  refine (θ_run Cert.Reference2Ideal.defs _ _).mono (fun _ h c => ⟨?_, (h c).2⟩) (Cert.Reference2Ideal.Value.run (F := Ideal) m' ρ')
  obtain ⟨h0, h1, h2, h3, h4⟩ := hagree c
  rw [(h c).1, h0, h1, h2, h3, h4]
  funext i
  idx_vars i
  unfold spec ffnArr ffn hidden norm
  pointwise
  simp only [zero_sub]

end Cert.Ffn

end
-- ==== Proof.Merge.lean ====
/- The value of the merge call: the kernel's result array and the reference's are one function of the arguments. -/
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise

@[expose] public section

set_option maxRecDepth 16384

noncomputable section

namespace Cert.Merge

open Idealize.ShloMosaic Idealize.ShloMosaic.TcCoe Idealize.SL.Sem
open Idealize.ShloMosaic.Pipeline (Dat)

/-- The logistic of `x`. -/
def gate (x : EReal) : EReal := Ideal.div 1 (1 + Ideal.exp (0 - x))

/-- The merged row at column `k`: each branch's projection through its gate, added up. -/
def mixed (g : Fin 3072 → EReal) (oa ob oc : Fin 512 → EReal) (w : Fin 3 → Fin 512 → Fin 1024 → EReal) (k : Fin 1024) : EReal :=
  gate (g ⟨k.val, by omega⟩) * (∑ j, oa j * w 0 j k) + gate (g ⟨1024 + k.val, by omega⟩) * (∑ j, ob j * w 1 j k)
    + gate (g ⟨2048 + k.val, by omega⟩) * (∑ j, oc j * w 2 j k)

/-- The layer's merge at one entry: the residual plus the merged row's projection. -/
def merge (x : EReal) (g : Fin 3072 → EReal) (oa ob oc : Fin 512 → EReal) (w : Fin 3 → Fin 512 → Fin 1024 → EReal)
    (wo : Fin 1024 → EReal) : EReal := x + ∑ k, mixed g oa ob oc w k * wo k

/-- The merge over whole arrays: row by row. -/
def mergeArr (X : (⟨2, ![32768, 1024]⟩ : Shape).Idx → EReal) (A B C : (⟨2, ![32768, 512]⟩ : Shape).Idx → EReal)
    (G : (⟨2, ![32768, 3072]⟩ : Shape).Idx → EReal) (W : (⟨3, ![3, 512, 1024]⟩ : Shape).Idx → EReal)
    (wo : (⟨2, ![1024, 1024]⟩ : Shape).Idx → EReal) : (⟨2, ![32768, 1024]⟩ : Shape).Idx → EReal := fun i =>
  merge (X (ix2 (i 0) (i 1))) (fun k => G (ix2 (i 0) k)) (fun k => A (ix2 (i 0) k)) (fun k => B (ix2 (i 0) k))
    (fun k => C (ix2 (i 0) k)) (fun b j k => W (ix3 b j k)) (fun k => wo (ix2 k (i 1)))

section Kernel

open Cert.Kernel3Ideal Cert.Kernel3Ideal.Gen

/-- The body's arithmetic at row `r` and column `l`, over the blocks it loads. -/
theorem pay_apply (x : Vec Ideal S1024x1024 .f32) (a b c : Vec Ideal S1024x512 .bf16) (g0 g1 g2 : Vec Ideal S1024x1024 .bf16)
    (w0 w1 w2 : Vec Ideal S1x512x1024 .bf16) (wo : Vec Ideal S1024x1024 .bf16) (r : Fin 1024) (l : Fin 1024) :
    k0_pay1 (k0_pay2 g0 a w0 g1 b w1) g2 c w2 x wo (ix2 r l)
      = x (ix2 r l) + ∑ k, (gate (g0 (ix2 r k)) * (∑ j, a (ix2 r j) * w0 (ix3 0 j k))
          + gate (g1 (ix2 r k)) * (∑ j, b (ix2 r j) * w1 (ix3 0 j k))
          + gate (g2 (ix2 r k)) * (∑ j, c (ix2 r j) * w2 (ix3 0 j k))) * wo (ix2 k l) := by
  unfold gate
  pointwise [k0_pay1, k0_pay2]

/-- The body's result block at row `r` and column `l`, over its seven input blocks. -/
theorem block_apply (x : Vec Ideal S1024x1024 .f32) (a b c : Vec Ideal S1024x512 .bf16) (g : Vec Ideal S1024x3072 .bf16)
    (w : Vec Ideal S3x512x1024 .bf16) (wo : Vec Ideal S1024x1024 .bf16) (r : Fin 1024) (l : Fin 1024) :
    out0_7 x a b c g w wo (ix2 r l)
      = merge (x (ix2 r l)) (fun k => g (ix2 r k)) (fun k => a (ix2 r k)) (fun k => b (ix2 r k)) (fun k => c (ix2 r k))
          (fun b j k => w (ix3 b j k)) (fun k => wo (ix2 k l)) := by
  have hz : (![0, 0] : Fin 2 → Nat) = fun _ => 0 := funext fun a => by fin_cases a <;> rfl
  unfold out0_7
  rw [View.canon_unit_zero hz]
  refine (pay_apply _ _ _ _ _ _ _ _ _ _ _ r l).trans ?_
  unfold merge mixed
  rw [View.ld_unit_zero hz, View.ld_unit_zero hz, View.ld_unit_zero hz, View.ld_unit_zero hz, View.ld_unit_zero hz]
  have g0 : ∀ k : Fin 1024, View.ld g r0_0 (ix2 r k) = g (ix2 r ⟨k.val, by omega⟩) := fun k => by
    rw [View.ld_unit]; pointwise
  have g1 : ∀ k : Fin 1024, View.ld g r0_3 (ix2 r k) = g (ix2 r ⟨1024 + k.val, by omega⟩) := fun k => by
    rw [View.ld_unit]; pointwise
  have g2 : ∀ k : Fin 1024, View.ld g r0_5 (ix2 r k) = g (ix2 r ⟨2048 + k.val, by omega⟩) := fun k => by
    rw [View.ld_unit]; pointwise
  have w0 : ∀ (j : Fin 512) (k : Fin 1024), View.ld w r0_2 (ix3 0 j k) = w (ix3 0 j k) := fun j k => by
    rw [View.ld_unit]; pointwise
  have w1 : ∀ (j : Fin 512) (k : Fin 1024), View.ld w r0_4 (ix3 0 j k) = w (ix3 1 j k) := fun j k => by
    rw [View.ld_unit]; pointwise
  have w2 : ∀ (j : Fin 512) (k : Fin 1024), View.ld w r0_6 (ix3 0 j k) = w (ix3 2 j k) := fun j k => by
    rw [View.ld_unit]; pointwise
  simp only [g0, g1, g2, w0, w1, w2]

variable (m : (ℓ : Loc nD τ sig) → Buf (Elt Ideal) ℓ)

/-- The seven argument arrays' function. -/
abbrev spec (c : Dev nD) : Buf (Elt Ideal) ((c : Thread nD τ).loc main_v6) :=
  mergeArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The block indices of the row windows are the grid point's number, the other windows' are zero. -/
theorem idx_facts : ∀ t : Fin cfg0.N, win0_7.index t 0 = t.val ∧ win0_7.index t 1 = 0
    ∧ win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ (∀ a, win0_5.index t a = 0)
    ∧ (∀ a, win0_6.index t a = 0) ∧ (cfg0.win 7).flush t = true :=
  (by decide +kernel : ∀ t : Fin grid0.N, _)

/-- The cast arrays at region entry: the change of format keeps every value. -/
theorem entry1 (c : Dev nD) : (V m c main_v0 : S32768x512.Idx → EReal) = m ((c : Thread nD τ).loc main_arg1) := by
  unfold V hostOps0; after_results; rfl
theorem entry2 (c : Dev nD) : (V m c main_v1 : S32768x512.Idx → EReal) = m ((c : Thread nD τ).loc main_arg2) := by
  unfold V hostOps0; after_results; rfl
theorem entry3 (c : Dev nD) : (V m c main_v2 : S32768x512.Idx → EReal) = m ((c : Thread nD τ).loc main_arg3) := by
  unfold V hostOps0; after_results; rfl
theorem entry4 (c : Dev nD) : (V m c main_v3 : S32768x3072.Idx → EReal) = m ((c : Thread nD τ).loc main_arg4) := by
  unfold V hostOps0; after_results; rfl
theorem entry5 (c : Dev nD) : (V m c main_v4 : S3x512x1024.Idx → EReal) = m ((c : Thread nD τ).loc main_arg5) := by
  unfold V hostOps0; after_results; rfl
theorem entry6 (c : Dev nD) : (V m c main_v5 : S1024x1024.Idx → EReal) = m ((c : Thread nD τ).loc main_arg6) := by
  unfold V hostOps0; after_results; rfl

/-- Block `t` of a row window: rows `1024 t` and following of the argument. -/
theorem iblk0 (c : Dev nD) (t : Fin cfg0.N) (r : Fin 1024) (h : t.val * 1024 + r.val < 32768) (k : Fin 1024) :
    (iblk m c 0 t : S1024x1024.Idx → EReal) (ix2 r k)
      = (m ((c : Thread nD τ).loc main_arg0) : S32768x1024.Idx → EReal) (ix2 ⟨t.val * 1024 + r.val, h⟩ k) := by
  obtain ⟨-, -, a0, a1, b0, b1, c0, c1, d0, d1, e0, e1, -⟩ := idx_facts t
  rw [← V_main_arg0 m c]
  show V m c main_arg0 (((cfg0.win 0).blk t).view.emb (ix2 r k : S1024x1024.Idx)) = _
  congr 1
  funext a; apply Fin.ext
  match a with
  | ⟨0, _⟩ => show win0_0.index t (0 : Fin 2) * 1024 + 1 * r.val = t.val * 1024 + r.val; rw [a0]; omega
  | ⟨1, _⟩ => show win0_0.index t (1 : Fin 2) * 1024 + 1 * k.val = k.val; rw [a1]; omega
theorem iblk1 (c : Dev nD) (t : Fin cfg0.N) (r : Fin 1024) (h : t.val * 1024 + r.val < 32768) (k : Fin 512) :
    (iblk m c 1 t : S1024x512.Idx → EReal) (ix2 r k)
      = (m ((c : Thread nD τ).loc main_arg1) : S32768x512.Idx → EReal) (ix2 ⟨t.val * 1024 + r.val, h⟩ k) := by
  obtain ⟨-, -, a0, a1, b0, b1, c0, c1, d0, d1, e0, e1, -⟩ := idx_facts t
  rw [← entry1 m c]
  show V m c main_v0 (((cfg0.win 1).blk t).view.emb (ix2 r k : S1024x512.Idx)) = _
  congr 1
  funext a; apply Fin.ext
  match a with
  | ⟨0, _⟩ => show win0_1.index t (0 : Fin 2) * 1024 + 1 * r.val = t.val * 1024 + r.val; rw [b0]; omega
  | ⟨1, _⟩ => show win0_1.index t (1 : Fin 2) * 512 + 1 * k.val = k.val; rw [b1]; omega
theorem iblk2 (c : Dev nD) (t : Fin cfg0.N) (r : Fin 1024) (h : t.val * 1024 + r.val < 32768) (k : Fin 512) :
    (iblk m c 2 t : S1024x512.Idx → EReal) (ix2 r k)
      = (m ((c : Thread nD τ).loc main_arg2) : S32768x512.Idx → EReal) (ix2 ⟨t.val * 1024 + r.val, h⟩ k) := by
  obtain ⟨-, -, a0, a1, b0, b1, c0, c1, d0, d1, e0, e1, -⟩ := idx_facts t
  rw [← entry2 m c]
  show V m c main_v1 (((cfg0.win 2).blk t).view.emb (ix2 r k : S1024x512.Idx)) = _
  congr 1
  funext a; apply Fin.ext
  match a with
  | ⟨0, _⟩ => show win0_2.index t (0 : Fin 2) * 1024 + 1 * r.val = t.val * 1024 + r.val; rw [c0]; omega
  | ⟨1, _⟩ => show win0_2.index t (1 : Fin 2) * 512 + 1 * k.val = k.val; rw [c1]; omega
theorem iblk3 (c : Dev nD) (t : Fin cfg0.N) (r : Fin 1024) (h : t.val * 1024 + r.val < 32768) (k : Fin 512) :
    (iblk m c 3 t : S1024x512.Idx → EReal) (ix2 r k)
      = (m ((c : Thread nD τ).loc main_arg3) : S32768x512.Idx → EReal) (ix2 ⟨t.val * 1024 + r.val, h⟩ k) := by
  obtain ⟨-, -, a0, a1, b0, b1, c0, c1, d0, d1, e0, e1, -⟩ := idx_facts t
  rw [← entry3 m c]
  show V m c main_v2 (((cfg0.win 3).blk t).view.emb (ix2 r k : S1024x512.Idx)) = _
  congr 1
  funext a; apply Fin.ext
  match a with
  | ⟨0, _⟩ => show win0_3.index t (0 : Fin 2) * 1024 + 1 * r.val = t.val * 1024 + r.val; rw [d0]; omega
  | ⟨1, _⟩ => show win0_3.index t (1 : Fin 2) * 512 + 1 * k.val = k.val; rw [d1]; omega
theorem iblk4 (c : Dev nD) (t : Fin cfg0.N) (r : Fin 1024) (h : t.val * 1024 + r.val < 32768) (k : Fin 3072) :
    (iblk m c 4 t : S1024x3072.Idx → EReal) (ix2 r k)
      = (m ((c : Thread nD τ).loc main_arg4) : S32768x3072.Idx → EReal) (ix2 ⟨t.val * 1024 + r.val, h⟩ k) := by
  obtain ⟨-, -, a0, a1, b0, b1, c0, c1, d0, d1, e0, e1, -⟩ := idx_facts t
  rw [← entry4 m c]
  show V m c main_v3 (((cfg0.win 4).blk t).view.emb (ix2 r k : S1024x3072.Idx)) = _
  congr 1
  funext a; apply Fin.ext
  match a with
  | ⟨0, _⟩ => show win0_4.index t (0 : Fin 2) * 1024 + 1 * r.val = t.val * 1024 + r.val; rw [e0]; omega
  | ⟨1, _⟩ => show win0_4.index t (1 : Fin 2) * 3072 + 1 * k.val = k.val; rw [e1]; omega

/-- The weights' blocks are their whole arrays at every point. -/
theorem iblk5 (c : Dev nD) (t : Fin cfg0.N) : (iblk m c 5 t : S3x512x1024.Idx → EReal) = m ((c : Thread nD τ).loc main_arg5) := by
  obtain ⟨-, -, -, -, -, -, -, -, -, -, -, -, g, -⟩ := idx_facts t
  rw [← entry5 m c]
  funext i
  show V m c main_v4 (((cfg0.win 5).blk t).view.emb i) = _
  congr 1
  funext a; apply Fin.ext
  match a with
  | ⟨0, _⟩ => show win0_5.index t (0 : Fin 3) * 3 + 1 * (i 0).val = (i 0).val; rw [g]; omega
  | ⟨1, _⟩ => show win0_5.index t (1 : Fin 3) * 512 + 1 * (i 1).val = (i 1).val; rw [g]; omega
  | ⟨2, _⟩ => show win0_5.index t (2 : Fin 3) * 1024 + 1 * (i 2).val = (i 2).val; rw [g]; omega
theorem iblk6 (c : Dev nD) (t : Fin cfg0.N) : (iblk m c 6 t : S1024x1024.Idx → EReal) = m ((c : Thread nD τ).loc main_arg6) := by
  obtain ⟨-, -, -, -, -, -, -, -, -, -, -, -, -, g, -⟩ := idx_facts t
  rw [← entry6 m c]
  funext i
  show V m c main_v5 (((cfg0.win 6).blk t).view.emb i) = _
  congr 1
  funext a; apply Fin.ext
  match a with
  | ⟨0, _⟩ => show win0_6.index t (0 : Fin 2) * 1024 + 1 * (i 0).val = (i 0).val; rw [g]; omega
  | ⟨1, _⟩ => show win0_6.index t (1 : Fin 2) * 1024 + 1 * (i 1).val = (i 1).val; rw [g]; omega

/-- The block at point `t`, row `r`, column `l`, is the merge's function at row `1024 t + r`. -/
theorem point_apply (c : Dev nD) (t : Fin cfg0.N) (r : Fin 1024) (l : Fin 1024) (h : t.val * 1024 + r.val < 32768) :
    out0_7 (iblk m c 0 t) (iblk m c 1 t) (iblk m c 2 t) (iblk m c 3 t) (iblk m c 4 t) (iblk m c 5 t) (iblk m c 6 t) (ix2 r l)
      = (spec m c : S32768x1024.Idx → EReal) (ix2 ⟨t.val * 1024 + r.val, h⟩ l) := by
  refine (block_apply _ _ _ _ _ _ _ r l).trans ?_
  rw [iblk5, iblk6]
  simp only [iblk0 m c t r h, iblk1 m c t r h, iblk2 m c t r h, iblk3 m c t r h, iblk4 m c t r h]
  rfl

/-- What point `t` writes back is block `t` of the merge's function of the arguments. -/
theorem flushed_eq (c : Dev nD) (t : Fin cfg0.N) :
    (dats m 0 c).flushed 7 t = ((cfg0.win 7).blk t).view.read (Elt Ideal) (spec m c) := by
  rw [Value.flushed7]
  obtain ⟨e0, e1, -⟩ := idx_facts t
  funext y
  have hy0 : (y 0).val < 1024 := (y 0).isLt
  have hy1 : (y 1).val < 1024 := (y 1).isLt
  have ht : t.val < 32 := t.isLt
  have h : t.val * 1024 + (y 0).val < 32768 := by omega
  have hi : ((cfg0.win 7).blk t).view.emb y = (ix2 ⟨t.val * 1024 + (y 0).val, h⟩ ⟨(y 1).val, hy1⟩ : S32768x1024.Idx) := by
    funext a; apply Fin.ext
    match a with
    | ⟨0, _⟩ => show win0_7.index t (0 : Fin 2) * 1024 + 1 * (y 0).val = t.val * 1024 + (y 0).val; rw [e0]; omega
    | ⟨1, _⟩ => show win0_7.index t (1 : Fin 2) * 1024 + 1 * (y 1).val = (y 1).val; rw [e1]; omega
  have hx : (cfg0.win 7).xinj (grid0.coords t) y = (ix2 ⟨(y 0).val, hy0⟩ ⟨(y 1).val, hy1⟩ : S1024x1024.Idx) := by
    funext a; apply Fin.ext
    match a with
    | ⟨0, _⟩ => rfl
    | ⟨1, _⟩ => rfl
  show out0_7 (iblk m c 0 t) (iblk m c 1 t) (iblk m c 2 t) (iblk m c 3 t) (iblk m c 4 t) (iblk m c 5 t) (iblk m c 6 t)
      ((cfg0.win 7).xinj (grid0.coords t) y) = spec m c (((cfg0.win 7).blk t).view.emb y)
  rw [hx, hi]
  exact point_apply m c t ⟨(y 0).val, hy0⟩ ⟨(y 1).val, hy1⟩ h

/-- Every row lies in some point's block. -/
theorem cover (i : S32768x1024.Idx) : ∃ t : Fin cfg0.N, (cfg0.win 7).flush t = true ∧ i ∈ ((cfg0.win 7).blk t).view.set := by
  have h0 : (i 0).val < 32768 := (i 0).isLt
  have h1 : (i 1).val < 1024 := (i 1).isLt
  have hN : cfg0.N = 32 := rfl
  let t : Fin cfg0.N := ⟨(i 0).val / 1024, by omega⟩
  obtain ⟨e0, e1, -, -, -, -, -, -, -, -, -, -, -, -, hf⟩ := idx_facts t
  have e0' : win0_7.index t 0 = (i 0).val / 1024 := e0
  refine ⟨t, hf, ?_⟩
  show i ∈ ((View.whole main_v6).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + 1024
              rw [e0']; omega
  | ⟨1, _⟩ => show win0_7.index t (1 : Fin 2) * 1024 ≤ (i 1).val ∧ (i 1).val < win0_7.index t (1 : Fin 2) * 1024 + 1024
              rw [e1]; omega

/-- The kernel's result array after the run is the merge's function of the arguments. -/
theorem final (c : Dev nD) : (dats m 0 c).arrAt 7 cfg0.N = spec m c :=
  (dats m 0 c).arrAt_eq_of_cover 7 _ (fun t _ => flushed_eq m c t) (fun i => cover i)

end Kernel

/-- The two programs leave one function of the arguments in their result arrays. -/
theorem algebraic : Cert.algebraic_Kernel3Ideal_Reference3Ideal := by
  intro m ρ m' ρ' _ hagree
  refine ⟨_, (θ_run Cert.Kernel3Ideal.defs _ _).mono (fun r h c => ⟨((h c).1.trans (final m c)), (h c).2⟩)
    (Cert.Kernel3Ideal.Value.run_blocks (F := Ideal) m ρ), ?_⟩
  refine (θ_run Cert.Reference3Ideal.defs _ _).mono (fun _ h c => ⟨?_, (h c).2⟩) (Cert.Reference3Ideal.Value.run (F := Ideal) m' ρ')
  obtain ⟨h0, h1, h2, h3, h4, h5, h6⟩ := hagree c
  rw [(h c).1, h0, h1, h2, h3, h4, h5, h6]
  funext i
  idx_vars i
  unfold spec mergeArr merge mixed gate
  pointwise
  simp only [zero_sub]

end Cert.Merge

end
-- ==== Proof.Pack.lean ====
/- The input projection's packed weights: eighteen column ranges of the weights side by side, the narrow ones padded with zeros. -/
module

public import proofs.«01_k».proof.Proof.Gen.Kernel4Ideal.Value
public import Idealize.ShloMosaic.Lib.Pipeline.Value
public import Idealize.ShloMosaic.Lib.Pointwise

@[expose] public section

set_option maxRecDepth 16384

noncomputable section

namespace Cert.Proj

open Idealize.ShloMosaic Idealize.ShloMosaic.TcCoe Idealize.SL.Sem
open Cert.Kernel4Ideal Cert.Kernel4Ideal.Gen

/-- The fill of the narrow ranges: the integer zero, converted. -/
def zero : S_.Idx → EReal := sitofp (F := Ideal) .f32 (constantI S_ 32 0#32)

theorem zero_apply (i : S_.Idx) : zero i = 0 := by
  show (((0#32 : BitVec 32).toInt : ℝ) : EReal) = 0
  simp

/-- The first sixteen ranges of the weights, side by side. -/
def catW (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) : S1024x7552.Idx → EReal :=
  concatenate S1024x7552 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩]
    concatenates_S1024x256_S1024x256_S1024x512_S1024x512_S1024x512_S1024x512_S1024x512_S1024x512_S1024x3072_S1024x128_S1024x128_S1024x128_S1024x128_S1024x128_S1024x128_S1024x128_S1024x7552_d1

/-- The first sixteen ranges of the bias, one after the other. -/
def catB (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) : S7552.Idx → EReal :=
  concatenate S7552 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩]
    concatenates_S256_S256_S512_S512_S512_S512_S512_S512_S3072_S128_S128_S128_S128_S128_S128_S128_S7552_d0

theorem catW_0 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 256) :
    catW u0 u1 u2 u3 u4 u5 u6 u7 u8 u9 u10 u11 u12 u13 u14 u15 (ix2 k ⟨0 + j.val, by omega⟩) = u0 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 0 (by simp) _ u0 rfl rfl 0 (by simp) (ix2 k j)
    (fun b hb => by match b, hb with | ⟨0, _⟩, _ => rfl | ⟨1, _⟩, hb => exact absurd rfl hb) (show 0 + j.val = 0 + j.val from Eq.refl _)

theorem catB_0 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 256) :
    catB u0 u1 u2 u3 u4 u5 u6 u7 u8 u9 u10 u11 u12 u13 u14 u15 (ix1 ⟨0 + j.val, by omega⟩) = u0 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 0 (by simp) _ u0 rfl rfl 0 (by simp) (ix1 j)
    (fun b hb => by match b, hb with | ⟨0, _⟩, hb => exact absurd rfl hb) (show 0 + j.val = 0 + j.val from Eq.refl _)

theorem catW_1 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 256) :
    catW u0 u1 u2 u3 u4 u5 u6 u7 u8 u9 u10 u11 u12 u13 u14 u15 (ix2 k ⟨256 + j.val, by omega⟩) = u1 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 1 (by simp) _ u1 rfl rfl 256 (by simp) (ix2 k j)
    (fun b hb => by match b, hb with | ⟨0, _⟩, _ => rfl | ⟨1, _⟩, hb => exact absurd rfl hb) (show 256 + j.val = 256 + j.val from Eq.refl _)

theorem catB_1 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 256) :
    catB u0 u1 u2 u3 u4 u5 u6 u7 u8 u9 u10 u11 u12 u13 u14 u15 (ix1 ⟨256 + j.val, by omega⟩) = u1 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 1 (by simp) _ u1 rfl rfl 256 (by simp) (ix1 j)
    (fun b hb => by match b, hb with | ⟨0, _⟩, hb => exact absurd rfl hb) (show 256 + j.val = 256 + j.val from Eq.refl _)

theorem catW_2 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 512) :
    catW u0 u1 u2 u3 u4 u5 u6 u7 u8 u9 u10 u11 u12 u13 u14 u15 (ix2 k ⟨512 + j.val, by omega⟩) = u2 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 2 (by simp) _ u2 rfl rfl 512 (by simp) (ix2 k j)
    (fun b hb => by match b, hb with | ⟨0, _⟩, _ => rfl | ⟨1, _⟩, hb => exact absurd rfl hb) (show 512 + j.val = 512 + j.val from Eq.refl _)

theorem catB_2 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 512) :
    catB u0 u1 u2 u3 u4 u5 u6 u7 u8 u9 u10 u11 u12 u13 u14 u15 (ix1 ⟨512 + j.val, by omega⟩) = u2 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 2 (by simp) _ u2 rfl rfl 512 (by simp) (ix1 j)
    (fun b hb => by match b, hb with | ⟨0, _⟩, hb => exact absurd rfl hb) (show 512 + j.val = 512 + j.val from Eq.refl _)

theorem catW_3 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 512) :
    catW u0 u1 u2 u3 u4 u5 u6 u7 u8 u9 u10 u11 u12 u13 u14 u15 (ix2 k ⟨1024 + j.val, by omega⟩) = u3 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 3 (by simp) _ u3 rfl rfl 1024 (by simp) (ix2 k j)
    (fun b hb => by match b, hb with | ⟨0, _⟩, _ => rfl | ⟨1, _⟩, hb => exact absurd rfl hb) (show 1024 + j.val = 1024 + j.val from Eq.refl _)

theorem catB_3 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 512) :
    catB u0 u1 u2 u3 u4 u5 u6 u7 u8 u9 u10 u11 u12 u13 u14 u15 (ix1 ⟨1024 + j.val, by omega⟩) = u3 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 3 (by simp) _ u3 rfl rfl 1024 (by simp) (ix1 j)
    (fun b hb => by match b, hb with | ⟨0, _⟩, hb => exact absurd rfl hb) (show 1024 + j.val = 1024 + j.val from Eq.refl _)

theorem catW_4 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 512) :
    catW u0 u1 u2 u3 u4 u5 u6 u7 u8 u9 u10 u11 u12 u13 u14 u15 (ix2 k ⟨1536 + j.val, by omega⟩) = u4 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 4 (by simp) _ u4 rfl rfl 1536 (by simp) (ix2 k j)
    (fun b hb => by match b, hb with | ⟨0, _⟩, _ => rfl | ⟨1, _⟩, hb => exact absurd rfl hb) (show 1536 + j.val = 1536 + j.val from Eq.refl _)

theorem catB_4 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 512) :
    catB u0 u1 u2 u3 u4 u5 u6 u7 u8 u9 u10 u11 u12 u13 u14 u15 (ix1 ⟨1536 + j.val, by omega⟩) = u4 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 4 (by simp) _ u4 rfl rfl 1536 (by simp) (ix1 j)
    (fun b hb => by match b, hb with | ⟨0, _⟩, hb => exact absurd rfl hb) (show 1536 + j.val = 1536 + j.val from Eq.refl _)

theorem catW_5 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 512) :
    catW u0 u1 u2 u3 u4 u5 u6 u7 u8 u9 u10 u11 u12 u13 u14 u15 (ix2 k ⟨2048 + j.val, by omega⟩) = u5 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 5 (by simp) _ u5 rfl rfl 2048 (by simp) (ix2 k j)
    (fun b hb => by match b, hb with | ⟨0, _⟩, _ => rfl | ⟨1, _⟩, hb => exact absurd rfl hb) (show 2048 + j.val = 2048 + j.val from Eq.refl _)

theorem catB_5 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 512) :
    catB u0 u1 u2 u3 u4 u5 u6 u7 u8 u9 u10 u11 u12 u13 u14 u15 (ix1 ⟨2048 + j.val, by omega⟩) = u5 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 5 (by simp) _ u5 rfl rfl 2048 (by simp) (ix1 j)
    (fun b hb => by match b, hb with | ⟨0, _⟩, hb => exact absurd rfl hb) (show 2048 + j.val = 2048 + j.val from Eq.refl _)

theorem catW_6 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 512) :
    catW u0 u1 u2 u3 u4 u5 u6 u7 u8 u9 u10 u11 u12 u13 u14 u15 (ix2 k ⟨2560 + j.val, by omega⟩) = u6 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 6 (by simp) _ u6 rfl rfl 2560 (by simp) (ix2 k j)
    (fun b hb => by match b, hb with | ⟨0, _⟩, _ => rfl | ⟨1, _⟩, hb => exact absurd rfl hb) (show 2560 + j.val = 2560 + j.val from Eq.refl _)

theorem catB_6 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 512) :
    catB u0 u1 u2 u3 u4 u5 u6 u7 u8 u9 u10 u11 u12 u13 u14 u15 (ix1 ⟨2560 + j.val, by omega⟩) = u6 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 6 (by simp) _ u6 rfl rfl 2560 (by simp) (ix1 j)
    (fun b hb => by match b, hb with | ⟨0, _⟩, hb => exact absurd rfl hb) (show 2560 + j.val = 2560 + j.val from Eq.refl _)

theorem catW_7 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 512) :
    catW u0 u1 u2 u3 u4 u5 u6 u7 u8 u9 u10 u11 u12 u13 u14 u15 (ix2 k ⟨3072 + j.val, by omega⟩) = u7 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 7 (by simp) _ u7 rfl rfl 3072 (by simp) (ix2 k j)
    (fun b hb => by match b, hb with | ⟨0, _⟩, _ => rfl | ⟨1, _⟩, hb => exact absurd rfl hb) (show 3072 + j.val = 3072 + j.val from Eq.refl _)

theorem catB_7 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 512) :
    catB u0 u1 u2 u3 u4 u5 u6 u7 u8 u9 u10 u11 u12 u13 u14 u15 (ix1 ⟨3072 + j.val, by omega⟩) = u7 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 7 (by simp) _ u7 rfl rfl 3072 (by simp) (ix1 j)
    (fun b hb => by match b, hb with | ⟨0, _⟩, hb => exact absurd rfl hb) (show 3072 + j.val = 3072 + j.val from Eq.refl _)

theorem catW_8 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 3072) :
    catW u0 u1 u2 u3 u4 u5 u6 u7 u8 u9 u10 u11 u12 u13 u14 u15 (ix2 k ⟨3584 + j.val, by omega⟩) = u8 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 8 (by simp) _ u8 rfl rfl 3584 (by simp) (ix2 k j)
    (fun b hb => by match b, hb with | ⟨0, _⟩, _ => rfl | ⟨1, _⟩, hb => exact absurd rfl hb) (show 3584 + j.val = 3584 + j.val from Eq.refl _)

theorem catB_8 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 3072) :
    catB u0 u1 u2 u3 u4 u5 u6 u7 u8 u9 u10 u11 u12 u13 u14 u15 (ix1 ⟨3584 + j.val, by omega⟩) = u8 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 8 (by simp) _ u8 rfl rfl 3584 (by simp) (ix1 j)
    (fun b hb => by match b, hb with | ⟨0, _⟩, hb => exact absurd rfl hb) (show 3584 + j.val = 3584 + j.val from Eq.refl _)

theorem catW_9 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 128) :
    catW u0 u1 u2 u3 u4 u5 u6 u7 u8 u9 u10 u11 u12 u13 u14 u15 (ix2 k ⟨6656 + j.val, by omega⟩) = u9 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 9 (by simp) _ u9 rfl rfl 6656 (by simp) (ix2 k j)
    (fun b hb => by match b, hb with | ⟨0, _⟩, _ => rfl | ⟨1, _⟩, hb => exact absurd rfl hb) (show 6656 + j.val = 6656 + j.val from Eq.refl _)

theorem catB_9 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 128) :
    catB u0 u1 u2 u3 u4 u5 u6 u7 u8 u9 u10 u11 u12 u13 u14 u15 (ix1 ⟨6656 + j.val, by omega⟩) = u9 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 9 (by simp) _ u9 rfl rfl 6656 (by simp) (ix1 j)
    (fun b hb => by match b, hb with | ⟨0, _⟩, hb => exact absurd rfl hb) (show 6656 + j.val = 6656 + j.val from Eq.refl _)

theorem catW_10 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 128) :
    catW u0 u1 u2 u3 u4 u5 u6 u7 u8 u9 u10 u11 u12 u13 u14 u15 (ix2 k ⟨6784 + j.val, by omega⟩) = u10 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 10 (by simp) _ u10 rfl rfl 6784 (by simp) (ix2 k j)
    (fun b hb => by match b, hb with | ⟨0, _⟩, _ => rfl | ⟨1, _⟩, hb => exact absurd rfl hb) (show 6784 + j.val = 6784 + j.val from Eq.refl _)

theorem catB_10 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 128) :
    catB u0 u1 u2 u3 u4 u5 u6 u7 u8 u9 u10 u11 u12 u13 u14 u15 (ix1 ⟨6784 + j.val, by omega⟩) = u10 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 10 (by simp) _ u10 rfl rfl 6784 (by simp) (ix1 j)
    (fun b hb => by match b, hb with | ⟨0, _⟩, hb => exact absurd rfl hb) (show 6784 + j.val = 6784 + j.val from Eq.refl _)

theorem catW_11 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 128) :
    catW u0 u1 u2 u3 u4 u5 u6 u7 u8 u9 u10 u11 u12 u13 u14 u15 (ix2 k ⟨6912 + j.val, by omega⟩) = u11 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 11 (by simp) _ u11 rfl rfl 6912 (by simp) (ix2 k j)
    (fun b hb => by match b, hb with | ⟨0, _⟩, _ => rfl | ⟨1, _⟩, hb => exact absurd rfl hb) (show 6912 + j.val = 6912 + j.val from Eq.refl _)

theorem catB_11 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 128) :
    catB u0 u1 u2 u3 u4 u5 u6 u7 u8 u9 u10 u11 u12 u13 u14 u15 (ix1 ⟨6912 + j.val, by omega⟩) = u11 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 11 (by simp) _ u11 rfl rfl 6912 (by simp) (ix1 j)
    (fun b hb => by match b, hb with | ⟨0, _⟩, hb => exact absurd rfl hb) (show 6912 + j.val = 6912 + j.val from Eq.refl _)

theorem catW_12 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 128) :
    catW u0 u1 u2 u3 u4 u5 u6 u7 u8 u9 u10 u11 u12 u13 u14 u15 (ix2 k ⟨7040 + j.val, by omega⟩) = u12 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 12 (by simp) _ u12 rfl rfl 7040 (by simp) (ix2 k j)
    (fun b hb => by match b, hb with | ⟨0, _⟩, _ => rfl | ⟨1, _⟩, hb => exact absurd rfl hb) (show 7040 + j.val = 7040 + j.val from Eq.refl _)

theorem catB_12 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 128) :
    catB u0 u1 u2 u3 u4 u5 u6 u7 u8 u9 u10 u11 u12 u13 u14 u15 (ix1 ⟨7040 + j.val, by omega⟩) = u12 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 12 (by simp) _ u12 rfl rfl 7040 (by simp) (ix1 j)
    (fun b hb => by match b, hb with | ⟨0, _⟩, hb => exact absurd rfl hb) (show 7040 + j.val = 7040 + j.val from Eq.refl _)

theorem catW_13 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 128) :
    catW u0 u1 u2 u3 u4 u5 u6 u7 u8 u9 u10 u11 u12 u13 u14 u15 (ix2 k ⟨7168 + j.val, by omega⟩) = u13 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 13 (by simp) _ u13 rfl rfl 7168 (by simp) (ix2 k j)
    (fun b hb => by match b, hb with | ⟨0, _⟩, _ => rfl | ⟨1, _⟩, hb => exact absurd rfl hb) (show 7168 + j.val = 7168 + j.val from Eq.refl _)

theorem catB_13 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 128) :
    catB u0 u1 u2 u3 u4 u5 u6 u7 u8 u9 u10 u11 u12 u13 u14 u15 (ix1 ⟨7168 + j.val, by omega⟩) = u13 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 13 (by simp) _ u13 rfl rfl 7168 (by simp) (ix1 j)
    (fun b hb => by match b, hb with | ⟨0, _⟩, hb => exact absurd rfl hb) (show 7168 + j.val = 7168 + j.val from Eq.refl _)

theorem catW_14 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 128) :
    catW u0 u1 u2 u3 u4 u5 u6 u7 u8 u9 u10 u11 u12 u13 u14 u15 (ix2 k ⟨7296 + j.val, by omega⟩) = u14 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 14 (by simp) _ u14 rfl rfl 7296 (by simp) (ix2 k j)
    (fun b hb => by match b, hb with | ⟨0, _⟩, _ => rfl | ⟨1, _⟩, hb => exact absurd rfl hb) (show 7296 + j.val = 7296 + j.val from Eq.refl _)

theorem catB_14 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 128) :
    catB u0 u1 u2 u3 u4 u5 u6 u7 u8 u9 u10 u11 u12 u13 u14 u15 (ix1 ⟨7296 + j.val, by omega⟩) = u14 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 14 (by simp) _ u14 rfl rfl 7296 (by simp) (ix1 j)
    (fun b hb => by match b, hb with | ⟨0, _⟩, hb => exact absurd rfl hb) (show 7296 + j.val = 7296 + j.val from Eq.refl _)

theorem catW_15 (u0 : S1024x256.Idx → EReal) (u1 : S1024x256.Idx → EReal) (u2 : S1024x512.Idx → EReal) (u3 : S1024x512.Idx → EReal) (u4 : S1024x512.Idx → EReal) (u5 : S1024x512.Idx → EReal) (u6 : S1024x512.Idx → EReal) (u7 : S1024x512.Idx → EReal) (u8 : S1024x3072.Idx → EReal) (u9 : S1024x128.Idx → EReal) (u10 : S1024x128.Idx → EReal) (u11 : S1024x128.Idx → EReal) (u12 : S1024x128.Idx → EReal) (u13 : S1024x128.Idx → EReal) (u14 : S1024x128.Idx → EReal) (u15 : S1024x128.Idx → EReal) (k : Fin 1024) (j : Fin 128) :
    catW u0 u1 u2 u3 u4 u5 u6 u7 u8 u9 u10 u11 u12 u13 u14 u15 (ix2 k ⟨7424 + j.val, by omega⟩) = u15 (ix2 k j) :=
  concatenate_apply_piece (t := S1024x7552) 1 [⟨S1024x256, u0⟩, ⟨S1024x256, u1⟩, ⟨S1024x512, u2⟩, ⟨S1024x512, u3⟩, ⟨S1024x512, u4⟩, ⟨S1024x512, u5⟩, ⟨S1024x512, u6⟩, ⟨S1024x512, u7⟩, ⟨S1024x3072, u8⟩, ⟨S1024x128, u9⟩, ⟨S1024x128, u10⟩, ⟨S1024x128, u11⟩, ⟨S1024x128, u12⟩, ⟨S1024x128, u13⟩, ⟨S1024x128, u14⟩, ⟨S1024x128, u15⟩] concatenates_S1024x256_S1024x256_S1024x512_S1024x512_S1024x512_S1024x512_S1024x512_S1024x512_S1024x3072_S1024x128_S1024x128_S1024x128_S1024x128_S1024x128_S1024x128_S1024x128_S1024x7552_d1 _ 15 (by simp) _ u15 rfl rfl 7424 (by simp) (ix2 k j)
    (fun b hb => by match b, hb with | ⟨0, _⟩, _ => rfl | ⟨1, _⟩, hb => exact absurd rfl hb) (show 7424 + j.val = 7424 + j.val from Eq.refl _)

theorem catB_15 (u0 : S256.Idx → EReal) (u1 : S256.Idx → EReal) (u2 : S512.Idx → EReal) (u3 : S512.Idx → EReal) (u4 : S512.Idx → EReal) (u5 : S512.Idx → EReal) (u6 : S512.Idx → EReal) (u7 : S512.Idx → EReal) (u8 : S3072.Idx → EReal) (u9 : S128.Idx → EReal) (u10 : S128.Idx → EReal) (u11 : S128.Idx → EReal) (u12 : S128.Idx → EReal) (u13 : S128.Idx → EReal) (u14 : S128.Idx → EReal) (u15 : S128.Idx → EReal) (j : Fin 128) :
    catB u0 u1 u2 u3 u4 u5 u6 u7 u8 u9 u10 u11 u12 u13 u14 u15 (ix1 ⟨7424 + j.val, by omega⟩) = u15 (ix1 j) :=
  concatenate_apply_piece (t := S7552) 0 [⟨S256, u0⟩, ⟨S256, u1⟩, ⟨S512, u2⟩, ⟨S512, u3⟩, ⟨S512, u4⟩, ⟨S512, u5⟩, ⟨S512, u6⟩, ⟨S512, u7⟩, ⟨S3072, u8⟩, ⟨S128, u9⟩, ⟨S128, u10⟩, ⟨S128, u11⟩, ⟨S128, u12⟩, ⟨S128, u13⟩, ⟨S128, u14⟩, ⟨S128, u15⟩] concatenates_S256_S256_S512_S512_S512_S512_S512_S512_S3072_S128_S128_S128_S128_S128_S128_S128_S7552_d0 _ 15 (by simp) _ u15 rfl rfl 7424 (by simp) (ix1 j)
    (fun b hb => by match b, hb with | ⟨0, _⟩, hb => exact absurd rfl hb) (show 7424 + j.val = 7424 + j.val from Eq.refl _)

/-- The last two ranges, side by side, and after the first sixteen. -/
def pairW (a b : S1024x128.Idx → EReal) : S1024x256.Idx → EReal :=
  concatenate S1024x256 1 [⟨S1024x128, a⟩, ⟨S1024x128, b⟩] concatenates_S1024x128_S1024x128_S1024x256_d1
def topW (a : S1024x7552.Idx → EReal) (b : S1024x256.Idx → EReal) : S1024x7808.Idx → EReal :=
  concatenate S1024x7808 1 [⟨S1024x7552, a⟩, ⟨S1024x256, b⟩] concatenates_S1024x7552_S1024x256_S1024x7808_d1
def pairB (a b : S128.Idx → EReal) : S256.Idx → EReal :=
  concatenate S256 0 [⟨S128, a⟩, ⟨S128, b⟩] concatenates_S128_S128_S256_d0
def topB (a : S7552.Idx → EReal) (b : S256.Idx → EReal) : S7808.Idx → EReal :=
  concatenate S7808 0 [⟨S7552, a⟩, ⟨S256, b⟩] concatenates_S7552_S256_S7808_d0

/-- The packed weights. -/
def packW (W : S1024x7472.Idx → EReal) : S1024x7808.Idx → EReal :=
  topW (catW
    (pad S1024x256 ![0, 0] ![0, 0] ![0, 0] (extractStridedSlice S1024x256 ![0, 0] W slices_S1024x7472_S1024x256_0_0) zero pads_S1024x256_S1024x256_000_000 h_S_)
    (pad S1024x256 ![0, 0] ![0, 0] ![0, 0] (extractStridedSlice S1024x256 ![0, 256] W slices_S1024x7472_S1024x256_0_256) zero pads_S1024x256_S1024x256_000_000 h_S_)
    (pad S1024x512 ![0, 0] ![0, 0] ![0, 0] (extractStridedSlice S1024x512 ![0, 512] W slices_S1024x7472_S1024x512_0_512) zero pads_S1024x512_S1024x512_000_000 h_S_)
    (pad S1024x512 ![0, 0] ![0, 0] ![0, 0] (extractStridedSlice S1024x512 ![0, 1024] W slices_S1024x7472_S1024x512_0_1024) zero pads_S1024x512_S1024x512_000_000 h_S_)
    (pad S1024x512 ![0, 0] ![0, 0] ![0, 0] (extractStridedSlice S1024x512 ![0, 1552] W slices_S1024x7472_S1024x512_0_1552) zero pads_S1024x512_S1024x512_000_000 h_S_)
    (pad S1024x512 ![0, 0] ![0, 0] ![0, 0] (extractStridedSlice S1024x512 ![0, 2856] W slices_S1024x7472_S1024x512_0_2856) zero pads_S1024x512_S1024x512_000_000 h_S_)
    (pad S1024x512 ![0, 0] ![0, 0] ![0, 0] (extractStridedSlice S1024x512 ![0, 3368] W slices_S1024x7472_S1024x512_0_3368) zero pads_S1024x512_S1024x512_000_000 h_S_)
    (pad S1024x512 ![0, 0] ![0, 0] ![0, 0] (extractStridedSlice S1024x512 ![0, 3880] W slices_S1024x7472_S1024x512_0_3880) zero pads_S1024x512_S1024x512_000_000 h_S_)
    (pad S1024x3072 ![0, 0] ![0, 0] ![0, 0] (extractStridedSlice S1024x3072 ![0, 4400] W slices_S1024x7472_S1024x3072_0_4400) zero pads_S1024x3072_S1024x3072_000_000 h_S_)
    (pad S1024x128 ![0, 0] ![0, 112] ![0, 0] (extractStridedSlice S1024x16 ![0, 1536] W slices_S1024x7472_S1024x16_0_1536) zero pads_S1024x16_S1024x128_000_01120 h_S_)
    (pad S1024x128 ![0, 0] ![0, 0] ![0, 0] (extractStridedSlice S1024x128 ![0, 2064] W slices_S1024x7472_S1024x128_0_2064) zero pads_S1024x128_S1024x128_000_000 h_S_)
    (pad S1024x128 ![0, 0] ![0, 0] ![0, 0] (extractStridedSlice S1024x128 ![0, 2192] W slices_S1024x7472_S1024x128_0_2192) zero pads_S1024x128_S1024x128_000_000 h_S_)
    (pad S1024x128 ![0, 0] ![0, 0] ![0, 0] (extractStridedSlice S1024x128 ![0, 2320] W slices_S1024x7472_S1024x128_0_2320) zero pads_S1024x128_S1024x128_000_000 h_S_)
    (pad S1024x128 ![0, 0] ![0, 0] ![0, 0] (extractStridedSlice S1024x128 ![0, 2448] W slices_S1024x7472_S1024x128_0_2448) zero pads_S1024x128_S1024x128_000_000 h_S_)
    (pad S1024x128 ![0, 0] ![0, 0] ![0, 0] (extractStridedSlice S1024x128 ![0, 2576] W slices_S1024x7472_S1024x128_0_2576) zero pads_S1024x128_S1024x128_000_000 h_S_)
    (pad S1024x128 ![0, 0] ![0, 0] ![0, 0] (extractStridedSlice S1024x128 ![0, 2704] W slices_S1024x7472_S1024x128_0_2704) zero pads_S1024x128_S1024x128_000_000 h_S_))
    (pairW
    (pad S1024x128 ![0, 0] ![0, 104] ![0, 0] (extractStridedSlice S1024x24 ![0, 2832] W slices_S1024x7472_S1024x24_0_2832) zero pads_S1024x24_S1024x128_000_01040 h_S_)
    (pad S1024x128 ![0, 0] ![0, 120] ![0, 0] (extractStridedSlice S1024x8 ![0, 4392] W slices_S1024x7472_S1024x8_0_4392) zero pads_S1024x8_S1024x128_000_01200 h_S_))

/-- The packed bias. -/
def packB (B : S7472.Idx → EReal) : S7808.Idx → EReal :=
  topB (catB
    (pad S256 ![0] ![0] ![0] (extractStridedSlice S256 ![0] B slices_S7472_S256_0) zero pads_S256_S256_000 h_S_)
    (pad S256 ![0] ![0] ![0] (extractStridedSlice S256 ![256] B slices_S7472_S256_256) zero pads_S256_S256_000 h_S_)
    (pad S512 ![0] ![0] ![0] (extractStridedSlice S512 ![512] B slices_S7472_S512_512) zero pads_S512_S512_000 h_S_)
    (pad S512 ![0] ![0] ![0] (extractStridedSlice S512 ![1024] B slices_S7472_S512_1024) zero pads_S512_S512_000 h_S_)
    (pad S512 ![0] ![0] ![0] (extractStridedSlice S512 ![1552] B slices_S7472_S512_1552) zero pads_S512_S512_000 h_S_)
    (pad S512 ![0] ![0] ![0] (extractStridedSlice S512 ![2856] B slices_S7472_S512_2856) zero pads_S512_S512_000 h_S_)
    (pad S512 ![0] ![0] ![0] (extractStridedSlice S512 ![3368] B slices_S7472_S512_3368) zero pads_S512_S512_000 h_S_)
    (pad S512 ![0] ![0] ![0] (extractStridedSlice S512 ![3880] B slices_S7472_S512_3880) zero pads_S512_S512_000 h_S_)
    (pad S3072 ![0] ![0] ![0] (extractStridedSlice S3072 ![4400] B slices_S7472_S3072_4400) zero pads_S3072_S3072_000 h_S_)
    (pad S128 ![0] ![112] ![0] (extractStridedSlice S16 ![1536] B slices_S7472_S16_1536) zero pads_S16_S128_01120 h_S_)
    (pad S128 ![0] ![0] ![0] (extractStridedSlice S128 ![2064] B slices_S7472_S128_2064) zero pads_S128_S128_000 h_S_)
    (pad S128 ![0] ![0] ![0] (extractStridedSlice S128 ![2192] B slices_S7472_S128_2192) zero pads_S128_S128_000 h_S_)
    (pad S128 ![0] ![0] ![0] (extractStridedSlice S128 ![2320] B slices_S7472_S128_2320) zero pads_S128_S128_000 h_S_)
    (pad S128 ![0] ![0] ![0] (extractStridedSlice S128 ![2448] B slices_S7472_S128_2448) zero pads_S128_S128_000 h_S_)
    (pad S128 ![0] ![0] ![0] (extractStridedSlice S128 ![2576] B slices_S7472_S128_2576) zero pads_S128_S128_000 h_S_)
    (pad S128 ![0] ![0] ![0] (extractStridedSlice S128 ![2704] B slices_S7472_S128_2704) zero pads_S128_S128_000 h_S_))
    (pairB
    (pad S128 ![0] ![104] ![0] (extractStridedSlice S24 ![2832] B slices_S7472_S24_2832) zero pads_S24_S128_01040 h_S_)
    (pad S128 ![0] ![120] ![0] (extractStridedSlice S8 ![4392] B slices_S7472_S8_4392) zero pads_S8_S128_01200 h_S_))

theorem packW_0 (W : S1024x7472.Idx → EReal) (k : Fin 1024) (j : Fin 256) :
    packW W (ix2 k ⟨0 + j.val, by omega⟩) = W (ix2 k ⟨0 + j.val, by omega⟩) := by
  unfold packW topW
  refine (concatenate_pair_apply_left (t := S1024x7808) (s₁ := S1024x7552) 1 _ _ _ _ rfl (ix2 k ⟨0 + j.val, by omega⟩)
    (fun b => by match b with | ⟨0, _⟩ => rfl | ⟨1, _⟩ => rfl)).trans ((catW_0 _ _ _ _ _ _ _ _ _ _ _ _ _ _ _ _ _ j).trans ?_)
  pointwise

theorem packB_0 (B : S7472.Idx → EReal) (j : Fin 256) :
    packB B (ix1 ⟨0 + j.val, by omega⟩) = B (ix1 ⟨0 + j.val, by omega⟩) := by
  unfold packB topB
  refine (concatenate_pair_apply_left (t := S7808) (s₁ := S7552) 0 _ _ _ _ rfl (ix1 ⟨0 + j.val, by omega⟩)
    (fun b => by match b with | ⟨0, _⟩ => rfl)).trans ((catB_0 _ _ _ _ _ _ _ _ _ _ _ _ _ _ _ _ j).trans ?_)
  pointwise

theorem packW_1 (W : S1024x7472.Idx → EReal) (k : Fin 1024) (j : Fin 256) :
    packW W (ix2 k ⟨256 + j.val, by omega⟩) = W (ix2 k ⟨256 + j.val, by omega⟩) := by
  unfold packW topW
  refine (concatenate_pair_apply_left (t := S1024x7808) (s₁ := S1024x7552) 1 _ _ _ _ rfl (ix2 k ⟨256 + j.val, by omega⟩)
    (fun b => by match b with | ⟨0, _⟩ => rfl | ⟨1, _⟩ => rfl)).trans ((catW_1 _ _ _ _ _ _ _ _ _ _ _ _ _ _ _ _ _ j).trans ?_)
  pointwise

theorem packB_1 (B : S7472.Idx → EReal) (j : Fin 256) :
    packB B (ix1 ⟨256 + j.val, by omega⟩) = B (ix1 ⟨256 + j.val, by omega⟩) := by
  unfold packB topB
  refine (concatenate_pair_apply_left (t := S7808) (s₁ := S7552) 0 _ _ _ _ rfl (ix1 ⟨256 + j.val, by omega⟩)
    (fun b => by match b with | ⟨0, _⟩ => rfl)).trans ((catB_1 _ _ _ _ _ _ _ _ _ _ _ _ _ _ _ _ j).trans ?_)
  pointwise

theorem packW_2 (W : S1024x7472.Idx → EReal) (k : Fin 1024) (j : Fin 512) :
    packW W (ix2 k ⟨512 + j.val, by omega⟩) = W (ix2 k ⟨512 + j.val, by omega⟩) := by
  unfold packW topW
  refine (concatenate_pair_apply_left (t := S1024x7808) (s₁ := S1024x7552) 1 _ _ _ _ rfl (ix2 k ⟨512 + j.val, by omega⟩)
    (fun b => by match b with | ⟨0, _⟩ => rfl | ⟨1, _⟩ => rfl)).trans ((catW_2 _ _ _ _ _ _ _ _ _ _ _ _ _ _ _ _ _ j).trans ?_)
  pointwise

theorem packB_2 (B : S7472.Idx → EReal) (j : Fin 512) :
    packB B (ix1 ⟨512 + j.val, by omega⟩) = B (ix1 ⟨512 + j.val, by omega⟩) := by
  unfold packB topB
  refine (concatenate_pair_apply_left (t := S7808) (s₁ := S7552) 0 _ _ _ _ rfl (ix1 ⟨512 + j.val, by omega⟩)
    (fun b => by match b with | ⟨0, _⟩ => rfl)).trans ((catB_2 _ _ _ _ _ _ _ _ _ _ _ _ _ _ _ _ j).trans ?_)
  pointwise

theorem packW_3 (W : S1024x7472.Idx → EReal) (k : Fin 1024) (j : Fin 512) :
    packW W (ix2 k ⟨1024 + j.val, by omega⟩) = W (ix2 k ⟨1024 + j.val, by omega⟩) := by
  unfold packW topW
  refine (concatenate_pair_apply_left (t := S1024x7808) (s₁ := S1024x7552) 1 _ _ _ _ rfl (ix2 k ⟨1024 + j.val, by omega⟩)
    (fun b => by match b with | ⟨0, _⟩ => rfl | ⟨1, _⟩ => rfl)).trans ((catW_3 _ _ _ _ _ _ _ _ _ _ _ _ _ _ _ _ _ j).trans ?_)
  pointwise

theorem packB_3 (B : S7472.Idx → EReal) (j : Fin 512) :
    packB B (ix1 ⟨1024 + j.val, by omega⟩) = B (ix1 ⟨1024 + j.val, by omega⟩) := by
  unfold packB topB
  refine (concatenate_pair_apply_left (t := S7808) (s₁ := S7552) 0 _ _ _ _ rfl (ix1 ⟨1024 + j.val, by omega⟩)
    (fun b => by match b with | ⟨0, _⟩ => rfl)).trans ((catB_3 _ _ _ _ _ _ _ _ _ _ _ _ _ _ _ _ j).trans ?_)
  pointwise

theorem packW_4 (W : S1024x7472.Idx → EReal) (k : Fin 1024) (j : Fin 512) :
    packW W (ix2 k ⟨1536 + j.val, by omega⟩) = W (ix2 k ⟨1552 + j.val, by omega⟩) := by
  unfold packW topW
  refine (concatenate_pair_apply_left (t := S1024x7808) (s₁ := S1024x7552) 1 _ _ _ _ rfl (ix2 k ⟨1536 + j.val, by omega⟩)
    (fun b => by match b with | ⟨0, _⟩ => rfl | ⟨1, _⟩ => rfl)).trans ((catW_4 _ _ _ _ _ _ _ _ _ _ _ _ _ _ _ _ _ j).trans ?_)
  pointwise

theorem packB_4 (B : S7472.Idx → EReal) (j : Fin 512) :
    packB B (ix1 ⟨1536 + j.val, by omega⟩) = B (ix1 ⟨1552 + j.val, by omega⟩) := by
  unfold packB topB
  refine (concatenate_pair_apply_left (t := S7808) (s₁ := S7552) 0 _ _ _ _ rfl (ix1 ⟨1536 + j.val, by omega⟩)
    (fun b => by match b with | ⟨0, _⟩ => rfl)).trans ((catB_4 _ _ _ _ _ _ _ _ _ _ _ _ _ _ _ _ j).trans ?_)
  pointwise

theorem packW_5 (W : S1024x7472.Idx → EReal) (k : Fin 1024) (j : Fin 512) :
    packW W (ix2 k ⟨2048 + j.val, by omega⟩) = W (ix2 k ⟨2856 + j.val, by omega⟩) := by
  unfold packW topW
  refine (concatenate_pair_apply_left (t := S1024x7808) (s₁ := S1024x7552) 1 _ _ _ _ rfl (ix2 k ⟨2048 + j.val, by omega⟩)
    (fun b => by match b with | ⟨0, _⟩ => rfl | ⟨1, _⟩ => rfl)).trans ((catW_5 _ _ _ _ _ _ _ _ _ _ _ _ _ _ _ _ _ j).trans ?_)
  pointwise

theorem packB_5 (B : S7472.Idx → EReal) (j : Fin 512) :
    packB B (ix1 ⟨2048 + j.val, by omega⟩) = B (ix1 ⟨2856 + j.val, by omega⟩) := by
  unfold packB topB
  refine (concatenate_pair_apply_left (t := S7808) (s₁ := S7552) 0 _ _ _ _ rfl (ix1 ⟨2048 + j.val, by omega⟩)
    (fun b => by match b with | ⟨0, _⟩ => rfl)).trans ((catB_5 _ _ _ _ _ _ _ _ _ _ _ _ _ _ _ _ j).trans ?_)
  pointwise

theorem packW_6 (W : S1024x7472.Idx → EReal) (k : Fin 1024) (j : Fin 512) :
    packW W (ix2 k ⟨2560 + j.val, by omega⟩) = W (ix2 k ⟨3368 + j.val, by omega⟩) := by
  unfold packW topW
  refine (concatenate_pair_apply_left (t := S1024x7808) (s₁ := S1024x7552) 1 _ _ _ _ rfl (ix2 k ⟨2560 + j.val, by omega⟩)
    (fun b => by match b with | ⟨0, _⟩ => rfl | ⟨1, _⟩ => rfl)).trans ((catW_6 _ _ _ _ _ _ _ _ _ _ _ _ _ _ _ _ _ j).trans ?_)
  pointwise

theorem packB_6 (B : S7472.Idx → EReal) (j : Fin 512) :
    packB B (ix1 ⟨2560 + j.val, by omega⟩) = B (ix1 ⟨3368 + j.val, by omega⟩) := by
  unfold packB topB
  refine (concatenate_pair_apply_left (t := S7808) (s₁ := S7552) 0 _ _ _ _ rfl (ix1 ⟨2560 + j.val, by omega⟩)
    (fun b => by match b with | ⟨0, _⟩ => rfl)).trans ((catB_6 _ _ _ _ _ _ _ _ _ _ _ _ _ _ _ _ j).trans ?_)
  pointwise

theorem packW_7 (W : S1024x7472.Idx → EReal) (k : Fin 1024) (j : Fin 512) :
    packW W (ix2 k ⟨3072 + j.val, by omega⟩) = W (ix2 k ⟨3880 + j.val, by omega⟩) := by
  unfold packW topW
  refine (concatenate_pair_apply_left (t := S1024x7808) (s₁ := S1024x7552) 1 _ _ _ _ rfl (ix2 k ⟨3072 + j.val, by omega⟩)
    (fun b => by match b with | ⟨0, _⟩ => rfl | ⟨1, _⟩ => rfl)).trans ((catW_7 _ _ _ _ _ _ _ _ _ _ _ _ _ _ _ _ _ j).trans ?_)
  pointwise

theorem packB_7 (B : S7472.Idx → EReal) (j : Fin 512) :
    packB B (ix1 ⟨3072 + j.val, by omega⟩) = B (ix1 ⟨3880 + j.val, by omega⟩) := by
  unfold packB topB
  refine (concatenate_pair_apply_left (t := S7808) (s₁ := S7552) 0 _ _ _ _ rfl (ix1 ⟨3072 + j.val, by omega⟩)
    (fun b => by match b with | ⟨0, _⟩ => rfl)).trans ((catB_7 _ _ _ _ _ _ _ _ _ _ _ _ _ _ _ _ j).trans ?_)
  pointwise

theorem packW_8 (W : S1024x7472.Idx → EReal) (k : Fin 1024) (j : Fin 3072) :
    packW W (ix2 k ⟨3584 + j.val, by omega⟩) = W (ix2 k ⟨4400 + j.val, by omega⟩) := by
  unfold packW topW
  refine (concatenate_pair_apply_left (t := S1024x7808) (s₁ := S1024x7552) 1 _ _ _ _ rfl (ix2 k ⟨3584 + j.val, by omega⟩)
    (fun b => by match b with | ⟨0, _⟩ => rfl | ⟨1, _⟩ => rfl)).trans ((catW_8 _ _ _ _ _ _ _ _ _ _ _ _ _ _ _ _ _ j).trans ?_)
  pointwise

theorem packB_8 (B : S7472.Idx → EReal) (j : Fin 3072) :
    packB B (ix1 ⟨3584 + j.val, by omega⟩) = B (ix1 ⟨4400 + j.val, by omega⟩) := by
  unfold packB topB
  refine (concatenate_pair_apply_left (t := S7808) (s₁ := S7552) 0 _ _ _ _ rfl (ix1 ⟨3584 + j.val, by omega⟩)
    (fun b => by match b with | ⟨0, _⟩ => rfl)).trans ((catB_8 _ _ _ _ _ _ _ _ _ _ _ _ _ _ _ _ j).trans ?_)
  pointwise

theorem packW_9 (W : S1024x7472.Idx → EReal) (k : Fin 1024) (j : Fin 128) :
    packW W (ix2 k ⟨6656 + j.val, by omega⟩) = if h : j.val < 16 then W (ix2 k ⟨1536 + j.val, by omega⟩) else 0 := by
  unfold packW topW
  refine (concatenate_pair_apply_left (t := S1024x7808) (s₁ := S1024x7552) 1 _ _ _ _ rfl (ix2 k ⟨6656 + j.val, by omega⟩)
    (fun b => by match b with | ⟨0, _⟩ => rfl | ⟨1, _⟩ => rfl)).trans ((catW_9 _ _ _ _ _ _ _ _ _ _ _ _ _ _ _ _ _ j).trans ?_)
  pointwise
  rw [zero_apply]

theorem packB_9 (B : S7472.Idx → EReal) (j : Fin 128) :
    packB B (ix1 ⟨6656 + j.val, by omega⟩) = if h : j.val < 16 then B (ix1 ⟨1536 + j.val, by omega⟩) else 0 := by
  unfold packB topB
  refine (concatenate_pair_apply_left (t := S7808) (s₁ := S7552) 0 _ _ _ _ rfl (ix1 ⟨6656 + j.val, by omega⟩)
    (fun b => by match b with | ⟨0, _⟩ => rfl)).trans ((catB_9 _ _ _ _ _ _ _ _ _ _ _ _ _ _ _ _ j).trans ?_)
  pointwise
  rw [zero_apply]

theorem packW_10 (W : S1024x7472.Idx → EReal) (k : Fin 1024) (j : Fin 128) :
    packW W (ix2 k ⟨6784 + j.val, by omega⟩) = W (ix2 k ⟨2064 + j.val, by omega⟩) := by
  unfold packW topW
  refine (concatenate_pair_apply_left (t := S1024x7808) (s₁ := S1024x7552) 1 _ _ _ _ rfl (ix2 k ⟨6784 + j.val, by omega⟩)
    (fun b => by match b with | ⟨0, _⟩ => rfl | ⟨1, _⟩ => rfl)).trans ((catW_10 _ _ _ _ _ _ _ _ _ _ _ _ _ _ _ _ _ j).trans ?_)
  pointwise

theorem packB_10 (B : S7472.Idx → EReal) (j : Fin 128) :
    packB B (ix1 ⟨6784 + j.val, by omega⟩) = B (ix1 ⟨2064 + j.val, by omega⟩) := by
  unfold packB topB
  refine (concatenate_pair_apply_left (t := S7808) (s₁ := S7552) 0 _ _ _ _ rfl (ix1 ⟨6784 + j.val, by omega⟩)
    (fun b => by match b with | ⟨0, _⟩ => rfl)).trans ((catB_10 _ _ _ _ _ _ _ _ _ _ _ _ _ _ _ _ j).trans ?_)
  pointwise

theorem packW_11 (W : S1024x7472.Idx → EReal) (k : Fin 1024) (j : Fin 128) :
    packW W (ix2 k ⟨6912 + j.val, by omega⟩) = W (ix2 k ⟨2192 + j.val, by omega⟩) := by
  unfold packW topW
  refine (concatenate_pair_apply_left (t := S1024x7808) (s₁ := S1024x7552) 1 _ _ _ _ rfl (ix2 k ⟨6912 + j.val, by omega⟩)
    (fun b => by match b with | ⟨0, _⟩ => rfl | ⟨1, _⟩ => rfl)).trans ((catW_11 _ _ _ _ _ _ _ _ _ _ _ _ _ _ _ _ _ j).trans ?_)
  pointwise

theorem packB_11 (B : S7472.Idx → EReal) (j : Fin 128) :
    packB B (ix1 ⟨6912 + j.val, by omega⟩) = B (ix1 ⟨2192 + j.val, by omega⟩) := by
  unfold packB topB
  refine (concatenate_pair_apply_left (t := S7808) (s₁ := S7552) 0 _ _ _ _ rfl (ix1 ⟨6912 + j.val, by omega⟩)
    (fun b => by match b with | ⟨0, _⟩ => rfl)).trans ((catB_11 _ _ _ _ _ _ _ _ _ _ _ _ _ _ _ _ j).trans ?_)
  pointwise

theorem packW_12 (W : S1024x7472.Idx → EReal) (k : Fin 1024) (j : Fin 128) :
    packW W (ix2 k ⟨7040 + j.val, by omega⟩) = W (ix2 k ⟨2320 + j.val, by omega⟩) := by
  unfold packW topW
  refine (concatenate_pair_apply_left (t := S1024x7808) (s₁ := S1024x7552) 1 _ _ _ _ rfl (ix2 k ⟨7040 + j.val, by omega⟩)
    (fun b => by match b with | ⟨0, _⟩ => rfl | ⟨1, _⟩ => rfl)).trans ((catW_12 _ _ _ _ _ _ _ _ _ _ _ _ _ _ _ _ _ j).trans ?_)
  pointwise

theorem packB_12 (B : S7472.Idx → EReal) (j : Fin 128) :
    packB B (ix1 ⟨7040 + j.val, by omega⟩) = B (ix1 ⟨2320 + j.val, by omega⟩) := by
  unfold packB topB
  refine (concatenate_pair_apply_left (t := S7808) (s₁ := S7552) 0 _ _ _ _ rfl (ix1 ⟨7040 + j.val, by omega⟩)
    (fun b => by match b with | ⟨0, _⟩ => rfl)).trans ((catB_12 _ _ _ _ _ _ _ _ _ _ _ _ _ _ _ _ j).trans ?_)
  pointwise

theorem packW_13 (W : S1024x7472.Idx → EReal) (k : Fin 1024) (j : Fin 128) :
    packW W (ix2 k ⟨7168 + j.val, by omega⟩) = W (ix2 k ⟨2448 + j.val, by omega⟩) := by
  unfold packW topW
  refine (concatenate_pair_apply_left (t := S1024x7808) (s₁ := S1024x7552) 1 _ _ _ _ rfl (ix2 k ⟨7168 + j.val, by omega⟩)
    (fun b => by match b with | ⟨0, _⟩ => rfl | ⟨1, _⟩ => rfl)).trans ((catW_13 _ _ _ _ _ _ _ _ _ _ _ _ _ _ _ _ _ j).trans ?_)
  pointwise

theorem packB_13 (B : S7472.Idx → EReal) (j : Fin 128) :
    packB B (ix1 ⟨7168 + j.val, by omega⟩) = B (ix1 ⟨2448 + j.val, by omega⟩) := by
  unfold packB topB
  refine (concatenate_pair_apply_left (t := S7808) (s₁ := S7552) 0 _ _ _ _ rfl (ix1 ⟨7168 + j.val, by omega⟩)
    (fun b => by match b with | ⟨0, _⟩ => rfl)).trans ((catB_13 _ _ _ _ _ _ _ _ _ _ _ _ _ _ _ _ j).trans ?_)
  pointwise

theorem packW_14 (W : S1024x7472.Idx → EReal) (k : Fin 1024) (j : Fin 128) :
    packW W (ix2 k ⟨7296 + j.val, by omega⟩) = W (ix2 k ⟨2576 + j.val, by omega⟩) := by
  unfold packW topW
  refine (concatenate_pair_apply_left (t := S1024x7808) (s₁ := S1024x7552) 1 _ _ _ _ rfl (ix2 k ⟨7296 + j.val, by omega⟩)
    (fun b => by match b with | ⟨0, _⟩ => rfl | ⟨1, _⟩ => rfl)).trans ((catW_14 _ _ _ _ _ _ _ _ _ _ _ _ _ _ _ _ _ j).trans ?_)
  pointwise

theorem packB_14 (B : S7472.Idx → EReal) (j : Fin 128) :
    packB B (ix1 ⟨7296 + j.val, by omega⟩) = B (ix1 ⟨2576 + j.val, by omega⟩) := by
  unfold packB topB
  refine (concatenate_pair_apply_left (t := S7808) (s₁ := S7552) 0 _ _ _ _ rfl (ix1 ⟨7296 + j.val, by omega⟩)
    (fun b => by match b with | ⟨0, _⟩ => rfl)).trans ((catB_14 _ _ _ _ _ _ _ _ _ _ _ _ _ _ _ _ j).trans ?_)
  pointwise

theorem packW_15 (W : S1024x7472.Idx → EReal) (k : Fin 1024) (j : Fin 128) :
    packW W (ix2 k ⟨7424 + j.val, by omega⟩) = W (ix2 k ⟨2704 + j.val, by omega⟩) := by
  unfold packW topW
  refine (concatenate_pair_apply_left (t := S1024x7808) (s₁ := S1024x7552) 1 _ _ _ _ rfl (ix2 k ⟨7424 + j.val, by omega⟩)
    (fun b => by match b with | ⟨0, _⟩ => rfl | ⟨1, _⟩ => rfl)).trans ((catW_15 _ _ _ _ _ _ _ _ _ _ _ _ _ _ _ _ _ j).trans ?_)
  pointwise

theorem packB_15 (B : S7472.Idx → EReal) (j : Fin 128) :
    packB B (ix1 ⟨7424 + j.val, by omega⟩) = B (ix1 ⟨2704 + j.val, by omega⟩) := by
  unfold packB topB
  refine (concatenate_pair_apply_left (t := S7808) (s₁ := S7552) 0 _ _ _ _ rfl (ix1 ⟨7424 + j.val, by omega⟩)
    (fun b => by match b with | ⟨0, _⟩ => rfl)).trans ((catB_15 _ _ _ _ _ _ _ _ _ _ _ _ _ _ _ _ j).trans ?_)
  pointwise

theorem packW_16 (W : S1024x7472.Idx → EReal) (k : Fin 1024) (j : Fin 128) :
    packW W (ix2 k ⟨7552 + j.val, by omega⟩) = if h : j.val < 24 then W (ix2 k ⟨2832 + j.val, by omega⟩) else 0 := by
  unfold packW topW
  refine (concatenate_pair_apply_right (t := S1024x7808) (s₁ := S1024x7552) (s₂ := S1024x256) 1 _ _ _ (ix2 k ⟨7552 + j.val, by omega⟩) rfl rfl (ix2 k ⟨0 + j.val, by omega⟩)
    (fun b hb => by match b, hb with | ⟨0, _⟩, _ => rfl | ⟨1, _⟩, hb => exact absurd rfl hb) (show 0 + j.val + 7552 = 7552 + j.val by omega)).trans ?_
  unfold pairW
  refine (concatenate_pair_apply_left (t := S1024x256) (s₁ := S1024x128) 1 _ _ _ (ix2 k ⟨0 + j.val, by omega⟩) rfl (ix2 k j)
    (fun b => by match b with | ⟨0, _⟩ => rfl | ⟨1, _⟩ => exact (Nat.zero_add _).symm)).trans ?_
  pointwise
  rw [zero_apply]

theorem packB_16 (B : S7472.Idx → EReal) (j : Fin 128) :
    packB B (ix1 ⟨7552 + j.val, by omega⟩) = if h : j.val < 24 then B (ix1 ⟨2832 + j.val, by omega⟩) else 0 := by
  unfold packB topB
  refine (concatenate_pair_apply_right (t := S7808) (s₁ := S7552) (s₂ := S256) 0 _ _ _ (ix1 ⟨7552 + j.val, by omega⟩) rfl rfl (ix1 ⟨0 + j.val, by omega⟩)
    (fun b hb => by match b, hb with | ⟨0, _⟩, hb => exact absurd rfl hb) (show 0 + j.val + 7552 = 7552 + j.val by omega)).trans ?_
  unfold pairB
  refine (concatenate_pair_apply_left (t := S256) (s₁ := S128) 0 _ _ _ (ix1 ⟨0 + j.val, by omega⟩) rfl (ix1 j)
    (fun b => by match b with | ⟨0, _⟩ => exact (Nat.zero_add _).symm)).trans ?_
  pointwise
  rw [zero_apply]

theorem packW_17 (W : S1024x7472.Idx → EReal) (k : Fin 1024) (j : Fin 128) :
    packW W (ix2 k ⟨7680 + j.val, by omega⟩) = if h : j.val < 8 then W (ix2 k ⟨4392 + j.val, by omega⟩) else 0 := by
  unfold packW topW
  refine (concatenate_pair_apply_right (t := S1024x7808) (s₁ := S1024x7552) (s₂ := S1024x256) 1 _ _ _ (ix2 k ⟨7680 + j.val, by omega⟩) rfl rfl (ix2 k ⟨128 + j.val, by omega⟩)
    (fun b hb => by match b, hb with | ⟨0, _⟩, _ => rfl | ⟨1, _⟩, hb => exact absurd rfl hb) (show 128 + j.val + 7552 = 7680 + j.val by omega)).trans ?_
  unfold pairW
  refine (concatenate_pair_apply_right (t := S1024x256) (s₁ := S1024x128) (s₂ := S1024x128) 1 _ _ _ (ix2 k ⟨128 + j.val, by omega⟩) rfl rfl (ix2 k j)
    (fun b hb => by match b, hb with | ⟨0, _⟩, _ => rfl | ⟨1, _⟩, hb => exact absurd rfl hb) (show j.val + 128 = 128 + j.val by omega)).trans ?_
  pointwise
  rw [zero_apply]

theorem packB_17 (B : S7472.Idx → EReal) (j : Fin 128) :
    packB B (ix1 ⟨7680 + j.val, by omega⟩) = if h : j.val < 8 then B (ix1 ⟨4392 + j.val, by omega⟩) else 0 := by
  unfold packB topB
  refine (concatenate_pair_apply_right (t := S7808) (s₁ := S7552) (s₂ := S256) 0 _ _ _ (ix1 ⟨7680 + j.val, by omega⟩) rfl rfl (ix1 ⟨128 + j.val, by omega⟩)
    (fun b hb => by match b, hb with | ⟨0, _⟩, hb => exact absurd rfl hb) (show 128 + j.val + 7552 = 7680 + j.val by omega)).trans ?_
  unfold pairB
  refine (concatenate_pair_apply_right (t := S256) (s₁ := S128) (s₂ := S128) 0 _ _ _ (ix1 ⟨128 + j.val, by omega⟩) rfl rfl (ix1 j)
    (fun b hb => by match b, hb with | ⟨0, _⟩, hb => exact absurd rfl hb) (show j.val + 128 = 128 + j.val by omega)).trans ?_
  pointwise
  rw [zero_apply]

/-- The host operations that join the ranges, over the named joins. -/
theorem ops72 : (hostOps0_72 : List (HloOp τ sig (Elt Ideal))) =
  [ StableHlo.nary ![main_v1, main_v5, main_v9, main_v13, main_v17, main_v21, main_v25, main_v29, main_v33, main_v37, main_v41, main_v45, main_v49, main_v53, main_v57, main_v61] main_v72 (fun u => (catW (u 0) (u 1) (u 2) (u 3) (u 4) (u 5) (u 6) (u 7) (u 8) (u 9) (u 10) (u 11) (u 12) (u 13) (u 14) (u 15))),
    StableHlo.binary main_v65 main_v69 main_v73 ((fun a b => pairW a b) : (⟨S1024x128, .f32⟩ : BufTy).Contents (Elt Ideal) → (⟨S1024x128, .f32⟩ : BufTy).Contents (Elt Ideal) → (⟨S1024x256, .f32⟩ : BufTy).Contents (Elt Ideal)),
    StableHlo.binary main_v72 main_v73 main_v74 ((fun a b => topW a b) : (⟨S1024x7552, .f32⟩ : BufTy).Contents (Elt Ideal) → (⟨S1024x256, .f32⟩ : BufTy).Contents (Elt Ideal) → (⟨S1024x7808, .f32⟩ : BufTy).Contents (Elt Ideal)),
    StableHlo.unary main_v74 main_v75 ((truncf (F := Ideal) .bf16 · bitsLt_bf16_f32) : (⟨S1024x7808, .f32⟩ : BufTy).Contents (Elt Ideal) → (⟨S1024x7808, .bf16⟩ : BufTy).Contents (Elt Ideal)),
    StableHlo.nary ![main_v3, main_v7, main_v11, main_v15, main_v19, main_v23, main_v27, main_v31, main_v35, main_v39, main_v43, main_v47, main_v51, main_v55, main_v59, main_v63] main_v76 (fun u => (catB (u 0) (u 1) (u 2) (u 3) (u 4) (u 5) (u 6) (u 7) (u 8) (u 9) (u 10) (u 11) (u 12) (u 13) (u 14) (u 15))),
    StableHlo.binary main_v67 main_v71 main_v77 ((fun a b => pairB a b) : (⟨S128, .f32⟩ : BufTy).Contents (Elt Ideal) → (⟨S128, .f32⟩ : BufTy).Contents (Elt Ideal) → (⟨S256, .f32⟩ : BufTy).Contents (Elt Ideal)),
    StableHlo.binary main_v76 main_v77 main_v78 ((fun a b => topB a b) : (⟨S7552, .f32⟩ : BufTy).Contents (Elt Ideal) → (⟨S256, .f32⟩ : BufTy).Contents (Elt Ideal) → (⟨S7808, .f32⟩ : BufTy).Contents (Elt Ideal)),
    StableHlo.unary main_v78 main_v79 (broadcastInDim S1x7808 ![1] bcast_S7808_S1x7808_1 : (⟨S7808, .f32⟩ : BufTy).Contents (Elt Ideal) → (⟨S1x7808, .f32⟩ : BufTy).Contents (Elt Ideal)),
    StableHlo.unary main_arg1 main_v80 (broadcastInDim S1x1024 ![1] bcast_S1024_S1x1024_1 : (⟨S1024, .f32⟩ : BufTy).Contents (Elt Ideal) → (⟨S1x1024, .f32⟩ : BufTy).Contents (Elt Ideal)) ] := rfl

variable (m : (ℓ : Loc nD τ sig) → Buf (Elt Ideal) ℓ)

/-- The weights' array at region entry is the packed weights. -/
theorem entry2 (c : Dev nD) : (V m c main_v75 : S1024x7808.Idx → EReal) = packW (m ((c : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, ops72, List.flatten_cons, List.flatten_nil, List.append_nil,
    List.cons_append, List.nil_append, StableHlo.TRef.binary, StableHlo.TRef.unary, StableHlo.TRef.toBuf, StableHlo.TRef.ofBuf, cast_eq]
  after_results_simp
  dsimp only [Matrix.cons_val]
  after_results_simp
  rfl

/-- The bias' array at region entry is the packed bias, as one row. -/
theorem entry3 (c : Dev nD) : (V m c main_v79 : S1x7808.Idx → EReal)
    = broadcastInDim S1x7808 ![1] bcast_S7808_S1x7808_1 (packB (m ((c : Thread nD τ).loc main_arg3))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, ops72, List.flatten_cons, List.flatten_nil, List.append_nil,
    List.cons_append, List.nil_append, StableHlo.TRef.binary, StableHlo.TRef.unary, StableHlo.TRef.toBuf, StableHlo.TRef.ofBuf, cast_eq]
  after_results_simp
  dsimp only [Matrix.cons_val]
  after_results_simp
  rfl

end Cert.Proj

end
-- ==== Proof.Proj.lean ====
/- The value of the input projection: each of the kernel's eighteen result arrays and the reference's are one function of the arguments. -/
module

public import proofs.«01_k».proof.Defs
public import proofs.«01_k».proof.Proof.Pack
public import proofs.«01_k».proof.Proof.Gen.Reference4Ideal.Run

@[expose] public section

set_option maxRecDepth 16384

noncomputable section

namespace Cert.Proj

open Idealize.ShloMosaic Idealize.ShloMosaic.TcCoe Idealize.SL.Sem
open Idealize.ShloMosaic.Pipeline (Dat)

/-- Row `x` normalised by its root mean square and scaled by `g`, at column `k`. -/
def norm (x g : Fin 1024 → EReal) (k : Fin 1024) : EReal :=
  x k * Ideal.rsqrt (Ideal.div (∑ j, x j * x j) (Ideal.ofBits FTy.f32 1149239296#32) + Ideal.ofBits FTy.f32 897988541#32) * g k

/-- The projection's column `j` of row `r`. -/
def col (X : (⟨2, ![32768, 1024]⟩ : Shape).Idx → EReal) (g : (⟨1, ![1024]⟩ : Shape).Idx → EReal)
    (W : (⟨2, ![1024, 7472]⟩ : Shape).Idx → EReal) (B : (⟨1, ![7472]⟩ : Shape).Idx → EReal) (r : Fin 32768) (j : Fin 7472) : EReal :=
  (∑ k, norm (fun k => X (ix2 r k)) (fun k => g (ix1 k)) k * W (ix2 k j)) + B (ix1 j)

/-- A full range of columns as an array: columns `o` and following. -/
def wide (n o : Nat) (h : o + n ≤ 7472) (X : (⟨2, ![32768, 1024]⟩ : Shape).Idx → EReal) (g : (⟨1, ![1024]⟩ : Shape).Idx → EReal)
    (W : (⟨2, ![1024, 7472]⟩ : Shape).Idx → EReal) (B : (⟨1, ![7472]⟩ : Shape).Idx → EReal) :
    (⟨2, ![32768, n]⟩ : Shape).Idx → EReal := fun i =>
  col X g W B (i 0) ⟨o + (i 1).val, by have := (show (i 1).val < n from (i 1).isLt); omega⟩

/-- A narrow range of `n` columns as an array 128 wide: zero past the range. -/
def narrow (n o : Nat) (h : o + n ≤ 7472) (X : (⟨2, ![32768, 1024]⟩ : Shape).Idx → EReal) (g : (⟨1, ![1024]⟩ : Shape).Idx → EReal)
    (W : (⟨2, ![1024, 7472]⟩ : Shape).Idx → EReal) (B : (⟨1, ![7472]⟩ : Shape).Idx → EReal) :
    (⟨2, ![32768, 128]⟩ : Shape).Idx → EReal := fun i =>
  if hl : (i 1).val < n then col X g W B (i 0) ⟨o + (i 1).val, by omega⟩ else 0

section Kernel

open Cert.Kernel4Ideal Cert.Kernel4Ideal.Gen

theorem hz : (![0, 0] : Fin 2 → Nat) = fun _ => 0 := funext fun a => by fin_cases a <;> rfl

/-- The normalised row. -/
theorem norm_apply (x : Vec Ideal S512x1024 .f32) (g : Vec Ideal S1x1024 .f32) (r : Fin 512) (k : Fin 1024) :
    k0_pay5 x g (ix2 r k) = norm (fun k => x (ix2 r k)) (fun k => g (ix2 0 k)) k := by
  pointwise [k0_pay5, norm]

/-- The packed weights read from column `o` on. -/
theorem ld_w {n : Nat} (o : Nat) (w : Vec Ideal S1024x7808 .bf16) (h : ∀ a, (![0, o] : Fin 2 → Nat) a + (![1024, n] : Fin 2 → Nat) a ≤ S1024x7808.size a)
    (k : Fin 1024) (j : Fin n) (j' : Fin 7808) (hj : j'.val = o + j.val) :
    View.ld w (Rect.unit (s := S1024x7808) ![0, o] ![1024, n] h) (ix2 k j : (⟨2, ![1024, n]⟩ : Shape).Idx) = w (ix2 k j') := by
  rw [View.ld_unit]
  refine congrArg w ?_
  funext a; apply Fin.ext
  match a with
  | ⟨0, _⟩ => exact Nat.zero_add _
  | ⟨1, _⟩ => exact hj.symm

/-- The packed bias read from column `o` on. -/
theorem ld_b {n : Nat} (o : Nat) (w : Vec Ideal S1x7808 .f32) (h : ∀ a, (![0, o] : Fin 2 → Nat) a + (![1, n] : Fin 2 → Nat) a ≤ S1x7808.size a)
    (k : Fin 1) (j : Fin n) (j' : Fin 7808) (hj : j'.val = o + j.val) :
    View.ld w (Rect.unit (s := S1x7808) ![0, o] ![1, n] h) (ix2 k j : (⟨2, ![1, n]⟩ : Shape).Idx) = w (ix2 k j') := by
  rw [View.ld_unit]
  refine congrArg w ?_
  funext a; apply Fin.ext
  match a with
  | ⟨0, _⟩ => exact Nat.zero_add _
  | ⟨1, _⟩ => exact hj.symm

theorem pay_4 (x : Vec Ideal S512x1024 .f32) (g : Vec Ideal S1x1024 .f32) (w : Vec Ideal S1024x256 .bf16) (b : Vec Ideal S1x256 .f32) (r : Fin 512) (l : Fin 256) :
    k0_pay6 x g w b (ix2 r l) = (∑ k, k0_pay5 x g (ix2 r k) * w (ix2 k l)) + b (ix2 0 l) := by
  pointwise [k0_pay6]

/-- Window 4's block at row `r` and column `l`. -/
theorem block_4 (x : Vec Ideal S512x1024 .f32) (g : Vec Ideal S1x1024 .f32) (w : Vec Ideal S1024x7808 .bf16) (b : Vec Ideal S1x7808 .f32)
    (r : Fin 512) (l : Fin 256) :
    out0_4 x g w b (ix2 r l) = (∑ k, norm (fun k => x (ix2 r k)) (fun k => g (ix2 0 k)) k * w (ix2 k ⟨0 + l.val, by omega⟩))
      + b (ix2 0 ⟨0 + l.val, by omega⟩) := by
  unfold out0_4
  rw [View.canon_unit_zero hz]
  refine (pay_4 _ _ _ _ r l).trans ?_
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 0 + l.val = 0 + l.val := by omega
  congr 1
  · exact Finset.sum_congr rfl fun k _ => congrArg _ (ld_w 0 w _ k _ _ hj)
  · exact ld_b 0 b _ 0 _ _ hj

theorem pay_5 (x : Vec Ideal S512x1024 .f32) (g : Vec Ideal S1x1024 .f32) (w : Vec Ideal S1024x256 .bf16) (b : Vec Ideal S1x256 .f32) (r : Fin 512) (l : Fin 256) :
    k0_pay7 x g w b (ix2 r l) = (∑ k, k0_pay5 x g (ix2 r k) * w (ix2 k l)) + b (ix2 0 l) := by
  pointwise [k0_pay7]

/-- Window 5's block at row `r` and column `l`. -/
theorem block_5 (x : Vec Ideal S512x1024 .f32) (g : Vec Ideal S1x1024 .f32) (w : Vec Ideal S1024x7808 .bf16) (b : Vec Ideal S1x7808 .f32)
    (r : Fin 512) (l : Fin 256) :
    out0_5 x g w b (ix2 r l) = (∑ k, norm (fun k => x (ix2 r k)) (fun k => g (ix2 0 k)) k * w (ix2 k ⟨256 + l.val, by omega⟩))
      + b (ix2 0 ⟨256 + l.val, by omega⟩) := by
  unfold out0_5
  rw [View.canon_unit_zero hz]
  refine (pay_5 _ _ _ _ r l).trans ?_
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 256 + l.val = 256 + l.val := by omega
  congr 1
  · exact Finset.sum_congr rfl fun k _ => congrArg _ (ld_w 256 w _ k _ _ hj)
  · exact ld_b 256 b _ 0 _ _ hj

theorem pay_6 (h : FVec Ideal S512x1024 .bf16) (w : Vec Ideal S1024x512 .bf16) (b : Vec Ideal S1x512 .f32) (r : Fin 512) (l : Fin 512) :
    k0_pay9 h (k0_pay8 w) b (ix2 r l) = (∑ k, h (ix2 r k) * w (ix2 k l)) + b (ix2 0 l) := by
  pointwise [k0_pay9, k0_pay8]

/-- Window 6's block at row `r` and column `l`. -/
theorem block_6 (x : Vec Ideal S512x1024 .f32) (g : Vec Ideal S1x1024 .f32) (w : Vec Ideal S1024x7808 .bf16) (b : Vec Ideal S1x7808 .f32)
    (r : Fin 512) (l : Fin 512) :
    out0_6 x g w b (ix2 r l) = (∑ k, norm (fun k => x (ix2 r k)) (fun k => g (ix2 0 k)) k * w (ix2 k ⟨512 + l.val, by omega⟩))
      + b (ix2 0 ⟨512 + l.val, by omega⟩) := by
  unfold out0_6
  rw [View.canon_unit_zero hz]
  refine (pay_6 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 512 + l.val = 512 + l.val := by omega
  congr 1
  · exact Finset.sum_congr rfl fun k _ => congrArg _ (ld_w 512 w _ k _ _ hj)
  · exact ld_b 512 b _ 0 _ _ hj

theorem pay_7 (h : FVec Ideal S512x1024 .bf16) (w : Vec Ideal S1024x512 .bf16) (b : Vec Ideal S1x512 .f32) (r : Fin 512) (l : Fin 512) :
    k0_pay10 h w b (ix2 r l) = (∑ k, h (ix2 r k) * w (ix2 k l)) + b (ix2 0 l) := by
  pointwise [k0_pay10]

/-- Window 7's block at row `r` and column `l`. -/
theorem block_7 (x : Vec Ideal S512x1024 .f32) (g : Vec Ideal S1x1024 .f32) (w : Vec Ideal S1024x7808 .bf16) (b : Vec Ideal S1x7808 .f32)
    (r : Fin 512) (l : Fin 512) :
    out0_7 x g w b (ix2 r l) = (∑ k, norm (fun k => x (ix2 r k)) (fun k => g (ix2 0 k)) k * w (ix2 k ⟨1024 + l.val, by omega⟩))
      + b (ix2 0 ⟨1024 + l.val, by omega⟩) := by
  unfold out0_7
  rw [View.canon_unit_zero hz]
  refine (pay_7 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 1024 + l.val = 1024 + l.val := by omega
  congr 1
  · exact Finset.sum_congr rfl fun k _ => congrArg _ (ld_w 1024 w _ k _ _ hj)
  · exact ld_b 1024 b _ 0 _ _ hj

theorem pay_8 (h : FVec Ideal S512x1024 .bf16) (w : Vec Ideal S1024x512 .bf16) (b : Vec Ideal S1x512 .f32) (r : Fin 512) (l : Fin 512) :
    k0_pay11 h w b (ix2 r l) = (∑ k, h (ix2 r k) * w (ix2 k l)) + b (ix2 0 l) := by
  pointwise [k0_pay11]

/-- Window 8's block at row `r` and column `l`. -/
theorem block_8 (x : Vec Ideal S512x1024 .f32) (g : Vec Ideal S1x1024 .f32) (w : Vec Ideal S1024x7808 .bf16) (b : Vec Ideal S1x7808 .f32)
    (r : Fin 512) (l : Fin 512) :
    out0_8 x g w b (ix2 r l) = (∑ k, norm (fun k => x (ix2 r k)) (fun k => g (ix2 0 k)) k * w (ix2 k ⟨1536 + l.val, by omega⟩))
      + b (ix2 0 ⟨1536 + l.val, by omega⟩) := by
  unfold out0_8
  rw [View.canon_unit_zero hz]
  refine (pay_8 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 1536 + l.val = 1536 + l.val := by omega
  congr 1
  · exact Finset.sum_congr rfl fun k _ => congrArg _ (ld_w 1536 w _ k _ _ hj)
  · exact ld_b 1536 b _ 0 _ _ hj

theorem pay_9 (h : FVec Ideal S512x1024 .bf16) (w : Vec Ideal S1024x512 .bf16) (b : Vec Ideal S1x512 .f32) (r : Fin 512) (l : Fin 512) :
    k0_pay12 h w b (ix2 r l) = (∑ k, h (ix2 r k) * w (ix2 k l)) + b (ix2 0 l) := by
  pointwise [k0_pay12]

/-- Window 9's block at row `r` and column `l`. -/
theorem block_9 (x : Vec Ideal S512x1024 .f32) (g : Vec Ideal S1x1024 .f32) (w : Vec Ideal S1024x7808 .bf16) (b : Vec Ideal S1x7808 .f32)
    (r : Fin 512) (l : Fin 512) :
    out0_9 x g w b (ix2 r l) = (∑ k, norm (fun k => x (ix2 r k)) (fun k => g (ix2 0 k)) k * w (ix2 k ⟨2048 + l.val, by omega⟩))
      + b (ix2 0 ⟨2048 + l.val, by omega⟩) := by
  unfold out0_9
  rw [View.canon_unit_zero hz]
  refine (pay_9 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 2048 + l.val = 2048 + l.val := by omega
  congr 1
  · exact Finset.sum_congr rfl fun k _ => congrArg _ (ld_w 2048 w _ k _ _ hj)
  · exact ld_b 2048 b _ 0 _ _ hj

theorem pay_10 (h : FVec Ideal S512x1024 .bf16) (w : Vec Ideal S1024x512 .bf16) (b : Vec Ideal S1x512 .f32) (r : Fin 512) (l : Fin 512) :
    k0_pay13 h w b (ix2 r l) = (∑ k, h (ix2 r k) * w (ix2 k l)) + b (ix2 0 l) := by
  pointwise [k0_pay13]

/-- Window 10's block at row `r` and column `l`. -/
theorem block_10 (x : Vec Ideal S512x1024 .f32) (g : Vec Ideal S1x1024 .f32) (w : Vec Ideal S1024x7808 .bf16) (b : Vec Ideal S1x7808 .f32)
    (r : Fin 512) (l : Fin 512) :
    out0_10 x g w b (ix2 r l) = (∑ k, norm (fun k => x (ix2 r k)) (fun k => g (ix2 0 k)) k * w (ix2 k ⟨2560 + l.val, by omega⟩))
      + b (ix2 0 ⟨2560 + l.val, by omega⟩) := by
  unfold out0_10
  rw [View.canon_unit_zero hz]
  refine (pay_10 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 2560 + l.val = 2560 + l.val := by omega
  congr 1
  · exact Finset.sum_congr rfl fun k _ => congrArg _ (ld_w 2560 w _ k _ _ hj)
  · exact ld_b 2560 b _ 0 _ _ hj

theorem pay_11 (h : FVec Ideal S512x1024 .bf16) (w : Vec Ideal S1024x512 .bf16) (b : Vec Ideal S1x512 .f32) (r : Fin 512) (l : Fin 512) :
    k0_pay14 h w b (ix2 r l) = (∑ k, h (ix2 r k) * w (ix2 k l)) + b (ix2 0 l) := by
  pointwise [k0_pay14]

/-- Window 11's block at row `r` and column `l`. -/
theorem block_11 (x : Vec Ideal S512x1024 .f32) (g : Vec Ideal S1x1024 .f32) (w : Vec Ideal S1024x7808 .bf16) (b : Vec Ideal S1x7808 .f32)
    (r : Fin 512) (l : Fin 512) :
    out0_11 x g w b (ix2 r l) = (∑ k, norm (fun k => x (ix2 r k)) (fun k => g (ix2 0 k)) k * w (ix2 k ⟨3072 + l.val, by omega⟩))
      + b (ix2 0 ⟨3072 + l.val, by omega⟩) := by
  unfold out0_11
  rw [View.canon_unit_zero hz]
  refine (pay_11 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 3072 + l.val = 3072 + l.val := by omega
  congr 1
  · exact Finset.sum_congr rfl fun k _ => congrArg _ (ld_w 3072 w _ k _ _ hj)
  · exact ld_b 3072 b _ 0 _ _ hj

theorem pay_12 (h : FVec Ideal S512x1024 .bf16) (w : Vec Ideal S1024x3072 .bf16) (b : Vec Ideal S1x3072 .f32) (r : Fin 512) (l : Fin 3072) :
    k0_pay15 h w b (ix2 r l) = (∑ k, h (ix2 r k) * w (ix2 k l)) + b (ix2 0 l) := by
  pointwise [k0_pay15]

/-- Window 12's block at row `r` and column `l`. -/
theorem block_12 (x : Vec Ideal S512x1024 .f32) (g : Vec Ideal S1x1024 .f32) (w : Vec Ideal S1024x7808 .bf16) (b : Vec Ideal S1x7808 .f32)
    (r : Fin 512) (l : Fin 3072) :
    out0_12 x g w b (ix2 r l) = (∑ k, norm (fun k => x (ix2 r k)) (fun k => g (ix2 0 k)) k * w (ix2 k ⟨3584 + l.val, by omega⟩))
      + b (ix2 0 ⟨3584 + l.val, by omega⟩) := by
  unfold out0_12
  rw [View.canon_unit_zero hz]
  refine (pay_12 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 3584 + l.val = 3584 + l.val := by omega
  congr 1
  · exact Finset.sum_congr rfl fun k _ => congrArg _ (ld_w 3584 w _ k _ _ hj)
  · exact ld_b 3584 b _ 0 _ _ hj

theorem pay_13 (h : FVec Ideal S512x1024 .bf16) (w : Vec Ideal S1024x256 .bf16) (b : Vec Ideal S1x256 .f32) (r : Fin 512) (l : Fin 128) :
    k0_pay19 (k0_pay16 h w) (k0_pay17 b) (ix2 r l) = (∑ k, h (ix2 r k) * w (ix2 k ⟨l.val, by omega⟩)) + b (ix2 0 ⟨l.val, by omega⟩) := by
  pointwise [k0_pay19, k0_pay18, k0_pay16, k0_pay17]

/-- Window 13's block at row `r` and column `l`. -/
theorem block_13 (x : Vec Ideal S512x1024 .f32) (g : Vec Ideal S1x1024 .f32) (w : Vec Ideal S1024x7808 .bf16) (b : Vec Ideal S1x7808 .f32)
    (r : Fin 512) (l : Fin 128) :
    out0_13 x g w b (ix2 r l) = (∑ k, norm (fun k => x (ix2 r k)) (fun k => g (ix2 0 k)) k * w (ix2 k ⟨6656 + l.val, by omega⟩))
      + b (ix2 0 ⟨6656 + l.val, by omega⟩) := by
  unfold out0_13
  rw [View.canon_unit_zero hz]
  refine (pay_13 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 6656 + l.val = 6656 + l.val := by omega
  congr 1
  · exact Finset.sum_congr rfl fun k _ => congrArg _ (ld_w 6656 w _ k _ _ hj)
  · exact ld_b 6656 b _ 0 _ _ hj

theorem pay_14 (h : FVec Ideal S512x1024 .bf16) (w : Vec Ideal S1024x256 .bf16) (b : Vec Ideal S1x256 .f32) (r : Fin 512) (l : Fin 128) :
    k0_pay20 (k0_pay16 h w) (k0_pay17 b) (ix2 r l) = (∑ k, h (ix2 r k) * w (ix2 k ⟨128 + l.val, by omega⟩)) + b (ix2 0 ⟨128 + l.val, by omega⟩) := by
  pointwise [k0_pay20, k0_pay18, k0_pay16, k0_pay17]

/-- Window 14's block at row `r` and column `l`. -/
theorem block_14 (x : Vec Ideal S512x1024 .f32) (g : Vec Ideal S1x1024 .f32) (w : Vec Ideal S1024x7808 .bf16) (b : Vec Ideal S1x7808 .f32)
    (r : Fin 512) (l : Fin 128) :
    out0_14 x g w b (ix2 r l) = (∑ k, norm (fun k => x (ix2 r k)) (fun k => g (ix2 0 k)) k * w (ix2 k ⟨6784 + l.val, by omega⟩))
      + b (ix2 0 ⟨6784 + l.val, by omega⟩) := by
  unfold out0_14
  rw [View.canon_unit_zero hz]
  refine (pay_14 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 6784 + l.val = 6656 + (128 + l.val) := by omega
  congr 1
  · exact Finset.sum_congr rfl fun k _ => congrArg _ (ld_w 6656 w _ k _ _ hj)
  · exact ld_b 6656 b _ 0 _ _ hj

theorem pay_15 (h : FVec Ideal S512x1024 .bf16) (w : Vec Ideal S1024x256 .bf16) (b : Vec Ideal S1x256 .f32) (r : Fin 512) (l : Fin 128) :
    k0_pay22 h w b (ix2 r l) = (∑ k, h (ix2 r k) * w (ix2 k ⟨l.val, by omega⟩)) + b (ix2 0 ⟨l.val, by omega⟩) := by
  pointwise [k0_pay22, k0_pay21]

/-- Window 15's block at row `r` and column `l`. -/
theorem block_15 (x : Vec Ideal S512x1024 .f32) (g : Vec Ideal S1x1024 .f32) (w : Vec Ideal S1024x7808 .bf16) (b : Vec Ideal S1x7808 .f32)
    (r : Fin 512) (l : Fin 128) :
    out0_15 x g w b (ix2 r l) = (∑ k, norm (fun k => x (ix2 r k)) (fun k => g (ix2 0 k)) k * w (ix2 k ⟨6912 + l.val, by omega⟩))
      + b (ix2 0 ⟨6912 + l.val, by omega⟩) := by
  unfold out0_15
  rw [View.canon_unit_zero hz]
  refine (pay_15 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 6912 + l.val = 6912 + l.val := by omega
  congr 1
  · exact Finset.sum_congr rfl fun k _ => congrArg _ (ld_w 6912 w _ k _ _ hj)
  · exact ld_b 6912 b _ 0 _ _ hj

theorem pay_16 (h : FVec Ideal S512x1024 .bf16) (w : Vec Ideal S1024x256 .bf16) (b : Vec Ideal S1x256 .f32) (r : Fin 512) (l : Fin 128) :
    k0_pay23 h w b (ix2 r l) = (∑ k, h (ix2 r k) * w (ix2 k ⟨128 + l.val, by omega⟩)) + b (ix2 0 ⟨128 + l.val, by omega⟩) := by
  pointwise [k0_pay23, k0_pay21]

/-- Window 16's block at row `r` and column `l`. -/
theorem block_16 (x : Vec Ideal S512x1024 .f32) (g : Vec Ideal S1x1024 .f32) (w : Vec Ideal S1024x7808 .bf16) (b : Vec Ideal S1x7808 .f32)
    (r : Fin 512) (l : Fin 128) :
    out0_16 x g w b (ix2 r l) = (∑ k, norm (fun k => x (ix2 r k)) (fun k => g (ix2 0 k)) k * w (ix2 k ⟨7040 + l.val, by omega⟩))
      + b (ix2 0 ⟨7040 + l.val, by omega⟩) := by
  unfold out0_16
  rw [View.canon_unit_zero hz]
  refine (pay_16 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 7040 + l.val = 6912 + (128 + l.val) := by omega
  congr 1
  · exact Finset.sum_congr rfl fun k _ => congrArg _ (ld_w 6912 w _ k _ _ hj)
  · exact ld_b 6912 b _ 0 _ _ hj

theorem pay_17 (h : FVec Ideal S512x1024 .bf16) (w : Vec Ideal S1024x256 .bf16) (b : Vec Ideal S1x256 .f32) (r : Fin 512) (l : Fin 128) :
    k0_pay25 h w b (ix2 r l) = (∑ k, h (ix2 r k) * w (ix2 k ⟨l.val, by omega⟩)) + b (ix2 0 ⟨l.val, by omega⟩) := by
  pointwise [k0_pay25, k0_pay24]

/-- Window 17's block at row `r` and column `l`. -/
theorem block_17 (x : Vec Ideal S512x1024 .f32) (g : Vec Ideal S1x1024 .f32) (w : Vec Ideal S1024x7808 .bf16) (b : Vec Ideal S1x7808 .f32)
    (r : Fin 512) (l : Fin 128) :
    out0_17 x g w b (ix2 r l) = (∑ k, norm (fun k => x (ix2 r k)) (fun k => g (ix2 0 k)) k * w (ix2 k ⟨7168 + l.val, by omega⟩))
      + b (ix2 0 ⟨7168 + l.val, by omega⟩) := by
  unfold out0_17
  rw [View.canon_unit_zero hz]
  refine (pay_17 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 7168 + l.val = 7168 + l.val := by omega
  congr 1
  · exact Finset.sum_congr rfl fun k _ => congrArg _ (ld_w 7168 w _ k _ _ hj)
  · exact ld_b 7168 b _ 0 _ _ hj

theorem pay_18 (h : FVec Ideal S512x1024 .bf16) (w : Vec Ideal S1024x256 .bf16) (b : Vec Ideal S1x256 .f32) (r : Fin 512) (l : Fin 128) :
    k0_pay26 h w b (ix2 r l) = (∑ k, h (ix2 r k) * w (ix2 k ⟨128 + l.val, by omega⟩)) + b (ix2 0 ⟨128 + l.val, by omega⟩) := by
  pointwise [k0_pay26, k0_pay24]

/-- Window 18's block at row `r` and column `l`. -/
theorem block_18 (x : Vec Ideal S512x1024 .f32) (g : Vec Ideal S1x1024 .f32) (w : Vec Ideal S1024x7808 .bf16) (b : Vec Ideal S1x7808 .f32)
    (r : Fin 512) (l : Fin 128) :
    out0_18 x g w b (ix2 r l) = (∑ k, norm (fun k => x (ix2 r k)) (fun k => g (ix2 0 k)) k * w (ix2 k ⟨7296 + l.val, by omega⟩))
      + b (ix2 0 ⟨7296 + l.val, by omega⟩) := by
  unfold out0_18
  rw [View.canon_unit_zero hz]
  refine (pay_18 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 7296 + l.val = 7168 + (128 + l.val) := by omega
  congr 1
  · exact Finset.sum_congr rfl fun k _ => congrArg _ (ld_w 7168 w _ k _ _ hj)
  · exact ld_b 7168 b _ 0 _ _ hj

theorem pay_19 (h : FVec Ideal S512x1024 .bf16) (w : Vec Ideal S1024x256 .bf16) (b : Vec Ideal S1x256 .f32) (r : Fin 512) (l : Fin 128) :
    k0_pay2 h w b (ix2 r l) = (∑ k, h (ix2 r k) * w (ix2 k ⟨l.val, by omega⟩)) + b (ix2 0 ⟨l.val, by omega⟩) := by
  pointwise [k0_pay2, k0_pay1]

/-- Window 19's block at row `r` and column `l`. -/
theorem block_19 (x : Vec Ideal S512x1024 .f32) (g : Vec Ideal S1x1024 .f32) (w : Vec Ideal S1024x7808 .bf16) (b : Vec Ideal S1x7808 .f32)
    (r : Fin 512) (l : Fin 128) :
    out0_19 x g w b (ix2 r l) = (∑ k, norm (fun k => x (ix2 r k)) (fun k => g (ix2 0 k)) k * w (ix2 k ⟨7424 + l.val, by omega⟩))
      + b (ix2 0 ⟨7424 + l.val, by omega⟩) := by
  unfold out0_19
  rw [View.canon_unit_zero hz]
  refine (pay_19 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 7424 + l.val = 7424 + l.val := by omega
  congr 1
  · exact Finset.sum_congr rfl fun k _ => congrArg _ (ld_w 7424 w _ k _ _ hj)
  · exact ld_b 7424 b _ 0 _ _ hj

theorem pay_20 (h : FVec Ideal S512x1024 .bf16) (w : Vec Ideal S1024x256 .bf16) (b : Vec Ideal S1x256 .f32) (r : Fin 512) (l : Fin 128) :
    k0_pay3 h w b (ix2 r l) = (∑ k, h (ix2 r k) * w (ix2 k ⟨128 + l.val, by omega⟩)) + b (ix2 0 ⟨128 + l.val, by omega⟩) := by
  pointwise [k0_pay3, k0_pay1]

/-- Window 20's block at row `r` and column `l`. -/
theorem block_20 (x : Vec Ideal S512x1024 .f32) (g : Vec Ideal S1x1024 .f32) (w : Vec Ideal S1024x7808 .bf16) (b : Vec Ideal S1x7808 .f32)
    (r : Fin 512) (l : Fin 128) :
    out0_20 x g w b (ix2 r l) = (∑ k, norm (fun k => x (ix2 r k)) (fun k => g (ix2 0 k)) k * w (ix2 k ⟨7552 + l.val, by omega⟩))
      + b (ix2 0 ⟨7552 + l.val, by omega⟩) := by
  unfold out0_20
  rw [View.canon_unit_zero hz]
  refine (pay_20 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 7552 + l.val = 7424 + (128 + l.val) := by omega
  congr 1
  · exact Finset.sum_congr rfl fun k _ => congrArg _ (ld_w 7424 w _ k _ _ hj)
  · exact ld_b 7424 b _ 0 _ _ hj

theorem pay_21 (h : FVec Ideal S512x1024 .bf16) (w : Vec Ideal S1024x128 .bf16) (b : Vec Ideal S1x128 .f32) (r : Fin 512) (l : Fin 128) :
    k0_pay4 h w b (ix2 r l) = (∑ k, h (ix2 r k) * w (ix2 k l)) + b (ix2 0 l) := by
  pointwise [k0_pay4]

/-- Window 21's block at row `r` and column `l`. -/
theorem block_21 (x : Vec Ideal S512x1024 .f32) (g : Vec Ideal S1x1024 .f32) (w : Vec Ideal S1024x7808 .bf16) (b : Vec Ideal S1x7808 .f32)
    (r : Fin 512) (l : Fin 128) :
    out0_21 x g w b (ix2 r l) = (∑ k, norm (fun k => x (ix2 r k)) (fun k => g (ix2 0 k)) k * w (ix2 k ⟨7680 + l.val, by omega⟩))
      + b (ix2 0 ⟨7680 + l.val, by omega⟩) := by
  unfold out0_21
  rw [View.canon_unit_zero hz]
  refine (pay_21 _ _ _ r l).trans ?_
  unfold k0_pay27
  have hn : ∀ k, k0_pay5 (View.ld x r0_0) (View.ld g r0_1) (ix2 r k) = norm (fun k => x (ix2 r k)) (fun k => g (ix2 0 k)) k := fun k => by
    rw [View.ld_unit_zero hz, View.ld_unit_zero hz]; exact norm_apply x g r k
  simp only [hn]
  have hj : 7680 + l.val = 7680 + l.val := by omega
  congr 1
  · exact Finset.sum_congr rfl fun k _ => congrArg _ (ld_w 7680 w _ k _ _ hj)
  · exact ld_b 7680 b _ 0 _ _ hj

variable (m : (ℓ : Loc nD τ sig) → Buf (Elt Ideal) ℓ)

/-- The block indices of the windows: the row windows' are the grid point's number, the others' are zero. -/
theorem idx_in : ∀ t : Fin cfg0.N, win0_0.index t 0 = t.val ∧ win0_0.index t 1 = 0
    ∧ (∀ a, win0_1.index t a = 0) ∧ (∀ a, win0_2.index t a = 0) ∧ (∀ a, win0_3.index t a = 0) :=
  (by decide +kernel : ∀ t : Fin grid0.N, _)

/-- The gain's array at region entry is the gain, as one row. -/
theorem entry1 (c : Dev nD) : (V m c main_v80 : S1x1024.Idx → EReal)
    = broadcastInDim S1x1024 ![1] bcast_S1024_S1x1024_1 (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, ops72, List.flatten_cons, List.flatten_nil, List.append_nil,
    List.cons_append, List.nil_append, StableHlo.TRef.binary, StableHlo.TRef.unary, StableHlo.TRef.toBuf, StableHlo.TRef.ofBuf, cast_eq]
  after_results_simp

/-- Block `t` of the rows: rows `512 t` and following of the argument. -/
theorem iblk0 (c : Dev nD) (t : Fin cfg0.N) (r : Fin 512) (h : t.val * 512 + r.val < 32768) (k : Fin 1024) :
    (iblk m c 0 t : S512x1024.Idx → EReal) (ix2 r k)
      = (m ((c : Thread nD τ).loc main_arg0) : S32768x1024.Idx → EReal) (ix2 ⟨t.val * 512 + r.val, h⟩ k) := by
  obtain ⟨a0, a1, -⟩ := idx_in t
  rw [← V_main_arg0 m c]
  show V m c main_arg0 (((cfg0.win 0).blk t).view.emb (ix2 r k : S512x1024.Idx)) = _
  congr 1
  funext a; apply Fin.ext
  match a with
  | ⟨0, _⟩ => show win0_0.index t (0 : Fin 2) * 512 + 1 * r.val = t.val * 512 + r.val; rw [a0]; omega
  | ⟨1, _⟩ => show win0_0.index t (1 : Fin 2) * 1024 + 1 * k.val = k.val; rw [a1]; omega

/-- The other inputs' blocks are their whole arrays at every point. -/
theorem iblk1 (c : Dev nD) (t : Fin cfg0.N) (k : Fin 1024) : (iblk m c 1 t : S1x1024.Idx → EReal) (ix2 0 k)
    = (m ((c : Thread nD τ).loc main_arg1) : S1024.Idx → EReal) (ix1 k) := by
  obtain ⟨-, -, g, -⟩ := idx_in t
  have e : (iblk m c 1 t : S1x1024.Idx → EReal) = V m c main_v80 := by
    funext i
    show V m c main_v80 (((cfg0.win 1).blk t).view.emb i) = _
    congr 1
    funext a; apply Fin.ext
    match a with
    | ⟨0, _⟩ => show win0_1.index t (0 : Fin 2) * 1 + 1 * (i 0).val = (i 0).val; rw [g]; omega
    | ⟨1, _⟩ => show win0_1.index t (1 : Fin 2) * 1024 + 1 * (i 1).val = (i 1).val; rw [g]; omega
  rw [e, entry1]
  pointwise
theorem iblk2 (c : Dev nD) (t : Fin cfg0.N) : (iblk m c 2 t : S1024x7808.Idx → EReal) = packW (m ((c : Thread nD τ).loc main_arg2)) := by
  obtain ⟨-, -, -, g, -⟩ := idx_in t
  rw [← entry2 m c]
  funext i
  show V m c main_v75 (((cfg0.win 2).blk t).view.emb i) = _
  congr 1
  funext a; apply Fin.ext
  match a with
  | ⟨0, _⟩ => show win0_2.index t (0 : Fin 2) * 1024 + 1 * (i 0).val = (i 0).val; rw [g]; omega
  | ⟨1, _⟩ => show win0_2.index t (1 : Fin 2) * 7808 + 1 * (i 1).val = (i 1).val; rw [g]; omega
theorem iblk3 (c : Dev nD) (t : Fin cfg0.N) (j : Fin 7808) : (iblk m c 3 t : S1x7808.Idx → EReal) (ix2 0 j)
    = packB (m ((c : Thread nD τ).loc main_arg3)) (ix1 j) := by
  obtain ⟨-, -, -, -, g⟩ := idx_in t
  have e : (iblk m c 3 t : S1x7808.Idx → EReal) = V m c main_v79 := by
    funext i
    show V m c main_v79 (((cfg0.win 3).blk t).view.emb i) = _
    congr 1
    funext a; apply Fin.ext
    match a with
    | ⟨0, _⟩ => show win0_3.index t (0 : Fin 2) * 1 + 1 * (i 0).val = (i 0).val; rw [g]; omega
    | ⟨1, _⟩ => show win0_3.index t (1 : Fin 2) * 7808 + 1 * (i 1).val = (i 1).val; rw [g]; omega
  rw [e, entry3]
  pointwise

/-- Result 0 as a function of the arguments. -/
abbrev spec4 (c : Dev nD) : Buf (Elt Ideal) ((c : Thread nD τ).loc main_v81_0) :=
  wide 256 0 (by omega) (m ((c : Thread nD τ).loc main_arg0)) (m ((c : Thread nD τ).loc main_arg1)) (m ((c : Thread nD τ).loc main_arg2))
    (m ((c : Thread nD τ).loc main_arg3))

theorem idx_4 : ∀ t : Fin cfg0.N, win0_4.index t 0 = t.val ∧ win0_4.index t 1 = 0 ∧ (cfg0.win 4).flush t = true :=
  (by decide +kernel : ∀ t : Fin grid0.N, _)

theorem point_4 (c : Dev nD) (t : Fin cfg0.N) (r : Fin 512) (l : Fin 256) (h : t.val * 512 + r.val < 32768) :
    out0_4 (iblk m c 0 t) (iblk m c 1 t) (iblk m c 2 t) (iblk m c 3 t) (ix2 r l)
      = (spec4 m c : S32768x256.Idx → EReal) (ix2 ⟨t.val * 512 + r.val, h⟩ l) := by
  refine (block_4 _ _ _ _ r l).trans ?_
  rw [iblk2]
  simp only [iblk0 m c t r h, iblk1 m c t, iblk3 m c t, packW_0, packB_0]
  rfl

theorem flushed_4 (c : Dev nD) (t : Fin cfg0.N) :
    (dats m 0 c).flushed 4 t = ((cfg0.win 4).blk t).view.read (Elt Ideal) (spec4 m c) := by
  rw [Value.flushed4]
  obtain ⟨e0, e1, -⟩ := idx_4 t
  funext y
  have hy0 : (y 0).val < 512 := (y 0).isLt
  have hy1 : (y 1).val < 256 := (y 1).isLt
  have ht : t.val < 64 := t.isLt
  have h : t.val * 512 + (y 0).val < 32768 := by omega
  have hi : ((cfg0.win 4).blk t).view.emb y = (ix2 ⟨t.val * 512 + (y 0).val, h⟩ ⟨(y 1).val, hy1⟩ : S32768x256.Idx) := by
    funext a; apply Fin.ext
    match a with
    | ⟨0, _⟩ => show win0_4.index t (0 : Fin 2) * 512 + 1 * (y 0).val = t.val * 512 + (y 0).val; rw [e0]; omega
    | ⟨1, _⟩ => show win0_4.index t (1 : Fin 2) * 256 + 1 * (y 1).val = (y 1).val; rw [e1]; omega
  have hx : (cfg0.win 4).xinj (grid0.coords t) y = (ix2 ⟨(y 0).val, hy0⟩ ⟨(y 1).val, hy1⟩ : S512x256.Idx) := by
    funext a; apply Fin.ext
    match a with
    | ⟨0, _⟩ => rfl
    | ⟨1, _⟩ => rfl
  show out0_4 (iblk m c 0 t) (iblk m c 1 t) (iblk m c 2 t) (iblk m c 3 t)
      ((cfg0.win 4).xinj (grid0.coords t) y) = spec4 m c (((cfg0.win 4).blk t).view.emb y)
  rw [hx, hi]
  exact point_4 m c t ⟨(y 0).val, hy0⟩ ⟨(y 1).val, hy1⟩ h

theorem cover_4 (i : S32768x256.Idx) : ∃ t : Fin cfg0.N, (cfg0.win 4).flush t = true ∧ i ∈ ((cfg0.win 4).blk t).view.set := by
  have h0 : (i 0).val < 32768 := (i 0).isLt
  have h1 : (i 1).val < 256 := (i 1).isLt
  have hN : cfg0.N = 64 := rfl
  let t : Fin cfg0.N := ⟨(i 0).val / 512, by omega⟩
  obtain ⟨e0, e1, hf⟩ := idx_4 t
  have e0' : win0_4.index t 0 = (i 0).val / 512 := e0
  refine ⟨t, hf, ?_⟩
  show i ∈ ((View.whole main_v81_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512
              rw [e0']; omega
  | ⟨1, _⟩ => show win0_4.index t (1 : Fin 2) * 256 ≤ (i 1).val ∧ (i 1).val < win0_4.index t (1 : Fin 2) * 256 + 256
              rw [e1]; omega

theorem final_4 (c : Dev nD) : (dats m 0 c).arrAt 4 cfg0.N = spec4 m c :=
  (dats m 0 c).arrAt_eq_of_cover 4 _ (fun t _ => flushed_4 m c t) (fun i => cover_4 i)

/-- Result 1 as a function of the arguments. -/
abbrev spec5 (c : Dev nD) : Buf (Elt Ideal) ((c : Thread nD τ).loc main_v81_1) :=
  wide 256 256 (by omega) (m ((c : Thread nD τ).loc main_arg0)) (m ((c : Thread nD τ).loc main_arg1)) (m ((c : Thread nD τ).loc main_arg2))
    (m ((c : Thread nD τ).loc main_arg3))

theorem idx_5 : ∀ t : Fin cfg0.N, win0_5.index t 0 = t.val ∧ win0_5.index t 1 = 0 ∧ (cfg0.win 5).flush t = true :=
  (by decide +kernel : ∀ t : Fin grid0.N, _)

theorem point_5 (c : Dev nD) (t : Fin cfg0.N) (r : Fin 512) (l : Fin 256) (h : t.val * 512 + r.val < 32768) :
    out0_5 (iblk m c 0 t) (iblk m c 1 t) (iblk m c 2 t) (iblk m c 3 t) (ix2 r l)
      = (spec5 m c : S32768x256.Idx → EReal) (ix2 ⟨t.val * 512 + r.val, h⟩ l) := by
  refine (block_5 _ _ _ _ r l).trans ?_
  rw [iblk2]
  simp only [iblk0 m c t r h, iblk1 m c t, iblk3 m c t, packW_1, packB_1]
  rfl

theorem flushed_5 (c : Dev nD) (t : Fin cfg0.N) :
    (dats m 0 c).flushed 5 t = ((cfg0.win 5).blk t).view.read (Elt Ideal) (spec5 m c) := by
  rw [Value.flushed5]
  obtain ⟨e0, e1, -⟩ := idx_5 t
  funext y
  have hy0 : (y 0).val < 512 := (y 0).isLt
  have hy1 : (y 1).val < 256 := (y 1).isLt
  have ht : t.val < 64 := t.isLt
  have h : t.val * 512 + (y 0).val < 32768 := by omega
  have hi : ((cfg0.win 5).blk t).view.emb y = (ix2 ⟨t.val * 512 + (y 0).val, h⟩ ⟨(y 1).val, hy1⟩ : S32768x256.Idx) := by
    funext a; apply Fin.ext
    match a with
    | ⟨0, _⟩ => show win0_5.index t (0 : Fin 2) * 512 + 1 * (y 0).val = t.val * 512 + (y 0).val; rw [e0]; omega
    | ⟨1, _⟩ => show win0_5.index t (1 : Fin 2) * 256 + 1 * (y 1).val = (y 1).val; rw [e1]; omega
  have hx : (cfg0.win 5).xinj (grid0.coords t) y = (ix2 ⟨(y 0).val, hy0⟩ ⟨(y 1).val, hy1⟩ : S512x256.Idx) := by
    funext a; apply Fin.ext
    match a with
    | ⟨0, _⟩ => rfl
    | ⟨1, _⟩ => rfl
  show out0_5 (iblk m c 0 t) (iblk m c 1 t) (iblk m c 2 t) (iblk m c 3 t)
      ((cfg0.win 5).xinj (grid0.coords t) y) = spec5 m c (((cfg0.win 5).blk t).view.emb y)
  rw [hx, hi]
  exact point_5 m c t ⟨(y 0).val, hy0⟩ ⟨(y 1).val, hy1⟩ h

theorem cover_5 (i : S32768x256.Idx) : ∃ t : Fin cfg0.N, (cfg0.win 5).flush t = true ∧ i ∈ ((cfg0.win 5).blk t).view.set := by
  have h0 : (i 0).val < 32768 := (i 0).isLt
  have h1 : (i 1).val < 256 := (i 1).isLt
  have hN : cfg0.N = 64 := rfl
  let t : Fin cfg0.N := ⟨(i 0).val / 512, by omega⟩
  obtain ⟨e0, e1, hf⟩ := idx_5 t
  have e0' : win0_5.index t 0 = (i 0).val / 512 := e0
  refine ⟨t, hf, ?_⟩
  show i ∈ ((View.whole main_v81_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512
              rw [e0']; omega
  | ⟨1, _⟩ => show win0_5.index t (1 : Fin 2) * 256 ≤ (i 1).val ∧ (i 1).val < win0_5.index t (1 : Fin 2) * 256 + 256
              rw [e1]; omega

theorem final_5 (c : Dev nD) : (dats m 0 c).arrAt 5 cfg0.N = spec5 m c :=
  (dats m 0 c).arrAt_eq_of_cover 5 _ (fun t _ => flushed_5 m c t) (fun i => cover_5 i)

/-- Result 2 as a function of the arguments. -/
abbrev spec6 (c : Dev nD) : Buf (Elt Ideal) ((c : Thread nD τ).loc main_v81_2) :=
  wide 512 512 (by omega) (m ((c : Thread nD τ).loc main_arg0)) (m ((c : Thread nD τ).loc main_arg1)) (m ((c : Thread nD τ).loc main_arg2))
    (m ((c : Thread nD τ).loc main_arg3))

theorem idx_6 : ∀ t : Fin cfg0.N, win0_6.index t 0 = t.val ∧ win0_6.index t 1 = 0 ∧ (cfg0.win 6).flush t = true :=
  (by decide +kernel : ∀ t : Fin grid0.N, _)

theorem point_6 (c : Dev nD) (t : Fin cfg0.N) (r : Fin 512) (l : Fin 512) (h : t.val * 512 + r.val < 32768) :
    out0_6 (iblk m c 0 t) (iblk m c 1 t) (iblk m c 2 t) (iblk m c 3 t) (ix2 r l)
      = (spec6 m c : S32768x512.Idx → EReal) (ix2 ⟨t.val * 512 + r.val, h⟩ l) := by
  refine (block_6 _ _ _ _ r l).trans ?_
  rw [iblk2]
  simp only [iblk0 m c t r h, iblk1 m c t, iblk3 m c t, packW_2, packB_2]
  rfl

theorem flushed_6 (c : Dev nD) (t : Fin cfg0.N) :
    (dats m 0 c).flushed 6 t = ((cfg0.win 6).blk t).view.read (Elt Ideal) (spec6 m c) := by
  rw [Value.flushed6]
  obtain ⟨e0, e1, -⟩ := idx_6 t
  funext y
  have hy0 : (y 0).val < 512 := (y 0).isLt
  have hy1 : (y 1).val < 512 := (y 1).isLt
  have ht : t.val < 64 := t.isLt
  have h : t.val * 512 + (y 0).val < 32768 := by omega
  have hi : ((cfg0.win 6).blk t).view.emb y = (ix2 ⟨t.val * 512 + (y 0).val, h⟩ ⟨(y 1).val, hy1⟩ : S32768x512.Idx) := by
    funext a; apply Fin.ext
    match a with
    | ⟨0, _⟩ => show win0_6.index t (0 : Fin 2) * 512 + 1 * (y 0).val = t.val * 512 + (y 0).val; rw [e0]; omega
    | ⟨1, _⟩ => show win0_6.index t (1 : Fin 2) * 512 + 1 * (y 1).val = (y 1).val; rw [e1]; omega
  have hx : (cfg0.win 6).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  show out0_6 (iblk m c 0 t) (iblk m c 1 t) (iblk m c 2 t) (iblk m c 3 t)
      ((cfg0.win 6).xinj (grid0.coords t) y) = spec6 m c (((cfg0.win 6).blk t).view.emb y)
  rw [hx, hi]
  exact point_6 m c t ⟨(y 0).val, hy0⟩ ⟨(y 1).val, hy1⟩ h

theorem cover_6 (i : S32768x512.Idx) : ∃ t : Fin cfg0.N, (cfg0.win 6).flush t = true ∧ i ∈ ((cfg0.win 6).blk t).view.set := by
  have h0 : (i 0).val < 32768 := (i 0).isLt
  have h1 : (i 1).val < 512 := (i 1).isLt
  have hN : cfg0.N = 64 := rfl
  let t : Fin cfg0.N := ⟨(i 0).val / 512, by omega⟩
  obtain ⟨e0, e1, hf⟩ := idx_6 t
  have e0' : win0_6.index t 0 = (i 0).val / 512 := e0
  refine ⟨t, hf, ?_⟩
  show i ∈ ((View.whole main_v81_2).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512
              rw [e0']; omega
  | ⟨1, _⟩ => show win0_6.index t (1 : Fin 2) * 512 ≤ (i 1).val ∧ (i 1).val < win0_6.index t (1 : Fin 2) * 512 + 512
              rw [e1]; omega

theorem final_6 (c : Dev nD) : (dats m 0 c).arrAt 6 cfg0.N = spec6 m c :=
  (dats m 0 c).arrAt_eq_of_cover 6 _ (fun t _ => flushed_6 m c t) (fun i => cover_6 i)

/-- Result 3 as a function of the arguments. -/
abbrev spec7 (c : Dev nD) : Buf (Elt Ideal) ((c : Thread nD τ).loc main_v81_3) :=
  wide 512 1024 (by omega) (m ((c : Thread nD τ).loc main_arg0)) (m ((c : Thread nD τ).loc main_arg1)) (m ((c : Thread nD τ).loc main_arg2))
    (m ((c : Thread nD τ).loc main_arg3))

theorem idx_7 : ∀ t : Fin cfg0.N, win0_7.index t 0 = t.val ∧ win0_7.index t 1 = 0 ∧ (cfg0.win 7).flush t = true :=
  (by decide +kernel : ∀ t : Fin grid0.N, _)

theorem point_7 (c : Dev nD) (t : Fin cfg0.N) (r : Fin 512) (l : Fin 512) (h : t.val * 512 + r.val < 32768) :
    out0_7 (iblk m c 0 t) (iblk m c 1 t) (iblk m c 2 t) (iblk m c 3 t) (ix2 r l)
      = (spec7 m c : S32768x512.Idx → EReal) (ix2 ⟨t.val * 512 + r.val, h⟩ l) := by
  refine (block_7 _ _ _ _ r l).trans ?_
  rw [iblk2]
  simp only [iblk0 m c t r h, iblk1 m c t, iblk3 m c t, packW_3, packB_3]
  rfl

theorem flushed_7 (c : Dev nD) (t : Fin cfg0.N) :
    (dats m 0 c).flushed 7 t = ((cfg0.win 7).blk t).view.read (Elt Ideal) (spec7 m c) := by
  rw [Value.flushed7]
  obtain ⟨e0, e1, -⟩ := idx_7 t
  funext y
  have hy0 : (y 0).val < 512 := (y 0).isLt
  have hy1 : (y 1).val < 512 := (y 1).isLt
  have ht : t.val < 64 := t.isLt
  have h : t.val * 512 + (y 0).val < 32768 := by omega
  have hi : ((cfg0.win 7).blk t).view.emb y = (ix2 ⟨t.val * 512 + (y 0).val, h⟩ ⟨(y 1).val, hy1⟩ : S32768x512.Idx) := by
    funext a; apply Fin.ext
    match a with
    | ⟨0, _⟩ => show win0_7.index t (0 : Fin 2) * 512 + 1 * (y 0).val = t.val * 512 + (y 0).val; rw [e0]; omega
    | ⟨1, _⟩ => show win0_7.index t (1 : Fin 2) * 512 + 1 * (y 1).val = (y 1).val; rw [e1]; omega
  have hx : (cfg0.win 7).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  show out0_7 (iblk m c 0 t) (iblk m c 1 t) (iblk m c 2 t) (iblk m c 3 t)
      ((cfg0.win 7).xinj (grid0.coords t) y) = spec7 m c (((cfg0.win 7).blk t).view.emb y)
  rw [hx, hi]
  exact point_7 m c t ⟨(y 0).val, hy0⟩ ⟨(y 1).val, hy1⟩ h

theorem cover_7 (i : S32768x512.Idx) : ∃ t : Fin cfg0.N, (cfg0.win 7).flush t = true ∧ i ∈ ((cfg0.win 7).blk t).view.set := by
  have h0 : (i 0).val < 32768 := (i 0).isLt
  have h1 : (i 1).val < 512 := (i 1).isLt
  have hN : cfg0.N = 64 := rfl
  let t : Fin cfg0.N := ⟨(i 0).val / 512, by omega⟩
  obtain ⟨e0, e1, hf⟩ := idx_7 t
  have e0' : win0_7.index t 0 = (i 0).val / 512 := e0
  refine ⟨t, hf, ?_⟩
  show i ∈ ((View.whole main_v81_3).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512
              rw [e0']; omega
  | ⟨1, _⟩ => show win0_7.index t (1 : Fin 2) * 512 ≤ (i 1).val ∧ (i 1).val < win0_7.index t (1 : Fin 2) * 512 + 512
              rw [e1]; omega

theorem final_7 (c : Dev nD) : (dats m 0 c).arrAt 7 cfg0.N = spec7 m c :=
  (dats m 0 c).arrAt_eq_of_cover 7 _ (fun t _ => flushed_7 m c t) (fun i => cover_7 i)

/-- Result 4 as a function of the arguments. -/
abbrev spec8 (c : Dev nD) : Buf (Elt Ideal) ((c : Thread nD τ).loc main_v81_4) :=
  wide 512 1552 (by omega) (m ((c : Thread nD τ).loc main_arg0)) (m ((c : Thread nD τ).loc main_arg1)) (m ((c : Thread nD τ).loc main_arg2))
    (m ((c : Thread nD τ).loc main_arg3))

theorem idx_8 : ∀ t : Fin cfg0.N, win0_8.index t 0 = t.val ∧ win0_8.index t 1 = 0 ∧ (cfg0.win 8).flush t = true :=
  (by decide +kernel : ∀ t : Fin grid0.N, _)

theorem point_8 (c : Dev nD) (t : Fin cfg0.N) (r : Fin 512) (l : Fin 512) (h : t.val * 512 + r.val < 32768) :
    out0_8 (iblk m c 0 t) (iblk m c 1 t) (iblk m c 2 t) (iblk m c 3 t) (ix2 r l)
      = (spec8 m c : S32768x512.Idx → EReal) (ix2 ⟨t.val * 512 + r.val, h⟩ l) := by
  refine (block_8 _ _ _ _ r l).trans ?_
  rw [iblk2]
  simp only [iblk0 m c t r h, iblk1 m c t, iblk3 m c t, packW_4, packB_4]
  rfl

theorem flushed_8 (c : Dev nD) (t : Fin cfg0.N) :
    (dats m 0 c).flushed 8 t = ((cfg0.win 8).blk t).view.read (Elt Ideal) (spec8 m c) := by
  rw [Value.flushed8]
  obtain ⟨e0, e1, -⟩ := idx_8 t
  funext y
  have hy0 : (y 0).val < 512 := (y 0).isLt
  have hy1 : (y 1).val < 512 := (y 1).isLt
  have ht : t.val < 64 := t.isLt
  have h : t.val * 512 + (y 0).val < 32768 := by omega
  have hi : ((cfg0.win 8).blk t).view.emb y = (ix2 ⟨t.val * 512 + (y 0).val, h⟩ ⟨(y 1).val, hy1⟩ : S32768x512.Idx) := by
    funext a; apply Fin.ext
    match a with
    | ⟨0, _⟩ => show win0_8.index t (0 : Fin 2) * 512 + 1 * (y 0).val = t.val * 512 + (y 0).val; rw [e0]; omega
    | ⟨1, _⟩ => show win0_8.index t (1 : Fin 2) * 512 + 1 * (y 1).val = (y 1).val; rw [e1]; omega
  have hx : (cfg0.win 8).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  show out0_8 (iblk m c 0 t) (iblk m c 1 t) (iblk m c 2 t) (iblk m c 3 t)
      ((cfg0.win 8).xinj (grid0.coords t) y) = spec8 m c (((cfg0.win 8).blk t).view.emb y)
  rw [hx, hi]
  exact point_8 m c t ⟨(y 0).val, hy0⟩ ⟨(y 1).val, hy1⟩ h

theorem cover_8 (i : S32768x512.Idx) : ∃ t : Fin cfg0.N, (cfg0.win 8).flush t = true ∧ i ∈ ((cfg0.win 8).blk t).view.set := by
  have h0 : (i 0).val < 32768 := (i 0).isLt
  have h1 : (i 1).val < 512 := (i 1).isLt
  have hN : cfg0.N = 64 := rfl
  let t : Fin cfg0.N := ⟨(i 0).val / 512, by omega⟩
  obtain ⟨e0, e1, hf⟩ := idx_8 t
  have e0' : win0_8.index t 0 = (i 0).val / 512 := e0
  refine ⟨t, hf, ?_⟩
  show i ∈ ((View.whole main_v81_4).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512
              rw [e0']; omega
  | ⟨1, _⟩ => show win0_8.index t (1 : Fin 2) * 512 ≤ (i 1).val ∧ (i 1).val < win0_8.index t (1 : Fin 2) * 512 + 512
              rw [e1]; omega

theorem final_8 (c : Dev nD) : (dats m 0 c).arrAt 8 cfg0.N = spec8 m c :=
  (dats m 0 c).arrAt_eq_of_cover 8 _ (fun t _ => flushed_8 m c t) (fun i => cover_8 i)

/-- Result 5 as a function of the arguments. -/
abbrev spec9 (c : Dev nD) : Buf (Elt Ideal) ((c : Thread nD τ).loc main_v81_5) :=
  wide 512 2856 (by omega) (m ((c : Thread nD τ).loc main_arg0)) (m ((c : Thread nD τ).loc main_arg1)) (m ((c : Thread nD τ).loc main_arg2))
    (m ((c : Thread nD τ).loc main_arg3))

theorem idx_9 : ∀ t : Fin cfg0.N, win0_9.index t 0 = t.val ∧ win0_9.index t 1 = 0 ∧ (cfg0.win 9).flush t = true :=
  (by decide +kernel : ∀ t : Fin grid0.N, _)

theorem point_9 (c : Dev nD) (t : Fin cfg0.N) (r : Fin 512) (l : Fin 512) (h : t.val * 512 + r.val < 32768) :
    out0_9 (iblk m c 0 t) (iblk m c 1 t) (iblk m c 2 t) (iblk m c 3 t) (ix2 r l)
      = (spec9 m c : S32768x512.Idx → EReal) (ix2 ⟨t.val * 512 + r.val, h⟩ l) := by
  refine (block_9 _ _ _ _ r l).trans ?_
  rw [iblk2]
  simp only [iblk0 m c t r h, iblk1 m c t, iblk3 m c t, packW_5, packB_5]
  rfl

theorem flushed_9 (c : Dev nD) (t : Fin cfg0.N) :
    (dats m 0 c).flushed 9 t = ((cfg0.win 9).blk t).view.read (Elt Ideal) (spec9 m c) := by
  rw [Value.flushed9]
  obtain ⟨e0, e1, -⟩ := idx_9 t
  funext y
  have hy0 : (y 0).val < 512 := (y 0).isLt
  have hy1 : (y 1).val < 512 := (y 1).isLt
  have ht : t.val < 64 := t.isLt
  have h : t.val * 512 + (y 0).val < 32768 := by omega
  have hi : ((cfg0.win 9).blk t).view.emb y = (ix2 ⟨t.val * 512 + (y 0).val, h⟩ ⟨(y 1).val, hy1⟩ : S32768x512.Idx) := by
    funext a; apply Fin.ext
    match a with
    | ⟨0, _⟩ => show win0_9.index t (0 : Fin 2) * 512 + 1 * (y 0).val = t.val * 512 + (y 0).val; rw [e0]; omega
    | ⟨1, _⟩ => show win0_9.index t (1 : Fin 2) * 512 + 1 * (y 1).val = (y 1).val; rw [e1]; omega
  have hx : (cfg0.win 9).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  show out0_9 (iblk m c 0 t) (iblk m c 1 t) (iblk m c 2 t) (iblk m c 3 t)
      ((cfg0.win 9).xinj (grid0.coords t) y) = spec9 m c (((cfg0.win 9).blk t).view.emb y)
  rw [hx, hi]
  exact point_9 m c t ⟨(y 0).val, hy0⟩ ⟨(y 1).val, hy1⟩ h

theorem cover_9 (i : S32768x512.Idx) : ∃ t : Fin cfg0.N, (cfg0.win 9).flush t = true ∧ i ∈ ((cfg0.win 9).blk t).view.set := by
  have h0 : (i 0).val < 32768 := (i 0).isLt
  have h1 : (i 1).val < 512 := (i 1).isLt
  have hN : cfg0.N = 64 := rfl
  let t : Fin cfg0.N := ⟨(i 0).val / 512, by omega⟩
  obtain ⟨e0, e1, hf⟩ := idx_9 t
  have e0' : win0_9.index t 0 = (i 0).val / 512 := e0
  refine ⟨t, hf, ?_⟩
  show i ∈ ((View.whole main_v81_5).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512
              rw [e0']; omega
  | ⟨1, _⟩ => show win0_9.index t (1 : Fin 2) * 512 ≤ (i 1).val ∧ (i 1).val < win0_9.index t (1 : Fin 2) * 512 + 512
              rw [e1]; omega

theorem final_9 (c : Dev nD) : (dats m 0 c).arrAt 9 cfg0.N = spec9 m c :=
  (dats m 0 c).arrAt_eq_of_cover 9 _ (fun t _ => flushed_9 m c t) (fun i => cover_9 i)

/-- Result 6 as a function of the arguments. -/
abbrev spec10 (c : Dev nD) : Buf (Elt Ideal) ((c : Thread nD τ).loc main_v81_6) :=
  wide 512 3368 (by omega) (m ((c : Thread nD τ).loc main_arg0)) (m ((c : Thread nD τ).loc main_arg1)) (m ((c : Thread nD τ).loc main_arg2))
    (m ((c : Thread nD τ).loc main_arg3))

theorem idx_10 : ∀ t : Fin cfg0.N, win0_10.index t 0 = t.val ∧ win0_10.index t 1 = 0 ∧ (cfg0.win 10).flush t = true :=
  (by decide +kernel : ∀ t : Fin grid0.N, _)

theorem point_10 (c : Dev nD) (t : Fin cfg0.N) (r : Fin 512) (l : Fin 512) (h : t.val * 512 + r.val < 32768) :
    out0_10 (iblk m c 0 t) (iblk m c 1 t) (iblk m c 2 t) (iblk m c 3 t) (ix2 r l)
      = (spec10 m c : S32768x512.Idx → EReal) (ix2 ⟨t.val * 512 + r.val, h⟩ l) := by
  refine (block_10 _ _ _ _ r l).trans ?_
  rw [iblk2]
  simp only [iblk0 m c t r h, iblk1 m c t, iblk3 m c t, packW_6, packB_6]
  rfl

theorem flushed_10 (c : Dev nD) (t : Fin cfg0.N) :
    (dats m 0 c).flushed 10 t = ((cfg0.win 10).blk t).view.read (Elt Ideal) (spec10 m c) := by
  rw [Value.flushed10]
  obtain ⟨e0, e1, -⟩ := idx_10 t
  funext y
  have hy0 : (y 0).val < 512 := (y 0).isLt
  have hy1 : (y 1).val < 512 := (y 1).isLt
  have ht : t.val < 64 := t.isLt
  have h : t.val * 512 + (y 0).val < 32768 := by omega
  have hi : ((cfg0.win 10).blk t).view.emb y = (ix2 ⟨t.val * 512 + (y 0).val, h⟩ ⟨(y 1).val, hy1⟩ : S32768x512.Idx) := by
    funext a; apply Fin.ext
    match a with
    | ⟨0, _⟩ => show win0_10.index t (0 : Fin 2) * 512 + 1 * (y 0).val = t.val * 512 + (y 0).val; rw [e0]; omega
    | ⟨1, _⟩ => show win0_10.index t (1 : Fin 2) * 512 + 1 * (y 1).val = (y 1).val; rw [e1]; omega
  have hx : (cfg0.win 10).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  show out0_10 (iblk m c 0 t) (iblk m c 1 t) (iblk m c 2 t) (iblk m c 3 t)
      ((cfg0.win 10).xinj (grid0.coords t) y) = spec10 m c (((cfg0.win 10).blk t).view.emb y)
  rw [hx, hi]
  exact point_10 m c t ⟨(y 0).val, hy0⟩ ⟨(y 1).val, hy1⟩ h

theorem cover_10 (i : S32768x512.Idx) : ∃ t : Fin cfg0.N, (cfg0.win 10).flush t = true ∧ i ∈ ((cfg0.win 10).blk t).view.set := by
  have h0 : (i 0).val < 32768 := (i 0).isLt
  have h1 : (i 1).val < 512 := (i 1).isLt
  have hN : cfg0.N = 64 := rfl
  let t : Fin cfg0.N := ⟨(i 0).val / 512, by omega⟩
  obtain ⟨e0, e1, hf⟩ := idx_10 t
  have e0' : win0_10.index t 0 = (i 0).val / 512 := e0
  refine ⟨t, hf, ?_⟩
  show i ∈ ((View.whole main_v81_6).slice (win0_10.rect t)).set
  rw [View.set_slice_whole, Rect.mem_set_unit]
  intro a
  match a with
  | ⟨0, _⟩ => show win0_10.index t (0 : Fin 2) * 512 ≤ (i 0).val ∧ (i 0).val < win0_10.index t (0 : Fin 2) * 512 + 512
              rw [e0']; omega
  | ⟨1, _⟩ => show win0_10.index t (1 : Fin 2) * 512 ≤ (i 1).val ∧ (i 1).val < win0_10.index t (1 : Fin 2) * 512 + 512
              rw [e1]; omega

theorem final_10 (c : Dev nD) : (dats m 0 c).arrAt 10 cfg0.N = spec10 m c :=
  (dats m 0 c).arrAt_eq_of_cover 10 _ (fun t _ => flushed_10 m c t) (fun i => cover_10 i)

/-- Result 7 as a function of the arguments. -/
abbrev spec11 (c : Dev nD) : Buf (Elt Ideal) ((c : Thread nD τ).loc main_v81_7) :=
  wide 512 3880 (by omega) (m ((c : Thread nD τ).loc main_arg0)) (m ((c : Thread nD τ).loc main_arg1)) (m ((c : Thread nD τ).loc main_arg2))
    (m ((c : Thread nD τ).loc main_arg3))

theorem idx_11 : ∀ t : Fin cfg0.N, win0_11.index t 0 = t.val ∧ win0_11.index t 1 = 0 ∧ (cfg0.win 11).flush t = true :=
  (by decide +kernel : ∀ t : Fin grid0.N, _)

theorem point_11 (c : Dev nD) (t : Fin cfg0.N) (r : Fin 512) (l : Fin 512) (h : t.val * 512 + r.val < 32768) :
    out0_11 (iblk m c 0 t) (iblk m c 1 t) (iblk m c 2 t) (iblk m c 3 t) (ix2 r l)
      = (spec11 m c : S32768x512.Idx → EReal) (ix2 ⟨t.val * 512 + r.val, h⟩ l) := by
  refine (block_11 _ _ _ _ r l).trans ?_
  rw [iblk2]
  simp only [iblk0 m c t r h, iblk1 m c t, iblk3 m c t, packW_7, packB_7]
  rfl

theorem flushed_11 (c : Dev nD) (t : Fin cfg0.N) :
    (dats m 0 c).flushed 11 t = ((cfg0.win 11).blk t).view.read (Elt Ideal) (spec11 m c) := by
  rw [Value.flushed11]
  obtain ⟨e0, e1, -⟩ := idx_11 t
  funext y
  have hy0 : (y 0).val < 512 := (y 0).isLt
  have hy1 : (y 1).val < 512 := (y 1).isLt
  have ht : t.val < 64 := t.isLt
  have h : t.val * 512 + (y 0).val < 32768 := by omega
  have hi : ((cfg0.win 11).blk t).view.emb y = (ix2 ⟨t.val * 512 + (y 0).val, h⟩ ⟨(y 1).val, hy1⟩ : S32768x512.Idx) := by
    funext a; apply Fin.ext
    match a with
    | ⟨0, _⟩ => show win0_11.index t (0 : Fin 2) * 512 + 1 * (y 0).val = t.val * 512 + (y 0).val; rw [e0]; omega
    | ⟨1, _⟩ => show win0_11.index t (1 : Fin 2) * 512 + 1 * (y 1).val = (y 1).val; rw [e1]; omega
  have hx : (cfg0.win 11).xinj (grid0.coords t) y = (ix2 ⟨(y 0).val, hy0⟩ ⟨(y 1).val, hy1⟩ : S512x512.Idx) := by
    funext a; apply Fin.ext
    match a with
    | ⟨0, _⟩ => rfl
    | ⟨1, _⟩ => rfl
  show out0_11 (iblk m c 0 t) (iblk m c 1 t) (iblk m c 2 t) (iblk m c 3 t)
      ((cfg0.win 11).xinj (grid0.coords t) y) = spec11 m c (((cfg0.win 11).blk t).view.emb y)
  rw [hx, hi]
  exact point_11 m c t ⟨(y 0).val, hy0⟩ ⟨(y 1).val, hy1⟩ h

theorem cover_11 (i : S32768x512.Idx) : ∃ t : Fin cfg0.N, (cfg0.win 11).flush t = true ∧ i ∈ ((cfg0.win 11).blk t).view.set := by
  have h0 : (i 0).val < 32768 := (i 0).isLt
  have h1 : (i 1).val < 512 := (i 1).isLt
  have hN : cfg0.N = 64 := rfl
  let t : Fin cfg0.N := ⟨(i 0).val / 512, by omega⟩
  obtain ⟨e0, e1, hf⟩ := idx_11 t
  have e0' : win0_11.index t 0 = (i 0).val / 512 := e0
  refine ⟨t, hf, ?_⟩
  show i ∈ ((View.whole main_v81_7).slice (win0_11.rect t)).set
  rw [View.set_slice_whole, Rect.mem_set_unit]
  intro a
  match a with
  | ⟨0, _⟩ => show win0_11.index t (0 : Fin 2) * 512 ≤ (i 0).val ∧ (i 0).val < win0_11.index t (0 : Fin 2) * 512 + 512
              rw [e0']; omega
  | ⟨1, _⟩ => show win0_11.index t (1 : Fin 2) * 512 ≤ (i 1).val ∧ (i 1).val < win0_11.index t (1 : Fin 2) * 512 + 512
              rw [e1]; omega

theorem final_11 (c : Dev nD) : (dats m 0 c).arrAt 11 cfg0.N = spec11 m c :=
  (dats m 0 c).arrAt_eq_of_cover 11 _ (fun t _ => flushed_11 m c t) (fun i => cover_11 i)

/-- Result 8 as a function of the arguments. -/
abbrev spec12 (c : Dev nD) : Buf (Elt Ideal) ((c : Thread nD τ).loc main_v81_8) :=
  wide 3072 4400 (by omega) (m ((c : Thread nD τ).loc main_arg0)) (m ((c : Thread nD τ).loc main_arg1)) (m ((c : Thread nD τ).loc main_arg2))
    (m ((c : Thread nD τ).loc main_arg3))

theorem idx_12 : ∀ t : Fin cfg0.N, win0_12.index t 0 = t.val ∧ win0_12.index t 1 = 0 ∧ (cfg0.win 12).flush t = true :=
  (by decide +kernel : ∀ t : Fin grid0.N, _)

theorem point_12 (c : Dev nD) (t : Fin cfg0.N) (r : Fin 512) (l : Fin 3072) (h : t.val * 512 + r.val < 32768) :
    out0_12 (iblk m c 0 t) (iblk m c 1 t) (iblk m c 2 t) (iblk m c 3 t) (ix2 r l)
      = (spec12 m c : S32768x3072.Idx → EReal) (ix2 ⟨t.val * 512 + r.val, h⟩ l) := by
  refine (block_12 _ _ _ _ r l).trans ?_
  rw [iblk2]
  simp only [iblk0 m c t r h, iblk1 m c t, iblk3 m c t, packW_8, packB_8]
  rfl

theorem flushed_12 (c : Dev nD) (t : Fin cfg0.N) :
    (dats m 0 c).flushed 12 t = ((cfg0.win 12).blk t).view.read (Elt Ideal) (spec12 m c) := by
  rw [Value.flushed12]
  obtain ⟨e0, e1, -⟩ := idx_12 t
  funext y
  have hy0 : (y 0).val < 512 := (y 0).isLt
  have hy1 : (y 1).val < 3072 := (y 1).isLt
  have ht : t.val < 64 := t.isLt
  have h : t.val * 512 + (y 0).val < 32768 := by omega
  have hi : ((cfg0.win 12).blk t).view.emb y = (ix2 ⟨t.val * 512 + (y 0).val, h⟩ ⟨(y 1).val, hy1⟩ : S32768x3072.Idx) := by
    funext a; apply Fin.ext
    match a with
    | ⟨0, _⟩ => show win0_12.index t (0 : Fin 2) * 512 + 1 * (y 0).val = t.val * 512 + (y 0).val; rw [e0]; omega
    | ⟨1, _⟩ => show win0_12.index t (1 : Fin 2) * 3072 + 1 * (y 1).val = (y 1).val; rw [e1]; omega
  have hx : (cfg0.win 12).xinj (grid0.coords t) y = (ix2 ⟨(y 0).val, hy0⟩ ⟨(y 1).val, hy1⟩ : S512x3072.Idx) := by
    funext a; apply Fin.ext
    match a with
    | ⟨0, _⟩ => rfl
    | ⟨1, _⟩ => rfl
  show out0_12 (iblk m c 0 t) (iblk m c 1 t) (iblk m c 2 t) (iblk m c 3 t)
      ((cfg0.win 12).xinj (grid0.coords t) y) = spec12 m c (((cfg0.win 12).blk t).view.emb y)
  rw [hx, hi]
  exact point_12 m c t ⟨(y 0).val, hy0⟩ ⟨(y 1).val, hy1⟩ h

theorem cover_12 (i : S32768x3072.Idx) : ∃ t : Fin cfg0.N, (cfg0.win 12).flush t = true ∧ i ∈ ((cfg0.win 12).blk t).view.set := by
  have h0 : (i 0).val < 32768 := (i 0).isLt
  have h1 : (i 1).val < 3072 := (i 1).isLt
  have hN : cfg0.N = 64 := rfl
  let t : Fin cfg0.N := ⟨(i 0).val / 512, by omega⟩
  obtain ⟨e0, e1, hf⟩ := idx_12 t
  have e0' : win0_12.index t 0 = (i 0).val / 512 := e0
  refine ⟨t, hf, ?_⟩
  show i ∈ ((View.whole main_v81_8).slice (win0_12.rect t)).set
  rw [View.set_slice_whole, Rect.mem_set_unit]
  intro a
  match a with
  | ⟨0, _⟩ => show win0_12.index t (0 : Fin 2) * 512 ≤ (i 0).val ∧ (i 0).val < win0_12.index t (0 : Fin 2) * 512 + 512
              rw [e0']; omega
  | ⟨1, _⟩ => show win0_12.index t (1 : Fin 2) * 3072 ≤ (i 1).val ∧ (i 1).val < win0_12.index t (1 : Fin 2) * 3072 + 3072
              rw [e1]; omega

theorem final_12 (c : Dev nD) : (dats m 0 c).arrAt 12 cfg0.N = spec12 m c :=
  (dats m 0 c).arrAt_eq_of_cover 12 _ (fun t _ => flushed_12 m c t) (fun i => cover_12 i)

/-- Result 9 as a function of the arguments. -/
abbrev spec13 (c : Dev nD) : Buf (Elt Ideal) ((c : Thread nD τ).loc main_v81_9) :=
  narrow 16 1536 (by omega) (m ((c : Thread nD τ).loc main_arg0)) (m ((c : Thread nD τ).loc main_arg1)) (m ((c : Thread nD τ).loc main_arg2))
    (m ((c : Thread nD τ).loc main_arg3))

theorem idx_13 : ∀ t : Fin cfg0.N, win0_13.index t 0 = t.val ∧ win0_13.index t 1 = 0 ∧ (cfg0.win 13).flush t = true :=
  (by decide +kernel : ∀ t : Fin grid0.N, _)

theorem point_13 (c : Dev nD) (t : Fin cfg0.N) (r : Fin 512) (l : Fin 128) (h : t.val * 512 + r.val < 32768) :
    out0_13 (iblk m c 0 t) (iblk m c 1 t) (iblk m c 2 t) (iblk m c 3 t) (ix2 r l)
      = (spec13 m c : S32768x128.Idx → EReal) (ix2 ⟨t.val * 512 + r.val, h⟩ l) := by
  refine (block_13 _ _ _ _ r l).trans ?_
  rw [iblk2]
  simp only [iblk0 m c t r h, iblk1 m c t, iblk3 m c t, packW_9, packB_9]
  unfold spec13 narrow
  show _ = if hl : l.val < 16 then _ else 0
  by_cases hl : l.val < 16
  · simp only [dif_pos hl]; rfl
  · simp only [dif_neg hl, mul_zero, Finset.sum_const_zero, add_zero]

theorem flushed_13 (c : Dev nD) (t : Fin cfg0.N) :
    (dats m 0 c).flushed 13 t = ((cfg0.win 13).blk t).view.read (Elt Ideal) (spec13 m c) := by
  rw [Value.flushed13]
  obtain ⟨e0, e1, -⟩ := idx_13 t
  funext y
  have hy0 : (y 0).val < 512 := (y 0).isLt
  have hy1 : (y 1).val < 128 := (y 1).isLt
  have ht : t.val < 64 := t.isLt
  have h : t.val * 512 + (y 0).val < 32768 := by omega
  have hi : ((cfg0.win 13).blk t).view.emb y = (ix2 ⟨t.val * 512 + (y 0).val, h⟩ ⟨(y 1).val, hy1⟩ : S32768x128.Idx) := by
    funext a; apply Fin.ext
    match a with
    | ⟨0, _⟩ => show win0_13.index t (0 : Fin 2) * 512 + 1 * (y 0).val = t.val * 512 + (y 0).val; rw [e0]; omega
    | ⟨1, _⟩ => show win0_13.index t (1 : Fin 2) * 128 + 1 * (y 1).val = (y 1).val; rw [e1]; omega
  have hx : (cfg0.win 13).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_13 (iblk m c 0 t) (iblk m c 1 t) (iblk m c 2 t) (iblk m c 3 t)
      ((cfg0.win 13).xinj (grid0.coords t) y) = spec13 m c (((cfg0.win 13).blk t).view.emb y)
  rw [hx, hi]
  exact point_13 m c t ⟨(y 0).val, hy0⟩ ⟨(y 1).val, hy1⟩ h

theorem cover_13 (i : S32768x128.Idx) : ∃ t : Fin cfg0.N, (cfg0.win 13).flush t = true ∧ i ∈ ((cfg0.win 13).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_13 t
  have e0' : win0_13.index t 0 = (i 0).val / 512 := e0
  refine ⟨t, hf, ?_⟩
  show i ∈ ((View.whole main_v81_9).slice (win0_13.rect t)).set
  rw [View.set_slice_whole, Rect.mem_set_unit]
  intro a
  match a with
  | ⟨0, _⟩ => show win0_13.index t (0 : Fin 2) * 512 ≤ (i 0).val ∧ (i 0).val < win0_13.index t (0 : Fin 2) * 512 + 512
              rw [e0']; omega
  | ⟨1, _⟩ => show win0_13.index t (1 : Fin 2) * 128 ≤ (i 1).val ∧ (i 1).val < win0_13.index t (1 : Fin 2) * 128 + 128
              rw [e1]; omega

theorem final_13 (c : Dev nD) : (dats m 0 c).arrAt 13 cfg0.N = spec13 m c :=
  (dats m 0 c).arrAt_eq_of_cover 13 _ (fun t _ => flushed_13 m c t) (fun i => cover_13 i)

/-- Result 10 as a function of the arguments. -/
abbrev spec14 (c : Dev nD) : Buf (Elt Ideal) ((c : Thread nD τ).loc main_v81_10) :=
  wide 128 2064 (by omega) (m ((c : Thread nD τ).loc main_arg0)) (m ((c : Thread nD τ).loc main_arg1)) (m ((c : Thread nD τ).loc main_arg2))
    (m ((c : Thread nD τ).loc main_arg3))

theorem idx_14 : ∀ t : Fin cfg0.N, win0_14.index t 0 = t.val ∧ win0_14.index t 1 = 0 ∧ (cfg0.win 14).flush t = true :=
  (by decide +kernel : ∀ t : Fin grid0.N, _)

theorem point_14 (c : Dev nD) (t : Fin cfg0.N) (r : Fin 512) (l : Fin 128) (h : t.val * 512 + r.val < 32768) :
    out0_14 (iblk m c 0 t) (iblk m c 1 t) (iblk m c 2 t) (iblk m c 3 t) (ix2 r l)
      = (spec14 m c : S32768x128.Idx → EReal) (ix2 ⟨t.val * 512 + r.val, h⟩ l) := by
  refine (block_14 _ _ _ _ r l).trans ?_
  rw [iblk2]
  simp only [iblk0 m c t r h, iblk1 m c t, iblk3 m c t, packW_10, packB_10]
  rfl

theorem flushed_14 (c : Dev nD) (t : Fin cfg0.N) :
    (dats m 0 c).flushed 14 t = ((cfg0.win 14).blk t).view.read (Elt Ideal) (spec14 m c) := by
  rw [Value.flushed14]
  obtain ⟨e0, e1, -⟩ := idx_14 t
  funext y
  have hy0 : (y 0).val < 512 := (y 0).isLt
  have hy1 : (y 1).val < 128 := (y 1).isLt
  have ht : t.val < 64 := t.isLt
  have h : t.val * 512 + (y 0).val < 32768 := by omega
  have hi : ((cfg0.win 14).blk t).view.emb y = (ix2 ⟨t.val * 512 + (y 0).val, h⟩ ⟨(y 1).val, hy1⟩ : S32768x128.Idx) := by
    funext a; apply Fin.ext
    match a with
    | ⟨0, _⟩ => show win0_14.index t (0 : Fin 2) * 512 + 1 * (y 0).val = t.val * 512 + (y 0).val; rw [e0]; omega
    | ⟨1, _⟩ => show win0_14.index t (1 : Fin 2) * 128 + 1 * (y 1).val = (y 1).val; rw [e1]; omega
  have hx : (cfg0.win 14).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_14 (iblk m c 0 t) (iblk m c 1 t) (iblk m c 2 t) (iblk m c 3 t)
      ((cfg0.win 14).xinj (grid0.coords t) y) = spec14 m c (((cfg0.win 14).blk t).view.emb y)
  rw [hx, hi]
  exact point_14 m c t ⟨(y 0).val, hy0⟩ ⟨(y 1).val, hy1⟩ h

theorem cover_14 (i : S32768x128.Idx) : ∃ t : Fin cfg0.N, (cfg0.win 14).flush t = true ∧ i ∈ ((cfg0.win 14).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_14 t
  have e0' : win0_14.index t 0 = (i 0).val / 512 := e0
  refine ⟨t, hf, ?_⟩
  show i ∈ ((View.whole main_v81_10).slice (win0_14.rect t)).set
  rw [View.set_slice_whole, Rect.mem_set_unit]
  intro a
  match a with
  | ⟨0, _⟩ => show win0_14.index t (0 : Fin 2) * 512 ≤ (i 0).val ∧ (i 0).val < win0_14.index t (0 : Fin 2) * 512 + 512
              rw [e0']; omega
  | ⟨1, _⟩ => show win0_14.index t (1 : Fin 2) * 128 ≤ (i 1).val ∧ (i 1).val < win0_14.index t (1 : Fin 2) * 128 + 128
              rw [e1]; omega

theorem final_14 (c : Dev nD) : (dats m 0 c).arrAt 14 cfg0.N = spec14 m c :=
  (dats m 0 c).arrAt_eq_of_cover 14 _ (fun t _ => flushed_14 m c t) (fun i => cover_14 i)

/-- Result 11 as a function of the arguments. -/
abbrev spec15 (c : Dev nD) : Buf (Elt Ideal) ((c : Thread nD τ).loc main_v81_11) :=
  wide 128 2192 (by omega) (m ((c : Thread nD τ).loc main_arg0)) (m ((c : Thread nD τ).loc main_arg1)) (m ((c : Thread nD τ).loc main_arg2))
    (m ((c : Thread nD τ).loc main_arg3))

theorem idx_15 : ∀ t : Fin cfg0.N, win0_15.index t 0 = t.val ∧ win0_15.index t 1 = 0 ∧ (cfg0.win 15).flush t = true :=
  (by decide +kernel : ∀ t : Fin grid0.N, _)

theorem point_15 (c : Dev nD) (t : Fin cfg0.N) (r : Fin 512) (l : Fin 128) (h : t.val * 512 + r.val < 32768) :
    out0_15 (iblk m c 0 t) (iblk m c 1 t) (iblk m c 2 t) (iblk m c 3 t) (ix2 r l)
      = (spec15 m c : S32768x128.Idx → EReal) (ix2 ⟨t.val * 512 + r.val, h⟩ l) := by
  refine (block_15 _ _ _ _ r l).trans ?_
  rw [iblk2]
  simp only [iblk0 m c t r h, iblk1 m c t, iblk3 m c t, packW_11, packB_11]
  rfl

theorem flushed_15 (c : Dev nD) (t : Fin cfg0.N) :
    (dats m 0 c).flushed 15 t = ((cfg0.win 15).blk t).view.read (Elt Ideal) (spec15 m c) := by
  rw [Value.flushed15]
  obtain ⟨e0, e1, -⟩ := idx_15 t
  funext y
  have hy0 : (y 0).val < 512 := (y 0).isLt
  have hy1 : (y 1).val < 128 := (y 1).isLt
  have ht : t.val < 64 := t.isLt
  have h : t.val * 512 + (y 0).val < 32768 := by omega
  have hi : ((cfg0.win 15).blk t).view.emb y = (ix2 ⟨t.val * 512 + (y 0).val, h⟩ ⟨(y 1).val, hy1⟩ : S32768x128.Idx) := by
    funext a; apply Fin.ext
    match a with
    | ⟨0, _⟩ => show win0_15.index t (0 : Fin 2) * 512 + 1 * (y 0).val = t.val * 512 + (y 0).val; rw [e0]; omega
    | ⟨1, _⟩ => show win0_15.index t (1 : Fin 2) * 128 + 1 * (y 1).val = (y 1).val; rw [e1]; omega
  have hx : (cfg0.win 15).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_15 (iblk m c 0 t) (iblk m c 1 t) (iblk m c 2 t) (iblk m c 3 t)
      ((cfg0.win 15).xinj (grid0.coords t) y) = spec15 m c (((cfg0.win 15).blk t).view.emb y)
  rw [hx, hi]
  exact point_15 m c t ⟨(y 0).val, hy0⟩ ⟨(y 1).val, hy1⟩ h

theorem cover_15 (i : S32768x128.Idx) : ∃ t : Fin cfg0.N, (cfg0.win 15).flush t = true ∧ i ∈ ((cfg0.win 15).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_15 t
  have e0' : win0_15.index t 0 = (i 0).val / 512 := e0
  refine ⟨t, hf, ?_⟩
  show i ∈ ((View.whole main_v81_11).slice (win0_15.rect t)).set
  rw [View.set_slice_whole, Rect.mem_set_unit]
  intro a
  match a with
  | ⟨0, _⟩ => show win0_15.index t (0 : Fin 2) * 512 ≤ (i 0).val ∧ (i 0).val < win0_15.index t (0 : Fin 2) * 512 + 512
              rw [e0']; omega
  | ⟨1, _⟩ => show win0_15.index t (1 : Fin 2) * 128 ≤ (i 1).val ∧ (i 1).val < win0_15.index t (1 : Fin 2) * 128 + 128
              rw [e1]; omega

theorem final_15 (c : Dev nD) : (dats m 0 c).arrAt 15 cfg0.N = spec15 m c :=
  (dats m 0 c).arrAt_eq_of_cover 15 _ (fun t _ => flushed_15 m c t) (fun i => cover_15 i)

/-- Result 12 as a function of the arguments. -/
abbrev spec16 (c : Dev nD) : Buf (Elt Ideal) ((c : Thread nD τ).loc main_v81_12) :=
  wide 128 2320 (by omega) (m ((c : Thread nD τ).loc main_arg0)) (m ((c : Thread nD τ).loc main_arg1)) (m ((c : Thread nD τ).loc main_arg2))
    (m ((c : Thread nD τ).loc main_arg3))

theorem idx_16 : ∀ t : Fin cfg0.N, win0_16.index t 0 = t.val ∧ win0_16.index t 1 = 0 ∧ (cfg0.win 16).flush t = true :=
  (by decide +kernel : ∀ t : Fin grid0.N, _)

theorem point_16 (c : Dev nD) (t : Fin cfg0.N) (r : Fin 512) (l : Fin 128) (h : t.val * 512 + r.val < 32768) :
    out0_16 (iblk m c 0 t) (iblk m c 1 t) (iblk m c 2 t) (iblk m c 3 t) (ix2 r l)
      = (spec16 m c : S32768x128.Idx → EReal) (ix2 ⟨t.val * 512 + r.val, h⟩ l) := by
  refine (block_16 _ _ _ _ r l).trans ?_
  rw [iblk2]
  simp only [iblk0 m c t r h, iblk1 m c t, iblk3 m c t, packW_12, packB_12]
  rfl

theorem flushed_16 (c : Dev nD) (t : Fin cfg0.N) :
    (dats m 0 c).flushed 16 t = ((cfg0.win 16).blk t).view.read (Elt Ideal) (spec16 m c) := by
  rw [Value.flushed16]
  obtain ⟨e0, e1, -⟩ := idx_16 t
  funext y
  have hy0 : (y 0).val < 512 := (y 0).isLt
  have hy1 : (y 1).val < 128 := (y 1).isLt
  have ht : t.val < 64 := t.isLt
  have h : t.val * 512 + (y 0).val < 32768 := by omega
  have hi : ((cfg0.win 16).blk t).view.emb y = (ix2 ⟨t.val * 512 + (y 0).val, h⟩ ⟨(y 1).val, hy1⟩ : S32768x128.Idx) := by
    funext a; apply Fin.ext
    match a with
    | ⟨0, _⟩ => show win0_16.index t (0 : Fin 2) * 512 + 1 * (y 0).val = t.val * 512 + (y 0).val; rw [e0]; omega
    | ⟨1, _⟩ => show win0_16.index t (1 : Fin 2) * 128 + 1 * (y 1).val = (y 1).val; rw [e1]; omega
  have hx : (cfg0.win 16).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_16 (iblk m c 0 t) (iblk m c 1 t) (iblk m c 2 t) (iblk m c 3 t)
      ((cfg0.win 16).xinj (grid0.coords t) y) = spec16 m c (((cfg0.win 16).blk t).view.emb y)
  rw [hx, hi]
  exact point_16 m c t ⟨(y 0).val, hy0⟩ ⟨(y 1).val, hy1⟩ h

theorem cover_16 (i : S32768x128.Idx) : ∃ t : Fin cfg0.N, (cfg0.win 16).flush t = true ∧ i ∈ ((cfg0.win 16).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_16 t
  have e0' : win0_16.index t 0 = (i 0).val / 512 := e0
  refine ⟨t, hf, ?_⟩
  show i ∈ ((View.whole main_v81_12).slice (win0_16.rect t)).set
  rw [View.set_slice_whole, Rect.mem_set_unit]
  intro a
  match a with
  | ⟨0, _⟩ => show win0_16.index t (0 : Fin 2) * 512 ≤ (i 0).val ∧ (i 0).val < win0_16.index t (0 : Fin 2) * 512 + 512
              rw [e0']; omega
  | ⟨1, _⟩ => show win0_16.index t (1 : Fin 2) * 128 ≤ (i 1).val ∧ (i 1).val < win0_16.index t (1 : Fin 2) * 128 + 128
              rw [e1]; omega

theorem final_16 (c : Dev nD) : (dats m 0 c).arrAt 16 cfg0.N = spec16 m c :=
  (dats m 0 c).arrAt_eq_of_cover 16 _ (fun t _ => flushed_16 m c t) (fun i => cover_16 i)

/-- Result 13 as a function of the arguments. -/
abbrev spec17 (c : Dev nD) : Buf (Elt Ideal) ((c : Thread nD τ).loc main_v81_13) :=
  wide 128 2448 (by omega) (m ((c : Thread nD τ).loc main_arg0)) (m ((c : Thread nD τ).loc main_arg1)) (m ((c : Thread nD τ).loc main_arg2))
    (m ((c : Thread nD τ).loc main_arg3))

theorem idx_17 : ∀ t : Fin cfg0.N, win0_17.index t 0 = t.val ∧ win0_17.index t 1 = 0 ∧ (cfg0.win 17).flush t = true :=
  (by decide +kernel : ∀ t : Fin grid0.N, _)

theorem point_17 (c : Dev nD) (t : Fin cfg0.N) (r : Fin 512) (l : Fin 128) (h : t.val * 512 + r.val < 32768) :
    out0_17 (iblk m c 0 t) (iblk m c 1 t) (iblk m c 2 t) (iblk m c 3 t) (ix2 r l)
      = (spec17 m c : S32768x128.Idx → EReal) (ix2 ⟨t.val * 512 + r.val, h⟩ l) := by
  refine (block_17 _ _ _ _ r l).trans ?_
  rw [iblk2]
  simp only [iblk0 m c t r h, iblk1 m c t, iblk3 m c t, packW_13, packB_13]
  rfl

theorem flushed_17 (c : Dev nD) (t : Fin cfg0.N) :
    (dats m 0 c).flushed 17 t = ((cfg0.win 17).blk t).view.read (Elt Ideal) (spec17 m c) := by
  rw [Value.flushed17]
  obtain ⟨e0, e1, -⟩ := idx_17 t
  funext y
  have hy0 : (y 0).val < 512 := (y 0).isLt
  have hy1 : (y 1).val < 128 := (y 1).isLt
  have ht : t.val < 64 := t.isLt
  have h : t.val * 512 + (y 0).val < 32768 := by omega
  have hi : ((cfg0.win 17).blk t).view.emb y = (ix2 ⟨t.val * 512 + (y 0).val, h⟩ ⟨(y 1).val, hy1⟩ : S32768x128.Idx) := by
    funext a; apply Fin.ext
    match a with
    | ⟨0, _⟩ => show win0_17.index t (0 : Fin 2) * 512 + 1 * (y 0).val = t.val * 512 + (y 0).val; rw [e0]; omega
    | ⟨1, _⟩ => show win0_17.index t (1 : Fin 2) * 128 + 1 * (y 1).val = (y 1).val; rw [e1]; omega
  have hx : (cfg0.win 17).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_17 (iblk m c 0 t) (iblk m c 1 t) (iblk m c 2 t) (iblk m c 3 t)
      ((cfg0.win 17).xinj (grid0.coords t) y) = spec17 m c (((cfg0.win 17).blk t).view.emb y)
  rw [hx, hi]
  exact point_17 m c t ⟨(y 0).val, hy0⟩ ⟨(y 1).val, hy1⟩ h

theorem cover_17 (i : S32768x128.Idx) : ∃ t : Fin cfg0.N, (cfg0.win 17).flush t = true ∧ i ∈ ((cfg0.win 17).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_17 t
  have e0' : win0_17.index t 0 = (i 0).val / 512 := e0
  refine ⟨t, hf, ?_⟩
  show i ∈ ((View.whole main_v81_13).slice (win0_17.rect t)).set
  rw [View.set_slice_whole, Rect.mem_set_unit]
  intro a
  match a with
  | ⟨0, _⟩ => show win0_17.index t (0 : Fin 2) * 512 ≤ (i 0).val ∧ (i 0).val < win0_17.index t (0 : Fin 2) * 512 + 512
              rw [e0']; omega
  | ⟨1, _⟩ => show win0_17.index t (1 : Fin 2) * 128 ≤ (i 1).val ∧ (i 1).val < win0_17.index t (1 : Fin 2) * 128 + 128
              rw [e1]; omega

theorem final_17 (c : Dev nD) : (dats m 0 c).arrAt 17 cfg0.N = spec17 m c :=
  (dats m 0 c).arrAt_eq_of_cover 17 _ (fun t _ => flushed_17 m c t) (fun i => cover_17 i)

/-- Result 14 as a function of the arguments. -/
abbrev spec18 (c : Dev nD) : Buf (Elt Ideal) ((c : Thread nD τ).loc main_v81_14) :=
  wide 128 2576 (by omega) (m ((c : Thread nD τ).loc main_arg0)) (m ((c : Thread nD τ).loc main_arg1)) (m ((c : Thread nD τ).loc main_arg2))
    (m ((c : Thread nD τ).loc main_arg3))

theorem idx_18 : ∀ t : Fin cfg0.N, win0_18.index t 0 = t.val ∧ win0_18.index t 1 = 0 ∧ (cfg0.win 18).flush t = true :=
  (by decide +kernel : ∀ t : Fin grid0.N, _)

theorem point_18 (c : Dev nD) (t : Fin cfg0.N) (r : Fin 512) (l : Fin 128) (h : t.val * 512 + r.val < 32768) :
    out0_18 (iblk m c 0 t) (iblk m c 1 t) (iblk m c 2 t) (iblk m c 3 t) (ix2 r l)
      = (spec18 m c : S32768x128.Idx → EReal) (ix2 ⟨t.val * 512 + r.val, h⟩ l) := by
  refine (block_18 _ _ _ _ r l).trans ?_
  rw [iblk2]
  simp only [iblk0 m c t r h, iblk1 m c t, iblk3 m c t, packW_14, packB_14]
  rfl

theorem flushed_18 (c : Dev nD) (t : Fin cfg0.N) :
    (dats m 0 c).flushed 18 t = ((cfg0.win 18).blk t).view.read (Elt Ideal) (spec18 m c) := by
  rw [Value.flushed18]
  obtain ⟨e0, e1, -⟩ := idx_18 t
  funext y
  have hy0 : (y 0).val < 512 := (y 0).isLt
  have hy1 : (y 1).val < 128 := (y 1).isLt
  have ht : t.val < 64 := t.isLt
  have h : t.val * 512 + (y 0).val < 32768 := by omega
  have hi : ((cfg0.win 18).blk t).view.emb y = (ix2 ⟨t.val * 512 + (y 0).val, h⟩ ⟨(y 1).val, hy1⟩ : S32768x128.Idx) := by
    funext a; apply Fin.ext
    match a with
    | ⟨0, _⟩ => show win0_18.index t (0 : Fin 2) * 512 + 1 * (y 0).val = t.val * 512 + (y 0).val; rw [e0]; omega
    | ⟨1, _⟩ => show win0_18.index t (1 : Fin 2) * 128 + 1 * (y 1).val = (y 1).val; rw [e1]; omega
  have hx : (cfg0.win 18).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_18 (iblk m c 0 t) (iblk m c 1 t) (iblk m c 2 t) (iblk m c 3 t)
      ((cfg0.win 18).xinj (grid0.coords t) y) = spec18 m c (((cfg0.win 18).blk t).view.emb y)
  rw [hx, hi]
  exact point_18 m c t ⟨(y 0).val, hy0⟩ ⟨(y 1).val, hy1⟩ h

theorem cover_18 (i : S32768x128.Idx) : ∃ t : Fin cfg0.N, (cfg0.win 18).flush t = true ∧ i ∈ ((cfg0.win 18).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_18 t
  have e0' : win0_18.index t 0 = (i 0).val / 512 := e0
  refine ⟨t, hf, ?_⟩
  show i ∈ ((View.whole main_v81_14).slice (win0_18.rect t)).set
  rw [View.set_slice_whole, Rect.mem_set_unit]
  intro a
  match a with
  | ⟨0, _⟩ => show win0_18.index t (0 : Fin 2) * 512 ≤ (i 0).val ∧ (i 0).val < win0_18.index t (0 : Fin 2) * 512 + 512
              rw [e0']; omega
  | ⟨1, _⟩ => show win0_18.index t (1 : Fin 2) * 128 ≤ (i 1).val ∧ (i 1).val < win0_18.index t (1 : Fin 2) * 128 + 128
              rw [e1]; omega

theorem final_18 (c : Dev nD) : (dats m 0 c).arrAt 18 cfg0.N = spec18 m c :=
  (dats m 0 c).arrAt_eq_of_cover 18 _ (fun t _ => flushed_18 m c t) (fun i => cover_18 i)

/-- Result 15 as a function of the arguments. -/
abbrev spec19 (c : Dev nD) : Buf (Elt Ideal) ((c : Thread nD τ).loc main_v81_15) :=
  wide 128 2704 (by omega) (m ((c : Thread nD τ).loc main_arg0)) (m ((c : Thread nD τ).loc main_arg1)) (m ((c : Thread nD τ).loc main_arg2))
    (m ((c : Thread nD τ).loc main_arg3))

theorem idx_19 : ∀ t : Fin cfg0.N, win0_19.index t 0 = t.val ∧ win0_19.index t 1 = 0 ∧ (cfg0.win 19).flush t = true :=
  (by decide +kernel : ∀ t : Fin grid0.N, _)

theorem point_19 (c : Dev nD) (t : Fin cfg0.N) (r : Fin 512) (l : Fin 128) (h : t.val * 512 + r.val < 32768) :
    out0_19 (iblk m c 0 t) (iblk m c 1 t) (iblk m c 2 t) (iblk m c 3 t) (ix2 r l)
      = (spec19 m c : S32768x128.Idx → EReal) (ix2 ⟨t.val * 512 + r.val, h⟩ l) := by
  refine (block_19 _ _ _ _ r l).trans ?_
  rw [iblk2]
  simp only [iblk0 m c t r h, iblk1 m c t, iblk3 m c t, packW_15, packB_15]
  rfl

theorem flushed_19 (c : Dev nD) (t : Fin cfg0.N) :
    (dats m 0 c).flushed 19 t = ((cfg0.win 19).blk t).view.read (Elt Ideal) (spec19 m c) := by
  rw [Value.flushed19]
  obtain ⟨e0, e1, -⟩ := idx_19 t
  funext y
  have hy0 : (y 0).val < 512 := (y 0).isLt
  have hy1 : (y 1).val < 128 := (y 1).isLt
  have ht : t.val < 64 := t.isLt
  have h : t.val * 512 + (y 0).val < 32768 := by omega
  have hi : ((cfg0.win 19).blk t).view.emb y = (ix2 ⟨t.val * 512 + (y 0).val, h⟩ ⟨(y 1).val, hy1⟩ : S32768x128.Idx) := by
    funext a; apply Fin.ext
    match a with
    | ⟨0, _⟩ => show win0_19.index t (0 : Fin 2) * 512 + 1 * (y 0).val = t.val * 512 + (y 0).val; rw [e0]; omega
    | ⟨1, _⟩ => show win0_19.index t (1 : Fin 2) * 128 + 1 * (y 1).val = (y 1).val; rw [e1]; omega
  have hx : (cfg0.win 19).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_19 (iblk m c 0 t) (iblk m c 1 t) (iblk m c 2 t) (iblk m c 3 t)
      ((cfg0.win 19).xinj (grid0.coords t) y) = spec19 m c (((cfg0.win 19).blk t).view.emb y)
  rw [hx, hi]
  exact point_19 m c t ⟨(y 0).val, hy0⟩ ⟨(y 1).val, hy1⟩ h

theorem cover_19 (i : S32768x128.Idx) : ∃ t : Fin cfg0.N, (cfg0.win 19).flush t = true ∧ i ∈ ((cfg0.win 19).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_19 t
  have e0' : win0_19.index t 0 = (i 0).val / 512 := e0
  refine ⟨t, hf, ?_⟩
  show i ∈ ((View.whole main_v81_15).slice (win0_19.rect t)).set
  rw [View.set_slice_whole, Rect.mem_set_unit]
  intro a
  match a with
  | ⟨0, _⟩ => show win0_19.index t (0 : Fin 2) * 512 ≤ (i 0).val ∧ (i 0).val < win0_19.index t (0 : Fin 2) * 512 + 512
              rw [e0']; omega
  | ⟨1, _⟩ => show win0_19.index t (1 : Fin 2) * 128 ≤ (i 1).val ∧ (i 1).val < win0_19.index t (1 : Fin 2) * 128 + 128
              rw [e1]; omega

theorem final_19 (c : Dev nD) : (dats m 0 c).arrAt 19 cfg0.N = spec19 m c :=
  (dats m 0 c).arrAt_eq_of_cover 19 _ (fun t _ => flushed_19 m c t) (fun i => cover_19 i)

/-- Result 16 as a function of the arguments. -/
abbrev spec20 (c : Dev nD) : Buf (Elt Ideal) ((c : Thread nD τ).loc main_v81_16) :=
  narrow 24 2832 (by omega) (m ((c : Thread nD τ).loc main_arg0)) (m ((c : Thread nD τ).loc main_arg1)) (m ((c : Thread nD τ).loc main_arg2))
    (m ((c : Thread nD τ).loc main_arg3))

theorem idx_20 : ∀ t : Fin cfg0.N, win0_20.index t 0 = t.val ∧ win0_20.index t 1 = 0 ∧ (cfg0.win 20).flush t = true :=
  (by decide +kernel : ∀ t : Fin grid0.N, _)

theorem point_20 (c : Dev nD) (t : Fin cfg0.N) (r : Fin 512) (l : Fin 128) (h : t.val * 512 + r.val < 32768) :
    out0_20 (iblk m c 0 t) (iblk m c 1 t) (iblk m c 2 t) (iblk m c 3 t) (ix2 r l)
      = (spec20 m c : S32768x128.Idx → EReal) (ix2 ⟨t.val * 512 + r.val, h⟩ l) := by
  refine (block_20 _ _ _ _ r l).trans ?_
  rw [iblk2]
  simp only [iblk0 m c t r h, iblk1 m c t, iblk3 m c t, packW_16, packB_16]
  unfold spec20 narrow
  show _ = if hl : l.val < 24 then _ else 0
  by_cases hl : l.val < 24
  · simp only [dif_pos hl]; rfl
  · simp only [dif_neg hl, mul_zero, Finset.sum_const_zero, add_zero]

theorem flushed_20 (c : Dev nD) (t : Fin cfg0.N) :
    (dats m 0 c).flushed 20 t = ((cfg0.win 20).blk t).view.read (Elt Ideal) (spec20 m c) := by
  rw [Value.flushed20]
  obtain ⟨e0, e1, -⟩ := idx_20 t
  funext y
  have hy0 : (y 0).val < 512 := (y 0).isLt
  have hy1 : (y 1).val < 128 := (y 1).isLt
  have ht : t.val < 64 := t.isLt
  have h : t.val * 512 + (y 0).val < 32768 := by omega
  have hi : ((cfg0.win 20).blk t).view.emb y = (ix2 ⟨t.val * 512 + (y 0).val, h⟩ ⟨(y 1).val, hy1⟩ : S32768x128.Idx) := by
    funext a; apply Fin.ext
    match a with
    | ⟨0, _⟩ => show win0_20.index t (0 : Fin 2) * 512 + 1 * (y 0).val = t.val * 512 + (y 0).val; rw [e0]; omega
    | ⟨1, _⟩ => show win0_20.index t (1 : Fin 2) * 128 + 1 * (y 1).val = (y 1).val; rw [e1]; omega
  have hx : (cfg0.win 20).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_20 (iblk m c 0 t) (iblk m c 1 t) (iblk m c 2 t) (iblk m c 3 t)
      ((cfg0.win 20).xinj (grid0.coords t) y) = spec20 m c (((cfg0.win 20).blk t).view.emb y)
  rw [hx, hi]
  exact point_20 m c t ⟨(y 0).val, hy0⟩ ⟨(y 1).val, hy1⟩ h

theorem cover_20 (i : S32768x128.Idx) : ∃ t : Fin cfg0.N, (cfg0.win 20).flush t = true ∧ i ∈ ((cfg0.win 20).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_20 t
  have e0' : win0_20.index t 0 = (i 0).val / 512 := e0
  refine ⟨t, hf, ?_⟩
  show i ∈ ((View.whole main_v81_16).slice (win0_20.rect t)).set
  rw [View.set_slice_whole, Rect.mem_set_unit]
  intro a
  match a with
  | ⟨0, _⟩ => show win0_20.index t (0 : Fin 2) * 512 ≤ (i 0).val ∧ (i 0).val < win0_20.index t (0 : Fin 2) * 512 + 512
              rw [e0']; omega
  | ⟨1, _⟩ => show win0_20.index t (1 : Fin 2) * 128 ≤ (i 1).val ∧ (i 1).val < win0_20.index t (1 : Fin 2) * 128 + 128
              rw [e1]; omega

theorem final_20 (c : Dev nD) : (dats m 0 c).arrAt 20 cfg0.N = spec20 m c :=
  (dats m 0 c).arrAt_eq_of_cover 20 _ (fun t _ => flushed_20 m c t) (fun i => cover_20 i)

/-- Result 17 as a function of the arguments. -/
abbrev spec21 (c : Dev nD) : Buf (Elt Ideal) ((c : Thread nD τ).loc main_v81_17) :=
  narrow 8 4392 (by omega) (m ((c : Thread nD τ).loc main_arg0)) (m ((c : Thread nD τ).loc main_arg1)) (m ((c : Thread nD τ).loc main_arg2))
    (m ((c : Thread nD τ).loc main_arg3))

theorem idx_21 : ∀ t : Fin cfg0.N, win0_21.index t 0 = t.val ∧ win0_21.index t 1 = 0 ∧ (cfg0.win 21).flush t = true :=
  (by decide +kernel : ∀ t : Fin grid0.N, _)

theorem point_21 (c : Dev nD) (t : Fin cfg0.N) (r : Fin 512) (l : Fin 128) (h : t.val * 512 + r.val < 32768) :
    out0_21 (iblk m c 0 t) (iblk m c 1 t) (iblk m c 2 t) (iblk m c 3 t) (ix2 r l)
      = (spec21 m c : S32768x128.Idx → EReal) (ix2 ⟨t.val * 512 + r.val, h⟩ l) := by
  refine (block_21 _ _ _ _ r l).trans ?_
  rw [iblk2]
  simp only [iblk0 m c t r h, iblk1 m c t, iblk3 m c t, packW_17, packB_17]
  unfold spec21 narrow
  show _ = if hl : l.val < 8 then _ else 0
  by_cases hl : l.val < 8
  · simp only [dif_pos hl]; rfl
  · simp only [dif_neg hl, mul_zero, Finset.sum_const_zero, add_zero]

theorem flushed_21 (c : Dev nD) (t : Fin cfg0.N) :
    (dats m 0 c).flushed 21 t = ((cfg0.win 21).blk t).view.read (Elt Ideal) (spec21 m c) := by
  rw [Value.flushed21]
  obtain ⟨e0, e1, -⟩ := idx_21 t
  funext y
  have hy0 : (y 0).val < 512 := (y 0).isLt
  have hy1 : (y 1).val < 128 := (y 1).isLt
  have ht : t.val < 64 := t.isLt
  have h : t.val * 512 + (y 0).val < 32768 := by omega
  have hi : ((cfg0.win 21).blk t).view.emb y = (ix2 ⟨t.val * 512 + (y 0).val, h⟩ ⟨(y 1).val, hy1⟩ : S32768x128.Idx) := by
    funext a; apply Fin.ext
    match a with
    | ⟨0, _⟩ => show win0_21.index t (0 : Fin 2) * 512 + 1 * (y 0).val = t.val * 512 + (y 0).val; rw [e0]; omega
    | ⟨1, _⟩ => show win0_21.index t (1 : Fin 2) * 128 + 1 * (y 1).val = (y 1).val; rw [e1]; omega
  have hx : (cfg0.win 21).xinj (grid0.coords t) y = (ix2 ⟨(y 0).val, hy0⟩ ⟨(y 1).val, hy1⟩ : S512x128.Idx) := by
    funext a; apply Fin.ext
    match a with
    | ⟨0, _⟩ => rfl
    | ⟨1, _⟩ => rfl
  show out0_21 (iblk m c 0 t) (iblk m c 1 t) (iblk m c 2 t) (iblk m c 3 t)
      ((cfg0.win 21).xinj (grid0.coords t) y) = spec21 m c (((cfg0.win 21).blk t).view.emb y)
  rw [hx, hi]
  exact point_21 m c t ⟨(y 0).val, hy0⟩ ⟨(y 1).val, hy1⟩ h

theorem cover_21 (i : S32768x128.Idx) : ∃ t : Fin cfg0.N, (cfg0.win 21).flush t = true ∧ i ∈ ((cfg0.win 21).blk t).view.set := by
  have h0 : (i 0).val < 32768 := (i 0).isLt
  have h1 : (i 1).val < 128 := (i 1).isLt
  have hN : cfg0.N = 64 := rfl
  let t : Fin cfg0.N := ⟨(i 0).val / 512, by omega⟩
  obtain ⟨e0, e1, hf⟩ := idx_21 t
  have e0' : win0_21.index t 0 = (i 0).val / 512 := e0
  refine ⟨t, hf, ?_⟩
  show i ∈ ((View.whole main_v81_17).slice (win0_21.rect t)).set
  rw [View.set_slice_whole, Rect.mem_set_unit]
  intro a
  match a with
  | ⟨0, _⟩ => show win0_21.index t (0 : Fin 2) * 512 ≤ (i 0).val ∧ (i 0).val < win0_21.index t (0 : Fin 2) * 512 + 512
              rw [e0']; omega
  | ⟨1, _⟩ => show win0_21.index t (1 : Fin 2) * 128 ≤ (i 1).val ∧ (i 1).val < win0_21.index t (1 : Fin 2) * 128 + 128
              rw [e1]; omega

theorem final_21 (c : Dev nD) : (dats m 0 c).arrAt 21 cfg0.N = spec21 m c :=
  (dats m 0 c).arrAt_eq_of_cover 21 _ (fun t _ => flushed_21 m c t) (fun i => cover_21 i)

end Kernel

set_option maxHeartbeats 8000000 in
/-- The two programs leave the same functions of the arguments in their eighteen result arrays. -/
theorem algebraic : Cert.algebraic_Kernel4Ideal_Reference4Ideal := by
  intro m ρ m' ρ' _ hagree
  refine ⟨spec4 m, spec5 m, spec6 m, spec7 m, spec8 m, spec9 m, spec10 m, spec11 m, spec12 m, spec13 m, spec14 m, spec15 m, spec16 m, spec17 m, spec18 m, spec19 m, spec20 m, spec21 m, (θ_run Cert.Kernel4Ideal.defs _ _).mono (fun r h c => ?_)
    (Cert.Kernel4Ideal.Value.run_blocks (F := Ideal) m ρ), ?_⟩
  · obtain ⟨k0, k1, k2, k3, k4, k5, k6, k7, k8, k9, k10, k11, k12, k13, k14, k15, k16, k17, hk⟩ := h c
    exact ⟨k0.trans (final_4 m c), k1.trans (final_5 m c), k2.trans (final_6 m c), k3.trans (final_7 m c), k4.trans (final_8 m c), k5.trans (final_9 m c), k6.trans (final_10 m c), k7.trans (final_11 m c), k8.trans (final_12 m c), k9.trans (final_13 m c), k10.trans (final_14 m c), k11.trans (final_15 m c), k12.trans (final_16 m c), k13.trans (final_17 m c), k14.trans (final_18 m c), k15.trans (final_19 m c), k16.trans (final_20 m c), k17.trans (final_21 m c), hk⟩
  refine (θ_run Cert.Reference4Ideal.defs _ _).mono (fun _ h c => ?_) (Cert.Reference4Ideal.Value.run (F := Ideal) m' ρ')
  obtain ⟨k0, k1, k2, k3, k4, k5, k6, k7, k8, k9, k10, k11, k12, k13, k14, k15, k16, k17, hk⟩ := h c
  obtain ⟨h0, h1, h2, h3⟩ := hagree c
  refine ⟨k0.trans ?_, k1.trans ?_, k2.trans ?_, k3.trans ?_, k4.trans ?_, k5.trans ?_, k6.trans ?_, k7.trans ?_, k8.trans ?_, k9.trans ?_, k10.trans ?_, k11.trans ?_, k12.trans ?_, k13.trans ?_, k14.trans ?_, k15.trans ?_, k16.trans ?_, k17.trans ?_, hk⟩
  · clear k0 k1 k2 k3 k4 k5 k6 k7 k8 k9 k10 k11 k12 k13 k14 k15 k16 k17 hk
    rw [h0, h1, h2, h3]
    funext i
    idx_vars i
    unfold spec4 wide col norm
    pointwise
  · clear k0 k1 k2 k3 k4 k5 k6 k7 k8 k9 k10 k11 k12 k13 k14 k15 k16 k17 hk
    rw [h0, h1, h2, h3]
    funext i
    idx_vars i
    unfold spec5 wide col norm
    pointwise
  · clear k0 k1 k2 k3 k4 k5 k6 k7 k8 k9 k10 k11 k12 k13 k14 k15 k16 k17 hk
    rw [h0, h1, h2, h3]
    funext i
    idx_vars i
    unfold spec6 wide col norm
    pointwise
  · clear k0 k1 k2 k3 k4 k5 k6 k7 k8 k9 k10 k11 k12 k13 k14 k15 k16 k17 hk
    rw [h0, h1, h2, h3]
    funext i
    idx_vars i
    unfold spec7 wide col norm
    pointwise
  · clear k0 k1 k2 k3 k4 k5 k6 k7 k8 k9 k10 k11 k12 k13 k14 k15 k16 k17 hk
    rw [h0, h1, h2, h3]
    funext i
    idx_vars i
    unfold spec8 wide col norm
    pointwise
  · clear k0 k1 k2 k3 k4 k5 k6 k7 k8 k9 k10 k11 k12 k13 k14 k15 k16 k17 hk
    rw [h0, h1, h2, h3]
    funext i
    idx_vars i
    unfold spec9 wide col norm
    pointwise
  · clear k0 k1 k2 k3 k4 k5 k6 k7 k8 k9 k10 k11 k12 k13 k14 k15 k16 k17 hk
    rw [h0, h1, h2, h3]
    funext i
    idx_vars i
    unfold spec10 wide col norm
    pointwise
  · clear k0 k1 k2 k3 k4 k5 k6 k7 k8 k9 k10 k11 k12 k13 k14 k15 k16 k17 hk
    rw [h0, h1, h2, h3]
    funext i
    idx_vars i
    unfold spec11 wide col norm
    pointwise
  · clear k0 k1 k2 k3 k4 k5 k6 k7 k8 k9 k10 k11 k12 k13 k14 k15 k16 k17 hk
    rw [h0, h1, h2, h3]
    funext i
    idx_vars i
    unfold spec12 wide col norm
    pointwise
  · clear k0 k1 k2 k3 k4 k5 k6 k7 k8 k9 k10 k11 k12 k13 k14 k15 k16 k17 hk
    rw [h0, h1, h2, h3]
    funext i
    idx_vars i
    unfold spec13 narrow col norm
    pointwise
    exact dite_congr rfl (fun _ => rfl) (fun _ => zero_apply (fun a => Fin.elim0 a))
  · clear k0 k1 k2 k3 k4 k5 k6 k7 k8 k9 k10 k11 k12 k13 k14 k15 k16 k17 hk
    rw [h0, h1, h2, h3]
    funext i
    idx_vars i
    unfold spec14 wide col norm
    pointwise
  · clear k0 k1 k2 k3 k4 k5 k6 k7 k8 k9 k10 k11 k12 k13 k14 k15 k16 k17 hk
    rw [h0, h1, h2, h3]
    funext i
    idx_vars i
    unfold spec15 wide col norm
    pointwise
  · clear k0 k1 k2 k3 k4 k5 k6 k7 k8 k9 k10 k11 k12 k13 k14 k15 k16 k17 hk
    rw [h0, h1, h2, h3]
    funext i
    idx_vars i
    unfold spec16 wide col norm
    pointwise
  · clear k0 k1 k2 k3 k4 k5 k6 k7 k8 k9 k10 k11 k12 k13 k14 k15 k16 k17 hk
    rw [h0, h1, h2, h3]
    funext i
    idx_vars i
    unfold spec17 wide col norm
    pointwise
  · clear k0 k1 k2 k3 k4 k5 k6 k7 k8 k9 k10 k11 k12 k13 k14 k15 k16 k17 hk
    rw [h0, h1, h2, h3]
    funext i
    idx_vars i
    unfold spec18 wide col norm
    pointwise
  · clear k0 k1 k2 k3 k4 k5 k6 k7 k8 k9 k10 k11 k12 k13 k14 k15 k16 k17 hk
    rw [h0, h1, h2, h3]
    funext i
    idx_vars i
    unfold spec19 wide col norm
    pointwise
  · clear k0 k1 k2 k3 k4 k5 k6 k7 k8 k9 k10 k11 k12 k13 k14 k15 k16 k17 hk
    rw [h0, h1, h2, h3]
    funext i
    idx_vars i
    unfold spec20 narrow col norm
    pointwise
    exact dite_congr rfl (fun _ => rfl) (fun _ => zero_apply (fun a => Fin.elim0 a))
  · clear k0 k1 k2 k3 k4 k5 k6 k7 k8 k9 k10 k11 k12 k13 k14 k15 k16 k17 hk
    rw [h0, h1, h2, h3]
    funext i
    idx_vars i
    unfold spec21 narrow col norm
    pointwise
    exact dite_congr rfl (fun _ => rfl) (fun _ => zero_apply (fun a => Fin.elim0 a))

end Cert.Proj

end
-- ==== Proof.CompBase.lean ====
/- The compression of keys and values over real numbers: blocks of 32 positions overlapping by 16, a two-layer map of each, and the
   sums that the block-diagonal weights leave. -/
module

public import proofs.«01_k».proof.Proof.Grid
public import proofs.«01_k».proof.Proof.Gen.Reference5Ideal.Run
public import Idealize.ShloMosaic.Lib.Pointwise

@[expose] public section
noncomputable section
namespace Cert.Comp
open Idealize.ShloMosaic Idealize.ShloMosaic.TcCoe Idealize.SL.Sem
open Cert.Mlstm (Fin')

/-- A three-axis array's element as a real number. -/
def at3 {a b c : ℕ} (A : (⟨3, ![a, b, c]⟩ : Shape).Idx → EReal) (i j k : ℕ) : ℝ :=
  if h : i < a ∧ j < b ∧ k < c then (A (ix3 ⟨i, h.1⟩ ⟨j, h.2.1⟩ ⟨k, h.2.2⟩)).toReal else 0

theorem at3_coe {a b c : ℕ} {A : (⟨3, ![a, b, c]⟩ : Shape).Idx → EReal} (hA : Fin' A) (i : Fin a) (j : Fin b) (k : Fin c) :
    A (ix3 i j k) = (at3 A i.val j.val k.val : EReal) := by
  unfold at3
  rw [dif_pos ⟨i.isLt, j.isLt, k.isLt⟩, EReal.coe_toReal (hA _).1 (hA _).2]

theorem bits_half : Ideal.ofBits FTy.f32 0x3F000000#32 = ((1 / 2 : ℝ) : EReal) := by
  simp [Ideal.ofBits, Ideal.ieee]; norm_cast; norm_num
theorem bits_one : Ideal.ofBits FTy.f32 0x3F800000#32 = ((1 : ℝ) : EReal) := by
  simp [Ideal.ofBits, Ideal.ieee]; norm_cast; norm_num
theorem bits_64 : Ideal.ofBits FTy.f32 0x42800000#32 = ((64 : ℝ) : EReal) := by
  simp [Ideal.ofBits, Ideal.ieee]; norm_cast; norm_num
theorem bits_64th : Ideal.ofBits FTy.f32 0x3C800000#32 = ((1 / 64 : ℝ) : EReal) := by
  simp [Ideal.ofBits, Ideal.ieee]; norm_cast; norm_num

/-- The two constants of the activation. -/
def k1 : ℝ := (Ideal.ofBits FTy.f32 0x3F4C422A#32).toReal
def k2 : ℝ := (Ideal.ofBits FTy.f32 0x3D372713#32).toReal

theorem bits_k1 : Ideal.ofBits FTy.f32 0x3F4C422A#32 = (k1 : EReal) := by
  unfold k1; rw [EReal.coe_toReal] <;> (simp [Ideal.ofBits, Ideal.ieee]; norm_cast; try exact EReal.coe_ne_top _)
theorem bits_k2 : Ideal.ofBits FTy.f32 0x3D372713#32 = (k2 : EReal) := by
  unfold k2; rw [EReal.coe_toReal] <;> (simp [Ideal.ofBits, Ideal.ieee]; norm_cast; try exact EReal.coe_ne_top _)

/-- The activation. -/
def gelu (x : ℝ) : ℝ := 1 / 2 * x * (1 + Real.tanh (k1 * (x + k2 * x * x * x)))

/-- The hidden layer of block `n` of group `g`: the block's 16 positions and the 16 that follow, each with its offset. -/
def hid (x p : ℕ → ℕ → ℝ) (w : ℕ → ℕ → ℝ) (n g h : ℕ) : ℝ :=
  ∑ e : Fin 1024, (x (16 * n + e.val / 64) (64 * g + e.val % 64) + p (e.val / 64) (e.val % 64)) * w e.val h
    + ∑ e : Fin 1024, (x (16 * ((n + 1) % 1024) + e.val / 64) (64 * g + e.val % 64) + p (16 + e.val / 64) (e.val % 64)) * w (1024 + e.val) h

/-- The compressed block. -/
def cmp (x p w v : ℕ → ℕ → ℝ) (n g d : ℕ) : ℝ := ∑ h : Fin 256, gelu (hid x p w n g h.val) * v h.val d

/-- A sum over 2048 lanes of which only those of group `g` count is a sum over the group's 1024 lanes. -/
theorem group_sum (g : ℕ) (hg : g < 2) (F : ℕ → ℝ) :
    (∑ c : Fin 2048, if c.val / 64 % 2 = g then F (c.val / 128 * 64 + c.val % 64) else 0) = ∑ e : Fin 1024, F e.val := by
  rw [← Finset.sum_filter]
  refine Finset.sum_bij' (fun c _ => (⟨c.val / 128 * 64 + c.val % 64, by omega⟩ : Fin 1024))
    (fun e _ => (⟨e.val / 64 * 128 + 64 * g + e.val % 64, by omega⟩ : Fin 2048)) ?_ ?_ ?_ ?_ ?_
  · intro c _; exact Finset.mem_univ _
  · intro e _; exact Finset.mem_filter.2 ⟨Finset.mem_univ _, by show (e.val / 64 * 128 + 64 * g + e.val % 64) / 64 % 2 = g; omega⟩
  · intro c hc
    have := (Finset.mem_filter.1 hc).2
    apply Fin.ext
    show (c.val / 128 * 64 + c.val % 64) / 64 * 128 + 64 * g + (c.val / 128 * 64 + c.val % 64) % 64 = c.val
    omega
  · intro e _
    apply Fin.ext
    show (e.val / 64 * 128 + 64 * g + e.val % 64) / 128 * 64 + (e.val / 64 * 128 + 64 * g + e.val % 64) % 64 = e.val
    omega
  · intro c _; rfl

/-- The same for the hidden lanes. -/
theorem group_sum2 (g : ℕ) (hg : g < 2) (F : ℕ → ℝ) :
    (∑ y : Fin 512, if y.val / 256 = g then F (y.val % 256) else 0) = ∑ h : Fin 256, F h.val := by
  rw [← Finset.sum_filter]
  refine Finset.sum_bij' (fun c _ => (⟨c.val % 256, by omega⟩ : Fin 256)) (fun e _ => (⟨256 * g + e.val, by omega⟩ : Fin 512)) ?_ ?_ ?_ ?_ ?_
  · intro c _; exact Finset.mem_univ _
  · intro e _; exact Finset.mem_filter.2 ⟨Finset.mem_univ _, by show (256 * g + e.val) / 256 = g; omega⟩
  · intro c hc
    have := (Finset.mem_filter.1 hc).2
    apply Fin.ext
    show 256 * g + c.val % 256 = c.val
    omega
  · intro e _
    apply Fin.ext
    show (256 * g + e.val) % 256 = e.val
    omega
  · intro c _; rfl

/-- The same for the 128 lanes of the norm. -/
theorem group_sum3 (g : ℕ) (hg : g < 2) (F : ℕ → ℝ) :
    (∑ y : Fin 128, if y.val / 64 = g then F (y.val % 64) else 0) = ∑ h : Fin 64, F h.val := by
  rw [← Finset.sum_filter]
  refine Finset.sum_bij' (fun c _ => (⟨c.val % 64, by omega⟩ : Fin 64)) (fun e _ => (⟨64 * g + e.val, by omega⟩ : Fin 128)) ?_ ?_ ?_ ?_ ?_
  · intro c _; exact Finset.mem_univ _
  · intro e _; exact Finset.mem_filter.2 ⟨Finset.mem_univ _, by show (64 * g + e.val) / 64 = g; omega⟩
  · intro c hc
    have := (Finset.mem_filter.1 hc).2
    apply Fin.ext
    show 64 * g + c.val % 64 = c.val
    omega
  · intro e _
    apply Fin.ext
    show (64 * g + e.val) % 64 = e.val
    omega
  · intro c _; rfl

/-- A sum over the 2048 positions and columns of a block, in two halves. -/
theorem halves (F : ℕ → ℝ) : ∑ c : Fin 2048, F c.val = ∑ e : Fin 1024, F e.val + ∑ e : Fin 1024, F (1024 + e.val) :=
  Fin.sum_univ_add (a := 1024) (b := 1024) (fun c => F c.val)

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

/-- The normalised row: the row over the root of its mean square, scaled. -/
def nrm (u : ℕ → ℝ) (G : ℕ → EReal) (d : ℕ) : EReal :=
  (u d : EReal) * Ideal.rsqrt (((1 / 64 * ∑ e : Fin 64, u e.val * u e.val : ℝ) : EReal) + Ideal.ofBits FTy.f32 0x358637BD#32) * G d

/-- The rotation of a row by its angles: pair `d`, `d + 32`. -/
def rot (N A : ℕ → EReal) (d : ℕ) : EReal :=
  if d < 32 then N d * Ideal.cos (A d) - N (d + 32) * Ideal.sin (A d) else N (d - 32) * Ideal.sin (A (d - 32)) + N d * Ideal.cos (A (d - 32))

/-- A vector's entry, zero past its end. -/
def at1 {a : ℕ} (G : (⟨1, ![a]⟩ : Shape).Idx → EReal) (d : ℕ) : EReal := if h : d < a then G (ix1 ⟨d, h⟩) else 0
theorem at1_eq {a : ℕ} (G : (⟨1, ![a]⟩ : Shape).Idx → EReal) (d : Fin a) : G (ix1 d) = at1 G d.val := by
  unfold at1; rw [dif_pos d.isLt]
/-- A matrix's entry, zero past its ends. -/
def at2 {a b : ℕ} (A : (⟨2, ![a, b]⟩ : Shape).Idx → EReal) (n d : ℕ) : EReal := if h : n < a ∧ d < b then A (ix2 ⟨n, h.1⟩ ⟨d, h.2⟩) else 0
theorem at2_eq {a b : ℕ} (A : (⟨2, ![a, b]⟩ : Shape).Idx → EReal) (n : Fin a) (d : Fin b) : A (ix2 n d) = at2 A n.val d.val := by
  unfold at2; rw [dif_pos ⟨n.isLt, d.isLt⟩]

open Cert.Reference5Ideal Cert.Reference5Ideal.Gen in
/-- The angles: the position of each block's end times the frequencies. -/
def ang : (⟨2, ![1024, 32]⟩ : Shape).Idx → EReal :=
  (mulf (broadcastInDim S1024x32 ![0, 1] bcast_S1024x1_S1024x32_0_1 (broadcastInDim S1024x1 ![0] bcast_S1024_S1024x1_0 (sitofp .f32 (subi (addi (muli (iotaInDim S1024 32 0) (broadcastInDim S1024 ![] bcast_S_S1024 (constantI S_ 32 16#32))) (broadcastInDim S1024 ![] bcast_S_S1024 (constantI S_ 32 32#32))) (broadcastInDim S1024 ![] bcast_S_S1024 (constantI S_ 32 1#32)))))) (broadcastInDim S1024x32 ![0, 1] bcast_S1x32_S1024x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))) : FVec Ideal S1024x32 .f32)

/-- The compressed keys: normalised and rotated. -/
def keys (X : (⟨3, ![2, 16384, 128]⟩ : Shape).Idx → EReal) (G : (⟨1, ![64]⟩ : Shape).Idx → EReal) (P : (⟨3, ![2, 32, 64]⟩ : Shape).Idx → EReal)
    (W : (⟨3, ![2, 2048, 256]⟩ : Shape).Idx → EReal) (V : (⟨3, ![2, 256, 64]⟩ : Shape).Idx → EReal) : (⟨3, ![2, 1024, 128]⟩ : Shape).Idx → EReal := fun i =>
  rot (nrm (cmp (at3 X (i 0).val) (at3 P 0) (at3 W 0) (at3 V 0) (i 1).val ((i 2).val / 64)) (at1 G)) (at2 ang (i 1).val) ((i 2).val % 64)

/-- The compressed values, a block's columns down. -/
def vals (X : (⟨3, ![2, 16384, 128]⟩ : Shape).Idx → EReal) (P : (⟨3, ![2, 32, 64]⟩ : Shape).Idx → EReal)
    (W : (⟨3, ![2, 2048, 256]⟩ : Shape).Idx → EReal) (V : (⟨3, ![2, 256, 64]⟩ : Shape).Idx → EReal) : (⟨4, ![2, 2, 64, 1024]⟩ : Shape).Idx → EReal := fun i =>
  (cmp (at3 X (i 0).val) (at3 P 1) (at3 W 1) (at3 V 1) (i 3).val (i 1).val (i 2).val : EReal)

end Cert.Comp
end
-- ==== Proof.CompRef.lean ====
/- The reference's compression, entry by entry: over real arguments its hidden layer, compressed blocks and normalised rows are those of
   the real sums. -/
module

public import proofs.«01_k».proof.Proof.CompBase

@[expose] public section
set_option maxRecDepth 16384
noncomputable section
namespace Cert.Comp
open Idealize.ShloMosaic Idealize.ShloMosaic.TcCoe Idealize.SL.Sem
open Cert.Mlstm (Fin')
namespace Ref
open Cert.Reference5Ideal Cert.Reference5Ideal.Gen Cert.Reference5Ideal.Value

/-- The positions by block. -/
def tb (X : S2x16384x128.Idx → EReal) : S2x1024x16x2x64.Idx → EReal := shapeCast _ X shapeCasts_S2x16384x128_S2x1024x16x2x64
theorem tb_apply (X : S2x16384x128.Idx → EReal) (b : Fin 2) (n : Fin 1024) (e : Fin 16) (g : Fin 2) (d : Fin 64) :
    tb X (ix5 b n e g d) = X (ix3 b ⟨16 * n.val + e.val, by omega⟩ ⟨64 * g.val + d.val, by omega⟩) := by
  unfold tb
  refine shapeCast_apply _ _ _ _ ?_
  rw [Shape.rowMajor_val_three, Shape.rowMajor_val_five]
  show (b.val * 16384 + (16 * n.val + e.val)) * 128 + (64 * g.val + d.val) = (((b.val * 1024 + n.val) * 16 + e.val) * 2 + g.val) * 64 + d.val
  omega

/-- Each block's successor, the last block's being the first. -/
def catB (T : S2x1024x16x2x64.Idx → EReal) : S2x1024x16x2x64.Idx → EReal :=
  concatenate S2x1024x16x2x64 1 [⟨S2x1023x16x2x64, (extractStridedSlice S2x1023x16x2x64 ![0, 1, 0, 0, 0] T slices_S2x1024x16x2x64_S2x1023x16x2x64_0_1_0_0_0)⟩, ⟨S2x1x16x2x64, (extractStridedSlice S2x1x16x2x64 ![0, 0, 0, 0, 0] T slices_S2x1024x16x2x64_S2x1x16x2x64_0_0_0_0_0)⟩] concatenates_S2x1023x16x2x64_S2x1x16x2x64_S2x1024x16x2x64_d1
theorem catB_apply (T : S2x1024x16x2x64.Idx → EReal) (b : Fin 2) (n : Fin 1024) (e : Fin 16) (g : Fin 2) (d : Fin 64) :
    catB T (ix5 b n e g d) = T (ix5 b ⟨(n.val + 1) % 1024, by omega⟩ e g d) := by
  by_cases hn : n.val < 1023
  · have hi : (⟨(n.val + 1) % 1024, by omega⟩ : Fin 1024) = ⟨1 + n.val, by omega⟩ := Fin.ext (by show (n.val + 1) % 1024 = 1 + n.val; omega)
    rw [hi]
    have : ∀ k : Fin 1023, catB T (ix5 b ⟨k.val, by omega⟩ e g d) = T (ix5 b ⟨1 + k.val, by omega⟩ e g d) := fun k => by
      unfold catB
      pointwise
    exact this ⟨n.val, hn⟩
  · have hi : (⟨(n.val + 1) % 1024, by omega⟩ : Fin 1024) = ⟨0, by omega⟩ := Fin.ext (by show (n.val + 1) % 1024 = 0; omega)
    have hj : n = ⟨1023, by omega⟩ := Fin.ext (by show n.val = 1023; omega)
    rw [hi, hj]
    unfold catB
    pointwise

/-- A block of 32 positions. -/
def catA (T U : S2x1024x16x2x64.Idx → EReal) : S2x1024x32x2x64.Idx → EReal :=
  concatenate S2x1024x32x2x64 2 [⟨S2x1024x16x2x64, T⟩, ⟨S2x1024x16x2x64, U⟩] concatenates_S2x1024x16x2x64_S2x1024x16x2x64_S2x1024x32x2x64_d2
theorem catA0 (T U : S2x1024x16x2x64.Idx → EReal) (b : Fin 2) (n : Fin 1024) (e : Fin 16) (g : Fin 2) (d : Fin 64) :
    catA T U (ix5 b n ⟨e.val, by omega⟩ g d) = T (ix5 b n e g d) := by
  unfold catA
  pointwise
theorem catA1 (T U : S2x1024x16x2x64.Idx → EReal) (b : Fin 2) (n : Fin 1024) (e : Fin 16) (g : Fin 2) (d : Fin 64) :
    catA T U (ix5 b n ⟨16 + e.val, by omega⟩ g d) = U (ix5 b n e g d) := by
  unfold catA
  pointwise

/-- The blocks with their offsets, each group's positions and columns in one row. -/
def flat (C : S2x1024x32x2x64.Idx → EReal) (P : S32x64.Idx → EReal) : S2x1024x2x2048.Idx → EReal :=
  shapeCast S2x1024x2x2048 (transpose S2x1024x2x32x64 [0, 1, 3, 2, 4] (addf (F := Ideal) (φ := .f32) C (broadcastInDim S2x1024x32x2x64 ![0, 1, 2, 3, 4] bcast_S1x1x32x1x64_S2x1024x32x2x64_0_1_2_3_4 (broadcastInDim S1x1x32x1x64 ![2, 4] bcast_S32x64_S1x1x32x1x64_2_4 P))) transposes_S2x1024x32x2x64_S2x1024x2x32x64_0_1_3_2_4) shapeCasts_S2x1024x2x32x64_S2x1024x2x2048
theorem flat_apply (C : S2x1024x32x2x64.Idx → EReal) (P : S32x64.Idx → EReal) (b : Fin 2) (n : Fin 1024) (g : Fin 2) (c : Fin 2048) :
    flat C P (ix4 b n g c) = C (ix5 b n ⟨c.val / 64, by omega⟩ g ⟨c.val % 64, by omega⟩) + P (ix2 ⟨c.val / 64, by omega⟩ ⟨c.val % 64, by omega⟩) := by
  unfold flat
  refine (shapeCast_apply _ _ _ (ix5 b n g ⟨c.val / 64, by omega⟩ ⟨c.val % 64, by omega⟩) ?_).trans ?_
  · rw [Shape.rowMajor_val_five, Shape.rowMajor_val_four]
    show (((b.val * 1024 + n.val) * 2 + g.val) * 32 + c.val / 64) * 64 + c.val % 64 = ((b.val * 1024 + n.val) * 2 + g.val) * 2048 + c.val
    omega
  · pointwise

theorem dot1 (A : S2x1024x2x2048.Idx → EReal) (W : S2048x256.Idx → EReal) (b : Fin 2) (n : Fin 1024) (g : Fin 2) (h : Fin 256) :
    Host.dotGeneral (F := Ideal) (φ₁ := .f32) (φ₂ := .f32) dot_S2x1024x2x2048_S2048x256_S2x1024x2x256_3_0_012_1_n_n none A W (ix4 b n g h) = ∑ c, A (ix4 b n g c) * W (ix2 c h) := by
  pointwise
theorem dot2 (A : S2x1024x2x256.Idx → EReal) (W : S256x64.Idx → EReal) (b : Fin 2) (n : Fin 1024) (g : Fin 2) (d : Fin 64) :
    Host.dotGeneral (F := Ideal) (φ₁ := .f32) (φ₂ := .f32) dot_S2x1024x2x256_S256x64_S2x1024x2x64_3_0_012_1_n_n none A W (ix4 b n g d) = ∑ c, A (ix4 b n g c) * W (ix2 c d) := by
  pointwise

theorem pe0 (P : S2x32x64.Idx → EReal) (e : Fin 32) (d : Fin 64) : (shapeCast S32x64 (extractStridedSlice S1x32x64 ![0, 0, 0] P slices_S2x32x64_S1x32x64_0_0_0) shapeCasts_S1x32x64_S32x64) (ix2 e d) = P (ix3 0 e d) := by pointwise
theorem pe1 (P : S2x32x64.Idx → EReal) (e : Fin 32) (d : Fin 64) : (shapeCast S32x64 (extractStridedSlice S1x32x64 ![1, 0, 0] P slices_S2x32x64_S1x32x64_1_0_0) shapeCasts_S1x32x64_S32x64) (ix2 e d) = P (ix3 1 e d) := by pointwise
theorem w10 (P : S2x2048x256.Idx → EReal) (e : Fin 2048) (d : Fin 256) : (shapeCast S2048x256 (extractStridedSlice S1x2048x256 ![0, 0, 0] P slices_S2x2048x256_S1x2048x256_0_0_0) shapeCasts_S1x2048x256_S2048x256) (ix2 e d) = P (ix3 0 e d) := by pointwise
theorem w11 (P : S2x2048x256.Idx → EReal) (e : Fin 2048) (d : Fin 256) : (shapeCast S2048x256 (extractStridedSlice S1x2048x256 ![1, 0, 0] P slices_S2x2048x256_S1x2048x256_1_0_0) shapeCasts_S1x2048x256_S2048x256) (ix2 e d) = P (ix3 1 e d) := by pointwise
theorem w20 (P : S2x256x64.Idx → EReal) (e : Fin 256) (d : Fin 64) : (shapeCast S256x64 (extractStridedSlice S1x256x64 ![0, 0, 0] P slices_S2x256x64_S1x256x64_0_0_0) shapeCasts_S1x256x64_S256x64) (ix2 e d) = P (ix3 0 e d) := by pointwise
theorem w21 (P : S2x256x64.Idx → EReal) (e : Fin 256) (d : Fin 64) : (shapeCast S256x64 (extractStridedSlice S1x256x64 ![1, 0, 0] P slices_S2x256x64_S1x256x64_1_0_0) shapeCasts_S1x256x64_S256x64) (ix2 e d) = P (ix3 1 e d) := by pointwise

/-- The hidden layer over real arguments. -/
theorem hid_eq (X : S2x16384x128.Idx → EReal) (hX : Fin' X) (P : S32x64.Idx → EReal) (W : S2048x256.Idx → EReal) (p w : ℕ → ℕ → ℝ)
    (hP : ∀ (e : Fin 32) (d : Fin 64), P (ix2 e d) = (p e.val d.val : EReal)) (hW : ∀ (e : Fin 2048) (d : Fin 256), W (ix2 e d) = (w e.val d.val : EReal))
    (b : Fin 2) (n : Fin 1024) (g : Fin 2) (h : Fin 256) :
    Host.dotGeneral (F := Ideal) (φ₁ := .f32) (φ₂ := .f32) dot_S2x1024x2x2048_S2048x256_S2x1024x2x256_3_0_012_1_n_n none (flat (catA (tb X) (catB (tb X))) P) W (ix4 b n g h)
      = (hid (at3 X b.val) p w n.val g.val h.val : EReal) := by
  rw [dot1]
  have hA : ∀ c : Fin 2048, flat (catA (tb X) (catB (tb X))) P (ix4 b n g c) * W (ix2 c h)
      = (((at3 X b.val (if c.val < 1024 then 16 * n.val + c.val / 64 else 16 * ((n.val + 1) % 1024) + (c.val - 1024) / 64) (64 * g.val + c.val % 64) + p (c.val / 64) (c.val % 64)) * w c.val h.val : ℝ) : EReal) := fun c => by
    rw [flat_apply, hP, hW, EReal.coe_mul, EReal.coe_add]
    congr 2
    by_cases hc : c.val < 1024
    · rw [if_pos hc]
      have hi : (⟨c.val / 64, by omega⟩ : Fin 32) = ⟨(⟨c.val / 64, by omega⟩ : Fin 16).val, by show c.val / 64 < 32; omega⟩ := rfl
      rw [hi, catA0, tb_apply, at3_coe hX]
    · rw [if_neg hc]
      have hi : (⟨c.val / 64, by omega⟩ : Fin 32) = ⟨16 + (⟨(c.val - 1024) / 64, by omega⟩ : Fin 16).val, by show 16 + (c.val - 1024) / 64 < 32; omega⟩ := Fin.ext (by show c.val / 64 = 16 + (c.val - 1024) / 64; omega)
      rw [hi, catA1, catB_apply, tb_apply, at3_coe hX]
  rw [Finset.sum_congr rfl fun c _ => hA c, coe_sum]
  unfold hid
  congr 1
  refine (halves (fun c => (at3 X b.val (if c < 1024 then 16 * n.val + c / 64 else 16 * ((n.val + 1) % 1024) + (c - 1024) / 64) (64 * g.val + c % 64) + p (c / 64) (c % 64)) * w c h.val)).trans ?_
  refine congrArg₂ (· + ·) (Finset.sum_congr rfl fun e _ => ?_) (Finset.sum_congr rfl fun e _ => ?_)
  · show (at3 X b.val (if e.val < 1024 then _ else _) _ + _) * _ = _
    rw [if_pos e.isLt]
  · have h1 : (1024 + e.val) / 64 = 16 + e.val / 64 := by omega
    have h2 : (1024 + e.val) % 64 = e.val % 64 := by omega
    show (at3 X b.val (if 1024 + e.val < 1024 then _ else _) _ + _) * _ = _
    rw [if_neg (by omega), Nat.add_sub_cancel_left, h1, h2]

/-- The compressed blocks over a real hidden layer. -/
theorem cmp_eq (H : S2x1024x2x256.Idx → EReal) (W : S256x64.Idx → EReal) (hh : Fin 2 → Fin 1024 → Fin 2 → Fin 256 → ℝ) (v : ℕ → ℕ → ℝ)
    (hH : ∀ b n g h, H (ix4 b n g h) = (hh b n g h : EReal)) (hW : ∀ (e : Fin 256) (d : Fin 64), W (ix2 e d) = (v e.val d.val : EReal))
    (b : Fin 2) (n : Fin 1024) (g : Fin 2) (d : Fin 64) :
    Host.dotGeneral (F := Ideal) (φ₁ := .f32) (φ₂ := .f32) dot_S2x1024x2x256_S256x64_S2x1024x2x64_3_0_012_1_n_n none (mulf (F := Ideal) (φ := .f32) H (mulf (broadcastInDim S2x1024x2x256 ![] bcast_S_S2x1024x2x256 (constant S_ .f32 0x3F000000#32)) (addf (broadcastInDim S2x1024x2x256 ![] bcast_S_S2x1024x2x256 (constant S_ .f32 0x3F800000#32)) (Host.tanh (mulf (broadcastInDim S2x1024x2x256 ![] bcast_S_S2x1024x2x256 (constant S_ .f32 0x3F4C422A#32)) (addf H (mulf (broadcastInDim S2x1024x2x256 ![] bcast_S_S2x1024x2x256 (constant S_ .f32 0x3D372713#32)) (mulf (mulf H H) H)))))))) W (ix4 b n g d)
      = ((∑ h, gelu (hh b n g h) * v h.val d.val : ℝ) : EReal) := by
  rw [dot2, ← coe_sum]
  refine Finset.sum_congr rfl fun h _ => ?_
  rw [hW, EReal.coe_mul]
  congr 1
  pointwise
  rw [hH, bits_half, bits_k1, bits_k2, ← EReal.coe_one]
  simp only [← EReal.coe_mul, ← EReal.coe_add, Ideal.tanh_coe]
  norm_cast
  unfold gelu
  rw [show k1 * (hh b n g h + k2 * hh b n g h * hh b n g h * hh b n g h) = k1 * (hh b n g h + k2 * (hh b n g h * hh b n g h * hh b n g h)) by ring]
  ring

/-- The normalised rows over real compressed blocks. -/
theorem nrm_eq (K : S2x1024x2x64.Idx → EReal) (G : S64.Idx → EReal) (u : Fin 2 → Fin 1024 → Fin 2 → ℕ → ℝ)
    (hK : ∀ b n g (d : Fin 64), K (ix4 b n g d) = (u b n g d.val : EReal)) (Gn : ℕ → EReal) (hG : ∀ d : Fin 64, G (ix1 d) = Gn d.val)
    (b : Fin 2) (n : Fin 1024) (g : Fin 2) (d : Fin 64) :
    mulf (F := Ideal) (φ := .f32) (mulf K (broadcastInDim S2x1024x2x64 ![0, 1, 2, 3] bcast_S2x1024x2x1_S2x1024x2x64_0_1_2_3 (Host.rsqrt (addf (Host.divf (broadcastInDim S2x1024x2x1 ![0, 1, 2] bcast_S2x1024x2_S2x1024x2x1_0_1_2 (Host.reduceAdd (mulf K K) (constant S_ .f32 0x00000000#32) reducesTo_S2x1024x2x64_S2x1024x2_d3 h_S_)) (broadcastInDim S2x1024x2x1 ![] bcast_S_S2x1024x2x1 (constant S_ .f32 0x42800000#32))) (broadcastInDim S2x1024x2x1 ![] bcast_S_S2x1024x2x1 (constant S_ .f32 0x358637BD#32)))))) (broadcastInDim S2x1024x2x64 ![0, 1, 2, 3] bcast_S1x1x1x64_S2x1024x2x64_0_1_2_3 (broadcastInDim S1x1x1x64 ![3] bcast_S64_S1x1x1x64_3 G)) (ix4 b n g d)
      = nrm (u b n g) Gn d.val := by
  pointwise
  simp only [hK, hG, ← EReal.coe_mul, coe_sum, bits_64]
  unfold nrm
  rw [show Ideal.div ((∑ e : Fin 64, u b n g e.val * u b n g e.val : ℝ) : EReal) ((64 : ℝ) : EReal) = ((1 / 64 * ∑ e : Fin 64, u b n g e.val * u b n g e.val : ℝ) : EReal) from by
    rw [Ideal.div_coe (by norm_num), ← EReal.coe_mul]; congr 1; ring]

/-- A row's halves, side by side. -/
def cat2 (T U : S2x1024x2x32.Idx → EReal) : S2x1024x2x64.Idx → EReal :=
  concatenate S2x1024x2x64 3 [⟨S2x1024x2x32, T⟩, ⟨S2x1024x2x32, U⟩] concatenates_S2x1024x2x32_S2x1024x2x32_S2x1024x2x64_d3
theorem cat20 (T U : S2x1024x2x32.Idx → EReal) (b : Fin 2) (n : Fin 1024) (g : Fin 2) (d : Fin 32) : cat2 T U (ix4 b n g ⟨d.val, by omega⟩) = T (ix4 b n g d) := by
  unfold cat2
  pointwise
theorem cat21 (T U : S2x1024x2x32.Idx → EReal) (b : Fin 2) (n : Fin 1024) (g : Fin 2) (d : Fin 32) : cat2 T U (ix4 b n g ⟨32 + d.val, by omega⟩) = U (ix4 b n g d) := by
  unfold cat2
  pointwise

def lo (N : FVec Ideal S2x1024x2x64 .f32) (A : FVec Ideal S1024x32 .f32) : FVec Ideal S2x1024x2x32 .f32 :=
  subf (mulf (extractStridedSlice S2x1024x2x32 ![0, 0, 0, 0] N slices_S2x1024x2x64_S2x1024x2x32_0_0_0_0) (broadcastInDim S2x1024x2x32 ![0, 1, 2, 3] bcast_S1x1024x1x32_S2x1024x2x32_0_1_2_3 (broadcastInDim S1x1024x1x32 ![1, 2, 3] bcast_S1024x1x32_S1x1024x1x32_1_2_3 (broadcastInDim S1024x1x32 ![0, 2] bcast_S1024x32_S1024x1x32_0_2 (Host.cos A))))) (mulf (extractStridedSlice S2x1024x2x32 ![0, 0, 0, 32] N slices_S2x1024x2x64_S2x1024x2x32_0_0_0_32) (broadcastInDim S2x1024x2x32 ![0, 1, 2, 3] bcast_S1x1024x1x32_S2x1024x2x32_0_1_2_3 (broadcastInDim S1x1024x1x32 ![1, 2, 3] bcast_S1024x1x32_S1x1024x1x32_1_2_3 (broadcastInDim S1024x1x32 ![0, 2] bcast_S1024x32_S1024x1x32_0_2 (Host.sin A)))))
def hi (N : FVec Ideal S2x1024x2x64 .f32) (A : FVec Ideal S1024x32 .f32) : FVec Ideal S2x1024x2x32 .f32 :=
  addf (mulf (extractStridedSlice S2x1024x2x32 ![0, 0, 0, 0] N slices_S2x1024x2x64_S2x1024x2x32_0_0_0_0) (broadcastInDim S2x1024x2x32 ![0, 1, 2, 3] bcast_S1x1024x1x32_S2x1024x2x32_0_1_2_3 (broadcastInDim S1x1024x1x32 ![1, 2, 3] bcast_S1024x1x32_S1x1024x1x32_1_2_3 (broadcastInDim S1024x1x32 ![0, 2] bcast_S1024x32_S1024x1x32_0_2 (Host.sin A))))) (mulf (extractStridedSlice S2x1024x2x32 ![0, 0, 0, 32] N slices_S2x1024x2x64_S2x1024x2x32_0_0_0_32) (broadcastInDim S2x1024x2x32 ![0, 1, 2, 3] bcast_S1x1024x1x32_S2x1024x2x32_0_1_2_3 (broadcastInDim S1x1024x1x32 ![1, 2, 3] bcast_S1024x1x32_S1x1024x1x32_1_2_3 (broadcastInDim S1024x1x32 ![0, 2] bcast_S1024x32_S1024x1x32_0_2 (Host.cos A)))))
theorem lo_apply (N : FVec Ideal S2x1024x2x64 .f32) (A : FVec Ideal S1024x32 .f32) (b : Fin 2) (n : Fin 1024) (g : Fin 2) (d : Fin 32) :
    lo N A (ix4 b n g d) = N (ix4 b n g ⟨d.val, by omega⟩) * Ideal.cos (A (ix2 n d)) - N (ix4 b n g ⟨32 + d.val, by omega⟩) * Ideal.sin (A (ix2 n d)) := by
  unfold lo
  pointwise
theorem hi_apply (N : FVec Ideal S2x1024x2x64 .f32) (A : FVec Ideal S1024x32 .f32) (b : Fin 2) (n : Fin 1024) (g : Fin 2) (d : Fin 32) :
    hi N A (ix4 b n g d) = N (ix4 b n g ⟨d.val, by omega⟩) * Ideal.sin (A (ix2 n d)) + N (ix4 b n g ⟨32 + d.val, by omega⟩) * Ideal.cos (A (ix2 n d)) := by
  unfold hi
  pointwise

/-- The rotated rows. -/
theorem rot_eq (N : FVec Ideal S2x1024x2x64 .f32) (A : FVec Ideal S1024x32 .f32) (v : Fin 2 → Fin 1024 → Fin 2 → ℕ → EReal)
    (hN : ∀ b n g (d : Fin 64), N (ix4 b n g d) = v b n g d.val) (b : Fin 2) (n : Fin 1024) (y : Fin 128) :
    (shapeCast S2x1024x128 (cat2 (lo N A) (hi N A)) shapeCasts_S2x1024x2x64_S2x1024x128) (ix3 b n y)
      = rot (v b n ⟨y.val / 64, by omega⟩) (at2 A n.val) (y.val % 64) := by
  refine (shapeCast_apply _ _ _ (ix4 b n ⟨y.val / 64, by omega⟩ ⟨y.val % 64, by omega⟩) ?_).trans ?_
  · rw [Shape.rowMajor_val_four, Shape.rowMajor_val_three]
    show ((b.val * 1024 + n.val) * 2 + y.val / 64) * 64 + y.val % 64 = (b.val * 1024 + n.val) * 128 + y.val
    omega
  unfold rot
  by_cases hd : y.val % 64 < 32
  · rw [if_pos hd]
    have h1 : (⟨y.val % 64, by omega⟩ : Fin 64) = ⟨(⟨y.val % 64, hd⟩ : Fin 32).val, by show y.val % 64 < 64; omega⟩ := rfl
    rw [h1, cat20, lo_apply, hN, hN, at2_eq A]
    have h2 : 32 + y.val % 64 = y.val % 64 + 32 := by omega
    simp only [h2]
  · rw [if_neg hd]
    have h1 : (⟨y.val % 64, by omega⟩ : Fin 64) = ⟨32 + (⟨y.val % 64 - 32, by omega⟩ : Fin 32).val, by show 32 + (y.val % 64 - 32) < 64; omega⟩ := Fin.ext (by show y.val % 64 = 32 + (y.val % 64 - 32); omega)
    rw [h1, cat21, hi_apply, hN, hN, at2_eq A]
    have h2 : 32 + (y.val % 64 - 32) = y.val % 64 := by omega
    simp only [h2]

section Results
variable (V0 : Valuation τ sig (Elt Ideal)) (hX : Fin' (s := S2x16384x128) (V0 (Proc.devRef .tc main_arg0))) (hY : Fin' (s := S2x16384x128) (V0 (Proc.devRef .tc main_arg1)))
  (hP : Fin' (s := S2x32x64) (V0 (Proc.devRef .tc main_arg3))) (hW : Fin' (s := S2x2048x256) (V0 (Proc.devRef .tc main_arg4))) (hV : Fin' (s := S2x256x64) (V0 (Proc.devRef .tc main_arg5)))
include hX hP hW in
theorem v23_eq (b : Fin 2) (n : Fin 1024) (g : Fin 2) (h : Fin 256) :
    res_main_v23 V0 (ix4 b n g h) = (hid (at3 (a := 2) (b := 16384) (c := 128) (V0 (Proc.devRef .tc main_arg0)) b.val) (at3 (a := 2) (b := 32) (c := 64) (V0 (Proc.devRef .tc main_arg3)) 0)
      (at3 (a := 2) (b := 2048) (c := 256) (V0 (Proc.devRef .tc main_arg4)) 0) n.val g.val h.val : EReal) :=
  hid_eq _ hX _ _ _ _ (fun e d => (pe0 _ e d).trans (at3_coe hP 0 e d)) (fun e d => (w10 _ e d).trans (at3_coe hW 0 e d)) b n g h
include hY hP hW in
theorem v100_eq (b : Fin 2) (n : Fin 1024) (g : Fin 2) (h : Fin 256) :
    res_main_v100 V0 (ix4 b n g h) = (hid (at3 (a := 2) (b := 16384) (c := 128) (V0 (Proc.devRef .tc main_arg1)) b.val) (at3 (a := 2) (b := 32) (c := 64) (V0 (Proc.devRef .tc main_arg3)) 1)
      (at3 (a := 2) (b := 2048) (c := 256) (V0 (Proc.devRef .tc main_arg4)) 1) n.val g.val h.val : EReal) :=
  hid_eq _ hY _ _ _ _ (fun e d => (pe1 _ e d).trans (at3_coe hP 1 e d)) (fun e d => (w11 _ e d).trans (at3_coe hW 1 e d)) b n g h
include hX hP hW hV in
theorem v37_eq (b : Fin 2) (n : Fin 1024) (g : Fin 2) (d : Fin 64) :
    res_main_v37 V0 (ix4 b n g d) = (cmp (at3 (a := 2) (b := 16384) (c := 128) (V0 (Proc.devRef .tc main_arg0)) b.val) (at3 (a := 2) (b := 32) (c := 64) (V0 (Proc.devRef .tc main_arg3)) 0)
      (at3 (a := 2) (b := 2048) (c := 256) (V0 (Proc.devRef .tc main_arg4)) 0) (at3 (a := 2) (b := 256) (c := 64) (V0 (Proc.devRef .tc main_arg5)) 0) n.val g.val d.val : EReal) :=
  cmp_eq _ _ _ _ (v23_eq V0 hX hP hW) (fun e d => (w20 _ e d).trans (at3_coe hV 0 e d)) b n g d
include hX hP hW hV in
theorem v50_eq (b : Fin 2) (n : Fin 1024) (g : Fin 2) (d : Fin 64) :
    res_main_v50 V0 (ix4 b n g d) = nrm (cmp (at3 (a := 2) (b := 16384) (c := 128) (V0 (Proc.devRef .tc main_arg0)) b.val) (at3 (a := 2) (b := 32) (c := 64) (V0 (Proc.devRef .tc main_arg3)) 0)
      (at3 (a := 2) (b := 2048) (c := 256) (V0 (Proc.devRef .tc main_arg4)) 0) (at3 (a := 2) (b := 256) (c := 64) (V0 (Proc.devRef .tc main_arg5)) 0) n.val g.val) (at1 (a := 64) (V0 (Proc.devRef .tc main_arg2))) d.val :=
  nrm_eq (res_main_v37 V0) _ (fun b n g => cmp (at3 (a := 2) (b := 16384) (c := 128) (V0 (Proc.devRef .tc main_arg0)) b.val) (at3 (a := 2) (b := 32) (c := 64) (V0 (Proc.devRef .tc main_arg3)) 0)
      (at3 (a := 2) (b := 2048) (c := 256) (V0 (Proc.devRef .tc main_arg4)) 0) (at3 (a := 2) (b := 256) (c := 64) (V0 (Proc.devRef .tc main_arg5)) 0) n.val g.val) (v37_eq V0 hX hP hW hV) _ (fun d => at1_eq _ d) b n g d
end Results

/-- The reference's two results, from any memory with real arguments. -/
theorem run_eq (m : (ℓ : Loc nD τ sig) → Buf (Elt Ideal) ℓ) (ρ : Dev nD → PrngReg)
    (hF : ∀ c : Dev nD, Fin' (s := S2x16384x128) (m ((c.tc : Thread nD τ).loc main_arg0)) ∧ Fin' (s := S2x16384x128) (m ((c.tc : Thread nD τ).loc main_arg1))
      ∧ Fin' (s := S2x32x64) (m ((c.tc : Thread nD τ).loc main_arg3)) ∧ Fin' (s := S2x2048x256) (m ((c.tc : Thread nD τ).loc main_arg4)) ∧ Fin' (s := S2x256x64) (m ((c.tc : Thread nD τ).loc main_arg5))) :
    θ_run defs (onTc (τ := τ) (main (F := Ideal))) ⟨m, fun _ => 0, ρ⟩ fun r => ∀ c : Dev nD,
      r.2.mem ((c.tc : Thread nD τ).loc main_v116) = keys (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v118) = vals (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2⟩) (run m ρ)
  · obtain ⟨hX, hY, hP, hW, hV⟩ := hF c
    funext i
    obtain ⟨b, n, y, rfl⟩ : ∃ (b : Fin 2) (n : Fin 1024) (y : Fin 128), i = ix3 b n y := ⟨i 0, i 1, i 2, eq_ix3 i⟩
    exact rot_eq (res_main_v50 (StableHlo.launchContents m c)) (res_main_v62 (StableHlo.launchContents m c)) _ (v50_eq (StableHlo.launchContents m c) hX hP hW hV) b n y
  · obtain ⟨hX, hY, hP, hW, hV⟩ := hF c
    funext i
    obtain ⟨b, g, d, n, rfl⟩ : ∃ (b : Fin 2) (g : Fin 2) (d : Fin 64) (n : Fin 1024), i = ix4 b g d n := ⟨i 0, i 1, i 2, i 3, eq_ix4 i⟩
    refine Eq.trans ?_ (cmp_eq _ _ _ _ (v100_eq (StableHlo.launchContents m c) hY hP hW) (fun e d => (w21 _ e d).trans (at3_coe hV 1 e d)) b n g d)
    generalize Host.dotGeneral (F := Ideal) (φ₁ := .f32) (φ₂ := .f32) dot_S2x1024x2x256_S256x64_S2x1024x2x64_3_0_012_1_n_n none _ _ = Q
    pointwise

end Ref
end Cert.Comp
end
-- ==== Proof.CompKer.lean ====
/- The compression kernel's arithmetic over its blocks: the two products of a block, the activation, the second product, the norm by
   groups of lanes and the rotation by lane shifts. -/
module

public import proofs.«01_k».proof.Proof.CompBase
public import proofs.«01_k».proof.Proof.Gen.Kernel5Ideal.Value

@[expose] public section
set_option maxRecDepth 16384
noncomputable section
namespace Cert.Comp
open Idealize.ShloMosaic Idealize.ShloMosaic.TcCoe Idealize.SL.Sem
open Cert.Mlstm (Fin')
namespace Ker
open Cert.Kernel5Ideal Cert.Kernel5Ideal.Gen

/-- The activation, in the body's order. -/
theorem gelu_coe (r : ℝ) : ((1 / 2 : ℝ) : EReal) * (r : EReal) * (1 + Ideal.tanh ((k1 : EReal) * ((r : EReal) + (k2 : EReal) * (r : EReal) * (r : EReal) * (r : EReal)))) = (gelu r : EReal) := by
  rw [← EReal.coe_one]
  simp only [← EReal.coe_mul, ← EReal.coe_add, Ideal.tanh_coe]
  rfl

/-- The hidden lanes of the body, over real blocks. -/
theorem pay4_real (x : Vec Ideal S1x1024x2048 .f32) (p0 : Vec Ideal S1x1x2048 .f32) (wt : Vec Ideal S1x2048x512 .bf16) (p1 : Vec Ideal S1x1x2048 .f32) (wb : Vec Ideal S1x2048x512 .bf16)
    (X : ℕ → ℕ → ℝ) (P0 P1 : ℕ → ℝ) (Wt Wb : ℕ → ℕ → ℝ) (hx : ∀ (n : Fin 1024) (c : Fin 2048), x (ix3 0 n c) = (X n.val c.val : EReal))
    (hp0 : ∀ c : Fin 2048, p0 (ix3 0 0 c) = (P0 c.val : EReal)) (hp1 : ∀ c : Fin 2048, p1 (ix3 0 0 c) = (P1 c.val : EReal))
    (hwt : ∀ (c : Fin 2048) (y : Fin 512), wt (ix3 0 c y) = (Wt c.val y.val : EReal)) (hwb : ∀ (c : Fin 2048) (y : Fin 512), wb (ix3 0 c y) = (Wb c.val y.val : EReal))
    (n : Fin 1024) (y : Fin 512) :
    k0_pay4 x p0 wt p1 wb (ix2 n y) = (gelu ((∑ c : Fin 2048, (X n.val c.val + P0 c.val) * Wt c.val y.val) + ∑ c : Fin 2048, (X ((n.val + 1) % 1024) c.val + P1 c.val) * Wb c.val y.val) : EReal) := by
  pointwise [k0_pay4]
  simp only [hx, hp0, hp1, hwt, hwb, bits_half, bits_k1, bits_k2, ← EReal.coe_mul, ← EReal.coe_add, coe_sum]
  have hr : (n.val + 1024 - 1023) % 1024 = (n.val + 1) % 1024 := by omega
  rw [hr, ← EReal.coe_one]
  simp only [← EReal.coe_mul, ← EReal.coe_add, Ideal.tanh_coe]
  rfl

/-- The lanes of one group: the hidden layer of the block. -/
theorem lanes (x p w : ℕ → ℕ → ℝ) (N n : ℕ) (g h : ℕ) (hg : g < 2) (o q : ℕ) :
    (∑ c : Fin 2048, (x (16 * N + c.val / 128) (c.val % 128) + p (o + c.val / 128) (c.val % 64)) * (if c.val / 64 % 2 = g then w (q + (c.val / 128 * 64 + c.val % 64)) h else 0))
      = ∑ e : Fin 1024, (x (16 * N + e.val / 64) (64 * g + e.val % 64) + p (o + e.val / 64) (e.val % 64)) * w (q + e.val) h := by
  rw [← group_sum g hg (fun e => (x (16 * N + e / 64) (64 * g + e % 64) + p (o + e / 64) (e % 64)) * w (q + e) h)]
  refine Finset.sum_congr rfl fun c _ => ?_
  by_cases hc : c.val / 64 % 2 = g
  · rw [if_pos hc, if_pos hc]
    have h1 : (c.val / 128 * 64 + c.val % 64) / 64 = c.val / 128 := by omega
    have h2 : (c.val / 128 * 64 + c.val % 64) % 64 = c.val % 64 := by omega
    have h3 : 64 * g + c.val % 64 = c.val % 128 := by omega
    rw [h1, h2, h3]
  · rw [if_neg hc, if_neg hc, mul_zero]

/-- The hidden lanes of the body are the blocks' hidden layer. -/
theorem pay4_eq (x : Vec Ideal S1x1024x2048 .f32) (p0 : Vec Ideal S1x1x2048 .f32) (wt : Vec Ideal S1x2048x512 .bf16) (p1 : Vec Ideal S1x1x2048 .f32) (wb : Vec Ideal S1x2048x512 .bf16)
    (X p w : ℕ → ℕ → ℝ) (hx : ∀ (n : Fin 1024) (c : Fin 2048), x (ix3 0 n c) = (X (16 * n.val + c.val / 128) (c.val % 128) : EReal))
    (hp0 : ∀ c : Fin 2048, p0 (ix3 0 0 c) = (p (0 + c.val / 128) (c.val % 64) : EReal)) (hp1 : ∀ c : Fin 2048, p1 (ix3 0 0 c) = (p (16 + c.val / 128) (c.val % 64) : EReal))
    (hwt : ∀ (c : Fin 2048) (y : Fin 512), wt (ix3 0 c y) = ((if c.val / 64 % 2 = y.val / 256 then w (0 + (c.val / 128 * 64 + c.val % 64)) (y.val % 256) else 0 : ℝ) : EReal))
    (hwb : ∀ (c : Fin 2048) (y : Fin 512), wb (ix3 0 c y) = ((if c.val / 64 % 2 = y.val / 256 then w (1024 + (c.val / 128 * 64 + c.val % 64)) (y.val % 256) else 0 : ℝ) : EReal))
    (n : Fin 1024) (y : Fin 512) :
    k0_pay4 x p0 wt p1 wb (ix2 n y) = (gelu (hid X p w n.val (y.val / 256) (y.val % 256)) : EReal) := by
  rw [pay4_real x p0 wt p1 wb (fun n c => X (16 * n + c / 128) (c % 128)) (fun c => p (0 + c / 128) (c % 64)) (fun c => p (16 + c / 128) (c % 64))
    (fun c y => if c / 64 % 2 = y / 256 then w (0 + (c / 128 * 64 + c % 64)) (y % 256) else 0) (fun c y => if c / 64 % 2 = y / 256 then w (1024 + (c / 128 * 64 + c % 64)) (y % 256) else 0)
    hx hp0 hp1 hwt hwb n y]
  have hg : y.val / 256 < 2 := by omega
  rw [lanes X p w n.val n.val _ _ hg 0 0, lanes X p w ((n.val + 1) % 1024) n.val _ _ hg 16 1024]
  simp only [Nat.zero_add]
  rfl

/-- The second product's lanes. -/
theorem prod_eq (H : Vec Ideal S1024x512 .bf16) (w2 : Vec Ideal S1x512x128 .bf16) (hh : ℕ → ℕ → ℕ → ℝ) (v : ℕ → ℕ → ℝ)
    (hH : ∀ (n : Fin 1024) (y : Fin 512), H (ix2 n y) = (gelu (hh n.val (y.val / 256) (y.val % 256)) : EReal))
    (hw : ∀ (y : Fin 512) (j : Fin 128), w2 (ix3 0 y j) = ((if y.val / 256 = j.val / 64 then v (y.val % 256) (j.val % 64) else 0 : ℝ) : EReal)) (n : Fin 1024) (j : Fin 128) :
    (matmul (φ₁ := .bf16) (φ₂ := .bf16) dot_S1024x512_S512x128_S1024x128_1_0_0_1_n_n none H (shapeCast S512x128 w2 shapeCasts_S1x512x128_S512x128) (constant S1024x128 .f32 0x00000000#32) : FVec Ideal S1024x128 .f32) (ix2 n j)
      = ((∑ h : Fin 256, gelu (hh n.val (j.val / 64) h.val) * v h.val (j.val % 64) : ℝ) : EReal) := by
  pointwise
  simp only [hH, hw, ← EReal.coe_mul, coe_sum]
  rw [← group_sum2 (j.val / 64) (by omega) (fun h => gelu (hh n.val (j.val / 64) h) * v h (j.val % 64))]
  congr 1
  refine Finset.sum_congr rfl fun y _ => ?_
  by_cases hy : y.val / 256 = j.val / 64
  · rw [if_pos hy, if_pos hy, hy]
  · rw [if_neg hy, if_neg hy, mul_zero]

/-- The norm by groups of lanes. -/
def normed (C : FVec Ideal S1024x128 .f32) (gavg : Vec Ideal S128x128 .bf16) (gain : Vec Ideal S1x128 .f32) : FVec Ideal S1024x128 .f32 :=
  mulf (mulf C (rsqrt (addf (addf (matmul (φ₁ := .bf16) (φ₂ := .bf16) dot_S1024x128_S128x128_S1024x128_1_0_0_1_n_n none (truncf .bf16 (mulf C C) bitsLt_bf16_f32) (shapeCast S128x128 gavg shapeCasts_S128x128_S128x128) (constant S1024x128 .f32 0x00000000#32))
    (matmul (φ₁ := .bf16) (φ₂ := .bf16) dot_S1024x128_S128x128_S1024x128_1_0_0_1_n_n none (truncf .bf16 (subf (mulf C C) (extf .f32 (truncf .bf16 (mulf C C) bitsLt_bf16_f32) bitsLt_bf16_f32)) bitsLt_bf16_f32) (shapeCast S128x128 gavg shapeCasts_S128x128_S128x128) (constant S1024x128 .f32 0x00000000#32)))
    (broadcast S1024x128 (Scalar.ofBits .f32 0x358637BD#32))))) (broadcastTo S1024x128 (shapeCast S1x128 gain shapeCasts_S1x128_S1x128) broadcasts_S1x128_S1024x128)

/-- The rotation by lane shifts. -/
def rotd (N : FVec Ideal S1024x128 .f32) (cs sn : Vec Ideal S1024x128 .f32) : FVec Ideal S1024x128 .bf16 :=
  truncf .bf16 (addf (mulf N (shapeCast S1024x128 cs shapeCasts_S1024x128_S1024x128))
    (mulf (select (broadcastTo S1024x128 (shapeCast S1x128 (cmpi .slt (andi (iota .tc S1x128 32 [1] iota_S1x128_d1_w32) (broadcast S1x128 63#32)) (broadcast S1x128 32#32)) shapeCasts_S1x128_S1x128) broadcasts_S1x128_S1024x128)
      (dynamicRotate 1 96#32 none N rotates_S1024x128_d1) (dynamicRotate 1 32#32 none N rotates_S1024x128_d1)) (shapeCast S1024x128 sn shapeCasts_S1024x128_S1024x128))) bitsLt_bf16_f32

theorem pay5_split (H : Vec Ideal S1024x512 .bf16) (w2 : Vec Ideal S1x512x128 .bf16) (gavg : Vec Ideal S128x128 .bf16) (gain : Vec Ideal S1x128 .f32) (cs sn : Vec Ideal S1024x128 .f32) :
    k0_pay5 H w2 gavg gain cs sn = rotd (normed (matmul (φ₁ := .bf16) (φ₂ := .bf16) dot_S1024x512_S512x128_S1024x128_1_0_0_1_n_n none H (shapeCast S512x128 w2 shapeCasts_S1x512x128_S512x128) (constant S1024x128 .f32 0x00000000#32)) gavg gain) cs sn := rfl

theorem normed_eq (C : FVec Ideal S1024x128 .f32) (gavg : Vec Ideal S128x128 .bf16) (gain : Vec Ideal S1x128 .f32) (u : ℕ → ℕ → ℕ → ℝ) (Gn : ℕ → EReal)
    (hC : ∀ (n : Fin 1024) (j : Fin 128), C (ix2 n j) = (u n.val (j.val / 64) (j.val % 64) : EReal)) (hg : ∀ j : Fin 128, gain (ix2 0 j) = Gn (j.val % 64))
    (ha : ∀ l j : Fin 128, gavg (ix2 l j) = ((if l.val / 64 = j.val / 64 then 1 / 64 else 0 : ℝ) : EReal)) (n : Fin 1024) (j : Fin 128) :
    normed C gavg gain (ix2 n j) = nrm (u n.val (j.val / 64)) Gn (j.val % 64) := by
  unfold normed
  pointwise
  simp only [hC, hg, ha, ← EReal.coe_mul, ← EReal.coe_sub, ← EReal.coe_add, sub_self, zero_mul, coe_sum]
  unfold nrm
  rw [← group_sum3 (j.val / 64) (by omega) (fun e => u n.val (j.val / 64) e * u n.val (j.val / 64) e), Finset.sum_const_zero, add_zero, Finset.mul_sum]
  have hs : (∑ i : Fin 128, u n.val (i.val / 64) (i.val % 64) * u n.val (i.val / 64) (i.val % 64) * (if i.val / 64 = j.val / 64 then 1 / 64 else 0 : ℝ))
      = ∑ i : Fin 128, 1 / 64 * (if i.val / 64 = j.val / 64 then u n.val (j.val / 64) (i.val % 64) * u n.val (j.val / 64) (i.val % 64) else 0 : ℝ) := by
    refine Finset.sum_congr rfl fun i _ => ?_
    by_cases h : i.val / 64 = j.val / 64
    · rw [if_pos h, if_pos h, h]; ring
    · rw [if_neg h, if_neg h]; ring
  rw [hs]

/-- Which half of its group a lane is in. -/
theorem laneBit : ∀ j : Fin 128, IntOp.cmpi .slt (IntOp.andi (BitVec.ofNat 32 j.val) 63#32) 32#32 = if j.val % 64 < 32 then 1#1 else 0#1 := by decide +kernel

theorem rotd_eq (N : FVec Ideal S1024x128 .f32) (cs sn : Vec Ideal S1024x128 .f32) (v : ℕ → ℕ → ℕ → EReal) (A : ℕ → ℕ → EReal)
    (hN : ∀ (n : Fin 1024) (j : Fin 128), N (ix2 n j) = v n.val (j.val / 64) (j.val % 64)) (hc : ∀ (n : Fin 1024) (j : Fin 128), cs (ix2 n j) = Ideal.cos (A n.val (j.val % 32)))
    (hs : ∀ (n : Fin 1024) (j : Fin 128), sn (ix2 n j) = if j.val % 64 < 32 then - Ideal.sin (A n.val (j.val % 32)) else Ideal.sin (A n.val (j.val % 32))) (n : Fin 1024) (j : Fin 128) :
    rotd N cs sn (ix2 n j) = rot (v n.val (j.val / 64)) (A n.val) (j.val % 64) := by
  unfold rotd
  pointwise
  rw [laneBit, hN, hN, hN, hc, hs]
  unfold rot
  by_cases hj : j.val % 64 < 32
  · rw [if_pos hj, if_pos hj, if_pos hj]
    have h1 : (j.val + 128 - 96) % 128 / 64 = j.val / 64 := by omega
    have h2 : (j.val + 128 - 96) % 128 % 64 = j.val % 64 + 32 := by omega
    have h3 : j.val % 32 = j.val % 64 := by omega
    show _ + v n.val ((j.val + 128 - 96) % 128 / 64) ((j.val + 128 - 96) % 128 % 64) * _ = _
    rw [h1, h2, h3, mul_neg, ← sub_eq_add_neg]
  · rw [if_neg hj, if_neg hj, if_neg hj]
    have h1 : (j.val + 128 - 32) % 128 / 64 = j.val / 64 := by omega
    have h2 : (j.val + 128 - 32) % 128 % 64 = j.val % 64 - 32 := by omega
    have h3 : j.val % 32 = j.val % 64 - 32 := by omega
    show _ + v n.val ((j.val + 128 - 32) % 128 / 64) ((j.val + 128 - 32) % 128 % 64) * _ = _
    rw [h1, h2, h3, add_comm]

end Ker
end Cert.Comp
end
-- ==== Proof.CompOut.lean ====
/- What the compression kernel's body leaves in its two output blocks, over blocks of known elements. -/
module

public import proofs.«01_k».proof.Proof.CompKer

@[expose] public section
set_option maxRecDepth 16384
noncomputable section
namespace Cert.Comp
open Idealize.ShloMosaic Idealize.ShloMosaic.TcCoe Idealize.SL.Sem
open Cert.Mlstm (Fin')
namespace Ker
open Cert.Kernel5Ideal Cert.Kernel5Ideal.Gen

/-- The loads at the arrays' first and second layers. -/
theorem ldp00 (x : Vec Ideal S2x2x2048 .f32) (c : Fin 2048) : View.ld x r0_1 (ix3 0 0 c) = x (ix3 0 0 c) := by rw [View.ld_unit]; pointwise
theorem ldp01 (x : Vec Ideal S2x2x2048 .f32) (c : Fin 2048) : View.ld x r0_3 (ix3 0 0 c) = x (ix3 0 1 c) := by rw [View.ld_unit]; pointwise
theorem ldp10 (x : Vec Ideal S2x2x2048 .f32) (c : Fin 2048) : View.ld x r0_9 (ix3 0 0 c) = x (ix3 1 0 c) := by rw [View.ld_unit]; pointwise
theorem ldp11 (x : Vec Ideal S2x2x2048 .f32) (c : Fin 2048) : View.ld x r0_11 (ix3 0 0 c) = x (ix3 1 1 c) := by rw [View.ld_unit]; pointwise
theorem ldw0 (x : Vec Ideal S2x2048x512 .bf16) (c : Fin 2048) (y : Fin 512) : View.ld x r0_2 (ix3 0 c y) = x (ix3 0 c y) := by rw [View.ld_unit]; pointwise
theorem ldw1 (x : Vec Ideal S2x2048x512 .bf16) (c : Fin 2048) (y : Fin 512) : View.ld x r0_10 (ix3 0 c y) = x (ix3 1 c y) := by rw [View.ld_unit]; pointwise
theorem ldv0 (x : Vec Ideal S2x512x128 .bf16) (c : Fin 512) (y : Fin 128) : View.ld x r0_4 (ix3 0 c y) = x (ix3 0 c y) := by rw [View.ld_unit]; pointwise
theorem ldv1 (x : Vec Ideal S2x512x128 .bf16) (c : Fin 512) (y : Fin 128) : View.ld x r0_12 (ix3 0 c y) = x (ix3 1 c y) := by rw [View.ld_unit]; pointwise
theorem ldx (x : Vec Ideal S1x1024x2048 .f32) (n : Fin 1024) (q : Fin 2048) : View.ld x r0_0 (ix3 0 n q) = x (ix3 0 n q) := by rw [View.ld_unit]; pointwise
theorem lda (x : Vec Ideal S128x128 .bf16) (n q : Fin 128) : View.ld x r0_5 (ix2 n q) = x (ix2 n q) := by rw [View.ld_unit]; pointwise
theorem ldg (x : Vec Ideal S1x128 .f32) (q : Fin 128) : View.ld x r0_6 (ix2 0 q) = x (ix2 0 q) := by rw [View.ld_unit]; pointwise
theorem ldt (x : Vec Ideal S1024x128 .f32) (n : Fin 1024) (q : Fin 128) : View.ld x r0_7 (ix2 n q) = x (ix2 n q) := by rw [View.ld_unit]; pointwise

/-- The transposed product. -/
theorem pay1_eq (H : Vec Ideal S1024x512 .bf16) (w2 : Vec Ideal S1x512x128 .bf16) (j : Fin 128) (n : Fin 1024) :
    k0_pay1 H w2 (ix2 j n) = (matmul (φ₁ := .bf16) (φ₂ := .bf16) dot_S1024x512_S512x128_S1024x128_1_0_0_1_n_n none H (shapeCast S512x128 w2 shapeCasts_S1x512x128_S512x128) (constant S1024x128 .f32 0x00000000#32) : FVec Ideal S1024x128 .f32) (ix2 n j) := by
  unfold k0_pay1
  pointwise

variable (x0 x1 : Vec Ideal S1x1024x2048 .f32) (x2 : Vec Ideal S2x2x2048 .f32) (x3 x4 : Vec Ideal S2x2048x512 .bf16) (x5 : Vec Ideal S2x512x128 .bf16)
  (x6 x7 : Vec Ideal S1024x128 .f32) (x8 : Vec Ideal S1x128 .f32) (x9 : Vec Ideal S128x128 .bf16)
  (X : ℕ → ℕ → ℝ) (p w v : ℕ → ℕ → ℕ → ℝ) (Gn : ℕ → EReal) (A : ℕ → ℕ → EReal)

/-- The keys' block. -/
theorem keys_block (h0 : ∀ (n : Fin 1024) (q : Fin 2048), x0 (ix3 0 n q) = (X (16 * n.val + q.val / 128) (q.val % 128) : EReal))
    (h2 : ∀ (k s : Fin 2) (c : Fin 2048), x2 (ix3 k s c) = (p k.val (16 * s.val + c.val / 128) (c.val % 64) : EReal))
    (h3 : ∀ (k : Fin 2) (c : Fin 2048) (y : Fin 512), x3 (ix3 k c y) = ((if c.val / 64 % 2 = y.val / 256 then w k.val (0 + (c.val / 128 * 64 + c.val % 64)) (y.val % 256) else 0 : ℝ) : EReal))
    (h4 : ∀ (k : Fin 2) (c : Fin 2048) (y : Fin 512), x4 (ix3 k c y) = ((if c.val / 64 % 2 = y.val / 256 then w k.val (1024 + (c.val / 128 * 64 + c.val % 64)) (y.val % 256) else 0 : ℝ) : EReal))
    (h5 : ∀ (k : Fin 2) (y : Fin 512) (j : Fin 128), x5 (ix3 k y j) = ((if y.val / 256 = j.val / 64 then v k.val (y.val % 256) (j.val % 64) else 0 : ℝ) : EReal))
    (h6 : ∀ (n : Fin 1024) (j : Fin 128), x6 (ix2 n j) = Ideal.cos (A n.val (j.val % 32)))
    (h7 : ∀ (n : Fin 1024) (j : Fin 128), x7 (ix2 n j) = if j.val % 64 < 32 then - Ideal.sin (A n.val (j.val % 32)) else Ideal.sin (A n.val (j.val % 32)))
    (h8 : ∀ j : Fin 128, x8 (ix2 0 j) = Gn (j.val % 64))
    (h9 : ∀ l j : Fin 128, x9 (ix2 l j) = ((if l.val / 64 = j.val / 64 then 1 / 64 else 0 : ℝ) : EReal)) (n : Fin 1024) (j : Fin 128) :
    out0_10 x0 x1 x2 x3 x4 x5 x6 x7 x8 x9 (ix3 0 n j) = rot (nrm (cmp X (p 0) (w 0) (v 0) n.val (j.val / 64)) Gn) (A n.val) (j.val % 64) := by
  unfold out0_10
  refine (Value.canon10_eq _ _ _ _ _ _ _ _ _ _ _).trans ?_
  have e : Value.ix10_0 (ix3 0 n j : S1x1024x128.Idx) = ix2 n j := by
    funext a; match a with
    | ⟨0, _⟩ => rfl
    | ⟨1, _⟩ => rfl
  unfold Value.E10
  rw [e, pay5_split]
  refine rotd_eq _ _ _ (fun n g => nrm (cmp X (p 0) (w 0) (v 0) n g) Gn) A (fun n j => ?_) (fun n j => (ldt _ n j).trans (h6 n j)) (fun n j => (ldt _ n j).trans (h7 n j)) n j
  refine normed_eq _ _ _ (fun n g => cmp X (p 0) (w 0) (v 0) n g) Gn (fun n j => ?_) (fun j => (ldg _ j).trans (h8 j)) (fun l j => (lda _ l j).trans (h9 l j)) n j
  refine prod_eq _ _ (fun n g h => hid X (p 0) (w 0) n g h) (v 0) (fun n y => ?_) (fun y j => (ldv0 _ y j).trans (h5 0 y j)) n j
  exact pay4_eq _ _ _ _ _ X (p 0) (w 0) (fun n q => (ldx _ n q).trans (h0 n q)) (fun c => (ldp00 _ c).trans (h2 0 0 c)) (fun c => (ldp01 _ c).trans (h2 0 1 c))
    (fun c y => (ldw0 _ c y).trans (h3 0 c y)) (fun c y => (ldw0 _ c y).trans (h4 0 c y)) n y

/-- The values' block. -/
theorem vals_block (h1 : ∀ (n : Fin 1024) (q : Fin 2048), x1 (ix3 0 n q) = (X (16 * n.val + q.val / 128) (q.val % 128) : EReal))
    (h2 : ∀ (k s : Fin 2) (c : Fin 2048), x2 (ix3 k s c) = (p k.val (16 * s.val + c.val / 128) (c.val % 64) : EReal))
    (h3 : ∀ (k : Fin 2) (c : Fin 2048) (y : Fin 512), x3 (ix3 k c y) = ((if c.val / 64 % 2 = y.val / 256 then w k.val (0 + (c.val / 128 * 64 + c.val % 64)) (y.val % 256) else 0 : ℝ) : EReal))
    (h4 : ∀ (k : Fin 2) (c : Fin 2048) (y : Fin 512), x4 (ix3 k c y) = ((if c.val / 64 % 2 = y.val / 256 then w k.val (1024 + (c.val / 128 * 64 + c.val % 64)) (y.val % 256) else 0 : ℝ) : EReal))
    (h5 : ∀ (k : Fin 2) (y : Fin 512) (j : Fin 128), x5 (ix3 k y j) = ((if y.val / 256 = j.val / 64 then v k.val (y.val % 256) (j.val % 64) else 0 : ℝ) : EReal))
    (g : Fin 2) (d : Fin 64) (n : Fin 1024) :
    out0_11 x0 x1 x2 x3 x4 x5 x6 x7 x8 x9 (ix4 0 g d n) = (cmp X (p 1) (w 1) (v 1) n.val g.val d.val : EReal) := by
  unfold out0_11
  refine (Value.canon11_eq _ _ _ _ _ _ _).trans ?_
  have e : Value.ix11_0 (ix4 0 g d n : S1x2x64x1024.Idx) = ix2 ⟨g.val * 64 + d.val, by omega⟩ n := by
    funext a; match a with
    | ⟨0, _⟩ => rfl
    | ⟨1, _⟩ => rfl
  unfold Value.E11
  rw [e, pay1_eq]
  refine (prod_eq _ _ (fun n g h => hid X (p 1) (w 1) n g h) (v 1) (fun n y => ?_) (fun y j => (ldv1 _ y j).trans (h5 1 y j)) n ⟨g.val * 64 + d.val, by omega⟩).trans ?_
  · exact pay4_eq _ _ _ _ _ X (p 1) (w 1) (fun n q => (ldx _ n q).trans (h1 n q)) (fun c => (ldp10 _ c).trans (h2 1 0 c)) (fun c => (ldp11 _ c).trans (h2 1 1 c))
      (fun c y => (ldw1 _ c y).trans (h3 1 c y)) (fun c y => (ldw1 _ c y).trans (h4 1 c y)) n y
  · have a1 : (g.val * 64 + d.val) / 64 = g.val := by omega
    have a2 : (g.val * 64 + d.val) % 64 = d.val := by omega
    show ((∑ h : Fin 256, gelu (hid X (p 1) (w 1) n.val ((g.val * 64 + d.val) / 64) h.val) * v 1 h.val ((g.val * 64 + d.val) % 64) : ℝ) : EReal) = _
    rw [a1, a2]
    rfl

end Ker
end Cert.Comp
end
-- ==== Proof.CompTab.lean ====
/- The compression kernel's tables of cosines and sines and its gain's row when its grid starts. -/
module

public import proofs.«01_k».proof.Proof.CompBase
public import proofs.«01_k».proof.Proof.Gen.Kernel5Ideal.Value

@[expose] public section
set_option maxRecDepth 16384
noncomputable section
namespace Cert.Comp
open Idealize.ShloMosaic Idealize.ShloMosaic.TcCoe Idealize.SL.Sem
open Cert.Mlstm (Fin' div64 eqBit bit0 bit1)
namespace Ker
open Cert.Kernel5Ideal Cert.Kernel5Ideal.Gen
variable (m : (ℓ : Loc nD τ sig) → Buf (Elt Ideal) ℓ)

/-- A row of 64 repeated for both groups. -/
def twice (A : FVec Ideal S1024x64 .f32) : FVec Ideal S1024x128 .f32 :=
  shapeCast S1024x128 (broadcastInDim S1x1024x2x64 ![0, 1, 2, 3] bcast_S1x1024x1x64_S1x1024x2x64_0_1_2_3 (shapeCast S1x1024x1x64 A shapeCasts_S1024x64_S1x1024x1x64)) shapeCasts_S1x1024x2x64_S1024x128
theorem twice_apply (A : FVec Ideal S1024x64 .f32) (n : Fin 1024) (j : Fin 128) : twice A (ix2 n j) = A (ix2 n ⟨j.val % 64, by omega⟩) := by
  unfold twice
  refine (shapeCast_apply _ _ _ (ix4 0 n ⟨j.val / 64, by omega⟩ ⟨j.val % 64, by omega⟩) ?_).trans ?_
  · rw [Shape.rowMajor_val_four, Shape.rowMajor_val_two]
    show ((0 * 1024 + n.val) * 2 + j.val / 64) * 64 + j.val % 64 = n.val * 128 + j.val
    omega
  · pointwise
/-- A row's halves side by side. -/
def cat64 (A B : FVec Ideal S1024x32 .f32) : FVec Ideal S1024x64 .f32 := concatenate S1024x64 1 [⟨S1024x32, A⟩, ⟨S1024x32, B⟩] concatenates_S1024x32_S1024x32_S1024x64_d1
theorem cat640 (A B : FVec Ideal S1024x32 .f32) (n : Fin 1024) (d : Fin 32) : cat64 A B (ix2 n ⟨d.val, by omega⟩) = A (ix2 n d) := by
  unfold cat64; pointwise
theorem cat641 (A B : FVec Ideal S1024x32 .f32) (n : Fin 1024) (d : Fin 32) : cat64 A B (ix2 n ⟨32 + d.val, by omega⟩) = B (ix2 n d) := by
  unfold cat64; pointwise
theorem cat64_apply (A B : FVec Ideal S1024x32 .f32) (n : Fin 1024) (d : Fin 64) : cat64 A B (ix2 n d) = if d.val < 32 then A (ix2 n ⟨d.val % 32, by omega⟩) else B (ix2 n ⟨d.val % 32, by omega⟩) := by
  by_cases h : d.val < 32
  · rw [if_pos h]
    have h1 : d = ⟨(⟨d.val % 32, by omega⟩ : Fin 32).val, by show d.val % 32 < 64; omega⟩ := Fin.ext (by show d.val = d.val % 32; omega)
    exact (congrArg (fun k => cat64 A B (ix2 n k)) h1).trans (cat640 A B n _)
  · rw [if_neg h]
    have h1 : d = ⟨32 + (⟨d.val % 32, by omega⟩ : Fin 32).val, by show 32 + d.val % 32 < 64; omega⟩ := Fin.ext (by show d.val = 32 + d.val % 32; omega)
    exact (congrArg (fun k => cat64 A B (ix2 n k)) h1).trans (cat641 A B n _)

set_option maxHeartbeats 4000000 in
theorem ent21 (c : Dev nD) : (V m c main_v21 : S1024x64.Idx → EReal) = cat64 (Host.cos (φ := .f32) ang) (Host.cos (φ := .f32) ang) := by
  unfold V hostOps0; after_results; rfl
set_option maxHeartbeats 4000000 in
theorem ent26 (c : Dev nD) : (V m c main_v26 : S1024x64.Idx → EReal) = cat64 (Host.negf (Host.sin (φ := .f32) ang)) (Host.sin (φ := .f32) ang) := by
  unfold V hostOps0; after_results; rfl
theorem ent24 (c : Dev nD) : (V m c main_v24 : S1024x128.Idx → EReal) = twice (V m c main_v21) := by
  unfold V hostOps0; after_results; rfl
theorem ent29 (c : Dev nD) : (V m c main_v29 : S1024x128.Idx → EReal) = twice (V m c main_v26) := by
  unfold V hostOps0; after_results; rfl
theorem cos_at (c : Dev nD) (n : Fin 1024) (j : Fin 128) : (V m c main_v24 : S1024x128.Idx → EReal) (ix2 n j) = Ideal.cos (at2 ang n.val (j.val % 32)) := by
  rw [ent24, twice_apply, ent21, cat64_apply, ite_self]
  have h : j.val % 64 % 32 = j.val % 32 := by omega
  show Ideal.cos (ang (ix2 n ⟨j.val % 64 % 32, _⟩)) = _
  rw [at2_eq ang]
  show Ideal.cos (at2 ang n.val (j.val % 64 % 32)) = _
  rw [h]
theorem sin_at (c : Dev nD) (n : Fin 1024) (j : Fin 128) : (V m c main_v29 : S1024x128.Idx → EReal) (ix2 n j)
    = if j.val % 64 < 32 then - Ideal.sin (at2 ang n.val (j.val % 32)) else Ideal.sin (at2 ang n.val (j.val % 32)) := by
  rw [ent29, twice_apply, ent26, cat64_apply]
  have h : j.val % 64 % 32 = j.val % 32 := by omega
  show (if j.val % 64 < 32 then - Ideal.sin (ang (ix2 n ⟨j.val % 64 % 32, _⟩)) else Ideal.sin (ang (ix2 n ⟨j.val % 64 % 32, _⟩))) = _
  rw [at2_eq ang]
  show (if j.val % 64 < 32 then - Ideal.sin (at2 ang n.val (j.val % 64 % 32)) else Ideal.sin (at2 ang n.val (j.val % 64 % 32))) = _
  rw [h]

theorem ent73 (c : Dev nD) (j : Fin 128) : (V m c main_v73 : S1x128.Idx → EReal) (ix2 0 j) = (m ((c : Thread nD τ).loc main_arg2) : S64.Idx → EReal) (ix1 ⟨j.val % 64, by omega⟩) := by
  have e : (V m c main_v73 : S1x128.Idx → EReal) = broadcastInDim S1x128 ![1] bcast_S128_S1x128_1 (shapeCast S128 (broadcastInDim S2x64 ![0, 1] bcast_S1x64_S2x64_0_1 (shapeCast S1x64 (m ((c : Thread nD τ).loc main_arg2)) shapeCasts_S64_S1x64)) shapeCasts_S2x64_S128) := by
    unfold V hostOps0; after_results; rfl
  rw [e]
  have e1 : ∀ (Q : S128.Idx → EReal), broadcastInDim S1x128 ![1] bcast_S128_S1x128_1 Q (ix2 0 j) = Q (ix1 j) := fun Q => by pointwise
  rw [e1]
  refine (shapeCast_apply _ _ _ (ix2 ⟨j.val / 64, by omega⟩ ⟨j.val % 64, by omega⟩) ?_).trans ?_
  · rw [Shape.rowMajor_val_two, Shape.rowMajor_val_one]
    show j.val / 64 * 64 + j.val % 64 = j.val
    omega
  · pointwise

end Ker
end Cert.Comp
end
-- ==== Proof.CompEntry.lean ====
/- The compression kernel's arrays when its grid starts, entry by entry in the arguments. -/
module

public import proofs.«01_k».proof.Proof.CompBase
public import proofs.«01_k».proof.Proof.Gen.Kernel5Ideal.Value

@[expose] public section
set_option maxRecDepth 16384
noncomputable section
namespace Cert.Comp
open Idealize.ShloMosaic Idealize.ShloMosaic.TcCoe Idealize.SL.Sem
open Cert.Mlstm (Fin' div64 eqBit bit0 bit1)
namespace Ker
open Cert.Kernel5Ideal Cert.Kernel5Ideal.Gen
variable (m : (ℓ : Loc nD τ sig) → Buf (Elt Ideal) ℓ)

theorem rows_apply (X : S2x16384x128.Idx → EReal) (b : Fin 2) (n : Fin 1024) (c : Fin 2048) :
    shapeCast S2x1024x2048 X shapeCasts_S2x16384x128_S2x1024x2048 (ix3 b n c) = X (ix3 b ⟨16 * n.val + c.val / 128, by omega⟩ ⟨c.val % 128, by omega⟩) := by
  refine shapeCast_apply _ _ _ _ ?_
  rw [Shape.rowMajor_val_three, Shape.rowMajor_val_three]
  show (b.val * 16384 + (16 * n.val + c.val / 128)) * 128 + c.val % 128 = (b.val * 1024 + n.val) * 2048 + c.val
  omega
theorem ent65 (c : Dev nD) : (V m c main_v65 : S2x1024x2048.Idx → EReal) = shapeCast S2x1024x2048 (m ((c : Thread nD τ).loc main_arg0)) shapeCasts_S2x16384x128_S2x1024x2048 := by
  unfold V hostOps0; after_results; rfl
theorem ent66 (c : Dev nD) : (V m c main_v66 : S2x1024x2048.Idx → EReal) = shapeCast S2x1024x2048 (m ((c : Thread nD τ).loc main_arg1)) shapeCasts_S2x16384x128_S2x1024x2048 := by
  unfold V hostOps0; after_results; rfl

/-- The offsets' rows. -/
def perow (P : S2x32x64.Idx → EReal) : S2x2x2048.Idx → EReal :=
  shapeCast S2x2x2048 (broadcastInDim S2x2x16x2x64 ![0, 1, 2, 3, 4] bcast_S2x2x16x1x64_S2x2x16x2x64_0_1_2_3_4 (shapeCast S2x2x16x1x64 P shapeCasts_S2x32x64_S2x2x16x1x64)) shapeCasts_S2x2x16x2x64_S2x2x2048
theorem perow_apply (P : S2x32x64.Idx → EReal) (w s : Fin 2) (c : Fin 2048) : perow P (ix3 w s c) = P (ix3 w ⟨16 * s.val + c.val / 128, by omega⟩ ⟨c.val % 64, by omega⟩) := by
  unfold perow
  refine (shapeCast_apply _ _ _ (ix5 w s ⟨c.val / 128, by omega⟩ ⟨c.val / 64 % 2, by omega⟩ ⟨c.val % 64, by omega⟩) ?_).trans ?_
  · rw [Shape.rowMajor_val_five, Shape.rowMajor_val_three]
    show (((w.val * 2 + s.val) * 16 + c.val / 128) * 2 + c.val / 64 % 2) * 64 + c.val % 64 = (w.val * 2 + s.val) * 2048 + c.val
    omega
  have e : ∀ (w s : Fin 2) (a : Fin 16) (g : Fin 2) (d : Fin 64), broadcastInDim S2x2x16x2x64 ![0, 1, 2, 3, 4] bcast_S2x2x16x1x64_S2x2x16x2x64_0_1_2_3_4 (shapeCast S2x2x16x1x64 P shapeCasts_S2x32x64_S2x2x16x1x64) (ix5 w s a g d)
      = shapeCast S2x2x16x1x64 P shapeCasts_S2x32x64_S2x2x16x1x64 (ix5 w s a 0 d) := fun w s a g d => by
    generalize shapeCast S2x2x16x1x64 P shapeCasts_S2x32x64_S2x2x16x1x64 = Q
    pointwise
  rw [e]
  refine shapeCast_apply _ _ _ _ ?_
  rw [Shape.rowMajor_val_three, Shape.rowMajor_val_five]
  show (w.val * 32 + (16 * s.val + c.val / 128)) * 64 + c.val % 64 = (((w.val * 2 + s.val) * 16 + c.val / 128) * 1 + 0) * 64 + c.val % 64
  omega
theorem ent69 (c : Dev nD) : (V m c main_v69 : S2x2x2048.Idx → EReal) = perow (m ((c : Thread nD τ).loc main_arg3)) := by
  unfold V hostOps0; after_results; rfl

/-- The matrix of the groups. -/
theorem ent45 (c : Dev nD) (g k : Fin 2) : (V m c main_v45 : S2x2.Idx → EReal) (ix2 g k) = ((if g.val = k.val then 1 else 0 : ℝ) : EReal) := by
  have e : (V m c main_v45 : S2x2.Idx → EReal) = uitofp (F := Ideal) .f32 (cmpi .eq (addi (iotaInDim S2x2 32 0) (broadcastInDim S2x2 ![] bcast_S_S2x2 (constantI S_ 32 0#32))) (iotaInDim S2x2 32 1)) := by
    unfold V hostOps0; after_results; rfl
  rw [e]
  pointwise
  have hb : ∀ g k : Fin 2, IntOp.cmpi .eq (IntOp.addi (BitVec.ofNat 32 g.val) 0#32) (BitVec.ofNat 32 k.val) = if g.val = k.val then 1#1 else 0#1 := by decide +kernel
  rw [hb]
  by_cases h : g.val = k.val
  · rw [if_pos h, if_pos h]; exact bit1
  · rw [if_neg h, if_neg h]; exact bit0

/-- The first weights over both groups' lanes. -/
def wexp (A : FVec Ideal S2x2048x256 .f32) (E : FVec Ideal S2x2 .f32) : FVec Ideal S2x2x2048x512 .f32 :=
  shapeCast S2x2x2048x512 (mulf (broadcastInDim S64x2x64x2x256 ![0, 1, 2, 3, 4] bcast_S64x1x64x1x256_S64x2x64x2x256_0_1_2_3_4 (broadcastInDim S64x1x64x1x256 ![0, 2, 4] bcast_S64x64x256_S64x1x64x1x256_0_2_4 (shapeCast S64x64x256 A shapeCasts_S2x2048x256_S64x64x256)))
    (broadcastInDim S64x2x64x2x256 ![0, 1, 2, 3, 4] bcast_S1x2x1x2x1_S64x2x64x2x256_0_1_2_3_4 (broadcastInDim S1x2x1x2x1 ![1, 3] bcast_S2x2_S1x2x1x2x1_1_3 E))) shapeCasts_S64x2x64x2x256_S2x2x2048x512
theorem wexp_apply (A : FVec Ideal S2x2048x256 .f32) (E : FVec Ideal S2x2 .f32) (w s : Fin 2) (c : Fin 2048) (y : Fin 512) :
    wexp A E (ix4 w s c y) = A (ix3 w ⟨1024 * s.val + (c.val / 128 * 64 + c.val % 64), by omega⟩ ⟨y.val % 256, by omega⟩) * E (ix2 ⟨c.val / 64 % 2, by omega⟩ ⟨y.val / 256, by omega⟩) := by
  unfold wexp
  refine (shapeCast_apply _ _ _ (ix5 ⟨(w.val * 2 + s.val) * 16 + c.val / 128, by omega⟩ ⟨c.val / 64 % 2, by omega⟩ ⟨c.val % 64, by omega⟩ ⟨y.val / 256, by omega⟩ ⟨y.val % 256, by omega⟩) ?_).trans ?_
  · rw [Shape.rowMajor_val_five, Shape.rowMajor_val_four]
    show (((((w.val * 2 + s.val) * 16 + c.val / 128) * 2 + c.val / 64 % 2) * 64 + c.val % 64) * 2 + y.val / 256) * 256 + y.val % 256 = ((w.val * 2 + s.val) * 2048 + c.val) * 512 + y.val
    omega
  have e : ∀ (Q : FVec Ideal S64x64x256 .f32) (a : Fin 64) (g : Fin 2) (d : Fin 64) (k : Fin 2) (h : Fin 256), mulf (broadcastInDim S64x2x64x2x256 ![0, 1, 2, 3, 4] bcast_S64x1x64x1x256_S64x2x64x2x256_0_1_2_3_4 (broadcastInDim S64x1x64x1x256 ![0, 2, 4] bcast_S64x64x256_S64x1x64x1x256_0_2_4 Q))
      (broadcastInDim S64x2x64x2x256 ![0, 1, 2, 3, 4] bcast_S1x2x1x2x1_S64x2x64x2x256_0_1_2_3_4 (broadcastInDim S1x2x1x2x1 ![1, 3] bcast_S2x2_S1x2x1x2x1_1_3 E)) (ix5 a g d k h) = Q (ix3 a d h) * E (ix2 g k) := fun Q a g d k h => by
    pointwise
  rw [e]
  congr 1
  refine shapeCast_apply _ _ _ _ ?_
  rw [Shape.rowMajor_val_three, Shape.rowMajor_val_three]
  show (w.val * 2048 + (1024 * s.val + (c.val / 128 * 64 + c.val % 64))) * 256 + y.val % 256 = (((w.val * 2 + s.val) * 16 + c.val / 128) * 64 + c.val % 64) * 256 + y.val % 256
  omega
theorem ent51 (c : Dev nD) : (V m c main_v51 : S2x2x2048x512.Idx → EReal) = wexp (m ((c : Thread nD τ).loc main_arg4)) (V m c main_v45) := by
  unfold V hostOps0; after_results; rfl
theorem ent60 (c : Dev nD) (w : Fin 2) (q : Fin 2048) (y : Fin 512) : (V m c main_v60 : S2x2048x512.Idx → EReal) (ix3 w q y) = (V m c main_v51 : S2x2x2048x512.Idx → EReal) (ix4 w 0 q y) := by
  have e : (V m c main_v60 : S2x2048x512.Idx → EReal) = shapeCast S2x2048x512 (extractStridedSlice S2x1x2048x512 ![0, 0, 0, 0] (V m c main_v51 : S2x2x2048x512.Idx → EReal) slices_S2x2x2048x512_S2x1x2048x512_0_0_0_0) shapeCasts_S2x1x2048x512_S2x2048x512 := by
    unfold V hostOps0; after_results; rfl
  rw [e]
  generalize (V m c main_v51 : S2x2x2048x512.Idx → EReal) = Q
  pointwise
theorem ent63 (c : Dev nD) (w : Fin 2) (q : Fin 2048) (y : Fin 512) : (V m c main_v63 : S2x2048x512.Idx → EReal) (ix3 w q y) = (V m c main_v51 : S2x2x2048x512.Idx → EReal) (ix4 w 1 q y) := by
  have e : (V m c main_v63 : S2x2048x512.Idx → EReal) = shapeCast S2x2048x512 (extractStridedSlice S2x1x2048x512 ![0, 1, 0, 0] (V m c main_v51 : S2x2x2048x512.Idx → EReal) slices_S2x2x2048x512_S2x1x2048x512_0_1_0_0) shapeCasts_S2x1x2048x512_S2x2048x512 := by
    unfold V hostOps0; after_results; rfl
  rw [e]
  generalize (V m c main_v51 : S2x2x2048x512.Idx → EReal) = Q
  pointwise

/-- The second weights over both groups' lanes. -/
def w2exp (A : FVec Ideal S2x256x64 .f32) (E : FVec Ideal S2x2 .f32) : FVec Ideal S2x512x128 .f32 :=
  shapeCast S2x512x128 (mulf (broadcastInDim S2x2x256x2x64 ![0, 1, 2, 3, 4] bcast_S2x1x256x1x64_S2x2x256x2x64_0_1_2_3_4 (broadcastInDim S2x1x256x1x64 ![0, 2, 4] bcast_S2x256x64_S2x1x256x1x64_0_2_4 A))
    (broadcastInDim S2x2x256x2x64 ![0, 1, 2, 3, 4] bcast_S1x2x1x2x1_S2x2x256x2x64_0_1_2_3_4 (broadcastInDim S1x2x1x2x1 ![1, 3] bcast_S2x2_S1x2x1x2x1_1_3 E))) shapeCasts_S2x2x256x2x64_S2x512x128
theorem w2exp_apply (A : FVec Ideal S2x256x64 .f32) (E : FVec Ideal S2x2 .f32) (w : Fin 2) (y : Fin 512) (j : Fin 128) :
    w2exp A E (ix3 w y j) = A (ix3 w ⟨y.val % 256, by omega⟩ ⟨j.val % 64, by omega⟩) * E (ix2 ⟨y.val / 256, by omega⟩ ⟨j.val / 64, by omega⟩) := by
  unfold w2exp
  refine (shapeCast_apply _ _ _ (ix5 w ⟨y.val / 256, by omega⟩ ⟨y.val % 256, by omega⟩ ⟨j.val / 64, by omega⟩ ⟨j.val % 64, by omega⟩) ?_).trans ?_
  · rw [Shape.rowMajor_val_five, Shape.rowMajor_val_three]
    show (((w.val * 2 + y.val / 256) * 256 + y.val % 256) * 2 + j.val / 64) * 64 + j.val % 64 = (w.val * 512 + y.val) * 128 + j.val
    omega
  · pointwise
theorem ent64 (c : Dev nD) : (V m c main_v64 : S2x512x128.Idx → EReal) = w2exp (m ((c : Thread nD τ).loc main_arg5)) (V m c main_v45) := by
  unfold V hostOps0; after_results; rfl

/-- The norm's matrix: one 64th within a group. -/
theorem ent38 (c : Dev nD) (l j : Fin 128) : (V m c main_v38 : S128x128.Idx → EReal) (ix2 l j) = ((if l.val / 64 = j.val / 64 then 1 / 64 else 0 : ℝ) : EReal) := by
  have e : (V m c main_v38 : S128x128.Idx → EReal) = select (cmpi .eq (Host.divsi (iotaInDim S128x128 32 0) (broadcastInDim S128x128 ![] bcast_S_S128x128 (constantI S_ 32 64#32))) (Host.divsi (iotaInDim S128x128 32 1) (broadcastInDim S128x128 ![] bcast_S_S128x128 (constantI S_ 32 64#32))))
      (broadcastInDim S128x128 ![] bcast_S_S128x128 (constant (F := Ideal) S_ .f32 0x3C800000#32)) (broadcastInDim S128x128 ![] bcast_S_S128x128 (constant (F := Ideal) S_ .f32 0x00000000#32)) := by
    unfold V hostOps0; after_results; rfl
  rw [e]
  pointwise
  rw [div64 ⟨l.val, by omega⟩, div64 ⟨j.val, by omega⟩, eqBit ⟨l.val / 64, by omega⟩ ⟨j.val / 64, by omega⟩]
  by_cases h : l.val / 64 = j.val / 64
  · rw [if_pos h, if_pos h]; exact bits_64th
  · rw [if_neg h, if_neg h]; rfl

end Ker
end Cert.Comp
end
-- ==== Proof.CompBlock.lean ====
/- The blocks the compression kernel's grid points load. -/
module

public import proofs.«01_k».proof.Proof.CompEntry
public import proofs.«01_k».proof.Proof.Gen.Kernel5Ideal.Value

@[expose] public section
set_option maxRecDepth 16384
noncomputable section
namespace Cert.Comp
open Idealize.ShloMosaic Idealize.ShloMosaic.TcCoe Idealize.SL.Sem
open Cert.Mlstm (Fin' div64 eqBit bit0 bit1)
namespace Ker
open Cert.Kernel5Ideal Cert.Kernel5Ideal.Gen
variable (m : (ℓ : Loc nD τ sig) → Buf (Elt Ideal) ℓ)

/-- The block indices: the positions' windows and the results' move with the point, the others stay. -/
theorem idx_facts : ∀ t : Fin cfg0.N, win0_0.index t 0 = t.val ∧ win0_0.index t 1 = 0 ∧ win0_0.index t 2 = 0
    ∧ win0_1.index t 0 = t.val ∧ win0_1.index t 1 = 0 ∧ win0_1.index t 2 = 0
    ∧ (∀ a, win0_2.index t a = 0) ∧ (∀ a, win0_3.index t a = 0) ∧ (∀ a, win0_4.index t a = 0) ∧ (∀ a, win0_5.index t a = 0)
    ∧ (∀ a, win0_6.index t a = 0) ∧ (∀ a, win0_7.index t a = 0) ∧ (∀ a, win0_8.index t a = 0) ∧ (∀ a, win0_9.index t a = 0)
    ∧ win0_10.index t 0 = t.val ∧ win0_10.index t 1 = 0 ∧ win0_10.index t 2 = 0
    ∧ win0_11.index t 0 = t.val ∧ win0_11.index t 1 = 0 ∧ win0_11.index t 2 = 0 ∧ win0_11.index t 3 = 0
    ∧ (cfg0.win 10).flush t = true ∧ (cfg0.win 11).flush t = true :=
  (by decide +kernel : ∀ t : Fin grid0.N, _)

theorem iblk0 (c : Dev nD) (t : Fin cfg0.N) (h : t.val < 2) (n : Fin 1024) (q : Fin 2048) :
    (iblk m c 0 t : S1x1024x2048.Idx → EReal) (ix3 0 n q) = (m ((c : Thread nD τ).loc main_arg0) : S2x16384x128.Idx → EReal) (ix3 ⟨t.val, h⟩ ⟨16 * n.val + q.val / 128, by omega⟩ ⟨q.val % 128, by omega⟩) := by
  obtain ⟨a0, a1, a2, -⟩ := idx_facts t
  refine Eq.trans ?_ (rows_apply _ _ n q)
  rw [← ent65 m c]
  show V m c main_v65 (((cfg0.win 0).blk t).view.emb (ix3 0 n q : S1x1024x2048.Idx)) = _
  congr 1
  funext a; apply Fin.ext
  match a with
  | ⟨0, _⟩ => show win0_0.index t (0 : Fin 3) * 1 + 1 * 0 = t.val; rw [a0]; omega
  | ⟨1, _⟩ => show win0_0.index t (1 : Fin 3) * 1024 + 1 * n.val = n.val; rw [a1]; omega
  | ⟨2, _⟩ => show win0_0.index t (2 : Fin 3) * 2048 + 1 * q.val = q.val; rw [a2]; omega
theorem iblk1 (c : Dev nD) (t : Fin cfg0.N) (h : t.val < 2) (n : Fin 1024) (q : Fin 2048) :
    (iblk m c 1 t : S1x1024x2048.Idx → EReal) (ix3 0 n q) = (m ((c : Thread nD τ).loc main_arg1) : S2x16384x128.Idx → EReal) (ix3 ⟨t.val, h⟩ ⟨16 * n.val + q.val / 128, by omega⟩ ⟨q.val % 128, by omega⟩) := by
  obtain ⟨-, -, -, a0, a1, a2, -⟩ := idx_facts t
  refine Eq.trans ?_ (rows_apply _ _ n q)
  rw [← ent66 m c]
  show V m c main_v66 (((cfg0.win 1).blk t).view.emb (ix3 0 n q : S1x1024x2048.Idx)) = _
  congr 1
  funext a; apply Fin.ext
  match a with
  | ⟨0, _⟩ => show win0_1.index t (0 : Fin 3) * 1 + 1 * 0 = t.val; rw [a0]; omega
  | ⟨1, _⟩ => show win0_1.index t (1 : Fin 3) * 1024 + 1 * n.val = n.val; rw [a1]; omega
  | ⟨2, _⟩ => show win0_1.index t (2 : Fin 3) * 2048 + 1 * q.val = q.val; rw [a2]; omega
theorem iblk2 (c : Dev nD) (t : Fin cfg0.N) : (iblk m c 2 t : S2x2x2048.Idx → EReal) = V m c main_v69 := by
  obtain ⟨-, -, -, -, -, -, g, -⟩ := idx_facts t
  funext i
  show V m c main_v69 (((cfg0.win 2).blk t).view.emb i) = _
  congr 1
  funext a; apply Fin.ext
  match a with
  | ⟨0, _⟩ => show win0_2.index t (0 : Fin 3) * 2 + 1 * (i 0).val = (i 0).val; rw [g]; omega
  | ⟨1, _⟩ => show win0_2.index t (1 : Fin 3) * 2 + 1 * (i 1).val = (i 1).val; rw [g]; omega
  | ⟨2, _⟩ => show win0_2.index t (2 : Fin 3) * 2048 + 1 * (i 2).val = (i 2).val; rw [g]; omega
theorem iblk3 (c : Dev nD) (t : Fin cfg0.N) : (iblk m c 3 t : S2x2048x512.Idx → EReal) = V m c main_v60 := by
  obtain ⟨-, -, -, -, -, -, -, g, -⟩ := idx_facts t
  funext i
  show V m c main_v60 (((cfg0.win 3).blk t).view.emb i) = _
  congr 1
  funext a; apply Fin.ext
  match a with
  | ⟨0, _⟩ => show win0_3.index t (0 : Fin 3) * 2 + 1 * (i 0).val = (i 0).val; rw [g]; omega
  | ⟨1, _⟩ => show win0_3.index t (1 : Fin 3) * 2048 + 1 * (i 1).val = (i 1).val; rw [g]; omega
  | ⟨2, _⟩ => show win0_3.index t (2 : Fin 3) * 512 + 1 * (i 2).val = (i 2).val; rw [g]; omega
theorem iblk4 (c : Dev nD) (t : Fin cfg0.N) : (iblk m c 4 t : S2x2048x512.Idx → EReal) = V m c main_v63 := by
  obtain ⟨-, -, -, -, -, -, -, -, g, -⟩ := idx_facts t
  funext i
  show V m c main_v63 (((cfg0.win 4).blk t).view.emb i) = _
  congr 1
  funext a; apply Fin.ext
  match a with
  | ⟨0, _⟩ => show win0_4.index t (0 : Fin 3) * 2 + 1 * (i 0).val = (i 0).val; rw [g]; omega
  | ⟨1, _⟩ => show win0_4.index t (1 : Fin 3) * 2048 + 1 * (i 1).val = (i 1).val; rw [g]; omega
  | ⟨2, _⟩ => show win0_4.index t (2 : Fin 3) * 512 + 1 * (i 2).val = (i 2).val; rw [g]; omega
theorem iblk5 (c : Dev nD) (t : Fin cfg0.N) : (iblk m c 5 t : S2x512x128.Idx → EReal) = V m c main_v64 := by
  obtain ⟨-, -, -, -, -, -, -, -, -, g, -⟩ := idx_facts t
  funext i
  show V m c main_v64 (((cfg0.win 5).blk t).view.emb i) = _
  congr 1
  funext a; apply Fin.ext
  match a with
  | ⟨0, _⟩ => show win0_5.index t (0 : Fin 3) * 2 + 1 * (i 0).val = (i 0).val; rw [g]; omega
  | ⟨1, _⟩ => show win0_5.index t (1 : Fin 3) * 512 + 1 * (i 1).val = (i 1).val; rw [g]; omega
  | ⟨2, _⟩ => show win0_5.index t (2 : Fin 3) * 128 + 1 * (i 2).val = (i 2).val; rw [g]; omega
theorem iblk6 (c : Dev nD) (t : Fin cfg0.N) : (iblk m c 6 t : S1024x128.Idx → EReal) = V m c main_v24 := by
  obtain ⟨-, -, -, -, -, -, -, -, -, -, g, -⟩ := idx_facts t
  funext i
  show V m c main_v24 (((cfg0.win 6).blk t).view.emb i) = _
  congr 1
  funext a; apply Fin.ext
  match a with
  | ⟨0, _⟩ => show win0_6.index t (0 : Fin 2) * 1024 + 1 * (i 0).val = (i 0).val; rw [g]; omega
  | ⟨1, _⟩ => show win0_6.index t (1 : Fin 2) * 128 + 1 * (i 1).val = (i 1).val; rw [g]; omega
theorem iblk7 (c : Dev nD) (t : Fin cfg0.N) : (iblk m c 7 t : S1024x128.Idx → EReal) = V m c main_v29 := by
  obtain ⟨-, -, -, -, -, -, -, -, -, -, -, g, -⟩ := idx_facts t
  funext i
  show V m c main_v29 (((cfg0.win 7).blk t).view.emb i) = _
  congr 1
  funext a; apply Fin.ext
  match a with
  | ⟨0, _⟩ => show win0_7.index t (0 : Fin 2) * 1024 + 1 * (i 0).val = (i 0).val; rw [g]; omega
  | ⟨1, _⟩ => show win0_7.index t (1 : Fin 2) * 128 + 1 * (i 1).val = (i 1).val; rw [g]; omega
theorem iblk8 (c : Dev nD) (t : Fin cfg0.N) : (iblk m c 8 t : S1x128.Idx → EReal) = V m c main_v73 := by
  obtain ⟨-, -, -, -, -, -, -, -, -, -, -, -, g, -⟩ := idx_facts t
  funext i
  show V m c main_v73 (((cfg0.win 8).blk t).view.emb i) = _
  congr 1
  funext a; apply Fin.ext
  match a with
  | ⟨0, _⟩ => show win0_8.index t (0 : Fin 2) * 1 + 1 * (i 0).val = (i 0).val; rw [g]; omega
  | ⟨1, _⟩ => show win0_8.index t (1 : Fin 2) * 128 + 1 * (i 1).val = (i 1).val; rw [g]; omega
theorem iblk9 (c : Dev nD) (t : Fin cfg0.N) : (iblk m c 9 t : S128x128.Idx → EReal) = V m c main_v38 := by
  obtain ⟨-, -, -, -, -, -, -, -, -, -, -, -, -, g, -⟩ := idx_facts t
  funext i
  show V m c main_v38 (((cfg0.win 9).blk t).view.emb i) = _
  congr 1
  funext a; apply Fin.ext
  match a with
  | ⟨0, _⟩ => show win0_9.index t (0 : Fin 2) * 128 + 1 * (i 0).val = (i 0).val; rw [g]; omega
  | ⟨1, _⟩ => show win0_9.index t (1 : Fin 2) * 128 + 1 * (i 1).val = (i 1).val; rw [g]; omega
end Ker
end Cert.Comp
end
-- ==== Proof.Compress.lean ====
/- The compression kernel and its reference leave the same keys and values in their result arrays. -/
module

public import proofs.«01_k».proof.Defs
public import proofs.«01_k».proof.Proof.Finite
public import proofs.«01_k».proof.Proof.CompRef
public import proofs.«01_k».proof.Proof.CompOut
public import proofs.«01_k».proof.Proof.CompTab
public import proofs.«01_k».proof.Proof.CompBlock
public import proofs.«01_k».proof.Proof.Gen.Pre_finite5

@[expose] public section
set_option maxRecDepth 16384
noncomputable section
namespace Cert.Comp
open Idealize.ShloMosaic Idealize.ShloMosaic.TcCoe Idealize.SL.Sem
open Cert.Mlstm (Fin')

namespace Ker
open Cert.Kernel5Ideal Cert.Kernel5Ideal.Gen
variable (m : (ℓ : Loc nD τ sig) → Buf (Elt Ideal) ℓ)

/-- The arguments that enter the products are real. -/
def Real (c : Dev nD) : Prop :=
  Fin' (s := S2x16384x128) (m ((c : Thread nD τ).loc main_arg0)) ∧ Fin' (s := S2x16384x128) (m ((c : Thread nD τ).loc main_arg1))
    ∧ Fin' (s := S2x32x64) (m ((c : Thread nD τ).loc main_arg3)) ∧ Fin' (s := S2x2048x256) (m ((c : Thread nD τ).loc main_arg4)) ∧ Fin' (s := S2x256x64) (m ((c : Thread nD τ).loc main_arg5))

/-- A real number times a matrix of ones and zeros' entry. -/
theorem pick (a : ℝ) (P : Prop) [Decidable P] : (a : EReal) * ((if P then 1 else 0 : ℝ) : EReal) = ((if P then a else 0 : ℝ) : EReal) := by
  by_cases h : P
  · rw [if_pos h, if_pos h, ← EReal.coe_mul, mul_one]
  · rw [if_neg h, if_neg h, ← EReal.coe_mul, mul_zero]

/-- The results. -/
def outK (c : Dev nD) : S2x1024x128.Idx → EReal :=
  keys (m ((c : Thread nD τ).loc main_arg0)) (m ((c : Thread nD τ).loc main_arg2)) (m ((c : Thread nD τ).loc main_arg3)) (m ((c : Thread nD τ).loc main_arg4)) (m ((c : Thread nD τ).loc main_arg5))
def outV (c : Dev nD) : S2x2x64x1024.Idx → EReal :=
  vals (m ((c : Thread nD τ).loc main_arg1)) (m ((c : Thread nD τ).loc main_arg3)) (m ((c : Thread nD τ).loc main_arg4)) (m ((c : Thread nD τ).loc main_arg5))

/-- The second weights' blocks. -/
theorem w2_at (c : Dev nD) (hR : Real m c) (k : Fin 2) (y : Fin 512) (j : Fin 128) : (V m c main_v64 : S2x512x128.Idx → EReal) (ix3 k y j)
    = ((if y.val / 256 = j.val / 64 then at3 (m ((c : Thread nD τ).loc main_arg5)) k.val (y.val % 256) (j.val % 64) else 0 : ℝ) : EReal) := by
  obtain ⟨hX, hY, hP, hW, hV⟩ := hR
  rw [ent64, w2exp_apply]
  refine (congrArg₂ (· * ·) (at3_coe hV _ _ _) (ent45 m c _ _)).trans (pick _ _)
theorem wt_at (c : Dev nD) (hR : Real m c) (k : Fin 2) (q : Fin 2048) (y : Fin 512) : (V m c main_v60 : S2x2048x512.Idx → EReal) (ix3 k q y)
    = ((if q.val / 64 % 2 = y.val / 256 then at3 (m ((c : Thread nD τ).loc main_arg4)) k.val (0 + (q.val / 128 * 64 + q.val % 64)) (y.val % 256) else 0 : ℝ) : EReal) := by
  obtain ⟨hX, hY, hP, hW, hV⟩ := hR
  rw [ent60, ent51, wexp_apply]
  refine (congrArg₂ (· * ·) (at3_coe hW _ _ _) (ent45 m c _ _)).trans (pick _ _)
theorem wb_at (c : Dev nD) (hR : Real m c) (k : Fin 2) (q : Fin 2048) (y : Fin 512) : (V m c main_v63 : S2x2048x512.Idx → EReal) (ix3 k q y)
    = ((if q.val / 64 % 2 = y.val / 256 then at3 (m ((c : Thread nD τ).loc main_arg4)) k.val (1024 + (q.val / 128 * 64 + q.val % 64)) (y.val % 256) else 0 : ℝ) : EReal) := by
  obtain ⟨hX, hY, hP, hW, hV⟩ := hR
  rw [ent63, ent51, wexp_apply]
  refine (congrArg₂ (· * ·) (at3_coe hW _ _ _) (ent45 m c _ _)).trans (pick _ _)
theorem pe_at (c : Dev nD) (hR : Real m c) (k s : Fin 2) (q : Fin 2048) : (V m c main_v69 : S2x2x2048.Idx → EReal) (ix3 k s q)
    = (at3 (m ((c : Thread nD τ).loc main_arg3)) k.val (16 * s.val + q.val / 128) (q.val % 64) : EReal) := by
  obtain ⟨hX, hY, hP, hW, hV⟩ := hR
  rw [ent69, perow_apply]
  exact at3_coe hP _ _ _

/-- The keys' block at point `t`. -/
theorem pointK (c : Dev nD) (hR : Real m c) (t : Fin cfg0.N) (h : t.val < 2) (n : Fin 1024) (j : Fin 128) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 n j)
      = outK m c (ix3 ⟨t.val, h⟩ n j) :=
  keys_block _ _ _ _ _ _ _ _ _ _ (at3 (m ((c : Thread nD τ).loc main_arg0)) t.val) (at3 (m ((c : Thread nD τ).loc main_arg3))) (at3 (m ((c : Thread nD τ).loc main_arg4)))
    (at3 (m ((c : Thread nD τ).loc main_arg5))) (at1 (m ((c : Thread nD τ).loc main_arg2))) (at2 ang)
    (fun n q => (iblk0 m c t h n q).trans (at3_coe hR.1 _ _ _))
    (fun k s q => (congrFun (iblk2 m c t) _).trans (pe_at m c hR k s q))
    (fun k q y => (congrFun (iblk3 m c t) _).trans (wt_at m c hR k q y))
    (fun k q y => (congrFun (iblk4 m c t) _).trans (wb_at m c hR k q y))
    (fun k y j => (congrFun (iblk5 m c t) _).trans (w2_at m c hR k y j))
    (fun n j => (congrFun (iblk6 m c t) _).trans (cos_at m c n j))
    (fun n j => (congrFun (iblk7 m c t) _).trans (sin_at m c n j))
    (fun j => (congrFun (iblk8 m c t) _).trans ((ent73 m c j).trans (at1_eq _ _)))
    (fun l j => (congrFun (iblk9 m c t) _).trans (ent38 m c l j)) n j

/-- The values' block at point `t`. -/
theorem pointV (c : Dev nD) (hR : Real m c) (t : Fin cfg0.N) (h : t.val < 2) (g : Fin 2) (d : Fin 64) (n : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix4 0 g d n)
      = outV m c (ix4 ⟨t.val, h⟩ g d n) :=
  vals_block _ _ _ _ _ _ _ _ _ _ (at3 (m ((c : Thread nD τ).loc main_arg1)) t.val) (at3 (m ((c : Thread nD τ).loc main_arg3))) (at3 (m ((c : Thread nD τ).loc main_arg4)))
    (at3 (m ((c : Thread nD τ).loc main_arg5)))
    (fun n q => (iblk1 m c t h n q).trans (at3_coe hR.2.1 _ _ _))
    (fun k s q => (congrFun (iblk2 m c t) _).trans (pe_at m c hR k s q))
    (fun k q y => (congrFun (iblk3 m c t) _).trans (wt_at m c hR k q y))
    (fun k q y => (congrFun (iblk4 m c t) _).trans (wb_at m c hR k q y))
    (fun k y j => (congrFun (iblk5 m c t) _).trans (w2_at m c hR k y j)) g d n

theorem flushedK (c : Dev nD) (hR : Real m c) (t : Fin cfg0.N) :
    (dats m 0 c).flushed 10 t = ((cfg0.win 10).blk t).view.read (Elt Ideal) (outK m c) := by
  rw [Value.flushed10]
  obtain ⟨-, -, -, -, -, -, -, -, -, -, -, -, -, -, e0, e1, e2, -⟩ := idx_facts t
  funext y
  have hy0 : (y 0).val < 1 := (y 0).isLt
  have hy1 : (y 1).val < 1024 := (y 1).isLt
  have hy2 : (y 2).val < 128 := (y 2).isLt
  have ht : t.val < 2 := t.isLt
  have hi : ((cfg0.win 10).blk t).view.emb y = (ix3 ⟨t.val, ht⟩ ⟨(y 1).val, hy1⟩ ⟨(y 2).val, hy2⟩ : S2x1024x128.Idx) := by
    funext a; apply Fin.ext
    match a with
    | ⟨0, _⟩ => show win0_10.index t (0 : Fin 3) * 1 + 1 * (y 0).val = t.val; rw [e0]; omega
    | ⟨1, _⟩ => show win0_10.index t (1 : Fin 3) * 1024 + 1 * (y 1).val = (y 1).val; rw [e1]; omega
    | ⟨2, _⟩ => show win0_10.index t (2 : Fin 3) * 128 + 1 * (y 2).val = (y 2).val; rw [e2]; omega
  have hx : (cfg0.win 10).xinj (grid0.coords t) y = (ix3 0 ⟨(y 1).val, hy1⟩ ⟨(y 2).val, hy2⟩ : S1x1024x128.Idx) := by
    funext a; apply Fin.ext
    match a with
    | ⟨0, _⟩ => show (y 0).val = 0; omega
    | ⟨1, _⟩ => rfl
    | ⟨2, _⟩ => rfl
  show out0_10 (iblk m c 0 t) (iblk m c 1 t) (iblk m c 2 t) (iblk m c 3 t) (iblk m c 4 t) (iblk m c 5 t) (iblk m c 6 t) (iblk m c 7 t) (iblk m c 8 t) (iblk m c 9 t)
      ((cfg0.win 10).xinj (grid0.coords t) y) = outK m c (((cfg0.win 10).blk t).view.emb y)
  rw [hx, hi]
  exact pointK m c hR t ht ⟨(y 1).val, hy1⟩ ⟨(y 2).val, hy2⟩

theorem flushedV (c : Dev nD) (hR : Real m c) (t : Fin cfg0.N) :
    (dats m 0 c).flushed 11 t = ((cfg0.win 11).blk t).view.read (Elt Ideal) (outV m c) := by
  rw [Value.flushed11]
  obtain ⟨-, -, -, -, -, -, -, -, -, -, -, -, -, -, -, -, -, e0, e1, e2, e3, -⟩ := idx_facts t
  funext y
  have hy0 : (y 0).val < 1 := (y 0).isLt
  have hy1 : (y 1).val < 2 := (y 1).isLt
  have hy2 : (y 2).val < 64 := (y 2).isLt
  have hy3 : (y 3).val < 1024 := (y 3).isLt
  have ht : t.val < 2 := t.isLt
  have hi : ((cfg0.win 11).blk t).view.emb y = (ix4 ⟨t.val, ht⟩ ⟨(y 1).val, hy1⟩ ⟨(y 2).val, hy2⟩ ⟨(y 3).val, hy3⟩ : S2x2x64x1024.Idx) := by
    funext a; apply Fin.ext
    match a with
    | ⟨0, _⟩ => show win0_11.index t (0 : Fin 4) * 1 + 1 * (y 0).val = t.val; rw [e0]; omega
    | ⟨1, _⟩ => show win0_11.index t (1 : Fin 4) * 2 + 1 * (y 1).val = (y 1).val; rw [e1]; omega
    | ⟨2, _⟩ => show win0_11.index t (2 : Fin 4) * 64 + 1 * (y 2).val = (y 2).val; rw [e2]; omega
    | ⟨3, _⟩ => show win0_11.index t (3 : Fin 4) * 1024 + 1 * (y 3).val = (y 3).val; rw [e3]; omega
  have hx : (cfg0.win 11).xinj (grid0.coords t) y = (ix4 0 ⟨(y 1).val, hy1⟩ ⟨(y 2).val, hy2⟩ ⟨(y 3).val, hy3⟩ : S1x2x64x1024.Idx) := by
    funext a; apply Fin.ext
    match a with
    | ⟨0, _⟩ => show (y 0).val = 0; omega
    | ⟨1, _⟩ => rfl
    | ⟨2, _⟩ => rfl
    | ⟨3, _⟩ => rfl
  show out0_11 (iblk m c 0 t) (iblk m c 1 t) (iblk m c 2 t) (iblk m c 3 t) (iblk m c 4 t) (iblk m c 5 t) (iblk m c 6 t) (iblk m c 7 t) (iblk m c 8 t) (iblk m c 9 t)
      ((cfg0.win 11).xinj (grid0.coords t) y) = outV m c (((cfg0.win 11).blk t).view.emb y)
  rw [hx, hi]
  exact pointV m c hR t ht ⟨(y 1).val, hy1⟩ ⟨(y 2).val, hy2⟩ ⟨(y 3).val, hy3⟩

theorem coverK (i : S2x1024x128.Idx) : ∃ t : Fin cfg0.N, (cfg0.win 10).flush t = true ∧ i ∈ ((cfg0.win 10).blk t).view.set := by
  have h0 : (i 0).val < 2 := (i 0).isLt
  have h1 : (i 1).val < 1024 := (i 1).isLt
  have h2 : (i 2).val < 128 := (i 2).isLt
  have hN : cfg0.N = 2 := rfl
  let t : Fin cfg0.N := ⟨(i 0).val, by omega⟩
  obtain ⟨-, -, -, -, -, -, -, -, -, -, -, -, -, -, e0, e1, e2, -, -, -, -, hf, -⟩ := idx_facts t
  have e0' : win0_10.index t 0 = (i 0).val := e0
  refine ⟨t, hf, ?_⟩
  show i ∈ ((View.whole main_v74_0).slice (win0_10.rect t)).set
  rw [View.set_slice_whole, Rect.mem_set_unit]
  intro a
  match a with
  | ⟨0, _⟩ => show win0_10.index t (0 : Fin 3) * 1 ≤ (i 0).val ∧ (i 0).val < win0_10.index t (0 : Fin 3) * 1 + 1
              rw [e0']; omega
  | ⟨1, _⟩ => show win0_10.index t (1 : Fin 3) * 1024 ≤ (i 1).val ∧ (i 1).val < win0_10.index t (1 : Fin 3) * 1024 + 1024
              rw [e1]; omega
  | ⟨2, _⟩ => show win0_10.index t (2 : Fin 3) * 128 ≤ (i 2).val ∧ (i 2).val < win0_10.index t (2 : Fin 3) * 128 + 128
              rw [e2]; omega

theorem coverV (i : S2x2x64x1024.Idx) : ∃ t : Fin cfg0.N, (cfg0.win 11).flush t = true ∧ i ∈ ((cfg0.win 11).blk t).view.set := by
  have h0 : (i 0).val < 2 := (i 0).isLt
  have h1 : (i 1).val < 2 := (i 1).isLt
  have h2 : (i 2).val < 64 := (i 2).isLt
  have h3 : (i 3).val < 1024 := (i 3).isLt
  have hN : cfg0.N = 2 := rfl
  let t : Fin cfg0.N := ⟨(i 0).val, by omega⟩
  obtain ⟨-, -, -, -, -, -, -, -, -, -, -, -, -, -, -, -, -, e0, e1, e2, e3, -, hf⟩ := idx_facts t
  have e0' : win0_11.index t 0 = (i 0).val := e0
  refine ⟨t, hf, ?_⟩
  show i ∈ ((View.whole main_v74_1).slice (win0_11.rect t)).set
  rw [View.set_slice_whole, Rect.mem_set_unit]
  intro a
  match a with
  | ⟨0, _⟩ => show win0_11.index t (0 : Fin 4) * 1 ≤ (i 0).val ∧ (i 0).val < win0_11.index t (0 : Fin 4) * 1 + 1
              rw [e0']; omega
  | ⟨1, _⟩ => show win0_11.index t (1 : Fin 4) * 2 ≤ (i 1).val ∧ (i 1).val < win0_11.index t (1 : Fin 4) * 2 + 2
              rw [e1]; omega
  | ⟨2, _⟩ => show win0_11.index t (2 : Fin 4) * 64 ≤ (i 2).val ∧ (i 2).val < win0_11.index t (2 : Fin 4) * 64 + 64
              rw [e2]; omega
  | ⟨3, _⟩ => show win0_11.index t (3 : Fin 4) * 1024 ≤ (i 3).val ∧ (i 3).val < win0_11.index t (3 : Fin 4) * 1024 + 1024
              rw [e3]; omega

/-- The kernel's result arrays after the run. -/
theorem finalK (c : Dev nD) (hR : Real m c) : (dats m 0 c).arrAt 10 cfg0.N = outK m c :=
  (dats m 0 c).arrAt_eq_of_cover 10 _ (fun t _ => flushedK m c hR t) (fun i => coverK i)
theorem finalV (c : Dev nD) (hR : Real m c) : (dats m 0 c).arrAt 11 cfg0.N = outV m c :=
  (dats m 0 c).arrAt_eq_of_cover 11 _ (fun t _ => flushedV m c hR t) (fun i => coverV i)

end Ker

open Cert.Pre_finite5 in
/-- What the precondition says of the arguments. -/
theorem all_real (A0 A1 : FVec Ideal S2x16384x128 .f32) (A2 : FVec Ideal S64 .f32) (A3 : FVec Ideal S2x32x64 .f32) (A4 : FVec Ideal S2x2048x256 .f32) (A5 : FVec Ideal S2x256x64 .f32)
    (H : Cert.Pre_finite5.fn (F := Ideal) A0 A1 A2 A3 A4 A5 = fun _ => 1#1) :
    Fin' (A0 : S2x16384x128.Idx → EReal) ∧ Fin' (A1 : S2x16384x128.Idx → EReal) ∧ Fin' (A3 : S2x32x64.Idx → EReal) ∧ Fin' (A4 : S2x2048x256.Idx → EReal) ∧ Fin' (A5 : S2x256x64.Idx → EReal) := by
  have H := congrFun H ix0
  unfold fn fn_part1 at H
  dsimp only at H
  obtain ⟨H, h5⟩ := Cert.Mlstm.and_ix _ _ H
  obtain ⟨H, h4⟩ := Cert.Mlstm.and_ix _ _ H
  obtain ⟨H, h3⟩ := Cert.Mlstm.and_ix _ _ H
  obtain ⟨h0, h1⟩ := Cert.Mlstm.and_ix _ _ H
  exact ⟨Cert.Mlstm.fin_of A0 _ _ _ h0, Cert.Mlstm.fin_of A1 _ _ _ h1, Cert.Mlstm.fin_of A3 _ _ _ h3, Cert.Mlstm.fin_of A4 _ _ _ h4, Cert.Mlstm.fin_of A5 _ _ _ h5⟩

/-- From real arguments the two programs leave the same keys and values in their result arrays. -/
theorem algebraic : Cert.algebraic_Kernel5Ideal_Reference5Ideal_pre_finite5 := by
  intro m ρ m' ρ' hpre hagree
  have hR : ∀ c, Ker.Real m c := fun c => all_real _ _ _ _ _ _ (hpre c)
  refine ⟨_, _, (θ_run Cert.Kernel5Ideal.defs _ _).mono (fun r h c => ⟨(h c).1.trans (Ker.finalK m c (hR c)), (h c).2.1.trans (Ker.finalV m c (hR c)), (h c).2.2⟩)
    (Cert.Kernel5Ideal.Value.run_blocks (F := Ideal) m ρ), ?_⟩
  have hR' : ∀ c, _ := fun c => by
    obtain ⟨h0, h1, h2, h3, h4, h5⟩ := hagree c
    have h := hR c
    unfold Ker.Real at h
    rw [← h0, ← h1, ← h3, ← h4, ← h5] at h
    exact h
  refine (θ_run Cert.Reference5Ideal.defs _ _).mono (fun _ h c => ⟨(h c).1.trans ?_, (h c).2.1.trans ?_, (h c).2.2⟩) (Ref.run_eq m' ρ' hR')
  · obtain ⟨h0, h1, h2, h3, h4, h5⟩ := hagree c
    rw [h0, h2, h3, h4, h5]
    rfl
  · obtain ⟨h0, h1, h2, h3, h4, h5⟩ := hagree c
    rw [h1, h3, h4, h5]
    rfl

end Cert.Comp
end
-- ==== Proof.lean ====
/- The certificate's claims put together. -/
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_finite
public import proofs.«01_k».proof.Proof.Gen.Pre_finite5
public import proofs.«01_k».proof.Proof.Mlstm
public import proofs.«01_k».proof.Proof.Ffn
public import proofs.«01_k».proof.Proof.Merge
public import proofs.«01_k».proof.Proof.Proj
public import proofs.«01_k».proof.Proof.Compress
public import Idealize.ShloMosaic.Adequacy
public import Idealize.ShloMosaic.Init
public import Idealize.ShloMosaic.Lib.Quiescent

@[expose] public section

noncomputable section

namespace Cert.Proof

open Idealize.ShloMosaic Idealize.SL.Sem

/-- The mLSTM reference runs, keeps its arguments and leaves every counter at zero. -/
theorem quiet_ref : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from finite arguments. -/
theorem quiet_ref_pre : quiescent_ReferenceIdeal_pre_finite := fun m ρ _ => quiet_ref m ρ trivial

/-- The feed-forward reference runs, keeps its arguments and leaves every counter at zero. -/
theorem quiet_ref2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The merge reference runs, keeps its arguments and leaves every counter at zero. -/
theorem quiet_ref3 : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection reference runs, keeps its arguments and leaves every counter at zero. -/
theorem quiet_ref4 : quiescent_Reference4Ideal := fun m ρ _ =>
  (θ_run Cert.Reference4Ideal.defs _ _).mono (fun r h => ⟨fun c => (h c).2.2.2.2.2.2.2.2.2.2.2.2.2.2.2.2.2.2, sem_eq_zero_of_no_sems (by decide) r.2⟩)
    (Cert.Reference4Ideal.Value.run (F := Ideal) m ρ)

/-- The compression reference runs, keeps its arguments and leaves every counter at zero. -/
theorem quiet_ref5 : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The same from finite arguments. -/
theorem quiet_ref5_pre : quiescent_Reference5Ideal_pre_finite5 := fun m ρ _ => quiet_ref5 m ρ trivial

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts, Cert.Kernel5Ideal.Gen.facts,
  Cert.Reference5Ideal.Gen.facts, Cert.Pre_finite.Gen.facts, Cert.Pre_finite5.Gen.facts,
  fun m ρ _ => Cert.Kernel.Gen.frame m ρ, fun m ρ _ => Cert.KernelIdeal.Gen.frame m ρ, fun m ρ _ => Cert.KernelIdeal.Gen.frame m ρ, quiet_ref, quiet_ref_pre,
  fun m ρ _ => Cert.Kernel2.Gen.frame m ρ, fun m ρ _ => Cert.Kernel2Ideal.Gen.frame m ρ, quiet_ref2,
  fun m ρ _ => Cert.Kernel3.Gen.frame m ρ, fun m ρ _ => Cert.Kernel3Ideal.Gen.frame m ρ, quiet_ref3,
  fun m ρ _ => Cert.Kernel4.Gen.frame m ρ, fun m ρ _ => Cert.Kernel4Ideal.Gen.frame m ρ, quiet_ref4,
  fun m ρ _ => Cert.Kernel5.Gen.frame m ρ, fun m ρ _ => Cert.Kernel5Ideal.Gen.frame m ρ, fun m ρ _ => Cert.Kernel5Ideal.Gen.frame m ρ, quiet_ref5, quiet_ref5_pre,
  (trivial : preserves_Kernel_KernelIdeal), Cert.Mlstm.algebraic, (trivial : preserves_Kernel2_Kernel2Ideal), Cert.Ffn.algebraic,
  (trivial : preserves_Kernel3_Kernel3Ideal), Cert.Merge.algebraic, (trivial : preserves_Kernel4_Kernel4Ideal), Cert.Proj.algebraic,
  (trivial : preserves_Kernel5_Kernel5Ideal), Cert.Comp.algebraic⟩

end Cert.Proof

end
